-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14))
      ∧ r.2.sem = fun _ => 0)

def preserves_Kernel_KernelIdeal : Prop :=
  True

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)) →
    ∃ (v0 : (c : Dev Cert.Kernel2Ideal.nD) → Buf (Elt Ideal) ((c.tc : Thread Cert.Kernel2Ideal.nD Cert.Kernel2Ideal.τ).loc Cert.Kernel2Ideal.main_v16)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v73) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite_qk : Cert.Pre_finite_qk.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
-- ==== Pre_finite_qk.lean ====
abbrev S4x8x64x8192 : Shape := ⟨4, ![4, 8, 64, 8192]⟩
abbrev S4x8448x128 : Shape := ⟨3, ![4, 8448, 128]⟩
abbrev S4x2x64x8448 : Shape := ⟨4, ![4, 2, 64, 8448]⟩
abbrev S_ : Shape := ⟨0, ![]⟩

class Facts : Prop where
  bitsLt_bf16_f32 : FTy.bits .bf16 < FTy.bits .f32
  bcast_S_S4x8x64x8192 : S_.BroadcastsInDim S4x8x64x8192 (![] : Fin 0 → Fin S4x8x64x8192.rank)
  reducesTo_S4x8x64x8192_S_d0_1_2_3 : S4x8x64x8192.ReducesTo [0, 1, 2, 3] S_
  h_S_ : 0 < S_.numel
  bcast_S_S4x8448x128 : S_.BroadcastsInDim S4x8448x128 (![] : Fin 0 → Fin S4x8448x128.rank)
  reducesTo_S4x8448x128_S_d0_1_2 : S4x8448x128.ReducesTo [0, 1, 2] S_

variable [Facts]

def fn {F : FTy → Type} [FloatOps F] (main_arg0 : FVec F S4x8x64x8192 .bf16) (main_arg1 : FVec F S4x8448x128 .bf16) (main_arg2 : FVec F S4x2x64x8448 .bf16) : IVec S_ 1 :=
  let main_v0 : FVec F S4x8x64x8192 .f32 := (extf .f32 · bitsLt_bf16_f32) main_arg0
  let main_v1 : FVec F S4x8x64x8192 .f32 := Host.absf main_v0
  let main_cst : FVec F S_ .f32 := constant S_ .f32 0x7F800000#32
  let main_v2 : FVec F S4x8x64x8192 .f32 := broadcastInDim S4x8x64x8192 ![] bcast_S_S4x8x64x8192 main_cst
  let main_v3 : IVec S4x8x64x8192 1 := cmpf .olt main_v1 main_v2
  let main_c : IVec S_ 1 := constantI S_ 1 1#1
  let main_v4 : IVec S_ 1 := (fun x v => Host.reduce IntOp.andi x v reducesTo_S4x8x64x8192_S_d0_1_2_3 h_S_) main_v3 main_c
  let main_v5 : FVec F S4x8448x128 .f32 := (extf .f32 · bitsLt_bf16_f32) main_arg1
  let main_v6 : FVec F S4x8448x128 .f32 := Host.absf main_v5
  let main_cst_0 : FVec F S_ .f32 := constant S_ .f32 0x7F800000#32
  let main_v7 : FVec F S4x8448x128 .f32 := broadcastInDim S4x8448x128 ![] bcast_S_S4x8448x128 main_cst_0
  let main_v8 : IVec S4x8448x128 1 := cmpf .olt main_v6 main_v7
  let main_c_1 : IVec S_ 1 := constantI S_ 1 1#1
  let main_v9 : IVec S_ 1 := (fun x v => Host.reduce IntOp.andi x v reducesTo_S4x8448x128_S_d0_1_2 h_S_) main_v8 main_c_1
  let main_v10 : IVec S_ 1 := andi main_v4 main_v9
  main_v10
-- ==== Kernel.lean ====
abbrev S4x8x64x8192 : Shape := ⟨4, ![4, 8, 64, 8192]⟩
abbrev S4x8448x128 : Shape := ⟨3, ![4, 8448, 128]⟩
abbrev S4x2x64x8448 : Shape := ⟨4, ![4, 2, 64, 8448]⟩
abbrev S4x8192x512 : Shape := ⟨3, ![4, 8192, 512]⟩
abbrev S1x8x64x256 : Shape := ⟨4, ![1, 8, 64, 256]⟩
abbrev S1x8448x128 : Shape := ⟨3, ![1, 8448, 128]⟩
abbrev S1x2x64x8448 : Shape := ⟨4, ![1, 2, 64, 8448]⟩
abbrev S1x256x512 : Shape := ⟨3, ![1, 256, 512]⟩
abbrev S128x1024 : Shape := ⟨2, ![128, 1024]⟩
abbrev S1x1024 : Shape := ⟨2, ![1, 1024]⟩
abbrev S80x1024 : Shape := ⟨2, ![80, 1024]⟩
abbrev S256x1024 : Shape := ⟨2, ![256, 1024]⟩
abbrev S1x1x64x256 : Shape := ⟨4, ![1, 1, 64, 256]⟩
abbrev S64x256 : Shape := ⟨2, ![64, 256]⟩
abbrev S64x1024 : Shape := ⟨2, ![64, 1024]⟩
abbrev S1x256x128 : Shape := ⟨3, ![1, 256, 128]⟩
abbrev S256x128 : Shape := ⟨2, ![256, 128]⟩
abbrev S128x512 : Shape := ⟨2, ![128, 512]⟩
abbrev S256x512 : Shape := ⟨2, ![256, 512]⟩
abbrev S512 : Shape := ⟨1, ![512]⟩
abbrev S1x512 : Shape := ⟨2, ![1, 512]⟩
abbrev S16x256 : Shape := ⟨2, ![16, 256]⟩
abbrev S80x256 : Shape := ⟨2, ![80, 256]⟩
abbrev S80x512 : Shape := ⟨2, ![80, 512]⟩
abbrev S128x256 : Shape := ⟨2, ![128, 256]⟩
abbrev S256x256 : Shape := ⟨2, ![256, 256]⟩
abbrev S1x256x256 : Shape := ⟨3, ![1, 256, 256]⟩

abbrev nBuf : Space → Nat
  | .hbm => 4
  | .vmem => 15
  | .smem => 0
  | _ => 0

abbrev bufTy : (tb : Table) → Fin (tcTables nBuf tb) → BufTy
  | .hbm, ⟨0, _⟩ => ⟨S4x8x64x8192, .bf16⟩
  | .hbm, ⟨1, _⟩ => ⟨S4x8448x128, .bf16⟩
  | .hbm, ⟨2, _⟩ => ⟨S4x2x64x8448, .bf16⟩
  | .hbm, ⟨3, _⟩ => ⟨S4x8192x512, .bf16⟩
  | .local _ .vmem, ⟨0, _⟩ => ⟨S1x8x64x256, .bf16⟩
  | .local _ .vmem, ⟨1, _⟩ => ⟨S1x8x64x256, .bf16⟩
  | .local _ .vmem, ⟨2, _⟩ => ⟨S1x8448x128, .bf16⟩
  | .local _ .vmem, ⟨3, _⟩ => ⟨S1x8448x128, .bf16⟩
  | .local _ .vmem, ⟨4, _⟩ => ⟨S1x2x64x8448, .bf16⟩
  | .local _ .vmem, ⟨5, _⟩ => ⟨S1x2x64x8448, .bf16⟩
  | .local _ .vmem, ⟨6, _⟩ => ⟨S1x256x512, .bf16⟩
  | .local _ .vmem, ⟨7, _⟩ => ⟨S1x256x512, .bf16⟩
  | .local _ .vmem, ⟨8, _⟩ => ⟨S128x1024, .bf16⟩
  | .local _ .vmem, ⟨9, _⟩ => ⟨S1x1024, .f32⟩
  | .local _ .vmem, ⟨10, _⟩ => ⟨S80x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | _, _ => ⟨S4x8x64x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

@[reducible] def k0_t1_loop : Scf.Loop 32 :=
  let c0_i32 : BitVec 32 := 0#32
  let c2_i32 : BitVec 32 := 2#32
  let v0 : BitVec 32 := Scalar.addi c0_i32 c2_i32
  let c1_i32 : BitVec 32 := 1#32
  ⟨c0_i32, v0, c1_i32⟩
def k0_off1 (k0_t1 : Fin k0_t1_loop.trips) (c0_i32_1 : BitVec 32) : Fin 4 → Nat :=
  let c0 : Index := 0#32
  let c4_i32 : BitVec 32 := 4#32
  let c0_i32 : BitVec 32 := 0#32
  let c1_i32 : BitVec 32 := 1#32
  let arg13 : BitVec 32 := Scf.iv c0_i32 c1_i32 k0_t1
  let v1 : BitVec 32 := Scalar.muli c4_i32 arg13
  let v2 : BitVec 32 := Scalar.addi v1 c0_i32_1
  let v3 : Index := Scalar.indexCast v2
  let c0_2 : Index := 0#32
  let c0_3 : Index := 0#32
  ![0, v3.toNat, 0, 0]
@[reducible] def k0_t2_loop : Scf.Loop 32 :=
  let c0_i32_56 : BitVec 32 := 0#32
  let c2_i32_57 : BitVec 32 := 2#32
  let v71 : BitVec 32 := Scalar.addi c0_i32_56 c2_i32_57
  let c1_i32_58 : BitVec 32 := 1#32
  ⟨c0_i32_56, v71, c1_i32_58⟩
def k0_mult1 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c0_i32_394 : BitVec 32 := 0#32
  let v612 : BitVec 32 := Scalar.addi v611 c0_i32_394
  let c2_i32_395 : BitVec 32 := 2#32
  let v613 : BitVec 32 := Scalar.addi v612 c2_i32_395
  let c256_i32_397 : BitVec 32 := 256#32
  let v615 : BitVec 32 := Scalar.muli v613 c256_i32_397
  v615
def k0_off2 (k0_t2 : Fin k0_t2_loop.trips) (c0_i32_394 : BitVec 32) : Fin 3 → Nat :=
  let c0_398 : Index := 0#32
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let v612 : BitVec 32 := Scalar.addi v611 c0_i32_394
  let c2_i32_395 : BitVec 32 := 2#32
  let v613 : BitVec 32 := Scalar.addi v612 c2_i32_395
  let c256_i32_397 : BitVec 32 := 256#32
  let v615 : BitVec 32 := Scalar.muli v613 c256_i32_397
  let v616 : BitVec 32 := v615
  let v617 : Index := Scalar.indexCast v616
  let c0_399 : Index := 0#32
  ![0, v617.toNat, 0]
def k0_mult2 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c0_i32_396 : BitVec 32 := 0#32
  let v614 : BitVec 32 := Scalar.addi v611 c0_i32_396
  let c256_i32_400 : BitVec 32 := 256#32
  let v620 : BitVec 32 := Scalar.muli v614 c256_i32_400
  v620
def k0_off3 (k0_t1 : Fin k0_t1_loop.trips) (k0_t2 : Fin k0_t2_loop.trips) (c0_i32_396 : BitVec 32) : Fin 4 → Nat :=
  let c0_401 : Index := 0#32
  let c0_i32 : BitVec 32 := 0#32
  let c1_i32 : BitVec 32 := 1#32
  let arg13 : BitVec 32 := Scf.iv c0_i32 c1_i32 k0_t1
  let v622 : Index := Scalar.indexCast arg13
  let c0_402 : Index := 0#32
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let v614 : BitVec 32 := Scalar.addi v611 c0_i32_396
  let c256_i32_400 : BitVec 32 := 256#32
  let v620 : BitVec 32 := Scalar.muli v614 c256_i32_400
  let v621 : BitVec 32 := v620
  let v623 : Index := Scalar.indexCast v621
  ![0, v622.toNat, 0, v623.toNat]
def k0_mult3 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c1_i32_438 : BitVec 32 := 1#32
  let v682 : BitVec 32 := Scalar.addi v611 c1_i32_438
  let c2_i32_439 : BitVec 32 := 2#32
  let v683 : BitVec 32 := Scalar.addi v682 c2_i32_439
  let c256_i32_441 : BitVec 32 := 256#32
  let v685 : BitVec 32 := Scalar.muli v683 c256_i32_441
  v685
def k0_mult4 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c1_i32_440 : BitVec 32 := 1#32
  let v684 : BitVec 32 := Scalar.addi v611 c1_i32_440
  let c256_i32_444 : BitVec 32 := 256#32
  let v690 : BitVec 32 := Scalar.muli v684 c256_i32_444
  v690
def k0_mult5 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c2_i32_482 : BitVec 32 := 2#32
  let v752 : BitVec 32 := Scalar.addi v611 c2_i32_482
  let c2_i32_483 : BitVec 32 := 2#32
  let v753 : BitVec 32 := Scalar.addi v752 c2_i32_483
  let c256_i32_485 : BitVec 32 := 256#32
  let v755 : BitVec 32 := Scalar.muli v753 c256_i32_485
  v755
def k0_mult6 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c2_i32_484 : BitVec 32 := 2#32
  let v754 : BitVec 32 := Scalar.addi v611 c2_i32_484
  let c256_i32_488 : BitVec 32 := 256#32
  let v760 : BitVec 32 := Scalar.muli v754 c256_i32_488
  v760
def k0_mult7 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c3_i32_526 : BitVec 32 := 3#32
  let v822 : BitVec 32 := Scalar.addi v611 c3_i32_526
  let c2_i32_527 : BitVec 32 := 2#32
  let v823 : BitVec 32 := Scalar.addi v822 c2_i32_527
  let c256_i32_529 : BitVec 32 := 256#32
  let v825 : BitVec 32 := Scalar.muli v823 c256_i32_529
  v825
def k0_mult8 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c3_i32_528 : BitVec 32 := 3#32
  let v824 : BitVec 32 := Scalar.addi v611 c3_i32_528
  let c256_i32_532 : BitVec 32 := 256#32
  let v830 : BitVec 32 := Scalar.muli v824 c256_i32_532
  v830
def k0_mult9 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c4_i32_570 : BitVec 32 := 4#32
  let v892 : BitVec 32 := Scalar.addi v611 c4_i32_570
  let c2_i32_571 : BitVec 32 := 2#32
  let v893 : BitVec 32 := Scalar.addi v892 c2_i32_571
  let c256_i32_573 : BitVec 32 := 256#32
  let v895 : BitVec 32 := Scalar.muli v893 c256_i32_573
  v895
def k0_mult10 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c4_i32_572 : BitVec 32 := 4#32
  let v894 : BitVec 32 := Scalar.addi v611 c4_i32_572
  let c256_i32_576 : BitVec 32 := 256#32
  let v900 : BitVec 32 := Scalar.muli v894 c256_i32_576
  v900
def k0_mult11 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c5_i32 : BitVec 32 := 5#32
  let v962 : BitVec 32 := Scalar.addi v611 c5_i32
  let c2_i32_614 : BitVec 32 := 2#32
  let v963 : BitVec 32 := Scalar.addi v962 c2_i32_614
  let c256_i32_616 : BitVec 32 := 256#32
  let v965 : BitVec 32 := Scalar.muli v963 c256_i32_616
  v965
def k0_mult12 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c5_i32_615 : BitVec 32 := 5#32
  let v964 : BitVec 32 := Scalar.addi v611 c5_i32_615
  let c256_i32_619 : BitVec 32 := 256#32
  let v970 : BitVec 32 := Scalar.muli v964 c256_i32_619
  v970
def k0_mult13 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c6_i32 : BitVec 32 := 6#32
  let v1032 : BitVec 32 := Scalar.addi v611 c6_i32
  let c2_i32_657 : BitVec 32 := 2#32
  let v1033 : BitVec 32 := Scalar.addi v1032 c2_i32_657
  let c256_i32_659 : BitVec 32 := 256#32
  let v1035 : BitVec 32 := Scalar.muli v1033 c256_i32_659
  v1035
def k0_mult14 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c6_i32_658 : BitVec 32 := 6#32
  let v1034 : BitVec 32 := Scalar.addi v611 c6_i32_658
  let c256_i32_662 : BitVec 32 := 256#32
  let v1040 : BitVec 32 := Scalar.muli v1034 c256_i32_662
  v1040
def k0_mult15 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c7_i32 : BitVec 32 := 7#32
  let v1102 : BitVec 32 := Scalar.addi v611 c7_i32
  let c2_i32_700 : BitVec 32 := 2#32
  let v1103 : BitVec 32 := Scalar.addi v1102 c2_i32_700
  let c256_i32_702 : BitVec 32 := 256#32
  let v1105 : BitVec 32 := Scalar.muli v1103 c256_i32_702
  v1105
def k0_mult16 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c7_i32_701 : BitVec 32 := 7#32
  let v1104 : BitVec 32 := Scalar.addi v611 c7_i32_701
  let c256_i32_705 : BitVec 32 := 256#32
  let v1110 : BitVec 32 := Scalar.muli v1104 c256_i32_705
  v1110
def k0_mult17 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c8_i32 : BitVec 32 := 8#32
  let v1172 : BitVec 32 := Scalar.addi v611 c8_i32
  let c2_i32_743 : BitVec 32 := 2#32
  let v1173 : BitVec 32 := Scalar.addi v1172 c2_i32_743
  let c256_i32_745 : BitVec 32 := 256#32
  let v1175 : BitVec 32 := Scalar.muli v1173 c256_i32_745
  v1175
def k0_mult18 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c8_i32_744 : BitVec 32 := 8#32
  let v1174 : BitVec 32 := Scalar.addi v611 c8_i32_744
  let c256_i32_748 : BitVec 32 := 256#32
  let v1180 : BitVec 32 := Scalar.muli v1174 c256_i32_748
  v1180
def k0_mult19 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c9_i32 : BitVec 32 := 9#32
  let v1242 : BitVec 32 := Scalar.addi v611 c9_i32
  let c2_i32_786 : BitVec 32 := 2#32
  let v1243 : BitVec 32 := Scalar.addi v1242 c2_i32_786
  let c256_i32_788 : BitVec 32 := 256#32
  let v1245 : BitVec 32 := Scalar.muli v1243 c256_i32_788
  v1245
def k0_mult20 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c9_i32_787 : BitVec 32 := 9#32
  let v1244 : BitVec 32 := Scalar.addi v611 c9_i32_787
  let c256_i32_791 : BitVec 32 := 256#32
  let v1250 : BitVec 32 := Scalar.muli v1244 c256_i32_791
  v1250
def k0_mult21 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c10_i32 : BitVec 32 := 10#32
  let v1312 : BitVec 32 := Scalar.addi v611 c10_i32
  let c2_i32_829 : BitVec 32 := 2#32
  let v1313 : BitVec 32 := Scalar.addi v1312 c2_i32_829
  let c256_i32_831 : BitVec 32 := 256#32
  let v1315 : BitVec 32 := Scalar.muli v1313 c256_i32_831
  v1315
def k0_mult22 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c10_i32_830 : BitVec 32 := 10#32
  let v1314 : BitVec 32 := Scalar.addi v611 c10_i32_830
  let c256_i32_834 : BitVec 32 := 256#32
  let v1320 : BitVec 32 := Scalar.muli v1314 c256_i32_834
  v1320
def k0_mult23 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c11_i32 : BitVec 32 := 11#32
  let v1382 : BitVec 32 := Scalar.addi v611 c11_i32
  let c2_i32_872 : BitVec 32 := 2#32
  let v1383 : BitVec 32 := Scalar.addi v1382 c2_i32_872
  let c256_i32_874 : BitVec 32 := 256#32
  let v1385 : BitVec 32 := Scalar.muli v1383 c256_i32_874
  v1385
def k0_mult24 (k0_t2 : Fin k0_t2_loop.trips) : BitVec 32 :=
  let c0_i32_56 : BitVec 32 := 0#32
  let c1_i32_58 : BitVec 32 := 1#32
  let arg14 : BitVec 32 := Scf.iv c0_i32_56 c1_i32_58 k0_t2
  let c12_i32 : BitVec 32 := 12#32
  let v611 : BitVec 32 := Scalar.muli arg14 c12_i32
  let c11_i32_873 : BitVec 32 := 11#32
  let v1384 : BitVec 32 := Scalar.addi v611 c11_i32_873
  let c256_i32_877 : BitVec 32 := 256#32
  let v1390 : BitVec 32 := Scalar.muli v1384 c256_i32_877
  v1390
def k0_off4 (k0_t1 : Fin k0_t1_loop.trips) : Fin 4 → Nat :=
  let c0_62 : Index := 0#32
  let c0_i32 : BitVec 32 := 0#32
  let c1_i32 : BitVec 32 := 1#32
  let arg13 : BitVec 32 := Scf.iv c0_i32 c1_i32 k0_t1
  let v75 : Index := Scalar.indexCast arg13
  let c0_63 : Index := 0#32
  let c6144 : Index := 6144#32
  ![0, v75.toNat, 0, 6144]
def k0_off5 (k0_t1 : Fin k0_t1_loop.trips) : Fin 4 → Nat :=
  let c0_101 : Index := 0#32
  let c0_i32 : BitVec 32 := 0#32
  let c1_i32 : BitVec 32 := 1#32
  let arg13 : BitVec 32 := Scf.iv c0_i32 c1_i32 k0_t1
  let v136 : Index := Scalar.indexCast arg13
  let c0_102 : Index := 0#32
  let c6400 : Index := 6400#32
  ![0, v136.toNat, 0, 6400]
def k0_off6 (k0_t1 : Fin k0_t1_loop.trips) : Fin 4 → Nat :=
  let c0_140 : Index := 0#32
  let c0_i32 : BitVec 32 := 0#32
  let c1_i32 : BitVec 32 := 1#32
  let arg13 : BitVec 32 := Scf.iv c0_i32 c1_i32 k0_t1
  let v197 : Index := Scalar.indexCast arg13
  let c0_141 : Index := 0#32
  let c6656_142 : Index := 6656#32
  ![0, v197.toNat, 0, 6656]
def k0_off7 (k0_t1 : Fin k0_t1_loop.trips) : Fin 4 → Nat :=
  let c0_180 : Index := 0#32
  let c0_i32 : BitVec 32 := 0#32
  let c1_i32 : BitVec 32 := 1#32
  let arg13 : BitVec 32 := Scf.iv c0_i32 c1_i32 k0_t1
  let v258 : Index := Scalar.indexCast arg13
  let c0_181 : Index := 0#32
  let c6912_182 : Index := 6912#32
  ![0, v258.toNat, 0, 6912]
def k0_off8 (k0_t1 : Fin k0_t1_loop.trips) : Fin 4 → Nat :=
  let c0_220 : Index := 0#32
  let c0_i32 : BitVec 32 := 0#32
  let c1_i32 : BitVec 32 := 1#32
  let arg13 : BitVec 32 := Scf.iv c0_i32 c1_i32 k0_t1
  let v319 : Index := Scalar.indexCast arg13
  let c0_221 : Index := 0#32
  let c7168_222 : Index := 7168#32
  ![0, v319.toNat, 0, 7168]
def k0_off9 (k0_t1 : Fin k0_t1_loop.trips) : Fin 4 → Nat :=
  let c0_260 : Index := 0#32
  let c0_i32 : BitVec 32 := 0#32
  let c1_i32 : BitVec 32 := 1#32
  let arg13 : BitVec 32 := Scf.iv c0_i32 c1_i32 k0_t1
  let v380 : Index := Scalar.indexCast arg13
  let c0_261 : Index := 0#32
  let c7424_262 : Index := 7424#32
  ![0, v380.toNat, 0, 7424]
def k0_off10 (k0_t1 : Fin k0_t1_loop.trips) : Fin 4 → Nat :=
  let c0_300 : Index := 0#32
  let c0_i32 : BitVec 32 := 0#32
  let c1_i32 : BitVec 32 := 1#32
  let arg13 : BitVec 32 := Scf.iv c0_i32 c1_i32 k0_t1
  let v441 : Index := Scalar.indexCast arg13
  let c0_301 : Index := 0#32
  let c7680_302 : Index := 7680#32
  ![0, v441.toNat, 0, 7680]
def k0_off11 (k0_t1 : Fin k0_t1_loop.trips) : Fin 4 → Nat :=
  let c0_338 : Index := 0#32
  let c0_i32 : BitVec 32 := 0#32
  let c1_i32 : BitVec 32 := 1#32
  let arg13 : BitVec 32 := Scf.iv c0_i32 c1_i32 k0_t1
  let v500 : Index := Scalar.indexCast arg13
  let c0_339 : Index := 0#32
  let c7936_340 : Index := 7936#32
  ![0, v500.toNat, 0, 7936]
def k0_off12 (k0_t1 : Fin k0_t1_loop.trips) : Fin 4 → Nat :=
  let c0_364 : Index := 0#32
  let c0_i32 : BitVec 32 := 0#32
  let c1_i32 : BitVec 32 := 1#32
  let arg13 : BitVec 32 := Scf.iv c0_i32 c1_i32 k0_t1
  let v545 : Index := Scalar.indexCast arg13
  let c0_365 : Index := 0#32
  let c8192_366 : Index := 8192#32
  ![0, v545.toNat, 0, 8192]
def k0_mult25 (k0_t1 : Fin k0_t1_loop.trips) : BitVec 32 :=
  let c0_i32 : BitVec 32 := 0#32
  let c1_i32 : BitVec 32 := 1#32
  let arg13 : BitVec 32 := Scf.iv c0_i32 c1_i32 k0_t1
  let c256_i32 : BitVec 32 := 256#32
  let v605 : BitVec 32 := Scalar.muli arg13 c256_i32
  v605
def k0_off13 (k0_t1 : Fin k0_t1_loop.trips) : Fin 3 → Nat :=
  let c0_392 : Index := 0#32
  let c0_393 : Index := 0#32
  let c0_i32 : BitVec 32 := 0#32
  let c1_i32 : BitVec 32 := 1#32
  let arg13 : BitVec 32 := Scf.iv c0_i32 c1_i32 k0_t1
  let c256_i32 : BitVec 32 := 256#32
  let v605 : BitVec 32 := Scalar.muli arg13 c256_i32
  let v606 : BitVec 32 := v605
  let v607 : Index := Scalar.indexCast v606
  ![0, 0, v607.toNat]
def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x64x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8448x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2x64x8448 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S4x8x64x8192 : Shape := ⟨4, ![4, 8, 64, 8192]⟩
abbrev S4x8448x128 : Shape := ⟨3, ![4, 8448, 128]⟩
abbrev S4x2x64x8448 : Shape := ⟨4, ![4, 2, 64, 8448]⟩
abbrev S4x2x4x64x8192 : Shape := ⟨5, ![4, 2, 4, 64, 8192]⟩
abbrev S4x2x4x8192x64 : Shape := ⟨5, ![4, 2, 4, 8192, 64]⟩
abbrev S4x8448x2x64 : Shape := ⟨4, ![4, 8448, 2, 64]⟩
abbrev S4x2x8448x64 : Shape := ⟨4, ![4, 2, 8448, 64]⟩
abbrev S4x2x4x8192x8448 : Shape := ⟨5, ![4, 2, 4, 8192, 8448]⟩
abbrev S_ : Shape := ⟨0, ![]⟩
abbrev S4x2x4x8192 : Shape := ⟨4, ![4, 2, 4, 8192]⟩
abbrev S4x2x4x8192x1 : Shape := ⟨5, ![4, 2, 4, 8192, 1]⟩
abbrev S4x8192x2x4x64 : Shape := ⟨5, ![4, 8192, 2, 4, 64]⟩
abbrev S4x8192x512 : Shape := ⟨3, ![4, 8192, 512]⟩

abbrev nBuf : Space → Nat
  | .hbm => 32
  | .vmem => 0
  | .smem => 0
  | _ => 0

abbrev bufTy : (tb : Table) → Fin (tcTables nBuf tb) → BufTy
  | .hbm, ⟨0, _⟩ => ⟨S4x8x64x8192, .bf16⟩
  | .hbm, ⟨1, _⟩ => ⟨S4x8448x128, .bf16⟩
  | .hbm, ⟨2, _⟩ => ⟨S4x2x64x8448, .bf16⟩
  | .hbm, ⟨3, _⟩ => ⟨S4x8x64x8192, .f32⟩
  | .hbm, ⟨4, _⟩ => ⟨S4x2x4x64x8192, .f32⟩
  | .hbm, ⟨5, _⟩ => ⟨S4x2x4x8192x64, .f32⟩
  | .hbm, ⟨6, _⟩ => ⟨S4x8448x128, .f32⟩
  | .hbm, ⟨7, _⟩ => ⟨S4x8448x2x64, .f32⟩
  | .hbm, ⟨8, _⟩ => ⟨S4x2x8448x64, .f32⟩
  | .hbm, ⟨9, _⟩ => ⟨S4x2x64x8448, .f32⟩
  | .hbm, ⟨10, _⟩ => ⟨S4x2x8448x64, .f32⟩
  | .hbm, ⟨11, _⟩ => ⟨S4x2x4x8192x8448, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S4x2x4x8192x8448, .f32⟩
  | .hbm, ⟨16, _⟩ => ⟨S4x2x4x8192x8448, .f32⟩
  | .hbm, ⟨17, _⟩ => ⟨S_, .f32⟩
  | .hbm, ⟨18, _⟩ => ⟨S4x2x4x8192, .f32⟩
  | .hbm, ⟨19, _⟩ => ⟨S4x2x4x8192x1, .f32⟩
  | .hbm, ⟨20, _⟩ => ⟨S4x2x4x8192x8448, .f32⟩
  | .hbm, ⟨21, _⟩ => ⟨S4x2x4x8192x8448, .f32⟩
  | .hbm, ⟨22, _⟩ => ⟨S4x2x4x8192x8448, .f32⟩
  | .hbm, ⟨23, _⟩ => ⟨S_, .f32⟩
  | .hbm, ⟨24, _⟩ => ⟨S4x2x4x8192, .f32⟩
  | .hbm, ⟨25, _⟩ => ⟨S4x2x4x8192x1, .f32⟩
  | .hbm, ⟨26, _⟩ => ⟨S4x2x4x8192x8448, .f32⟩
  | .hbm, ⟨27, _⟩ => ⟨S4x2x4x8192x8448, .f32⟩
  | .hbm, ⟨28, _⟩ => ⟨S4x2x4x8192x64, .f32⟩
  | .hbm, ⟨29, _⟩ => ⟨S4x8192x2x4x64, .f32⟩
  | .hbm, ⟨30, _⟩ => ⟨S4x8192x512, .f32⟩
  | .hbm, ⟨31, _⟩ => ⟨S4x8192x512, .bf16⟩
  | _, _ => ⟨S4x8x64x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_cst_0 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_cst_1 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩

abbrev nD : Nat := 1
abbrev τ : Topo := Topo.v7x

variable {F : FTy → Type} [FloatOps F]
-- ==== Kernel2.lean ====
abbrev S4x8192x1024 : Shape := ⟨3, ![4, 8192, 1024]⟩
abbrev S8x6x1024 : Shape := ⟨3, ![8, 6, 1024]⟩
abbrev S4x8192x512 : Shape := ⟨3, ![4, 8192, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S8x128 : Shape := ⟨2, ![8, 128]⟩
abbrev S128x8 : Shape := ⟨2, ![128, 8]⟩
abbrev S128x8x64 : Shape := ⟨3, ![128, 8, 64]⟩
abbrev S128x512 : Shape := ⟨2, ![128, 512]⟩
abbrev S8x128x128 : Shape := ⟨3, ![8, 128, 128]⟩
abbrev S512x1024 : Shape := ⟨2, ![512, 1024]⟩
abbrev S1024x1024 : Shape := ⟨2, ![1024, 1024]⟩
abbrev S1024x4096 : Shape := ⟨2, ![1024, 4096]⟩
abbrev S4096x1024 : Shape := ⟨2, ![4096, 1024]⟩
abbrev S1x6x1024 : Shape := ⟨3, ![1, 6, 1024]⟩
abbrev S1x512x512 : Shape := ⟨3, ![1, 512, 512]⟩
abbrev S6x1024 : Shape := ⟨2, ![6, 1024]⟩
abbrev S128x128 : Shape := ⟨2, ![128, 128]⟩
abbrev S512x512 : Shape := ⟨2, ![512, 512]⟩
abbrev S1x128x128 : Shape := ⟨3, ![1, 128, 128]⟩
abbrev S512 : Shape := ⟨1, ![512]⟩
abbrev S512x1 : Shape := ⟨2, ![512, 1]⟩
abbrev S512x4096 : Shape := ⟨2, ![512, 4096]⟩

abbrev nBuf : Space → Nat
  | .hbm => 32
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S8x6x1024, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S4x8192x1024, .bf16⟩
  | .hbm, ⟨6, _⟩ => ⟨S4x8192x1024, .bf16⟩
  | .hbm, ⟨7, _⟩ => ⟨S1x8x128x128, .f32⟩
  | .hbm, ⟨8, _⟩ => ⟨S1x8x128, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x4096, .f32⟩
  | .hbm, ⟨14, _⟩ => ⟨S1x4096x1024, .f32⟩
  | .hbm, ⟨15, _⟩ => ⟨S8x128, .f32⟩
  | .hbm, ⟨16, _⟩ => ⟨S128x8, .f32⟩
  | .hbm, ⟨17, _⟩ => ⟨S128x8x64, .f32⟩
  | .hbm, ⟨18, _⟩ => ⟨S128x512, .f32⟩
  | .hbm, ⟨19, _⟩ => ⟨S8x128x128, .f32⟩
  | .hbm, ⟨20, _⟩ => ⟨S8x128x128, .bf16⟩
  | .hbm, ⟨21, _⟩ => ⟨S512x1024, .f32⟩
  | .hbm, ⟨22, _⟩ => ⟨S512x1024, .bf16⟩
  | .hbm, ⟨23, _⟩ => ⟨S512x1024, .f32⟩
  | .hbm, ⟨24, _⟩ => ⟨S512x1024, .bf16⟩
  | .hbm, ⟨25, _⟩ => ⟨S1024x1024, .f32⟩
  | .hbm, ⟨26, _⟩ => ⟨S1024x1024, .bf16⟩
  | .hbm, ⟨27, _⟩ => ⟨S1024x4096, .f32⟩
  | .hbm, ⟨28, _⟩ => ⟨S1024x4096, .bf16⟩
  | .hbm, ⟨29, _⟩ => ⟨S4096x1024, .f32⟩
  | .hbm, ⟨30, _⟩ => ⟨S4096x1024, .bf16⟩
  | .hbm, ⟨31, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x6x1024, .f32⟩
  | .local _ .vmem, ⟨3, _⟩ => ⟨S1x6x1024, .f32⟩
  | .local _ .vmem, ⟨4, _⟩ => ⟨S1x512x512, .bf16⟩
  | .local _ .vmem, ⟨5, _⟩ => ⟨S1x512x512, .bf16⟩
  | .local _ .vmem, ⟨6, _⟩ => ⟨S1x512x512, .bf16⟩
  | .local _ .vmem, ⟨7, _⟩ => ⟨S1x512x512, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S8x128x128, .bf16⟩
  | .local _ .vmem, ⟨15, _⟩ => ⟨S128x512, .f32⟩
  | .local _ .vmem, ⟨16, _⟩ => ⟨S512x1024, .bf16⟩
  | .local _ .vmem, ⟨17, _⟩ => ⟨S512x1024, .bf16⟩
  | .local _ .vmem, ⟨18, _⟩ => ⟨S1024x1024, .bf16⟩
  | .local _ .vmem, ⟨19, _⟩ => ⟨S1x1024, .f32⟩
  | .local _ .vmem, ⟨20, _⟩ => ⟨S1024x4096, .bf16⟩
  | .local _ .vmem, ⟨21, _⟩ => ⟨S4096x1024, .bf16⟩
  | .local _ .vmem, ⟨22, _⟩ => ⟨S1x512x1024, .f32⟩
  | .local _ .vmem, ⟨23, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg15_0 : Ref sig .tc := ⟨.vmem, 22, rfl⟩
abbrev cc0_stg15_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem15_0 : DmaSem sig := 22
abbrev cc0_sem15_1 : DmaSem sig := 23

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x4096 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S4096x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== Reference2Ideal.lean ====
abbrev S4x8192x1024 : Shape := ⟨3, ![4, 8192, 1024]⟩
abbrev S8x6x1024 : Shape := ⟨3, ![8, 6, 1024]⟩
abbrev S4x8192x512 : Shape := ⟨3, ![4, 8192, 512]⟩
abbrev S1x8x128x128 : Shape := ⟨4, ![1, 8, 128, 128]⟩
abbrev S1x8x128 : Shape := ⟨3, ![1, 8, 128]⟩
abbrev S1x512x1024 : Shape := ⟨3, ![1, 512, 1024]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S4x1x1024 : Shape := ⟨3, ![4, 1, 1024]⟩
abbrev S4x64x128x8x64 : Shape := ⟨5, ![4, 64, 128, 8, 64]⟩
abbrev S8x128x128 : Shape := ⟨3, ![8, 128, 128]⟩
abbrev S8x4x64x64x128 : Shape := ⟨5, ![8, 4, 64, 64, 128]⟩
abbrev S8x128 : Shape := ⟨2, ![8, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S_ : Shape := ⟨0, ![]⟩
abbrev S512x1024 : Shape := ⟨2, ![512, 1024]⟩
abbrev S1024x1024 : Shape := ⟨2, ![1024, 1024]⟩
abbrev S4x8192 : Shape := ⟨2, ![4, 8192]⟩
abbrev S4x8192x1 : Shape := ⟨3, ![4, 8192, 1]⟩
abbrev S1024 : Shape := ⟨1, ![1024]⟩
abbrev S1x1x1024 : Shape := ⟨3, ![1, 1, 1024]⟩
abbrev S1024x4096 : Shape := ⟨2, ![1024, 4096]⟩
abbrev S4x8192x4096 : Shape := ⟨3, ![4, 8192, 4096]⟩
abbrev S4096x1024 : Shape := ⟨2, ![4096, 1024]⟩

abbrev nBuf : Space → Nat
  | .hbm => 99
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S8x6x1024, .f32⟩
  | .hbm, ⟨2, _⟩ => ⟨S4x8192x512, .bf16⟩
  | .hbm, ⟨3, _⟩ => ⟨S4x8192x512, .bf16⟩
  | .hbm, ⟨4, _⟩ => ⟨S4x8192x512, .bf16⟩
  | .hbm, ⟨5, _⟩ => ⟨S4x8192x1024, .bf16⟩
  | .hbm, ⟨6, _⟩ => ⟨S4x8192x1024, .bf16⟩
  | .hbm, ⟨7, _⟩ => ⟨S1x8x128x128, .f32⟩
  | .hbm, ⟨8, _⟩ => ⟨S1x8x128, .f32⟩
  | .hbm, ⟨9, _⟩ => ⟨S1x512x1024, .f32⟩
  | .hbm, ⟨10, _⟩ => ⟨S1x512x1024, .f32⟩
  | .hbm, ⟨11, _⟩ => ⟨S1x1024x1024, .f32⟩
  | .hbm, ⟨12, _⟩ => ⟨S1x1024, .f32⟩
  | .hbm, ⟨13, _⟩ => ⟨S1x1024x4096, .f32⟩
  | .hbm, ⟨14, _⟩ => ⟨S1x4096x1024, .f32⟩
  | .hbm, ⟨15, _⟩ => ⟨S4x1x1024, .f32⟩
  | .hbm, ⟨16, _⟩ => ⟨S4x1x1024, .f32⟩
  | .hbm, ⟨17, _⟩ => ⟨S4x1x1024, .f32⟩
  | .hbm, ⟨18, _⟩ => ⟨S4x1x1024, .f32⟩
  | .hbm, ⟨19, _⟩ => ⟨S4x8192x512, .f32⟩
  | .hbm, ⟨20, _⟩ => ⟨S4x64x128x8x64, .f32⟩
  | .hbm, ⟨21, _⟩ => ⟨S8x128x128, .f32⟩
  | .hbm, ⟨22, _⟩ => ⟨S8x4x64x64x128, .f32⟩
  | .hbm, ⟨23, _⟩ => ⟨S4x64x128x8x64, .f32⟩
  | .hbm, ⟨24, _⟩ => ⟨S8x128, .f32⟩
  | .hbm, ⟨25, _⟩ => ⟨S128x8, .f32⟩
  | .hbm, ⟨26, _⟩ => ⟨S128x8x1, .f32⟩
  | .hbm, ⟨27, _⟩ => ⟨S1x1x128x8x1, .f32⟩
  | .hbm, ⟨28, _⟩ => ⟨S4x64x128x8x64, .f32⟩
  | .hbm, ⟨29, _⟩ => ⟨S4x64x128x8x64, .f32⟩
  | .hbm, ⟨30, _⟩ => ⟨S4x8192x512, .f32⟩
  | .hbm, ⟨31, _⟩ => ⟨S4x8192x512, .f32⟩
  | .hbm, ⟨32, _⟩ => ⟨S4x8192x512, .f32⟩
  | .hbm, ⟨33, _⟩ => ⟨S4x8192x1024, .f32⟩
  | .hbm, ⟨34, _⟩ => ⟨S4x8192x1024, .f32⟩
  | .hbm, ⟨35, _⟩ => ⟨S4x8192x1024, .f32⟩
  | .hbm, ⟨36, _⟩ => ⟨S_, .f32⟩
  | .hbm, ⟨37, _⟩ => ⟨S4x8192x1024, .f32⟩
  | .hbm, ⟨38, _⟩ => ⟨S4x8192x1024, .f32⟩
  | .hbm, ⟨39, _⟩ => ⟨S_, .f32⟩
  | .hbm, ⟨40, _⟩ => ⟨S4x8192x1024, .f32⟩
  | .hbm, ⟨41, _⟩ => ⟨S4x8192x1024, .f32⟩
  | .hbm, ⟨42, _⟩ => ⟨S4x8192x512, .f32⟩
  | .hbm, ⟨43, _⟩ => ⟨S512x1024, .f32⟩
  | .hbm, ⟨44, _⟩ => ⟨S4x8192x1024, .f32⟩
  | .hbm, ⟨45, _⟩ => ⟨S4x8192x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192x1024, .f32⟩
  | .hbm, ⟨51, _⟩ => ⟨S4x8192x1024, .f32⟩
  | .hbm, ⟨52, _⟩ => ⟨S_, .f32⟩
  | .hbm, ⟨53, _⟩ => ⟨S4x8192x1024, .f32⟩
  | .hbm, ⟨54, _⟩ => ⟨S4x8192x1024, .f32⟩
  | .hbm, ⟨55, _⟩ => ⟨S512x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S1024x1024, .f32⟩
  | .hbm, ⟨60, _⟩ => ⟨S4x8192x1024, .f32⟩
  | .hbm, ⟨61, _⟩ => ⟨S4x8192x1024, .f32⟩
  | .hbm, ⟨62, _⟩ => ⟨S4x8192x1024, .f32⟩
  | .hbm, ⟨63, _⟩ => ⟨S4x8192x1024, .f32⟩
  | .hbm, ⟨64, _⟩ => ⟨S4x8192x1024, .f32⟩
  | .hbm, ⟨65, _⟩ => ⟨S_, .f32⟩
  | .hbm, ⟨66, _⟩ => ⟨S4x8192, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S_, .f32⟩
  | .hbm, ⟨72, _⟩ => ⟨S4x8192x1, .f32⟩
  | .hbm, ⟨73, _⟩ => ⟨S4x8192x1, .f32⟩
  | .hbm, ⟨74, _⟩ => ⟨S4x8192x1, .f32⟩
  | .hbm, ⟨75, _⟩ => ⟨S4x8192x1024, .f32⟩
  | .hbm, ⟨76, _⟩ => ⟨S4x8192x1024, .f32⟩
  | .hbm, ⟨77, _⟩ => ⟨S1024, .f32⟩
  | .hbm, ⟨78, _⟩ => ⟨S1x1x1024, .f32⟩
  | .hbm, ⟨79, _⟩ => ⟨S4x8192x1024, .f32⟩
  | .hbm, ⟨80, _⟩ => ⟨S4x8192x1024, .f32⟩
  | .hbm, ⟨81, _⟩ => ⟨S_, .f32⟩
  | .hbm, ⟨82, _⟩ => ⟨S4x1x1024, .f32⟩
  | .hbm, ⟨83, _⟩ => ⟨S4x1x1024, .f32⟩
  | .hbm, ⟨84, _⟩ => ⟨S4x8192x1024, .f32⟩
  | .hbm, ⟨85, _⟩ => ⟨S4x8192x1024, .f32⟩
  | .hbm, ⟨86, _⟩ => ⟨S4x8192x1024, .f32⟩
  | .hbm, ⟨87, _⟩ => ⟨S4x8192x1024, .f32⟩
  | .hbm, ⟨88, _⟩ => ⟨S1024x4096, .f32⟩
  | .hbm, ⟨89, _⟩ => ⟨S4x8192x4096, .f32⟩
  | .hbm, ⟨90, _⟩ => ⟨S_, .f32⟩
  | .hbm, ⟨91, _⟩ => ⟨S4x8192x4096, .f32⟩
  | .hbm, ⟨92, _⟩ => ⟨S4x8192x4096, .f32⟩
  | .hbm, ⟨93, _⟩ => ⟨S4x8192x4096, .f32⟩
  | .hbm, ⟨94, _⟩ => ⟨S4096x1024, .f32⟩
  | .hbm, ⟨95, _⟩ => ⟨S4x8192x1024, .f32⟩
  | .hbm, ⟨96, _⟩ => ⟨S4x8192x1024, .f32⟩
  | .hbm, ⟨97, _⟩ => ⟨S4x8192x1024, .f32⟩
  | .hbm, ⟨98, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst : Ref sig .tc := ⟨.hbm, 36, rfl⟩
abbrev main_v21 : Ref sig .tc := ⟨.hbm, 37, rfl⟩
abbrev main_v22 : Ref sig .tc := ⟨.hbm, 38, rfl⟩
abbrev main_cst_0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_1 : Ref sig .tc := ⟨.hbm, 49, rfl⟩
abbrev main_v32 : Ref sig .tc := ⟨.hbm, 50, rfl⟩
abbrev main_v33 : Ref sig .tc := ⟨.hbm, 51, rfl⟩
abbrev main_cst_2 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_3 : Ref sig .tc := ⟨.hbm, 65, rfl⟩
abbrev main_v46 : Ref sig .tc := ⟨.hbm, 66, rfl⟩
abbrev main_v47 : Ref sig .tc := ⟨.hbm, 67, rfl⟩
abbrev main_cst_4 : Ref sig .tc := ⟨.hbm, 68, rfl⟩
abbrev main_v48 : Ref sig .tc := ⟨.hbm, 69, rfl⟩
abbrev main_v49 : Ref sig .tc := ⟨.hbm, 70, rfl⟩
abbrev main_cst_5 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_6 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_call0_cst : Ref sig .tc := ⟨.hbm, 90, rfl⟩
abbrev main_call0_v0 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Proof.Att.Trip.lean ====
module

public import proofs.«01_k».proof.Proof.Gen.KernelIdeal.Frame
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The contents type of memref `M`'s buffer on core `c`. -/
abbrev Bf (c : Dev nD) {sp : Space} {S : Shape} {e : EltTy} (M : Memref sig .tc sp S e) : Type := Buf (Elt F) (M.view.loc (c : Thread nD τ))
/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

instance : ∀ e, Nonempty (Elt F e) := inferInstance
/-! ## One step of the online softmax, on one half (512 of the 1024 columns) of the scores -/

/-- The state of one half of the columns: the running maxima `m`, the accumulator `a` (64 rows of weighted values and
    16 rows of weights), the two tiles of scores still to be consumed `sA`, `sB` and their column maxima `xA`, `xB`. -/
structure HS (F : FTy → Type) where
  m : FVec F S1x512 .f32
  a : FVec F S80x512 .f32
  sA : FVec F S256x512 .f32
  sB : FVec F S256x512 .f32
  xA : FVec F S1x512 .f32
  xB : FVec F S1x512 .f32

/-- A tile of 256 keys as a matrix. -/
def keyMat (kt : Vec F S1x256x128 .bf16) : FVec F S256x128 .bf16 := shapeCast S256x128 kt shapeCasts_S1x256x128_S256x128
/-- The scores of 256 keys against 512 columns of queries. -/
def score (km : FVec F S256x128 .bf16) (q : Vec F S128x512 .bf16) : FVec F S256x512 .f32 :=
  matmul dot_S256x128_S128x512_S256x512_1_0_0_1_n_n none km q (constant S256x512 .f32 0x00000000#32)
/-- The column maxima of a tile of scores. -/
def colMax (s : FVec F S256x512 .f32) : FVec F S1x512 .f32 :=
  shapeCast S1x512 (multiReduction .maximumf [0] S512 s 0xFF800000#32 reduces_S256x512_S512 (.inl rfl) rfl) shapeCasts_S512_S1x512
/-- A tile of 256 values under 16 rows of ones. -/
def valMat (vt : Vec F S1x1x64x256 .bf16) : FVec F S80x256 .bf16 :=
  concatenate S80x256 0 [⟨S64x256, shapeCast S64x256 vt shapeCasts_S1x1x64x256_S64x256⟩, ⟨S16x256, broadcast S16x256 (Scalar.ofBits .bf16 0x3F80#16)⟩] concatenates_S64x256_S16x256_S80x256_d0
/-- The weights of a tile of scores against the maxima `m`. -/
def weights (m : FVec F S1x512 .f32) (s : FVec F S256x512 .f32) : FVec F S256x512 .bf16 :=
  truncf .bf16 (exp2 (subf s (broadcastTo S256x512 m broadcasts_S1x512_S256x512))) bitsLt_bf16_f32
/-- The accumulator after the maxima move from `m` to `m'` and a tile's weights `p` join. -/
def accum (v : FVec F S80x256 .bf16) (m m' : FVec F S1x512 .f32) (p : FVec F S256x512 .bf16) (a : FVec F S80x512 .f32) : FVec F S80x512 .f32 :=
  addf (mulf (broadcastTo S80x512 (exp2 (subf m m')) broadcasts_S1x512_S80x512) a)
    (matmul dot_S80x256_S256x512_S80x512_1_0_0_1_n_n none v p (constant S80x512 .f32 0x00000000#32))

/-- The state after its older tile is consumed (values `vt`) and no new one produced. -/
def HS.drain (vt : Vec F S1x1x64x256 .bf16) (s : HS F) : HS F :=
  ⟨maximumf s.m s.xA, accum (valMat vt) s.m (maximumf s.m s.xA) (weights (maximumf s.m s.xA) s.sA) s.a, s.sB, s.sB, s.xB, s.xB⟩
/-- The state after its older tile is consumed (values `vt`) and a new one (keys `kt`) produced. -/
def HS.step (kt : Vec F S1x256x128 .bf16) (vt : Vec F S1x1x64x256 .bf16) (q : Vec F S128x512 .bf16) (s : HS F) : HS F :=
  { s.drain vt with sB := score (keyMat kt) q, xB := colMax (score (keyMat kt) q) }

/-- The left and the right half of a row of 1024, as the kernel reads them. -/
abbrev lo1 : Rect S1x1024 := Rect.unit (s := S1x1024) ![0, 0] S1x512.size inb_S1x1024_S1x512_0_0
abbrev hi1 : Rect S1x1024 := Rect.unit (s := S1x1024) ![0, 512] S1x512.size inb_S1x1024_S1x512_0_512
abbrev lo80 : Rect S80x1024 := Rect.unit (s := S80x1024) ![0, 0] S80x512.size inb_S80x1024_S80x512_0_0
abbrev hi80 : Rect S80x1024 := Rect.unit (s := S80x1024) ![0, 512] S80x512.size inb_S80x1024_S80x512_0_512
abbrev lo256 : Rect S256x1024 := Rect.unit (s := S256x1024) ![0, 0] S256x512.size inb_S256x1024_S256x512_0_0
abbrev hi256 : Rect S256x1024 := Rect.unit (s := S256x1024) ![0, 512] S256x512.size inb_S256x1024_S256x512_0_512
abbrev lo128 : Rect S128x1024 := Rect.unit (s := S128x1024) ![0, 0] S128x512.size inb_S128x1024_S128x512_0_0
abbrev hi128 : Rect S128x1024 := Rect.unit (s := S128x1024) ![0, 512] S128x512.size inb_S128x1024_S128x512_0_512

/-- The scratch buffers hold the two halves' states. -/
structure Holds (c : Dev nD) (arg7 : Memref sig .tc .vmem S1x1024 .f32) (arg8 : Memref sig .tc .vmem S80x1024 .f32)
    (arg9 arg10 : Memref sig .tc .vmem S256x1024 .f32)
    (f7 : Bf (F := F) c arg7) (f8 : Bf (F := F) c arg8) (f9 : Bf (F := F) c arg9) (f10 : Bf (F := F) c arg10) (s0 s1 : HS F) : Prop where
  m0 : arg7.view.readAt (Elt F) lo1.toLoadRect f7 = s0.m
  m1 : arg7.view.readAt (Elt F) hi1.toLoadRect f7 = s1.m
  a0 : arg8.view.readAt (Elt F) lo80.toLoadRect f8 = s0.a
  a1 : arg8.view.readAt (Elt F) hi80.toLoadRect f8 = s1.a
  sA0 : arg9.view.readAt (Elt F) lo256.toLoadRect f9 = s0.sA
  sA1 : arg9.view.readAt (Elt F) hi256.toLoadRect f9 = s1.sA
  sB0 : arg10.view.readAt (Elt F) lo256.toLoadRect f10 = s0.sB
  sB1 : arg10.view.readAt (Elt F) hi256.toLoadRect f10 = s1.sB

/-- A load of the rectangle last stored reads what was stored. -/
theorem readAt_hit {sp : Space} {S : Shape} {e : EltTy} (v : View sig .tc sp S e) (f : v.ty.Contents (Elt F)) (r : Rect S)
    (w : r.shape.Idx → Elt F e) (L : List (View.Piece (Elt F) S e)) :
    v.readAt (Elt F) r.toLoadRect (v.writes (Elt F) f (⟨r, w⟩ :: L)) = w := by
  rw [View.readAt_writes_of_cover v f _ _ fun j => ⟨_, List.mem_cons_self, r.idx_mem j⟩, View.readCov_cons_toLoadRect]

/-- A load off the rectangle last stored reads what was there before. -/
theorem readAt_skip {sp : Space} {S : Shape} {e : EltTy} (v : View sig .tc sp S e) (f : v.ty.Contents (Elt F)) (r : Rect S)
    (w : r.shape.Idx → Elt F e) (L : List (View.Piece (Elt F) S e)) (B : LoadRect S) (h : LoadRect.disj r B = true) :
    v.readAt (Elt F) B (v.writes (Elt F) f (⟨r, w⟩ :: L)) = v.readAt (Elt F) B (v.writes (Elt F) f L) :=
  funext fun j => View.read_writes_cons_miss v f ⟨r, w⟩ L (B.idx j) (LoadRect.idx_not_mem_of_disj h j)

theorem d1 : LoadRect.disj hi1 lo1.toLoadRect = true := by decide
theorem d1' : LoadRect.disj lo1 hi1.toLoadRect = true := by decide
theorem d80 : LoadRect.disj hi80 lo80.toLoadRect = true := by decide
theorem d80' : LoadRect.disj lo80 hi80.toLoadRect = true := by decide
theorem d256 : LoadRect.disj hi256 lo256.toLoadRect = true := by decide
theorem d256' : LoadRect.disj lo256 hi256.toLoadRect = true := by decide

/-- The keys and the values trip `k` reads at its step `j`. -/
abbrev keysAt (c : Dev nD) (arg3 : Memref sig .tc .vmem S1x8448x128 .bf16) (f3 : Bf (F := F) c arg3) (k : Fin k0_t2_loop.trips) (j : Fin 12) : Vec F S1x256x128 .bf16 :=
  arg3.view.readAt (Elt F) (Rect.unit (s := S1x8448x128) (k0_off2 k (BitVec.ofNat 32 j.val)) S1x256x128.size (k0_off2_inb k j)).toLoadRect f3
abbrev valsAt (c : Dev nD) (arg4 : Memref sig .tc .vmem S1x2x64x8448 .bf16) (f4 : Bf (F := F) c arg4) (h : Fin k0_t1_loop.trips) (k : Fin k0_t2_loop.trips) (j : Fin 12) : Vec F S1x1x64x256 .bf16 :=
  arg4.view.readAt (Elt F) (Rect.unit (s := S1x2x64x8448) (k0_off3 h k (BitVec.ofNat 32 j.val)) S1x1x64x256.size (k0_off3_inb h k j)).toLoadRect f4

/-- Twelve steps: what one trip of the inner loop does to one half's state. -/
def HS.trip (kt : Fin 12 → Vec F S1x256x128 .bf16) (vt : Fin 12 → Vec F S1x1x64x256 .bf16) (q : Vec F S128x512 .bf16) (s : HS F) : HS F :=
  HS.step (kt 11) (vt 11) q (HS.step (kt 10) (vt 10) q (HS.step (kt 9) (vt 9) q (HS.step (kt 8) (vt 8) q (HS.step (kt 7) (vt 7) q (HS.step (kt 6) (vt 6) q (HS.step (kt 5) (vt 5) q (HS.step (kt 4) (vt 4) q (HS.step (kt 3) (vt 3) q (HS.step (kt 2) (vt 2) q (HS.step (kt 1) (vt 1) q (HS.step (kt 0) (vt 0) q s)))))))))))

set_option maxHeartbeats 4000000 in
/-- One trip of the inner loop, run: the values it carries on and the stores it leaves in each scratch buffer, found by the run. -/
noncomputable def trip (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (k0_t1 : Fin k0_t1_loop.trips) (arg13 : BitVec 32) (v47 : FVec F S1x512 .f32) (v54 : FVec F S1x512 .f32) (v56 : FVec F S256x128 .bf16) (v58 : FVec F S256x512 .f32) (k : Fin k0_t2_loop.trips) (x0 x1 x2 x3 : FVec F S1x512 .f32) (f3 : Bf (F := F) c arg3) (f4 : Bf (F := F) c arg4) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    { W : (FVec F S1x512 .f32 × FVec F S1x512 .f32 × FVec F S1x512 .f32 × FVec F S1x512 .f32) × List (View.Piece (Elt F) S1x1024 .f32) × List (View.Piece (Elt F) S80x1024 .f32) × List (View.Piece (Elt F) S256x1024 .f32) × List (View.Piece (Elt F) S256x1024 .f32) × List (View.Piece (Elt F) S256x1024 .f32) × List (View.Piece (Elt F) S256x1024 .f32) //
      ∀ (Et : Set ℕ) (Q : FVec F S1x512 .f32 × FVec F S1x512 .f32 × FVec F S1x512 .f32 × FVec F S1x512 .f32 → sProp 𝕄),
        iprop(pt c arg3 f3 ∗ pt c arg4 f4 ∗ pt c arg6 f6 ∗ pt c arg7 f7 ∗ pt c arg8 f8 ∗ pt c arg9 f9 ∗ pt c arg10 f10 ∗ pt c arg11 f11 ∗ pt c arg12 f12
          ∗ (iprop(pt c arg3 f3 ∗ pt c arg4 f4 ∗ pt c arg6 f6 ∗ pt c arg7 (arg7.view.writes (Elt F) f7 W.2.1) ∗ pt c arg8 (arg8.view.writes (Elt F) f8 W.2.2.1) ∗ pt c arg9 (arg9.view.writes (Elt F) f9 W.2.2.2.1) ∗ pt c arg10 (arg10.view.writes (Elt F) f10 W.2.2.2.2.1) ∗ pt c arg11 (arg11.view.writes (Elt F) f11 W.2.2.2.2.2.1) ∗ pt c arg12 (arg12.view.writes (Elt F) f12 W.2.2.2.2.2.2)) -∗ Q W.1))
        ⊢ wp frame (wpE (defs₀ (F := F)) Variants.none (c : Thread nD τ) none) Et (k0_t2_body (F := F) i arg2 harg2 arg3 harg3 arg4 harg4 arg5 harg5 arg6 harg6 arg7 harg7 arg8 harg8 arg9 harg9 arg10 harg10 arg11 harg11 arg12 harg12 k0_t1 arg13 v47 v54 v56 v58 k (x0, x1, x2, x3)) Q } := by
  refine ⟨⟨?_, ?_, ?_, ?_, ?_, ?_, ?_⟩, fun Et Q => ?run⟩
  case run =>
    unfold k0_t2_body
    iintro ⟨H3, H4, H6, H7, H8, H9, H10, H11, H12, Hk⟩
    sl_exec
    sl_step
    iapply Hk
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    iexact H12

end Cert.Proof.KernelIdeal
end
-- ==== Proof.Att.Loop.lean ====
module

public import proofs.«01_k».proof.Proof.Att.Trip
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the inner loop carries and the scratch buffers' contents, between two trips. -/
structure LS (c : Dev nD) (arg7 : Memref sig .tc .vmem S1x1024 .f32) (arg8 : Memref sig .tc .vmem S80x1024 .f32)
    (arg9 arg10 arg11 arg12 : Memref sig .tc .vmem S256x1024 .f32) where
  x : FVec F S1x512 .f32 × FVec F S1x512 .f32 × FVec F S1x512 .f32 × FVec F S1x512 .f32
  f7 : Bf (F := F) c arg7
  f8 : Bf (F := F) c arg8
  f9 : Bf (F := F) c arg9
  f10 : Bf (F := F) c arg10
  f11 : Bf (F := F) c arg11
  f12 : Bf (F := F) c arg12

variable (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (k0_t1 : Fin k0_t1_loop.trips) (arg13 : BitVec 32) (v47 : FVec F S1x512 .f32) (v54 : FVec F S1x512 .f32) (v56 : FVec F S256x128 .bf16) (v58 : FVec F S256x512 .f32) (f3 : Bf (F := F) c arg3) (f4 : Bf (F := F) c arg4) (f6 : Bf (F := F) c arg6)

/-- The state after trip `k`, from the one before it. -/
def LS.next (k : Fin k0_t2_loop.trips) (s : LS (F := F) c arg7 arg8 arg9 arg10 arg11 arg12) : LS (F := F) c arg7 arg8 arg9 arg10 arg11 arg12 :=
  let W := (trip c i arg2 harg2 arg3 harg3 arg4 harg4 arg5 harg5 arg6 harg6 arg7 harg7 arg8 harg8 arg9 harg9 arg10 harg10 arg11 harg11 arg12 harg12 k0_t1 arg13 v47 v54 v56 v58 k s.x.1 s.x.2.1 s.x.2.2.1 s.x.2.2.2 f3 f4 f6 s.f7 s.f8 s.f9 s.f10 s.f11 s.f12).1
  ⟨W.1, arg7.view.writes (Elt F) s.f7 W.2.1, arg8.view.writes (Elt F) s.f8 W.2.2.1, arg9.view.writes (Elt F) s.f9 W.2.2.2.1, arg10.view.writes (Elt F) s.f10 W.2.2.2.2.1, arg11.view.writes (Elt F) s.f11 W.2.2.2.2.2.1, arg12.view.writes (Elt F) s.f12 W.2.2.2.2.2.2⟩

/-- The state before trip `k`, from the one the loop is entered with. -/
def LS.upto (s : LS (F := F) c arg7 arg8 arg9 arg10 arg11 arg12) (k : ℕ) : LS (F := F) c arg7 arg8 arg9 arg10 arg11 arg12 :=
  Nat.rec s (fun n t => if h : n < k0_t2_loop.trips then t.next c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨n, h⟩ else t) k

theorem LS.upto_succ (s : LS (F := F) c arg7 arg8 arg9 arg10 arg11 arg12) (k : Fin k0_t2_loop.trips) :
    s.upto c i arg2 harg2 arg3 harg3 arg4 harg4 arg5 harg5 arg6 harg6 arg7 harg7 arg8 harg8 arg9 harg9 arg10 harg10 arg11 harg11 arg12 harg12 k0_t1 arg13 v47 v54 v56 v58 f3 f4 f6 (k.val + 1) = (s.upto c i arg2 harg2 arg3 harg3 arg4 harg4 arg5 harg5 arg6 harg6 arg7 harg7 arg8 harg8 arg9 harg9 arg10 harg10 arg11 harg11 arg12 harg12 k0_t1 arg13 v47 v54 v56 v58 f3 f4 f6 k.val).next c i arg2 harg2 arg3 harg3 arg4 harg4 arg5 harg5 arg6 harg6 arg7 harg7 arg8 harg8 arg9 harg9 arg10 harg10 arg11 harg11 arg12 harg12 k0_t1 arg13 v47 v54 v56 v58 f3 f4 f6 k :=
  dif_pos k.isLt

/-- The value `g` before the first trip, `f k` before a later one `k`. -/
abbrev stage {α : Type} (g : α) (f : ℕ → α) (k : ℕ) : α := Nat.rec (motive := fun _ => α) g (fun n _ => f (n + 1)) k

theorem stage_eq {α : Type} (f : ℕ → α) (k : ℕ) : stage (f 0) f k = f k := by cases k <;> rfl

/-- Before trip `k` of the inner loop: the values carried and the scratch buffers are at the state before trip `k`, what it only reads
    as it was. -/
abbrev inv2 (init : FVec F S1x512 .f32 × FVec F S1x512 .f32 × FVec F S1x512 .f32 × FVec F S1x512 .f32) (g7 : Bf (F := F) c arg7) (g8 : Bf (F := F) c arg8) (g9 : Bf (F := F) c arg9) (g10 : Bf (F := F) c arg10) (g11 : Bf (F := F) c arg11) (g12 : Bf (F := F) c arg12) (k : ℕ) (x : FVec F S1x512 .f32 × FVec F S1x512 .f32 × FVec F S1x512 .f32 × FVec F S1x512 .f32) : sProp 𝕄 :=
  iprop(pt c arg3 f3 ∗ pt c arg4 f4 ∗ pt c arg6 f6
    ∗ pt c arg7 (stage g7 (fun k => (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).f7) k)
    ∗ pt c arg8 (stage g8 (fun k => (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).f8) k)
    ∗ pt c arg9 (stage g9 (fun k => (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).f9) k)
    ∗ pt c arg10 (stage g10 (fun k => (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).f10) k)
    ∗ pt c arg11 (stage g11 (fun k => (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).f11) k)
    ∗ pt c arg12 (stage g12 (fun k => (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).f12) k)
    ∗ ⌜x = (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k).x⌝)

set_option maxHeartbeats 1000000 in
/-- The inner loop's invariant. -/
@[sl_loop, instance_reducible] def loopInv_k0_t2 (init : FVec F S1x512 .f32 × FVec F S1x512 .f32 × FVec F S1x512 .f32 × FVec F S1x512 .f32) (g7 : Bf (F := F) c arg7) (g8 : Bf (F := F) c arg8) (g9 : Bf (F := F) c arg9) (g10 : Bf (F := F) c arg10) (g11 : Bf (F := F) c arg11) (g12 : Bf (F := F) c arg12) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 k0_t1 arg13 v47 v54 v56 v58 init where
  inv := inv2 c i arg2 harg2 arg3 harg3 arg4 harg4 arg5 harg5 arg6 harg6 arg7 harg7 arg8 harg8 arg9 harg9 arg10 harg10 arg11 harg11 arg12 harg12 k0_t1 arg13 v47 v54 v56 v58 f3 f4 f6 init g7 g8 g9 g10 g11 g12
  step k x := by
    have e (n : ℕ) := fun (α : Type) (p : LS (F := F) c arg7 arg8 arg9 arg10 arg11 arg12 → α) =>
      stage_eq (fun k => p (LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k)) n
    unfold inv2
    rw [show stage g7 _ k.val = _ from e k.val _ (·.f7), show stage g8 _ k.val = _ from e k.val _ (·.f8), show stage g9 _ k.val = _ from e k.val _ (·.f9), show stage g10 _ k.val = _ from e k.val _ (·.f10), show stage g11 _ k.val = _ from e k.val _ (·.f11), show stage g12 _ k.val = _ from e k.val _ (·.f12), show stage g7 _ (k.val + 1) = _ from e (k.val + 1) _ (·.f7), show stage g8 _ (k.val + 1) = _ from e (k.val + 1) _ (·.f8), show stage g9 _ (k.val + 1) = _ from e (k.val + 1) _ (·.f9), show stage g10 _ (k.val + 1) = _ from e (k.val + 1) _ (·.f10), show stage g11 _ (k.val + 1) = _ from e (k.val + 1) _ (·.f11), show stage g12 _ (k.val + 1) = _ from e (k.val + 1) _ (·.f12)]
    rw [LS.upto_succ]
    generalize LS.upto c i arg2 harg2 arg3 harg3 arg4 harg4 arg5 harg5 arg6 harg6 arg7 harg7 arg8 harg8 arg9 harg9 arg10 harg10 arg11 harg11 arg12 harg12 k0_t1 arg13 v47 v54 v56 v58 f3 f4 f6 ⟨init, g7, g8, g9, g10, g11, g12⟩ k.val = s
    iintro ⟨H3, H4, H6, H7, H8, H9, H10, H11, H12, %hx⟩
    subst hx
    iapply ((trip c i arg2 harg2 arg3 harg3 arg4 harg4 arg5 harg5 arg6 harg6 arg7 harg7 arg8 harg8 arg9 harg9 arg10 harg10 arg11 harg11 arg12 harg12 k0_t1 arg13 v47 v54 v56 v58 k s.x.1 s.x.2.1 s.x.2.2.1 s.x.2.2.2 f3 f4 f6 s.f7 s.f8 s.f9 s.f10 s.f11 s.f12).2 Set.univ _)
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    iintro ⟨H3, H4, H6, H7, H8, H9, H10, H11, H12⟩
    isplitl [H3]; · iexact H3
    isplitl [H4]; · iexact H4
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    rfl

end Cert.Proof.KernelIdeal
end
-- ==== Proof.Att.Outer.lean ====
module

public import proofs.«01_k».proof.Proof.Att.Loop
public import proofs.«01_k».proof.Proof.Gen.KernelIdeal.Loops
public import Idealize.ShloMosaic.Lib.Tactic

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

set_option maxHeartbeats 16000000 in
/-- One trip of the outer loop (one head pair), run: the stores it leaves in the output buffer, found by the run. -/
def outer (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (h : Fin k0_t1_loop.trips) (f2 : Bf (F := F) c arg2) (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) :
    { W : List (View.Piece (Elt F) S1x256x512 .bf16) //
      ∀ (Q : Unit → sProp 𝕄),
        iprop(pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12
          ∗ (iprop(pt c arg2 f2 ∗ pt c arg3 f3 ∗ pt c arg4 f4 ∗ pt c arg5 (arg5.view.writes (Elt F) f5 W) ∗ (∃ g, pt c arg6 g) ∗ (∃ g, pt c arg7 g) ∗ (∃ g, pt c arg8 g) ∗ (∃ g, pt c arg9 g) ∗ (∃ g, pt c arg10 g) ∗ (∃ g, pt c arg11 g) ∗ (∃ g, pt c arg12 g)) -∗ Q ⟨⟩))
        ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 arg12 harg12 h ⟨⟩) Q } := by
  refine ⟨?_, fun Q => ?run⟩
  case run =>
    unfold k0_t1_body
    iintro ⟨H2, H3, H4, H5, H6, H7, H8, H9, H10, H11, H12, Hk⟩
    sl_exec
    sl_step
    iapply Hk
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [H10]; · iexists _; iexact H10
    isplitl [H11]; · iexists _; iexact H11
    iexists _; iexact H12

end Cert.Proof.KernelIdeal
end
-- ==== Proof.Att.TripFacts.lean ====
module

public import proofs.«01_k».proof.Proof.Att.Trip
public import Idealize.ShloMosaic.Lib.Tactic
public import Idealize.ShloMosaic.Lib.Pipeline.ReadBack
public import Idealize.ShloMosaic.Lib.Pointwise.Reshape

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The state after `n` steps, with the keys `kt`, the values `vt` and the queries `q`. -/
def HS.after (kt : Fin 12 → Vec F S1x256x128 .bf16) (vt : Fin 12 → Vec F S1x1x64x256 .bf16) (q : Vec F S128x512 .bf16) (s : HS F) (n : ℕ) : HS F :=
  Nat.rec s (fun j t => t.step (kt (Fin.ofNat 12 j)) (vt (Fin.ofNat 12 j)) q) n

section
variable (kt : Fin 12 → Vec F S1x256x128 .bf16) (vt : Fin 12 → Vec F S1x1x64x256 .bf16) (q : Vec F S128x512 .bf16) (s : HS F) (n : ℕ)
theorem after_succ : s.after kt vt q (n + 1) = (s.after kt vt q n).step (kt (Fin.ofNat 12 n)) (vt (Fin.ofNat 12 n)) q := rfl
theorem after_zero : s.after kt vt q 0 = s := rfl
theorem step_m (k v) : (s.step k v q).m = maximumf s.m s.xA := by simp only [HS.step, HS.drain]
theorem step_a (k v) : (s.step k v q).a = accum (valMat v) s.m (s.step k v q).m (weights (s.step k v q).m s.sA) s.a := by simp only [HS.step, HS.drain]
theorem step_sA (k v) : (s.step k v q).sA = s.sB := by simp only [HS.step, HS.drain]
theorem step_xA (k v) : (s.step k v q).xA = s.xB := by simp only [HS.step, HS.drain]
theorem step_sB (k v) : (s.step k v q).sB = score (keyMat k) q := by simp only [HS.step]
theorem step_xB (k v) : (s.step k v q).xB = colMax (score (keyMat k) q) := by simp only [HS.step]
theorem fold_m0 : maximumf s.m s.xA = (s.after kt vt q 1).m := by rw [after_succ kt vt q s 0, step_m, after_zero]
theorem fold_m1 : maximumf (s.after kt vt q 1).m s.xB = (s.after kt vt q 2).m := by
  rw [after_succ kt vt q s 1, step_m, after_succ kt vt q s 0, step_xA, after_zero]
theorem fold_m : maximumf (s.after kt vt q (n + 2)).m (s.after kt vt q (n + 1)).xB = (s.after kt vt q (n + 3)).m := by
  rw [after_succ kt vt q s (n + 2), step_m, after_succ kt vt q s (n + 1), step_xA]
theorem fold_a0 : accum (valMat (vt 0)) s.m (s.after kt vt q 1).m (weights (s.after kt vt q 1).m s.sA) s.a = (s.after kt vt q 1).a := by
  rw [after_succ kt vt q s 0, step_a, after_zero]; rfl
theorem fold_a1 : accum (valMat (vt 1)) (s.after kt vt q 1).m (s.after kt vt q 2).m (weights (s.after kt vt q 2).m s.sB) (s.after kt vt q 1).a
    = (s.after kt vt q 2).a := by
  rw [after_succ kt vt q s 1, step_a, after_succ kt vt q s 0, step_sA, after_zero]; rfl
theorem fold_a : accum (valMat (vt (Fin.ofNat 12 (n + 2)))) (s.after kt vt q (n + 2)).m (s.after kt vt q (n + 3)).m
      (weights (s.after kt vt q (n + 3)).m (s.after kt vt q (n + 1)).sB) (s.after kt vt q (n + 2)).a = (s.after kt vt q (n + 3)).a := by
  rw [after_succ kt vt q s (n + 2), step_a, after_succ kt vt q s (n + 1), step_sA]
theorem fold_s : score (keyMat (kt (Fin.ofNat 12 n))) q = (s.after kt vt q (n + 1)).sB := by rw [after_succ, step_sB]
theorem fold_x : colMax (score (keyMat (kt (Fin.ofNat 12 n))) q) = (s.after kt vt q (n + 1)).xB := by rw [after_succ, step_xB]
end

/-! What one run of the inner loop's trip computes, value by value, as the two halves' states after so many steps. -/

section
variable {c : Dev nD} {i : grid0.Coords} {arg2 : Memref sig .tc .vmem S1x8x64x256 .bf16} {harg2 : arg2.IsWhole} {arg3 : Memref sig .tc .vmem S1x8448x128 .bf16} {harg3 : arg3.IsWhole} {arg4 : Memref sig .tc .vmem S1x2x64x8448 .bf16} {harg4 : arg4.IsWhole} {arg5 : Memref sig .tc .vmem S1x256x512 .bf16} {harg5 : arg5.IsWhole} {arg6 : Memref sig .tc .vmem S128x1024 .bf16} {harg6 : arg6.IsWhole} {arg7 : Memref sig .tc .vmem S1x1024 .f32} {harg7 : arg7.IsWhole} {arg8 : Memref sig .tc .vmem S80x1024 .f32} {harg8 : arg8.IsWhole} {arg9 : Memref sig .tc .vmem S256x1024 .f32} {harg9 : arg9.IsWhole} {arg10 : Memref sig .tc .vmem S256x1024 .f32} {harg10 : arg10.IsWhole} {arg11 : Memref sig .tc .vmem S256x1024 .f32} {harg11 : arg11.IsWhole} {arg12 : Memref sig .tc .vmem S256x1024 .f32} {harg12 : arg12.IsWhole} {k0_t1 : Fin k0_t1_loop.trips} {arg13 : BitVec 32} {v47 : FVec F S1x512 .f32} {v54 : FVec F S1x512 .f32} {v56 : FVec F S256x128 .bf16} {v58 : FVec F S256x512 .f32} {k : Fin k0_t2_loop.trips} {f3 : Bf (F := F) c arg3} {f4 : Bf (F := F) c arg4} {f6 : Bf (F := F) c arg6} {f7 : Bf (F := F) c arg7} {f8 : Bf (F := F) c arg8} {f9 : Bf (F := F) c arg9} {f10 : Bf (F := F) c arg10} {f11 : Bf (F := F) c arg11} {f12 : Bf (F := F) c arg12} {s0 s1 : HS F}
  (hs : Holds c arg7 arg8 arg9 arg10 f7 f8 f9 f10 s0 s1)
include hs

theorem trip_r_22 : trip.sl.r_22 c arg3 k f3 = keyMat ((keysAt c arg3 f3 k) 3) := by
  simp -proj only [trip.sl.r_22, View.readCov_cons_toLoadRect, View.readCov_skip, readAt_hit, readAt_skip, d1, d1', d80, d80', d256, d256', k0_pay50, shapeCast_id, hs.m0, hs.m1, hs.a0, hs.a1, hs.sA0, hs.sA1, hs.sB0, hs.sB1]
  exact rfl

theorem trip_r_50 : trip.sl.r_50 c arg3 k f3 = keyMat ((keysAt c arg3 f3 k) 7) := by
  simp -proj only [trip.sl.r_50, View.readCov_cons_toLoadRect, View.readCov_skip, readAt_hit, readAt_skip, d1, d1', d80, d80', d256, d256', k0_pay114, shapeCast_id, hs.m0, hs.m1, hs.a0, hs.a1, hs.sA0, hs.sA1, hs.sB0, hs.sB1]
  exact rfl

theorem trip_r : trip.sl.r c arg3 k f3 = keyMat ((keysAt c arg3 f3 k) 0) := by
  simp -proj only [trip.sl.r, View.readCov_cons_toLoadRect, View.readCov_skip, readAt_hit, readAt_skip, d1, d1', d80, d80', d256, d256', k0_pay2, shapeCast_id, hs.m0, hs.m1, hs.a0, hs.a1, hs.sA0, hs.sA1, hs.sB0, hs.sB1]
  exact rfl

theorem trip_r_29 : trip.sl.r_29 c arg3 k f3 = keyMat ((keysAt c arg3 f3 k) 4) := by
  simp -proj only [trip.sl.r_29, View.readCov_cons_toLoadRect, View.readCov_skip, readAt_hit, readAt_skip, d1, d1', d80, d80', d256, d256', k0_pay66, shapeCast_id, hs.m0, hs.m1, hs.a0, hs.a1, hs.sA0, hs.sA1, hs.sB0, hs.sB1]
  exact rfl

theorem trip_r_57 : trip.sl.r_57 c arg3 k f3 = keyMat ((keysAt c arg3 f3 k) 8) := by
  simp -proj only [trip.sl.r_57, View.readCov_cons_toLoadRect, View.readCov_skip, readAt_hit, readAt_skip, d1, d1', d80, d80', d256, d256', k0_pay130, shapeCast_id, hs.m0, hs.m1, hs.a0, hs.a1, hs.sA0, hs.sA1, hs.sB0, hs.sB1]
  exact rfl

theorem trip_r_8 : trip.sl.r_8 c arg3 k f3 = keyMat ((keysAt c arg3 f3 k) 1) := by
  simp -proj only [trip.sl.r_8, View.readCov_cons_toLoadRect, View.readCov_skip, readAt_hit, readAt_skip, d1, d1', d80, d80', d256, d256', k0_pay18, shapeCast_id, hs.m0, hs.m1, hs.a0, hs.a1, hs.sA0, hs.sA1, hs.sB0, hs.sB1]
  exact rfl

theorem trip_r_36 : trip.sl.r_36 c arg3 k f3 = keyMat ((keysAt c arg3 f3 k) 5) := by
  simp -proj only [trip.sl.r_36, View.readCov_cons_toLoadRect, View.readCov_skip, readAt_hit, readAt_skip, d1, d1', d80, d80', d256, d256', k0_pay82, shapeCast_id, hs.m0, hs.m1, hs.a0, hs.a1, hs.sA0, hs.sA1, hs.sB0, hs.sB1]
  exact rfl

theorem trip_r_64 : trip.sl.r_64 c arg3 k f3 = keyMat ((keysAt c arg3 f3 k) 9) := by
  simp -proj only [trip.sl.r_64, View.readCov_cons_toLoadRect, View.readCov_skip, readAt_hit, readAt_skip, d1, d1', d80, d80', d256, d256', k0_pay146, shapeCast_id, hs.m0, hs.m1, hs.a0, hs.a1, hs.sA0, hs.sA1, hs.sB0, hs.sB1]
  exact rfl

theorem trip_r_15 : trip.sl.r_15 c arg3 k f3 = keyMat ((keysAt c arg3 f3 k) 2) := by
  simp -proj only [trip.sl.r_15, View.readCov_cons_toLoadRect, View.readCov_skip, readAt_hit, readAt_skip, d1, d1', d80, d80', d256, d256', k0_pay34, shapeCast_id, hs.m0, hs.m1, hs.a0, hs.a1, hs.sA0, hs.sA1, hs.sB0, hs.sB1]
  exact rfl

theorem trip_r_20 : trip.sl.r_20 c arg3 arg6 k f3 f6 = (s1.after (keysAt c arg3 f3 k) (valsAt c arg4 f4 k0_t1 k) (arg6.view.readAt (Elt F) hi128.toLoadRect f6) 3).xB := by
  simp -proj only [trip.sl.r_20, View.readCov_cons_toLoadRect, View.readCov_skip, readAt_hit, readAt_skip, d1, d1', d80, d80', d256, d256', k0_pay43, k0_pay45, shapeCast_id, trip_r_15 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 2

theorem trip_r_17 : trip.sl.r_17 c arg3 arg6 k f3 f6 = (s0.after (keysAt c arg3 f3 k) (valsAt c arg4 f4 k0_t1 k) (arg6.view.readAt (Elt F) lo128.toLoadRect f6) 3).xB := by
  simp -proj only [trip.sl.r_17, View.readCov_cons_toLoadRect, View.readCov_skip, readAt_hit, readAt_skip, d1, d1', d80, d80', d256, d256', k0_pay34, k0_pay36, k0_pay38, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 2

theorem trip_r_13 : trip.sl.r_13 c arg3 arg6 k f3 f6 = (s1.after (keysAt c arg3 f3 k) (valsAt c arg4 f4 k0_t1 k) (arg6.view.readAt (Elt F) hi128.toLoadRect f6) 2).xB := by
  simp -proj only [trip.sl.r_13, View.readCov_cons_toLoadRect, View.readCov_skip, readAt_hit, readAt_skip, d1, d1', d80, d80', d256, d256', k0_pay27, k0_pay29, shapeCast_id, trip_r_8 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 1

theorem trip_r_10 : trip.sl.r_10 c arg3 arg6 k f3 f6 = (s0.after (keysAt c arg3 f3 k) (valsAt c arg4 f4 k0_t1 k) (arg6.view.readAt (Elt F) lo128.toLoadRect f6) 2).xB := by
  simp -proj only [trip.sl.r_10, View.readCov_cons_toLoadRect, View.readCov_skip, readAt_hit, readAt_skip, d1, d1', d80, d80', d256, d256', k0_pay18, k0_pay20, k0_pay22, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 1

theorem trip_r_6 : trip.sl.r_6 c arg3 arg6 k f3 f6 = (s1.after (keysAt c arg3 f3 k) (valsAt c arg4 f4 k0_t1 k) (arg6.view.readAt (Elt F) hi128.toLoadRect f6) 1).xB := by
  simp -proj only [trip.sl.r_6, View.readCov_cons_toLoadRect, View.readCov_skip, readAt_hit, readAt_skip, d1, d1', d80, d80', d256, d256', k0_pay11, k0_pay13, shapeCast_id, trip_r (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 0

theorem trip_r_2 : trip.sl.r_2 c arg3 arg6 k f3 f6 = (s0.after (keysAt c arg3 f3 k) (valsAt c arg4 f4 k0_t1 k) (arg6.view.readAt (Elt F) lo128.toLoadRect f6) 1).xB := by
  simp -proj only [trip.sl.r_2, View.readCov_cons_toLoadRect, View.readCov_skip, readAt_hit, readAt_skip, d1, d1', d80, d80', d256, d256', k0_pay2, k0_pay4, k0_pay6, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 0

theorem trip_v662 : trip.sl.v662 c arg7 f7 = s1.m := by
  simp -proj only [trip.sl.v662, View.readCov_cons_toLoadRect, View.readCov_skip, readAt_hit, readAt_skip, d1, d1', d80, d80', d256, d256', shapeCast_id, hs.m0, hs.m1, hs.a0, hs.a1, hs.sA0, hs.sA1, hs.sB0, hs.sB1]

theorem trip_v705 : trip.sl.v705 c arg7 s0.xA s1.xA f7 = (s0.after (keysAt c arg3 f3 k) (valsAt c arg4 f4 k0_t1 k) (arg6.view.readAt (Elt F) lo128.toLoadRect f6) 1).m := by
  simp -proj only [trip.sl.v705, trip.sl.H7_2, View.readCov_cons_toLoadRect, View.readCov_skip, readAt_hit, readAt_skip, d1, d1', d80, d80', d256, d256', k0_pay7, k0_pay8, k0_pay14, k0_pay15, shapeCast_id, trip_v662  hs, hs.m0, hs.m1, hs.a0, hs.a1, hs.sA0, hs.sA1, hs.sB0, hs.sB1, fold_m0 (keysAt c arg3 f3 k) (valsAt c arg4 f4 k0_t1 k) (arg6.view.readAt (Elt F) lo128.toLoadRect f6) s0]

theorem trip_v732 : trip.sl.v732 c arg7 s0.xA s1.xA s0.xB f7 = (s1.after (keysAt c arg3 f3 k) (valsAt c arg4 f4 k0_t1 k) (arg6.view.readAt (Elt F) hi128.toLoadRect f6) 1).m := by
  simp -proj only [trip.sl.v732, trip.sl.H7_3, trip.sl.H7_2, View.readCov_cons_toLoadRect, View.readCov_skip, readAt_hit, readAt_skip, d1, d1', d80, d80', d256, d256', k0_pay7, k0_pay8, k0_pay14, k0_pay15, k0_pay23, k0_pay24, shapeCast_id, trip_v705 (arg3 := arg3) (arg4 := arg4) (arg6 := arg6) (k0_t1 := k0_t1) (k := k) (f3 := f3) (f4 := f4) (f6 := f6) hs, trip_v662  hs, hs.m0, hs.m1, hs.a0, hs.a1, hs.sA0, hs.sA1, hs.sB0, hs.sB1, fold_m0 (keysAt c arg3 f3 k) (valsAt c arg4 f4 k0_t1 k) (arg6.view.readAt (Elt F) hi128.toLoadRect f6) s1]

theorem trip_v775 : trip.sl.v775 c arg7 s0.xA s1.xA s0.xB s1.xB f7 = (s0.after (keysAt c arg3 f3 k) (valsAt c arg4 f4 k0_t1 k) (arg6.view.readAt (Elt F) lo128.toLoadRect f6) 2).m := by
  simp -proj only [trip.sl.v775, trip.sl.H7_4, trip.sl.H7_3, trip.sl.H7_2, View.readCov_cons_toLoadRect, View.readCov_skip, readAt_hit, readAt_skip, d1, d1', d80, d80', d256, d256', k0_pay7, k0_pay8, k0_pay14, k0_pay15, k0_pay23, k0_pay24, k0_pay30, k0_pay31, shapeCast_id, trip_v732 (arg3 := arg3) (arg4 := arg4) (arg6 := arg6) (k0_t1 := k0_t1) (k := k) (f3 := f3) (f4 := f4) (f6 := f6) hs, trip_v705 (arg3 := arg3) (arg4 := arg4) (arg6 := arg6) (k0_t1 := k0_t1) (k := k) (f3 := f3) (f4 := f4) (f6 := f6) hs, trip_v662  hs, hs.m0, hs.m1, hs.a0, hs.a1, hs.sA0, hs.sA1, hs.sB0, hs.sB1, fold_m1 (keysAt c arg3 f3 k) (valsAt c arg4 f4 k0_t1 k) (arg6.view.readAt (Elt F) lo128.toLoadRect f6) s0]

theorem trip_v802 : trip.sl.v802 c arg3 arg6 arg7 k s0.xA s1.xA s0.xB s1.xB f3 f6 f7 = (s1.after (keysAt c arg3 f3 k) (valsAt c arg4 f4 k0_t1 k) (arg6.view.readAt (Elt F) hi128.toLoadRect f6) 2).m := by
  simp -proj only [trip.sl.v802, trip.sl.H7_5, trip.sl.H7_4, trip.sl.H7_3, View.readCov_cons_toLoadRect, View.readCov_skip, readAt_hit, readAt_skip, d1, d1', d80, d80', d256, d256', k0_pay23, k0_pay24, k0_pay30, k0_pay31, k0_pay39, k0_pay40, shapeCast_id, trip_r_2 (arg3 := arg3) (arg4 := arg4) (arg6 := arg6) (k0_t1 := k0_t1) (k := k) (f3 := f3) (f4 := f4) (f6 := f6) hs, trip_v775 (arg3 := arg3) (arg4 := arg4) (arg6 := arg6) (k0_t1 := k0_t1) (k := k) (f3 := f3) (f4 := f4) (f6 := f6) hs, trip_v732 (arg3 := arg3) (arg4 := arg4) (arg6 := arg6) (k0_t1 := k0_t1) (k := k) (f3 := f3) (f4 := f4) (f6 := f6) hs, trip_v705 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, fold_m1 (keysAt c arg3 f3 k) (valsAt c arg4 f4 k0_t1 k) (arg6.view.readAt (Elt F) hi128.toLoadRect f6) s1]

theorem trip_v845 : trip.sl.v845 c arg3 arg6 arg7 k s0.xA s1.xA s0.xB s1.xB f3 f6 f7 = (s0.after (keysAt c arg3 f3 k) (valsAt c arg4 f4 k0_t1 k) (arg6.view.readAt (Elt F) lo128.toLoadRect f6) 3).m := by
  simp -proj only [trip.sl.v845, trip.sl.H7_6, trip.sl.H7_5, trip.sl.H7_4, View.readCov_cons_toLoadRect, View.readCov_skip, readAt_hit, readAt_skip, d1, d1', d80, d80', d256, d256', k0_pay30, k0_pay31, k0_pay39, k0_pay40, k0_pay46, k0_pay47, shapeCast_id, trip_r_6 (arg3 := arg3) (arg4 := arg4) (arg6 := arg6) (k0_t1 := k0_t1) (k := k) (f3 := f3) (f4 := f4) (f6 := f6) hs, trip_v802 (arg3 := arg3) (arg4 := arg4) (arg6 := arg6) (k0_t1 := k0_t1) (k := k) (f3 := f3) (f4 := f4) (f6 := f6) hs, trip_r_2 (arg3 := arg3) (arg4 := arg4) (arg6 := arg6) (k0_t1 := k0_t1) (k := k) (f3 := f3) (f4 := f4) (f6 := f6) hs, trip_v775 (arg3 := arg3) (arg4 := arg4) (arg6 := arg6) (k0_t1 := k0_t1) (k := k) (f3 := f3) (f4 := f4) (f6 := f6) hs, trip_v732 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 2).m (s0.after (keysAt c arg3 f3 k) (valsAt c arg4 f4 k0_t1 k) (arg6.view.readAt (Elt F) lo128.toLoadRect f6) 1).xB = (s0.after (keysAt c arg3 f3 k) (valsAt c arg4 f4 k0_t1 k) (arg6.view.readAt (Elt F) lo128.toLoadRect f6) 3).m from fold_m (keysAt c arg3 f3 k) (valsAt c arg4 f4 k0_t1 k) (arg6.view.readAt (Elt F) lo128.toLoadRect f6) s0 0)]

theorem trip_v872 : trip.sl.v872 c arg3 arg6 arg7 k s0.xA s1.xA s0.xB s1.xB f3 f6 f7 = (s1.after (keysAt c arg3 f3 k) (valsAt c arg4 f4 k0_t1 k) (arg6.view.readAt (Elt F) hi128.toLoadRect f6) 3).m := by
  simp -proj only [trip.sl.v872, trip.sl.H7_7, trip.sl.H7_6, trip.sl.H7_5, View.readCov_cons_toLoadRect, View.readCov_skip, readAt_hit, readAt_skip, d1, d1', d80, d80', d256, d256', k0_pay39, k0_pay40, k0_pay46, k0_pay47, k0_pay55, k0_pay56, shapeCast_id, trip_r_10 (arg3 := arg3) (arg4 := arg4) (arg6 := arg6) (k0_t1 := k0_t1) (k := k) (f3 := f3) (f4 := f4) (f6 := f6) hs, trip_v845 (arg3 := arg3) (arg4 := arg4) (arg6 := arg6) (k0_t1 := k0_t1) (k := k) (f3 := f3) (f4 := f4) (f6 := f6) hs, trip_r_6 (arg3 := arg3) (arg4 := arg4) (arg6 := arg6) (k0_t1 := k0_t1) (k := k) (f3 := f3) (f4 := f4) (f6 := f6) hs, trip_v802 (arg3 := arg3) (arg4 := arg4) (arg6 := arg6) (k0_t1 := k0_t1) (k := k) (f3 := f3) (f4 := f4) (f6 := f6) hs, trip_r_2 (arg3 := arg3) (arg4 := arg4) (arg6 := arg6) (k0_t1 := k0_t1) (k := k) (f3 := f3) (f4 := f4) (f6 := f6) hs, trip_v775 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 2).m (s1.after (keysAt c arg3 f3 k) (valsAt c arg4 f4 k0_t1 k) (arg6.view.readAt (Elt F) hi128.toLoadRect f6) 1).xB = (s1.after (keysAt c arg3 f3 k) (valsAt c arg4 f4 k0_t1 k) (arg6.view.readAt (Elt F) hi128.toLoadRect f6) 3).m from fold_m (keysAt c arg3 f3 k) (valsAt c arg4 f4 k0_t1 k) (arg6.view.readAt (Elt F) hi128.toLoadRect f6) s1 0)]

theorem trip_v915 : trip.sl.v915 c arg3 arg6 arg7 k s0.xA s1.xA s0.xB s1.xB f3 f6 f7 = (s0.after (keysAt c arg3 f3 k) (valsAt c arg4 f4 k0_t1 k) (arg6.view.readAt (Elt F) lo128.toLoadRect f6) 4).m := by
  simp -proj only [trip.sl.v915, trip.sl.H7_8, trip.sl.H7_7, trip.sl.H7_6, View.readCov_cons_toLoadRect, View.readCov_skip, readAt_hit, readAt_skip, d1, d1', d80, d80', d256, d256', k0_pay46, k0_pay47, k0_pay55, k0_pay56, k0_pay62, k0_pay63, shapeCast_id, trip_r_13 (arg3 := arg3) (arg4 := arg4) (arg6 := arg6) (k0_t1 := k0_t1) (k := k) (f3 := f3) (f4 := f4) (f6 := f6) hs, trip_v872 (arg3 := arg3) (arg4 := arg4) (arg6 := arg6) (k0_t1 := k0_t1) (k := k) (f3 := f3) (f4 := f4) (f6 := f6) hs, trip_r_10 (arg3 := arg3) (arg4 := arg4) (arg6 := arg6) (k0_t1 := k0_t1) (k := k) (f3 := f3) (f4 := f4) (f6 := f6) hs, trip_v845 (arg3 := arg3) (arg4 := arg4) (arg6 := arg6) (k0_t1 := k0_t1) (k := k) (f3 := f3) (f4 := f4) (f6 := f6) hs, trip_r_6 (arg3 := arg3) (arg4 := arg4) (arg6 := arg6) (k0_t1 := k0_t1) (k := k) (f3 := f3) (f4 := f4) (f6 := f6) hs, trip_v802 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 3).m (s0.after (keysAt c arg3 f3 k) (valsAt c arg4 f4 k0_t1 k) (arg6.view.readAt (Elt F) lo128.toLoadRect f6) 2).xB = (s0.after (keysAt c arg3 f3 k) (valsAt c arg4 f4 k0_t1 k) (arg6.view.readAt (Elt F) lo128.toLoadRect f6) 4).m from fold_m (keysAt c arg3 f3 k) (valsAt c arg4 f4 k0_t1 k) (arg6.view.readAt (Elt F) lo128.toLoadRect f6) s0 1)]

theorem trip_v942 : trip.sl.v942 c arg3 arg6 arg7 k s0.xA s1.xA s0.xB s1.xB f3 f6 f7 = (s1.after (keysAt c arg3 f3 k) (valsAt c arg4 f4 k0_t1 k) (arg6.view.readAt (Elt F) hi128.toLoadRect f6) 4).m := by
  simp -proj only [trip.sl.v942, trip.sl.H7_9, trip.sl.H7_8, trip.sl.H7_7, View.readCov_cons_toLoadRect, View.readCov_skip, readAt_hit, readAt_skip, d1, d1', d80, d80', d256, d256', k0_pay55, k0_pay56, k0_pay62, k0_pay63, k0_pay71, k0_pay72, shapeCast_id, trip_r_17 (arg3 := arg3) (arg4 := arg4) (arg6 := arg6) (k0_t1 := k0_t1) (k := k) (f3 := f3) (f4 := f4) (f6 := f6) hs, trip_v915 (arg3 := arg3) (arg4 := arg4) (arg6 := arg6) (k0_t1 := k0_t1) (k := k) (f3 := f3) (f4 := f4) (f6 := f6) hs, trip_r_13 (arg3 := arg3) (arg4 := arg4) (arg6 := arg6) (k0_t1 := k0_t1) (k := k) (f3 := f3) (f4 := f4) (f6 := f6) hs, trip_v872 (arg3 := arg3) (arg4 := arg4) (arg6 := arg6) (k0_t1 := k0_t1) (k := k) (f3 := f3) (f4 := f4) (f6 := f6) hs, trip_r_10 (arg3 := arg3) (arg4 := arg4) (arg6 := arg6) (k0_t1 := k0_t1) (k := k) (f3 := f3) (f4 := f4) (f6 := f6) hs, trip_v845 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 3).m (s1.after (keysAt c arg3 f3 k) (valsAt c arg4 f4 k0_t1 k) (arg6.view.readAt (Elt F) hi128.toLoadRect f6) 2).xB = (s1.after (keysAt c arg3 f3 k) (valsAt c arg4 f4 k0_t1 k) (arg6.view.readAt (Elt F) hi128.toLoadRect f6) 4).m from fold_m (keysAt c arg3 f3 k) (valsAt c arg4 f4 k0_t1 k) (arg6.view.readAt (Elt F) hi128.toLoadRect f6) s1 1)]

theorem trip_r_24 : trip.sl.r_24 c arg3 arg6 k f3 f6 = (s0.after (keysAt c arg3 f3 k) (valsAt c arg4 f4 k0_t1 k) (arg6.view.readAt (Elt F) lo128.toLoadRect f6) 4).xB := by
  simp -proj only [trip.sl.r_24, View.readCov_cons_toLoadRect, View.readCov_skip, readAt_hit, readAt_skip, d1, d1', d80, d80', d256, d256', k0_pay50, k0_pay52, k0_pay54, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 3

theorem trip_v985 : trip.sl.v985 c arg3 arg6 arg7 k s0.xA s1.xA s0.xB s1.xB f3 f6 f7 = (s0.after (keysAt c arg3 f3 k) (valsAt c arg4 f4 k0_t1 k) (arg6.view.readAt (Elt F) lo128.toLoadRect f6) 5).m := by
  simp -proj only [trip.sl.v985, trip.sl.H7_10, trip.sl.H7_9, trip.sl.H7_8, View.readCov_cons_toLoadRect, View.readCov_skip, readAt_hit, readAt_skip, d1, d1', d80, d80', d256, d256', k0_pay62, k0_pay63, k0_pay71, k0_pay72, k0_pay78, k0_pay79, shapeCast_id, trip_r_20 (arg3 := arg3) (arg4 := arg4) (arg6 := arg6) (k0_t1 := k0_t1) (k := k) (f3 := f3) (f4 := f4) (f6 := f6) hs, trip_v942 (arg3 := arg3) (arg4 := arg4) (arg6 := arg6) (k0_t1 := k0_t1) (k := k) (f3 := f3) (f4 := f4) (f6 := f6) hs, trip_r_17 (arg3 := arg3) (arg4 := arg4) (arg6 := arg6) (k0_t1 := k0_t1) (k := k) (f3 := f3) (f4 := f4) (f6 := f6) hs, trip_v915 (arg3 := arg3) (arg4 := arg4) (arg6 := arg6) (k0_t1 := k0_t1) (k := k) (f3 := f3) (f4 := f4) (f6 := f6) hs, trip_r_13 (arg3 := arg3) (arg4 := arg4) (arg6 := arg6) (k0_t1 := k0_t1) (k := k) (f3 := f3) (f4 := f4) (f6 := f6) hs, trip_v872 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 4).m (s0.after (keysAt c arg3 f3 k) (valsAt c arg4 f4 k0_t1 k) (arg6.view.readAt (Elt F) lo128.toLoadRect f6) 3).xB = (s0.after (keysAt c arg3 f3 k) (valsAt c arg4 f4 k0_t1 k) (arg6.view.readAt (Elt F) lo128.toLoadRect f6) 5).m from fold_m (keysAt c arg3 f3 k) (valsAt c arg4 f4 k0_t1 k) (arg6.view.readAt (Elt F) lo128.toLoadRect f6) s0 2)]

theorem trip_r_27 : trip.sl.r_27 c arg3 arg6 k f3 f6 = (s1.after (keysAt c arg3 f3 k) (valsAt c arg4 f4 k0_t1 k) (arg6.view.readAt (Elt F) hi128.toLoadRect f6) 4).xB := by
  simp -proj only [trip.sl.r_27, View.readCov_cons_toLoadRect, View.readCov_skip, readAt_hit, readAt_skip, d1, d1', d80, d80', d256, d256', k0_pay59, k0_pay61, shapeCast_id, trip_r_22 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 3

theorem trip_v1012 : trip.sl.v1012 c arg3 arg6 arg7 k s0.xA s1.xA s0.xB s1.xB f3 f6 f7 = (s1.after (keysAt c arg3 f3 k) (valsAt c arg4 f4 k0_t1 k) (arg6.view.readAt (Elt F) hi128.toLoadRect f6) 5).m := by
  simp -proj only [trip.sl.v1012, trip.sl.H7_11, trip.sl.H7_10, trip.sl.H7_9, View.readCov_cons_toLoadRect, View.readCov_skip, readAt_hit, readAt_skip, d1, d1', d80, d80', d256, d256', k0_pay71, k0_pay72, k0_pay78, k0_pay79, k0_pay87, k0_pay88, shapeCast_id, trip_r_24 (arg3 := arg3) (arg4 := arg4) (arg6 := arg6) (k0_t1 := k0_t1) (k := k) (f3 := f3) (f4 := f4) (f6 := f6) hs, trip_v985 (arg3 := arg3) (arg4 := arg4) (arg6 := arg6) (k0_t1 := k0_t1) (k := k) (f3 := f3) (f4 := f4) (f6 := f6) hs, trip_r_20 (arg3 := arg3) (arg4 := arg4) (arg6 := arg6) (k0_t1 := k0_t1) (k := k) (f3 := f3) (f4 := f4) (f6 := f6) hs, trip_v942 (arg3 := arg3) (arg4 := arg4) (arg6 := arg6) (k0_t1 := k0_t1) (k := k) (f3 := f3) (f4 := f4) (f6 := f6) hs, trip_r_17 (arg3 := arg3) (arg4 := arg4) (arg6 := arg6) (k0_t1 := k0_t1) (k := k) (f3 := f3) (f4 := f4) (f6 := f6) hs, trip_v915 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 4).m (s1.after (keysAt c arg3 f3 k) (valsAt c arg4 f4 k0_t1 k) (arg6.view.readAt (Elt F) hi128.toLoadRect f6) 3).xB = (s1.after (keysAt c arg3 f3 k) (valsAt c arg4 f4 k0_t1 k) (arg6.view.readAt (Elt F) hi128.toLoadRect f6) 5).m from fold_m (keysAt c arg3 f3 k) (valsAt c arg4 f4 k0_t1 k) (arg6.view.readAt (Elt F) hi128.toLoadRect f6) s1 2)]

theorem trip_r_31 : trip.sl.r_31 c arg3 arg6 k f3 f6 = (s0.after (keysAt c arg3 f3 k) (valsAt c arg4 f4 k0_t1 k) (arg6.view.readAt (Elt F) lo128.toLoadRect f6) 5).xB := by
  simp -proj only [trip.sl.r_31, View.readCov_cons_toLoadRect, View.readCov_skip, readAt_hit, readAt_skip, d1, d1', d80, d80', d256, d256', k0_pay66, k0_pay68, k0_pay70, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 4

theorem trip_v1055 : trip.sl.v1055 c arg3 arg6 arg7 k s0.xA s1.xA s0.xB s1.xB f3 f6 f7 = (s0.after (keysAt c arg3 f3 k) (valsAt c arg4 f4 k0_t1 k) (arg6.view.readAt (Elt F) lo128.toLoadRect f6) 6).m := by
  simp -proj only [trip.sl.v1055, trip.sl.H7_12, trip.sl.H7_11, trip.sl.H7_10, View.readCov_cons_toLoadRect, View.readCov_skip, readAt_hit, readAt_skip, d1, d1', d80, d80', d256, d256', k0_pay78, k0_pay79, k0_pay87, k0_pay88, k0_pay94, k0_pay95, shapeCast_id, trip_r_27 (arg3 := arg3) (arg4 := arg4) (arg6 := arg6) (k0_t1 := k0_t1) (k := k) (f3 := f3) (f4 := f4) (f6 := f6) hs, trip_v1012 (arg3 := arg3) (arg4 := arg4) (arg6 := arg6) (k0_t1 := k0_t1) (k := k) (f3 := f3) (f4 := f4) (f6 := f6) hs, trip_r_24 (arg3 := arg3) (arg4 := arg4) (arg6 := arg6) (k0_t1 := k0_t1) (k := k) (f3 := f3) (f4 := f4) (f6 := f6) hs, trip_v985 (arg3 := arg3) (arg4 := arg4) (arg6 := arg6) (k0_t1 := k0_t1) (k := k) (f3 := f3) (f4 := f4) (f6 := f6) hs, trip_r_20 (arg3 := arg3) (arg4 := arg4) (arg6 := arg6) (k0_t1 := k0_t1) (k := k) (f3 := f3) (f4 := f4) (f6 := f6) hs, trip_v942 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 5).m (s0.after (keysAt c arg3 f3 k) (valsAt c arg4 f4 k0_t1 k) (arg6.view.readAt (Elt F) lo128.toLoadRect f6) 4).xB = (s0.after (keysAt c arg3 f3 k) (valsAt c arg4 f4 k0_t1 k) (arg6.view.readAt (Elt F) lo128.toLoadRect f6) 6).m from fold_m (keysAt c arg3 f3 k) (valsAt c arg4 f4 k0_t1 k) (arg6.view.readAt (Elt F) lo128.toLoadRect f6) s0 3)]

theorem trip_r_34 : trip.sl.r_34 c arg3 arg6 k f3 f6 = (s1.after (keysAt c arg3 f3 k) (valsAt c arg4 f4 k0_t1 k) (arg6.view.readAt (Elt F) hi128.toLoadRect f6) 5).xB := by
  simp -proj only [trip.sl.r_34, View.readCov_cons_toLoadRect, View.readCov_skip, readAt_hit, readAt_skip, d1, d1', d80, d80', d256, d256', k0_pay75, k0_pay77, shapeCast_id, trip_r_29 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 4

theorem trip_v1082 : trip.sl.v1082 c arg3 arg6 arg7 k s0.xA s1.xA s0.xB s1.xB f3 f6 f7 = (s1.after (keysAt c arg3 f3 k) (valsAt c arg4 f4 k0_t1 k) (arg6.view.readAt (Elt F) hi128.toLoadRect f6) 6).m := by
  simp -proj only [trip.sl.v1082, trip.sl.H7_13, trip.sl.H7_12, trip.sl.H7_11, View.readCov_cons_toLoadRect, View.readCov_skip, readAt_hit, readAt_skip, d1, d1', d80, d80', d256, d256', k0_pay87, k0_pay88, k0_pay94, k0_pay95, k0_pay103, k0_pay104, shapeCast_id, trip_r_31 (arg3 := arg3) (arg4 := arg4) (arg6 := arg6) (k0_t1 := k0_t1) (k := k) (f3 := f3) (f4 := f4) (f6 := f6) hs, trip_v1055 (arg3 := arg3) (arg4 := arg4) (arg6 := arg6) (k0_t1 := k0_t1) (k := k) (f3 := f3) (f4 := f4) (f6 := f6) hs, trip_r_27 (arg3 := arg3) (arg4 := arg4) (arg6 := arg6) (k0_t1 := k0_t1) (k := k) (f3 := f3) (f4 := f4) (f6 := f6) hs, trip_v1012 (arg3 := arg3) (arg4 := arg4) (arg6 := arg6) (k0_t1 := k0_t1) (k := k) (f3 := f3) (f4 := f4) (f6 := f6) hs, trip_r_24 (arg3 := arg3) (arg4 := arg4) (arg6 := arg6) (k0_t1 := k0_t1) (k := k) (f3 := f3) (f4 := f4) (f6 := f6) hs, trip_v985 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 5).m (s1.after (keysAt c arg3 f3 k) (valsAt c arg4 f4 k0_t1 k) (arg6.view.readAt (Elt F) hi128.toLoadRect f6) 4).xB = (s1.after (keysAt c arg3 f3 k) (valsAt c arg4 f4 k0_t1 k) (arg6.view.readAt (Elt F) hi128.toLoadRect f6) 6).m from fold_m (keysAt c arg3 f3 k) (valsAt c arg4 f4 k0_t1 k) (arg6.view.readAt (Elt F) hi128.toLoadRect f6) s1 3)]

theorem trip_r_38 : trip.sl.r_38 c arg3 arg6 k f3 f6 = (s0.after (keysAt c arg3 f3 k) (valsAt c arg4 f4 k0_t1 k) (arg6.view.readAt (Elt F) lo128.toLoadRect f6) 6).xB := by
  simp -proj only [trip.sl.r_38, View.readCov_cons_toLoadRect, View.readCov_skip, readAt_hit, readAt_skip, d1, d1', d80, d80', d256, d256', k0_pay82, k0_pay84, k0_pay86, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 5

theorem trip_v1125 : trip.sl.v1125 c arg3 arg6 arg7 k s0.xA s1.xA s0.xB s1.xB f3 f6 f7 = (s0.after (keysAt c arg3 f3 k) (valsAt c arg4 f4 k0_t1 k) (arg6.view.readAt (Elt F) lo128.toLoadRect f6) 7).m := by
  simp -proj only [trip.sl.v1125, trip.sl.H7_14, trip.sl.H7_13, trip.sl.H7_12, View.readCov_cons_toLoadRect, View.readCov_skip, readAt_hit, readAt_skip, d1, d1', d80, d80', d256, d256', k0_pay94, k0_pay95, k0_pay103, k0_pay104, k0_pay110, k0_pay111, shapeCast_id, trip_r_34 (arg3 := arg3) (arg4 := arg4) (arg6 := arg6) (k0_t1 := k0_t1) (k := k) (f3 := f3) (f4 := f4) (f6 := f6) hs, trip_v1082 (arg3 := arg3) (arg4 := arg4) (arg6 := arg6) (k0_t1 := k0_t1) (k := k) (f3 := f3) (f4 := f4) (f6 := f6) hs, trip_r_31 (arg3 := arg3) (arg4 := arg4) (arg6 := arg6) (k0_t1 := k0_t1) (k := k) (f3 := f3) (f4 := f4) (f6 := f6) hs, trip_v1055 (arg3 := arg3) (arg4 := arg4) (arg6 := arg6) (k0_t1 := k0_t1) (k := k) (f3 := f3) (f4 := f4) (f6 := f6) hs, trip_r_27 (arg3 := arg3) (arg4 := arg4) (arg6 := arg6) (k0_t1 := k0_t1) (k := k) (f3 := f3) (f4 := f4) (f6 := f6) hs, trip_v1012 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 6).m (s0.after (keysAt c arg3 f3 k) (valsAt c arg4 f4 k0_t1 k) (arg6.view.readAt (Elt F) lo128.toLoadRect f6) 5).xB = (s0.after (keysAt c arg3 f3 k) (valsAt c arg4 f4 k0_t1 k) (arg6.view.readAt (Elt F) lo128.toLoadRect f6) 7).m from fold_m (keysAt c arg3 f3 k) (valsAt c arg4 f4 k0_t1 k) (arg6.view.readAt (Elt F) lo128.toLoadRect f6) s0 4)]

theorem trip_r_41 : trip.sl.r_41 c arg3 arg6 k f3 f6 = (s1.after (keysAt c arg3 f3 k) (valsAt c arg4 f4 k0_t1 k) (arg6.view.readAt (Elt F) hi128.toLoadRect f6) 6).xB := by
  simp -proj only [trip.sl.r_41, View.readCov_cons_toLoadRect, View.readCov_skip, readAt_hit, readAt_skip, d1, d1', d80, d80', d256, d256', k0_pay91, k0_pay93, shapeCast_id, trip_r_36 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 5

theorem trip_v1152 : trip.sl.v1152 c arg3 arg6 arg7 k s0.xA s1.xA s0.xB s1.xB f3 f6 f7 = (s1.after (keysAt c arg3 f3 k) (valsAt c arg4 f4 k0_t1 k) (arg6.view.readAt (Elt F) hi128.toLoadRect f6) 7).m := by
  simp -proj only [trip.sl.v1152, trip.sl.H7_15, trip.sl.H7_14, trip.sl.H7_13, View.readCov_cons_toLoadRect, View.readCov_skip, readAt_hit, readAt_skip, d1, d1', d80, d80', d256, d256', k0_pay103, k0_pay104, k0_pay110, k0_pay111, k0_pay119, k0_pay120, shapeCast_id, trip_r_38 (arg3 := arg3) (arg4 := arg4) (arg6 := arg6) (k0_t1 := k0_t1) (k := k) (f3 := f3) (f4 := f4) (f6 := f6) hs, trip_v1125 (arg3 := arg3) (arg4 := arg4) (arg6 := arg6) (k0_t1 := k0_t1) (k := k) (f3 := f3) (f4 := f4) (f6 := f6) hs, trip_r_34 (arg3 := arg3) (arg4 := arg4) (arg6 := arg6) (k0_t1 := k0_t1) (k := k) (f3 := f3) (f4 := f4) (f6 := f6) hs, trip_v1082 (arg3 := arg3) (arg4 := arg4) (arg6 := arg6) (k0_t1 := k0_t1) (k := k) (f3 := f3) (f4 := f4) (f6 := f6) hs, trip_r_31 (arg3 := arg3) (arg4 := arg4) (arg6 := arg6) (k0_t1 := k0_t1) (k := k) (f3 := f3) (f4 := f4) (f6 := f6) hs, trip_v1055 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 6).m (s1.after (keysAt c arg3 f3 k) (valsAt c arg4 f4 k0_t1 k) (arg6.view.readAt (Elt F) hi128.toLoadRect f6) 5).xB = (s1.after (keysAt c arg3 f3 k) (valsAt c arg4 f4 k0_t1 k) (arg6.view.readAt (Elt F) hi128.toLoadRect f6) 7).m from fold_m (keysAt c arg3 f3 k) (valsAt c arg4 f4 k0_t1 k) (arg6.view.readAt (Elt F) hi128.toLoadRect f6) s1 4)]

theorem trip_r_45 : trip.sl.r_45 c arg3 arg6 k f3 f6 = (s0.after (keysAt c arg3 f3 k) (valsAt c arg4 f4 k0_t1 k) (arg6.view.readAt (Elt F) lo128.toLoadRect f6) 7).xB := by
  simp -proj only [trip.sl.r_45, View.readCov_cons_toLoadRect, View.readCov_skip, readAt_hit, readAt_skip, d1, d1', d80, d80', d256, d256', k0_pay98, k0_pay100, k0_pay102, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 6

theorem trip_v1195 : trip.sl.v1195 c arg3 arg6 arg7 k s0.xA s1.xA s0.xB s1.xB f3 f6 f7 = (s0.after (keysAt c arg3 f3 k) (valsAt c arg4 f4 k0_t1 k) (arg6.view.readAt (Elt F) lo128.toLoadRect f6) 8).m := by
  simp -proj only [trip.sl.v1195, trip.sl.H7_16, trip.sl.H7_15, trip.sl.H7_14, View.readCov_cons_toLoadRect, View.readCov_skip, readAt_hit, readAt_skip, d1, d1', d80, d80', d256, d256', k0_pay110, k0_pay111, k0_pay119, k0_pay120, k0_pay126, k0_pay127, shapeCast_id, trip_r_41 (arg3 := arg3) (arg4 := arg4) (arg6 := arg6) (k0_t1 := k0_t1) (k := k) (f3 := f3) (f4 := f4) (f6 := f6) hs, trip_v1152 (arg3 := arg3) (arg4 := arg4) (arg6 := arg6) (k0_t1 := k0_t1) (k := k) (f3 := f3) (f4 := f4) (f6 := f6) hs, trip_r_38 (arg3 := arg3) (arg4 := arg4) (arg6 := arg6) (k0_t1 := k0_t1) (k := k) (f3 := f3) (f4 := f4) (f6 := f6) hs, trip_v1125 (arg3 := arg3) (arg4 := arg4) (arg6 := arg6) (k0_t1 := k0_t1) (k := k) (f3 := f3) (f4 := f4) (f6 := f6) hs, trip_r_34 (arg3 := arg3) (arg4 := arg4) (arg6 := arg6) (k0_t1 := k0_t1) (k := k) (f3 := f3) (f4 := f4) (f6 := f6) hs, trip_v1082 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 7).m (s0.after (keysAt c arg3 f3 k) (valsAt c arg4 f4 k0_t1 k) (arg6.view.readAt (Elt F) lo128.toLoadRect f6) 6).xB = (s0.after (keysAt c arg3 f3 k) (valsAt c arg4 f4 k0_t1 k) (arg6.view.readAt (Elt F) lo128.toLoadRect f6) 8).m from fold_m (keysAt c arg3 f3 k) (valsAt c arg4 f4 k0_t1 k) (arg6.view.readAt (Elt F) lo128.toLoadRect f6) s0 5)]

theorem trip_r_43 : trip.sl.r_43 c arg3 k f3 = keyMat ((keysAt c arg3 f3 k) 6) := by
  simp -proj only [trip.sl.r_43, View.readCov_cons_toLoadRect, View.readCov_skip, readAt_hit, readAt_skip, d1, d1', d80, d80', d256, d256', k0_pay98, shapeCast_id, hs.m0, hs.m1, hs.a0, hs.a1, hs.sA0, hs.sA1, hs.sB0, hs.sB1]
  exact rfl

theorem trip_r_48 : trip.sl.r_48 c arg3 arg6 k f3 f6 = (s1.after (keysAt c arg3 f3 k) (valsAt c arg4 f4 k0_t1 k) (arg6.view.readAt (Elt F) hi128.toLoadRect f6) 7).xB := by
  simp -proj only [trip.sl.r_48, View.readCov_cons_toLoadRect, View.readCov_skip, readAt_hit, readAt_skip, d1, d1', d80, d80', d256, d256', k0_pay107, k0_pay109, shapeCast_id, trip_r_43 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 6

theorem trip_v1222 : trip.sl.v1222 c arg3 arg6 arg7 k s0.xA s1.xA s0.xB s1.xB f3 f6 f7 = (s1.after (keysAt c arg3 f3 k) (valsAt c arg4 f4 k0_t1 k) (arg6.view.readAt (Elt F) hi128.toLoadRect f6) 8).m := by
  simp -proj only [trip.sl.v1222, trip.sl.H7_17, trip.sl.H7_16, trip.sl.H7_15, View.readCov_cons_toLoadRect, View.readCov_skip, readAt_hit, readAt_skip, d1, d1', d80, d80', d256, d256', k0_pay119, k0_pay120, k0_pay126, k0_pay127, k0_pay135, k0_pay136, shapeCast_id, trip_r_45 (arg3 := arg3) (arg4 := arg4) (arg6 := arg6) (k0_t1 := k0_t1) (k := k) (f3 := f3) (f4 := f4) (f6 := f6) hs, trip_v1195 (arg3 := arg3) (arg4 := arg4) (arg6 := arg6) (k0_t1 := k0_t1) (k := k) (f3 := f3) (f4 := f4) (f6 := f6) hs, trip_r_41 (arg3 := arg3) (arg4 := arg4) (arg6 := arg6) (k0_t1 := k0_t1) (k := k) (f3 := f3) (f4 := f4) (f6 := f6) hs, trip_v1152 (arg3 := arg3) (arg4 := arg4) (arg6 := arg6) (k0_t1 := k0_t1) (k := k) (f3 := f3) (f4 := f4) (f6 := f6) hs, trip_r_38 (arg3 := arg3) (arg4 := arg4) (arg6 := arg6) (k0_t1 := k0_t1) (k := k) (f3 := f3) (f4 := f4) (f6 := f6) hs, trip_v1125 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 7).m (s1.after (keysAt c arg3 f3 k) (valsAt c arg4 f4 k0_t1 k) (arg6.view.readAt (Elt F) hi128.toLoadRect f6) 6).xB = (s1.after (keysAt c arg3 f3 k) (valsAt c arg4 f4 k0_t1 k) (arg6.view.readAt (Elt F) hi128.toLoadRect f6) 8).m from fold_m (keysAt c arg3 f3 k) (valsAt c arg4 f4 k0_t1 k) (arg6.view.readAt (Elt F) hi128.toLoadRect f6) s1 5)]

theorem trip_r_52 : trip.sl.r_52 c arg3 arg6 k f3 f6 = (s0.after (keysAt c arg3 f3 k) (valsAt c arg4 f4 k0_t1 k) (arg6.view.readAt (Elt F) lo128.toLoadRect f6) 8).xB := by
  simp -proj only [trip.sl.r_52, View.readCov_cons_toLoadRect, View.readCov_skip, readAt_hit, readAt_skip, d1, d1', d80, d80', d256, d256', k0_pay114, k0_pay116, k0_pay118, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 7

theorem trip_v1265 : trip.sl.v1265 c arg3 arg6 arg7 k s0.xA s1.xA s0.xB s1.xB f3 f6 f7 = (s0.after (keysAt c arg3 f3 k) (valsAt c arg4 f4 k0_t1 k) (arg6.view.readAt (Elt F) lo128.toLoadRect f6) 9).m := by
  simp -proj only [trip.sl.v1265, trip.sl.H7_18, trip.sl.H7_17, trip.sl.H7_16, View.readCov_cons_toLoadRect, View.readCov_skip, readAt_hit, readAt_skip, d1, d1', d80, d80', d256, d256', k0_pay126, k0_pay127, k0_pay135, k0_pay136, k0_pay142, k0_pay143, shapeCast_id, trip_r_48 (arg3 := arg3) (arg4 := arg4) (arg6 := arg6) (k0_t1 := k0_t1) (k := k) (f3 := f3) (f4 := f4) (f6 := f6) hs, trip_v1222 (arg3 := arg3) (arg4 := arg4) (arg6 := arg6) (k0_t1 := k0_t1) (k := k) (f3 := f3) (f4 := f4) (f6 := f6) hs, trip_r_45 (arg3 := arg3) (arg4 := arg4) (arg6 := arg6) (k0_t1 := k0_t1) (k := k) (f3 := f3) (f4 := f4) (f6 := f6) hs, trip_v1195 (arg3 := arg3) (arg4 := arg4) (arg6 := arg6) (k0_t1 := k0_t1) (k := k) (f3 := f3) (f4 := f4) (f6 := f6) hs, trip_r_41 (arg3 := arg3) (arg4 := arg4) (arg6 := arg6) (k0_t1 := k0_t1) (k := k) (f3 := f3) (f4 := f4) (f6 := f6) hs, trip_v1152 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 8).m (s0.after (keysAt c arg3 f3 k) (valsAt c arg4 f4 k0_t1 k) (arg6.view.readAt (Elt F) lo128.toLoadRect f6) 7).xB = (s0.after (keysAt c arg3 f3 k) (valsAt c arg4 f4 k0_t1 k) (arg6.view.readAt (Elt F) lo128.toLoadRect f6) 9).m from fold_m (keysAt c arg3 f3 k) (valsAt c arg4 f4 k0_t1 k) (arg6.view.readAt (Elt F) lo128.toLoadRect f6) s0 6)]

theorem trip_r_55 : trip.sl.r_55 c arg3 arg6 k f3 f6 = (s1.after (keysAt c arg3 f3 k) (valsAt c arg4 f4 k0_t1 k) (arg6.view.readAt (Elt F) hi128.toLoadRect f6) 8).xB := by
  simp -proj only [trip.sl.r_55, View.readCov_cons_toLoadRect, View.readCov_skip, readAt_hit, readAt_skip, d1, d1', d80, d80', d256, d256', k0_pay123, k0_pay125, shapeCast_id, trip_r_50 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 7

theorem trip_v1292 : trip.sl.v1292 c arg3 arg6 arg7 k s0.xA s1.xA s0.xB s1.xB f3 f6 f7 = (s1.after (keysAt c arg3 f3 k) (valsAt c arg4 f4 k0_t1 k) (arg6.view.readAt (Elt F) hi128.toLoadRect f6) 9).m := by
  simp -proj only [trip.sl.v1292, trip.sl.H7_19, trip.sl.H7_18, trip.sl.H7_17, View.readCov_cons_toLoadRect, View.readCov_skip, readAt_hit, readAt_skip, d1, d1', d80, d80', d256, d256', k0_pay135, k0_pay136, k0_pay142, k0_pay143, k0_pay151, k0_pay152, shapeCast_id, trip_r_52 (arg3 := arg3) (arg4 := arg4) (arg6 := arg6) (k0_t1 := k0_t1) (k := k) (f3 := f3) (f4 := f4) (f6 := f6) hs, trip_v1265 (arg3 := arg3) (arg4 := arg4) (arg6 := arg6) (k0_t1 := k0_t1) (k := k) (f3 := f3) (f4 := f4) (f6 := f6) hs, trip_r_48 (arg3 := arg3) (arg4 := arg4) (arg6 := arg6) (k0_t1 := k0_t1) (k := k) (f3 := f3) (f4 := f4) (f6 := f6) hs, trip_v1222 (arg3 := arg3) (arg4 := arg4) (arg6 := arg6) (k0_t1 := k0_t1) (k := k) (f3 := f3) (f4 := f4) (f6 := f6) hs, trip_r_45 (arg3 := arg3) (arg4 := arg4) (arg6 := arg6) (k0_t1 := k0_t1) (k := k) (f3 := f3) (f4 := f4) (f6 := f6) hs, trip_v1195 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 8).m (s1.after (keysAt c arg3 f3 k) (valsAt c arg4 f4 k0_t1 k) (arg6.view.readAt (Elt F) hi128.toLoadRect f6) 7).xB = (s1.after (keysAt c arg3 f3 k) (valsAt c arg4 f4 k0_t1 k) (arg6.view.readAt (Elt F) hi128.toLoadRect f6) 9).m from fold_m (keysAt c arg3 f3 k) (valsAt c arg4 f4 k0_t1 k) (arg6.view.readAt (Elt F) hi128.toLoadRect f6) s1 6)]

theorem trip_r_59 : trip.sl.r_59 c arg3 arg6 k f3 f6 = (s0.after (keysAt c arg3 f3 k) (valsAt c arg4 f4 k0_t1 k) (arg6.view.readAt (Elt F) lo128.toLoadRect f6) 9).xB := by
  simp -proj only [trip.sl.r_59, View.readCov_cons_toLoadRect, View.readCov_skip, readAt_hit, readAt_skip, d1, d1', d80, d80', d256, d256', k0_pay130, k0_pay132, k0_pay134, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 8

theorem trip_v1335 : trip.sl.v1335 c arg3 arg6 arg7 k s0.xA s1.xA s0.xB s1.xB f3 f6 f7 = (s0.after (keysAt c arg3 f3 k) (valsAt c arg4 f4 k0_t1 k) (arg6.view.readAt (Elt F) lo128.toLoadRect f6) 10).m := by
  simp -proj only [trip.sl.v1335, trip.sl.H7_20, trip.sl.H7_19, trip.sl.H7_18, View.readCov_cons_toLoadRect, View.readCov_skip, readAt_hit, readAt_skip, d1, d1', d80, d80', d256, d256', k0_pay142, k0_pay143, k0_pay151, k0_pay152, k0_pay158, k0_pay159, shapeCast_id, trip_r_55 (arg3 := arg3) (arg4 := arg4) (arg6 := arg6) (k0_t1 := k0_t1) (k := k) (f3 := f3) (f4 := f4) (f6 := f6) hs, trip_v1292 (arg3 := arg3) (arg4 := arg4) (arg6 := arg6) (k0_t1 := k0_t1) (k := k) (f3 := f3) (f4 := f4) (f6 := f6) hs, trip_r_52 (arg3 := arg3) (arg4 := arg4) (arg6 := arg6) (k0_t1 := k0_t1) (k := k) (f3 := f3) (f4 := f4) (f6 := f6) hs, trip_v1265 (arg3 := arg3) (arg4 := arg4) (arg6 := arg6) (k0_t1 := k0_t1) (k := k) (f3 := f3) (f4 := f4) (f6 := f6) hs, trip_r_48 (arg3 := arg3) (arg4 := arg4) (arg6 := arg6) (k0_t1 := k0_t1) (k := k) (f3 := f3) (f4 := f4) (f6 := f6) hs, trip_v1222 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 9).m (s0.after (keysAt c arg3 f3 k) (valsAt c arg4 f4 k0_t1 k) (arg6.view.readAt (Elt F) lo128.toLoadRect f6) 8).xB = (s0.after (keysAt c arg3 f3 k) (valsAt c arg4 f4 k0_t1 k) (arg6.view.readAt (Elt F) lo128.toLoadRect f6) 10).m from fold_m (keysAt c arg3 f3 k) (valsAt c arg4 f4 k0_t1 k) (arg6.view.readAt (Elt F) lo128.toLoadRect f6) s0 7)]

theorem trip_r_62 : trip.sl.r_62 c arg3 arg6 k f3 f6 = (s1.after (keysAt c arg3 f3 k) (valsAt c arg4 f4 k0_t1 k) (arg6.view.readAt (Elt F) hi128.toLoadRect f6) 9).xB := by
  simp -proj only [trip.sl.r_62, View.readCov_cons_toLoadRect, View.readCov_skip, readAt_hit, readAt_skip, d1, d1', d80, d80', d256, d256', k0_pay139, k0_pay141, shapeCast_id, trip_r_57 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 8

theorem trip_v1362 : trip.sl.v1362 c arg3 arg6 arg7 k s0.xA s1.xA s0.xB s1.xB f3 f6 f7 = (s1.after (keysAt c arg3 f3 k) (valsAt c arg4 f4 k0_t1 k) (arg6.view.readAt (Elt F) hi128.toLoadRect f6) 10).m := by
  simp -proj only [trip.sl.v1362, trip.sl.H7_21, trip.sl.H7_20, trip.sl.H7_19, View.readCov_cons_toLoadRect, View.readCov_skip, readAt_hit, readAt_skip, d1, d1', d80, d80', d256, d256', k0_pay151, k0_pay152, k0_pay158, k0_pay159, k0_pay167, k0_pay168, shapeCast_id, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, trip_r_55 (arg3 := arg3) (arg4 := arg4) (arg6 := arg6) (k0_t1 := k0_t1) (k := k) (f3 := f3) (f4 := f4) (f6 := f6) hs, trip_v1292 (arg3 := arg3) (arg4 := arg4) (arg6 := arg6) (k0_t1 := k0_t1) (k := k) (f3 := f3) (f4 := f4) (f6 := f6) hs, trip_r_52 (arg3 := arg3) (arg4 := arg4) (arg6 := arg6) (k0_t1 := k0_t1) (k := k) (f3 := f3) (f4 := f4) (f6 := f6) hs, trip_v1265 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 9).m (s1.after (keysAt c arg3 f3 k) (valsAt c arg4 f4 k0_t1 k) (arg6.view.readAt (Elt F) hi128.toLoadRect f6) 8).xB = (s1.after (keysAt c arg3 f3 k) (valsAt c arg4 f4 k0_t1 k) (arg6.view.readAt (Elt F) hi128.toLoadRect f6) 10).m from fold_m (keysAt c arg3 f3 k) (valsAt c arg4 f4 k0_t1 k) (arg6.view.readAt (Elt F) hi128.toLoadRect f6) s1 7)]

theorem trip_r_66 : trip.sl.r_66 c arg3 arg6 k f3 f6 = (s0.after (keysAt c arg3 f3 k) (valsAt c arg4 f4 k0_t1 k) (arg6.view.readAt (Elt F) lo128.toLoadRect f6) 10).xB := by
  simp -proj only [trip.sl.r_66, View.readCov_cons_toLoadRect, View.readCov_skip, readAt_hit, readAt_skip, d1, d1', d80, d80', d256, d256', k0_pay146, k0_pay148, k0_pay150, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 9

theorem trip_v1405 : trip.sl.v1405 c arg3 arg6 arg7 k s0.xA s1.xA s0.xB s1.xB f3 f6 f7 = (s0.after (keysAt c arg3 f3 k) (valsAt c arg4 f4 k0_t1 k) (arg6.view.readAt (Elt F) lo128.toLoadRect f6) 11).m := by
  simp -proj only [trip.sl.v1405, trip.sl.H7_22, trip.sl.H7_21, trip.sl.H7_20, View.readCov_cons_toLoadRect, View.readCov_skip, readAt_hit, readAt_skip, d1, d1', d80, d80', d256, d256', k0_pay158, k0_pay159, k0_pay167, k0_pay168, k0_pay174, k0_pay175, shapeCast_id, trip_r_62 (arg3 := arg3) (arg4 := arg4) (arg6 := arg6) (k0_t1 := k0_t1) (k := k) (f3 := f3) (f4 := f4) (f6 := f6) hs, trip_v1362 (arg3 := arg3) (arg4 := arg4) (arg6 := arg6) (k0_t1 := k0_t1) (k := k) (f3 := f3) (f4 := f4) (f6 := f6) hs, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, trip_r_55 (arg3 := arg3) (arg4 := arg4) (arg6 := arg6) (k0_t1 := k0_t1) (k := k) (f3 := f3) (f4 := f4) (f6 := f6) hs, trip_v1292 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 10).m (s0.after (keysAt c arg3 f3 k) (valsAt c arg4 f4 k0_t1 k) (arg6.view.readAt (Elt F) lo128.toLoadRect f6) 9).xB = (s0.after (keysAt c arg3 f3 k) (valsAt c arg4 f4 k0_t1 k) (arg6.view.readAt (Elt F) lo128.toLoadRect f6) 11).m from fold_m (keysAt c arg3 f3 k) (valsAt c arg4 f4 k0_t1 k) (arg6.view.readAt (Elt F) lo128.toLoadRect f6) s0 8)]

theorem trip_r_30 : trip.sl.r_30 c arg4 k0_t1 k f4 = valMat ((valsAt c arg4 f4 k0_t1 k) 4) := by
  simp -proj only [trip.sl.r_30, View.readCov_cons_toLoadRect, View.readCov_skip, readAt_hit, readAt_skip, d1, d1', d80, d80', d256, d256', k0_pay67, shapeCast_id, hs.m0, hs.m1, hs.a0, hs.a1, hs.sA0, hs.sA1, hs.sB0, hs.sB1]
  exact rfl

theorem trip_v947 : trip.sl.v947 c arg3 arg6 arg9 k f3 f6 = (s1.after (keysAt c arg3 f3 k) (valsAt c arg4 f4 k0_t1 k) (arg6.view.readAt (Elt F) hi128.toLoadRect f6) 3).sB := by
  simp -proj only [trip.sl.v947, trip.sl.H9_2, View.readCov_cons_toLoadRect, View.readCov_skip, readAt_hit, readAt_skip, d1, d1', d80, d80', d256, d256', k0_pay34, k0_pay36, k0_pay37, k0_pay43, k0_pay44, shapeCast_id, trip_r_15 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 2

theorem trip_r_32 : trip.sl.r_32 c arg3 arg6 arg7 k s0.xA s1.xA s0.xB s1.xB f3 f6 f7 = (s0.after (keysAt c arg3 f3 k) (valsAt c arg4 f4 k0_t1 k) (arg6.view.readAt (Elt F) lo128.toLoadRect f6) 5).m := by
  simp -proj only [trip.sl.r_32, View.readCov_cons_toLoadRect, View.readCov_skip, readAt_hit, readAt_skip, d1, d1', d80, d80', d256, d256', k0_pay71, shapeCast_id, trip_r_17 (arg3 := arg3) (arg4 := arg4) (arg6 := arg6) (k0_t1 := k0_t1) (k := k) (f3 := f3) (f4 := f4) (f6 := f6) hs, trip_v915 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 4).m (s0.after (keysAt c arg3 f3 k) (valsAt c arg4 f4 k0_t1 k) (arg6.view.readAt (Elt F) lo128.toLoadRect f6) 3).xB = (s0.after (keysAt c arg3 f3 k) (valsAt c arg4 f4 k0_t1 k) (arg6.view.readAt (Elt F) lo128.toLoadRect f6) 5).m from fold_m (keysAt c arg3 f3 k) (valsAt c arg4 f4 k0_t1 k) (arg6.view.readAt (Elt F) lo128.toLoadRect f6) s0 2)]

theorem trip_v920 : trip.sl.v920 c arg3 arg6 arg9 k f3 f6 = (s0.after (keysAt c arg3 f3 k) (valsAt c arg4 f4 k0_t1 k) (arg6.view.readAt (Elt F) lo128.toLoadRect f6) 3).sB := by
  simp -proj only [trip.sl.v920, trip.sl.H9_2, View.readCov_cons_toLoadRect, View.readCov_skip, readAt_hit, readAt_skip, d1, d1', d80, d80', d256, d256', k0_pay34, k0_pay36, k0_pay37, k0_pay43, k0_pay44, shapeCast_id, trip_r_15 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 2

theorem trip_r_33 : trip.sl.r_33 c arg3 arg6 arg7 arg9 k s0.xA s1.xA s0.xB s1.xB f3 f6 f7 = weights (s0.after (keysAt c arg3 f3 k) (valsAt c arg4 f4 k0_t1 k) (arg6.view.readAt (Elt F) lo128.toLoadRect f6) 5).m (s0.after (keysAt c arg3 f3 k) (valsAt c arg4 f4 k0_t1 k) (arg6.view.readAt (Elt F) lo128.toLoadRect f6) 3).sB := by
  simp -proj only [trip.sl.r_33, View.readCov_cons_toLoadRect, View.readCov_skip, readAt_hit, readAt_skip, d1, d1', d80, d80', d256, d256', k0_pay71, k0_pay73, shapeCast_id, trip_r_17 (arg3 := arg3) (arg4 := arg4) (arg6 := arg6) (k0_t1 := k0_t1) (k := k) (f3 := f3) (f4 := f4) (f6 := f6) hs, trip_v915 (arg3 := arg3) (arg4 := arg4) (arg6 := arg6) (k0_t1 := k0_t1) (k := k) (f3 := f3) (f4 := f4) (f6 := f6) hs, trip_v920 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 4).m (s0.after (keysAt c arg3 f3 k) (valsAt c arg4 f4 k0_t1 k) (arg6.view.readAt (Elt F) lo128.toLoadRect f6) 3).xB = (s0.after (keysAt c arg3 f3 k) (valsAt c arg4 f4 k0_t1 k) (arg6.view.readAt (Elt F) lo128.toLoadRect f6) 5).m from fold_m (keysAt c arg3 f3 k) (valsAt c arg4 f4 k0_t1 k) (arg6.view.readAt (Elt F) lo128.toLoadRect f6) s0 2)]
  exact rfl

theorem trip_r_23 : trip.sl.r_23 c arg4 k0_t1 k f4 = valMat ((valsAt c arg4 f4 k0_t1 k) 3) := by
  simp -proj only [trip.sl.r_23, View.readCov_cons_toLoadRect, View.readCov_skip, readAt_hit, readAt_skip, d1, d1', d80, d80', d256, d256', k0_pay51, shapeCast_id, hs.m0, hs.m1, hs.a0, hs.a1, hs.sA0, hs.sA1, hs.sB0, hs.sB1]
  exact rfl

theorem trip_v877 : trip.sl.v877 c arg3 arg6 arg12 k f3 f6 = (s1.after (keysAt c arg3 f3 k) (valsAt c arg4 f4 k0_t1 k) (arg6.view.readAt (Elt F) hi128.toLoadRect f6) 2).sB := by
  simp -proj only [trip.sl.v877, trip.sl.H12_2, View.readCov_cons_toLoadRect, View.readCov_skip, readAt_hit, readAt_skip, d1, d1', d80, d80', d256, d256', k0_pay18, k0_pay20, k0_pay21, k0_pay27, k0_pay28, shapeCast_id, trip_r_8 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 1

theorem trip_r_25 : trip.sl.r_25 c arg3 arg6 arg7 k s0.xA s1.xA s0.xB s1.xB f3 f6 f7 = (s0.after (keysAt c arg3 f3 k) (valsAt c arg4 f4 k0_t1 k) (arg6.view.readAt (Elt F) lo128.toLoadRect f6) 4).m := by
  simp -proj only [trip.sl.r_25, View.readCov_cons_toLoadRect, View.readCov_skip, readAt_hit, readAt_skip, d1, d1', d80, d80', d256, d256', k0_pay55, shapeCast_id, trip_r_10 (arg3 := arg3) (arg4 := arg4) (arg6 := arg6) (k0_t1 := k0_t1) (k := k) (f3 := f3) (f4 := f4) (f6 := f6) hs, trip_v845 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 3).m (s0.after (keysAt c arg3 f3 k) (valsAt c arg4 f4 k0_t1 k) (arg6.view.readAt (Elt F) lo128.toLoadRect f6) 2).xB = (s0.after (keysAt c arg3 f3 k) (valsAt c arg4 f4 k0_t1 k) (arg6.view.readAt (Elt F) lo128.toLoadRect f6) 4).m from fold_m (keysAt c arg3 f3 k) (valsAt c arg4 f4 k0_t1 k) (arg6.view.readAt (Elt F) lo128.toLoadRect f6) s0 1)]

theorem trip_v850 : trip.sl.v850 c arg3 arg6 arg12 k f3 f6 = (s0.after (keysAt c arg3 f3 k) (valsAt c arg4 f4 k0_t1 k) (arg6.view.readAt (Elt F) lo128.toLoadRect f6) 2).sB := by
  simp -proj only [trip.sl.v850, trip.sl.H12_2, View.readCov_cons_toLoadRect, View.readCov_skip, readAt_hit, readAt_skip, d1, d1', d80, d80', d256, d256', k0_pay18, k0_pay20, k0_pay21, k0_pay27, k0_pay28, shapeCast_id, trip_r_8 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 1

theorem trip_r_26 : trip.sl.r_26 c arg3 arg6 arg7 arg12 k s0.xA s1.xA s0.xB s1.xB f3 f6 f7 = weights (s0.after (keysAt c arg3 f3 k) (valsAt c arg4 f4 k0_t1 k) (arg6.view.readAt (Elt F) lo128.toLoadRect f6) 4).m (s0.after (keysAt c arg3 f3 k) (valsAt c arg4 f4 k0_t1 k) (arg6.view.readAt (Elt F) lo128.toLoadRect f6) 2).sB := by
  simp -proj only [trip.sl.r_26, View.readCov_cons_toLoadRect, View.readCov_skip, readAt_hit, readAt_skip, d1, d1', d80, d80', d256, d256', k0_pay55, k0_pay57, shapeCast_id, trip_r_10 (arg3 := arg3) (arg4 := arg4) (arg6 := arg6) (k0_t1 := k0_t1) (k := k) (f3 := f3) (f4 := f4) (f6 := f6) hs, trip_v845 (arg3 := arg3) (arg4 := arg4) (arg6 := arg6) (k0_t1 := k0_t1) (k := k) (f3 := f3) (f4 := f4) (f6 := f6) hs, trip_v850 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 3).m (s0.after (keysAt c arg3 f3 k) (valsAt c arg4 f4 k0_t1 k) (arg6.view.readAt (Elt F) lo128.toLoadRect f6) 2).xB = (s0.after (keysAt c arg3 f3 k) (valsAt c arg4 f4 k0_t1 k) (arg6.view.readAt (Elt F) lo128.toLoadRect f6) 4).m from fold_m (keysAt c arg3 f3 k) (valsAt c arg4 f4 k0_t1 k) (arg6.view.readAt (Elt F) lo128.toLoadRect f6) s0 1)]
  exact rfl

theorem trip_r_16 : trip.sl.r_16 c arg4 k0_t1 k f4 = valMat ((valsAt c arg4 f4 k0_t1 k) 2) := by
  simp -proj only [trip.sl.r_16, View.readCov_cons_toLoadRect, View.readCov_skip, readAt_hit, readAt_skip, d1, d1', d80, d80', d256, d256', k0_pay35, shapeCast_id, hs.m0, hs.m1, hs.a0, hs.a1, hs.sA0, hs.sA1, hs.sB0, hs.sB1]
  exact rfl

theorem trip_v807 : trip.sl.v807 c arg3 arg6 arg11 k f3 f6 = (s1.after (keysAt c arg3 f3 k) (valsAt c arg4 f4 k0_t1 k) (arg6.view.readAt (Elt F) hi128.toLoadRect f6) 1).sB := by
  simp -proj only [trip.sl.v807, trip.sl.H11_2, View.readCov_cons_toLoadRect, View.readCov_skip, readAt_hit, readAt_skip, d1, d1', d80, d80', d256, d256', k0_pay2, k0_pay4, k0_pay5, k0_pay11, k0_pay12, shapeCast_id, trip_r (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 0

theorem trip_r_18 : trip.sl.r_18 c arg3 arg6 arg7 k s0.xA s1.xA s0.xB s1.xB f3 f6 f7 = (s0.after (keysAt c arg3 f3 k) (valsAt c arg4 f4 k0_t1 k) (arg6.view.readAt (Elt F) lo128.toLoadRect f6) 3).m := by
  simp -proj only [trip.sl.r_18, View.readCov_cons_toLoadRect, View.readCov_skip, readAt_hit, readAt_skip, d1, d1', d80, d80', d256, d256', k0_pay39, shapeCast_id, trip_r_2 (arg3 := arg3) (arg4 := arg4) (arg6 := arg6) (k0_t1 := k0_t1) (k := k) (f3 := f3) (f4 := f4) (f6 := f6) hs, trip_v775 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 2).m (s0.after (keysAt c arg3 f3 k) (valsAt c arg4 f4 k0_t1 k) (arg6.view.readAt (Elt F) lo128.toLoadRect f6) 1).xB = (s0.after (keysAt c arg3 f3 k) (valsAt c arg4 f4 k0_t1 k) (arg6.view.readAt (Elt F) lo128.toLoadRect f6) 3).m from fold_m (keysAt c arg3 f3 k) (valsAt c arg4 f4 k0_t1 k) (arg6.view.readAt (Elt F) lo128.toLoadRect f6) s0 0)]

theorem trip_v780 : trip.sl.v780 c arg3 arg6 arg11 k f3 f6 = (s0.after (keysAt c arg3 f3 k) (valsAt c arg4 f4 k0_t1 k) (arg6.view.readAt (Elt F) lo128.toLoadRect f6) 1).sB := by
  simp -proj only [trip.sl.v780, trip.sl.H11_2, View.readCov_cons_toLoadRect, View.readCov_skip, readAt_hit, readAt_skip, d1, d1', d80, d80', d256, d256', k0_pay2, k0_pay4, k0_pay5, k0_pay11, k0_pay12, shapeCast_id, trip_r (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 0

theorem trip_r_19 : trip.sl.r_19 c arg3 arg6 arg7 arg11 k s0.xA s1.xA s0.xB s1.xB f3 f6 f7 = weights (s0.after (keysAt c arg3 f3 k) (valsAt c arg4 f4 k0_t1 k) (arg6.view.readAt (Elt F) lo128.toLoadRect f6) 3).m (s0.after (keysAt c arg3 f3 k) (valsAt c arg4 f4 k0_t1 k) (arg6.view.readAt (Elt F) lo128.toLoadRect f6) 1).sB := by
  simp -proj only [trip.sl.r_19, View.readCov_cons_toLoadRect, View.readCov_skip, readAt_hit, readAt_skip, d1, d1', d80, d80', d256, d256', k0_pay39, k0_pay41, shapeCast_id, trip_r_2 (arg3 := arg3) (arg4 := arg4) (arg6 := arg6) (k0_t1 := k0_t1) (k := k) (f3 := f3) (f4 := f4) (f6 := f6) hs, trip_v775 (arg3 := arg3) (arg4 := arg4) (arg6 := arg6) (k0_t1 := k0_t1) (k := k) (f3 := f3) (f4 := f4) (f6 := f6) hs, trip_v780 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 2).m (s0.after (keysAt c arg3 f3 k) (valsAt c arg4 f4 k0_t1 k) (arg6.view.readAt (Elt F) lo128.toLoadRect f6) 1).xB = (s0.after (keysAt c arg3 f3 k) (valsAt c arg4 f4 k0_t1 k) (arg6.view.readAt (Elt F) lo128.toLoadRect f6) 3).m from fold_m (keysAt c arg3 f3 k) (valsAt c arg4 f4 k0_t1 k) (arg6.view.readAt (Elt F) lo128.toLoadRect f6) s0 0)]
  exact rfl

theorem trip_r_9 : trip.sl.r_9 c arg4 k0_t1 k f4 = valMat ((valsAt c arg4 f4 k0_t1 k) 1) := by
  simp -proj only [trip.sl.r_9, View.readCov_cons_toLoadRect, View.readCov_skip, readAt_hit, readAt_skip, d1, d1', d80, d80', d256, d256', k0_pay19, shapeCast_id, hs.m0, hs.m1, hs.a0, hs.a1, hs.sA0, hs.sA1, hs.sB0, hs.sB1]
  exact rfl

theorem trip_r_11 : trip.sl.r_11 c arg7 s0.xA s1.xA s0.xB f7 = (s0.after (keysAt c arg3 f3 k) (valsAt c arg4 f4 k0_t1 k) (arg6.view.readAt (Elt F) lo128.toLoadRect f6) 2).m := by
  simp -proj only [trip.sl.r_11, View.readCov_cons_toLoadRect, View.readCov_skip, readAt_hit, readAt_skip, d1, d1', d80, d80', d256, d256', k0_pay23, shapeCast_id, trip_v705 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, fold_m1 (keysAt c arg3 f3 k) (valsAt c arg4 f4 k0_t1 k) (arg6.view.readAt (Elt F) lo128.toLoadRect f6) s0]

theorem trip_r_12 : trip.sl.r_12 c arg7 arg10 s0.xA s1.xA s0.xB f7 f10 = weights (s0.after (keysAt c arg3 f3 k) (valsAt c arg4 f4 k0_t1 k) (arg6.view.readAt (Elt F) lo128.toLoadRect f6) 2).m s0.sB := by
  simp -proj only [trip.sl.r_12, View.readCov_cons_toLoadRect, View.readCov_skip, readAt_hit, readAt_skip, d1, d1', d80, d80', d256, d256', k0_pay23, k0_pay25, shapeCast_id, trip_v705 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, fold_m1 (keysAt c arg3 f3 k) (valsAt c arg4 f4 k0_t1 k) (arg6.view.readAt (Elt F) lo128.toLoadRect f6) s0]
  exact rfl

theorem trip_r_1 : trip.sl.r_1 c arg4 k0_t1 k f4 = valMat ((valsAt c arg4 f4 k0_t1 k) 0) := by
  simp -proj only [trip.sl.r_1, View.readCov_cons_toLoadRect, View.readCov_skip, readAt_hit, readAt_skip, d1, d1', d80, d80', d256, d256', k0_pay3, shapeCast_id, hs.m0, hs.m1, hs.a0, hs.a1, hs.sA0, hs.sA1, hs.sB0, hs.sB1]
  exact rfl

theorem trip_v674 : trip.sl.v674 c arg8 f8 = s1.a := by
  simp -proj only [trip.sl.v674, View.readCov_cons_toLoadRect, View.readCov_skip, readAt_hit, readAt_skip, d1, d1', d80, d80', d256, d256', shapeCast_id, hs.m0, hs.m1, hs.a0, hs.a1, hs.sA0, hs.sA1, hs.sB0, hs.sB1]

theorem trip_r_7 : trip.sl.r_7 c arg4 arg7 arg8 arg9 k0_t1 k s1.xA f4 f7 f8 f9 = (s1.after (keysAt c arg3 f3 k) (valsAt c arg4 f4 k0_t1 k) (arg6.view.readAt (Elt F) hi128.toLoadRect f6) 1).a := by
  simp -proj only [trip.sl.r_7, View.readCov_cons_toLoadRect, View.readCov_skip, readAt_hit, readAt_skip, d1, d1', d80, d80', d256, d256', k0_pay14, k0_pay16, shapeCast_id, trip_r_1 (arg4 := arg4) (k0_t1 := k0_t1) (k := k) (f4 := f4) hs, trip_v662  hs, trip_v674  hs, hs.m0, hs.m1, hs.a0, hs.a1, hs.sA0, hs.sA1, hs.sB0, hs.sB1, fold_m0 (keysAt c arg3 f3 k) (valsAt c arg4 f4 k0_t1 k) (arg6.view.readAt (Elt F) hi128.toLoadRect f6) s1]
  exact fold_a0 (keysAt c arg3 f3 k) (valsAt c arg4 f4 k0_t1 k) (arg6.view.readAt (Elt F) hi128.toLoadRect f6) s1

theorem trip_r_3 : trip.sl.r_3 c arg7 f7 = s0.m := by
  simp -proj only [trip.sl.r_3, View.readCov_cons_toLoadRect, View.readCov_skip, readAt_hit, readAt_skip, d1, d1', d80, d80', d256, d256', shapeCast_id, hs.m0, hs.m1, hs.a0, hs.a1, hs.sA0, hs.sA1, hs.sB0, hs.sB1]

theorem trip_r_4 : trip.sl.r_4 c arg7 s0.xA f7 = (s0.after (keysAt c arg3 f3 k) (valsAt c arg4 f4 k0_t1 k) (arg6.view.readAt (Elt F) lo128.toLoadRect f6) 1).m := by
  simp -proj only [trip.sl.r_4, View.readCov_cons_toLoadRect, View.readCov_skip, readAt_hit, readAt_skip, d1, d1', d80, d80', d256, d256', k0_pay7, shapeCast_id, hs.m0, hs.m1, hs.a0, hs.a1, hs.sA0, hs.sA1, hs.sB0, hs.sB1, fold_m0 (keysAt c arg3 f3 k) (valsAt c arg4 f4 k0_t1 k) (arg6.view.readAt (Elt F) lo128.toLoadRect f6) s0]

theorem trip_r_5 : trip.sl.r_5 c arg7 arg9 s0.xA f7 f9 = weights (s0.after (keysAt c arg3 f3 k) (valsAt c arg4 f4 k0_t1 k) (arg6.view.readAt (Elt F) lo128.toLoadRect f6) 1).m s0.sA := by
  simp -proj only [trip.sl.r_5, View.readCov_cons_toLoadRect, View.readCov_skip, readAt_hit, readAt_skip, d1, d1', d80, d80', d256, d256', k0_pay7, k0_pay9, shapeCast_id, hs.m0, hs.m1, hs.a0, hs.a1, hs.sA0, hs.sA1, hs.sB0, hs.sB1, fold_m0 (keysAt c arg3 f3 k) (valsAt c arg4 f4 k0_t1 k) (arg6.view.readAt (Elt F) lo128.toLoadRect f6) s0]
  exact rfl

end
end Cert.Proof.KernelIdeal
end
-- ==== Proof.Att.TripFacts2.lean ====
module

public import proofs.«01_k».proof.Proof.Att.TripFacts
public import Idealize.ShloMosaic.Lib.Tactic
public import Idealize.ShloMosaic.Lib.Pipeline.ReadBack
public import Idealize.ShloMosaic.Lib.Pointwise.Reshape

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! What one run of the inner loop's trip computes, value by value, as the two halves' states after so many steps. -/

section
variable {c : Dev nD} {i : grid0.Coords} {arg2 : Memref sig .tc .vmem S1x8x64x256 .bf16} {harg2 : arg2.IsWhole} {arg3 : Memref sig .tc .vmem S1x8448x128 .bf16} {harg3 : arg3.IsWhole} {arg4 : Memref sig .tc .vmem S1x2x64x8448 .bf16} {harg4 : arg4.IsWhole} {arg5 : Memref sig .tc .vmem S1x256x512 .bf16} {harg5 : arg5.IsWhole} {arg6 : Memref sig .tc .vmem S128x1024 .bf16} {harg6 : arg6.IsWhole} {arg7 : Memref sig .tc .vmem S1x1024 .f32} {harg7 : arg7.IsWhole} {arg8 : Memref sig .tc .vmem S80x1024 .f32} {harg8 : arg8.IsWhole} {arg9 : Memref sig .tc .vmem S256x1024 .f32} {harg9 : arg9.IsWhole} {arg10 : Memref sig .tc .vmem S256x1024 .f32} {harg10 : arg10.IsWhole} {arg11 : Memref sig .tc .vmem S256x1024 .f32} {harg11 : arg11.IsWhole} {arg12 : Memref sig .tc .vmem S256x1024 .f32} {harg12 : arg12.IsWhole} {k0_t1 : Fin k0_t1_loop.trips} {arg13 : BitVec 32} {v47 : FVec F S1x512 .f32} {v54 : FVec F S1x512 .f32} {v56 : FVec F S256x128 .bf16} {v58 : FVec F S256x512 .f32} {k : Fin k0_t2_loop.trips} {f3 : Bf (F := F) c arg3} {f4 : Bf (F := F) c arg4} {f6 : Bf (F := F) c arg6} {f7 : Bf (F := F) c arg7} {f8 : Bf (F := F) c arg8} {f9 : Bf (F := F) c arg9} {f10 : Bf (F := F) c arg10} {f11 : Bf (F := F) c arg11} {f12 : Bf (F := F) c arg12} {s0 s1 : HS F}
  (hs : Holds c arg7 arg8 arg9 arg10 f7 f8 f9 f10 s0 s1)
include hs

theorem trip_v717 : trip.sl.v717 c arg4 arg7 arg8 arg9 k0_t1 k s0.xA s1.xA f4 f7 f8 f9 = (s0.after (keysAt c arg3 f3 k) (valsAt c arg4 f4 k0_t1 k) (arg6.view.readAt (Elt F) lo128.toLoadRect f6) 1).a := by
  simp -proj only [trip.sl.v717, trip.sl.H8_2, View.readCov_cons_toLoadRect, View.readCov_skip, readAt_hit, readAt_skip, d1, d1', d80, d80', d256, d256', k0_pay10, k0_pay17, shapeCast_id, trip_r_7 (arg3 := arg3) (arg4 := arg4) (arg6 := arg6) (k0_t1 := k0_t1) (k := k) (f3 := f3) (f4 := f4) (f6 := f6) hs, trip_r_1 (arg4 := arg4) (k0_t1 := k0_t1) (k := k) (f4 := f4) hs, trip_r_3  hs, trip_r_4 (arg3 := arg3) (arg4 := arg4) (arg6 := arg6) (k0_t1 := k0_t1) (k := k) (f3 := f3) (f4 := f4) (f6 := f6) hs, trip_r_5 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, fold_m0 (keysAt c arg3 f3 k) (valsAt c arg4 f4 k0_t1 k) (arg6.view.readAt (Elt F) lo128.toLoadRect f6) s0]
  exact fold_a0 (keysAt c arg3 f3 k) (valsAt c arg4 f4 k0_t1 k) (arg6.view.readAt (Elt F) lo128.toLoadRect f6) s0

theorem trip_v744 : trip.sl.v744 c arg4 arg7 arg8 arg9 arg10 k0_t1 k s0.xA s1.xA s0.xB f4 f7 f8 f9 f10 = (s1.after (keysAt c arg3 f3 k) (valsAt c arg4 f4 k0_t1 k) (arg6.view.readAt (Elt F) hi128.toLoadRect f6) 1).a := by
  simp -proj only [trip.sl.v744, trip.sl.H8_3, trip.sl.H8_2, View.readCov_cons_toLoadRect, View.readCov_skip, readAt_hit, readAt_skip, d1, d1', d80, d80', d256, d256', k0_pay10, k0_pay17, k0_pay26, shapeCast_id, trip_r_9 (arg4 := arg4) (k0_t1 := k0_t1) (k := k) (f4 := f4) hs, trip_v705 (arg3 := arg3) (arg4 := arg4) (arg6 := arg6) (k0_t1 := k0_t1) (k := k) (f3 := f3) (f4 := f4) (f6 := f6) hs, trip_r_11 (arg3 := arg3) (arg4 := arg4) (arg6 := arg6) (k0_t1 := k0_t1) (k := k) (f3 := f3) (f4 := f4) (f6 := f6) hs, trip_r_12 (arg3 := arg3) (arg4 := arg4) (arg6 := arg6) (k0_t1 := k0_t1) (k := k) (f3 := f3) (f4 := f4) (f6 := f6) hs, trip_v717 (arg3 := arg3) (arg4 := arg4) (arg6 := arg6) (k0_t1 := k0_t1) (k := k) (f3 := f3) (f4 := f4) (f6 := f6) hs, trip_r_7 (arg3 := arg3) (arg4 := arg4) (arg6 := arg6) (k0_t1 := k0_t1) (k := k) (f3 := f3) (f4 := f4) (f6 := f6) hs, trip_r_1 (arg4 := arg4) (k0_t1 := k0_t1) (k := k) (f4 := f4) hs, trip_r_3  hs, trip_r_4 (arg3 := arg3) (arg4 := arg4) (arg6 := arg6) (k0_t1 := k0_t1) (k := k) (f3 := f3) (f4 := f4) (f6 := f6) hs, trip_r_5 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_14 : trip.sl.r_14 c arg4 arg7 arg8 arg9 arg10 k0_t1 k s0.xA s1.xA s0.xB s1.xB f4 f7 f8 f9 f10 = (s1.after (keysAt c arg3 f3 k) (valsAt c arg4 f4 k0_t1 k) (arg6.view.readAt (Elt F) hi128.toLoadRect f6) 2).a := by
  simp -proj only [trip.sl.r_14, View.readCov_cons_toLoadRect, View.readCov_skip, readAt_hit, readAt_skip, d1, d1', d80, d80', d256, d256', k0_pay30, k0_pay32, shapeCast_id, trip_r_9 (arg4 := arg4) (k0_t1 := k0_t1) (k := k) (f4 := f4) hs, trip_v732 (arg3 := arg3) (arg4 := arg4) (arg6 := arg6) (k0_t1 := k0_t1) (k := k) (f3 := f3) (f4 := f4) (f6 := f6) hs, trip_v744 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, fold_m1 (keysAt c arg3 f3 k) (valsAt c arg4 f4 k0_t1 k) (arg6.view.readAt (Elt F) hi128.toLoadRect f6) s1]
  exact fold_a1 (keysAt c arg3 f3 k) (valsAt c arg4 f4 k0_t1 k) (arg6.view.readAt (Elt F) hi128.toLoadRect f6) s1

theorem trip_v787 : trip.sl.v787 c arg4 arg7 arg8 arg9 arg10 k0_t1 k s0.xA s1.xA s0.xB s1.xB f4 f7 f8 f9 f10 = (s0.after (keysAt c arg3 f3 k) (valsAt c arg4 f4 k0_t1 k) (arg6.view.readAt (Elt F) lo128.toLoadRect f6) 2).a := by
  simp -proj only [trip.sl.v787, trip.sl.H8_4, trip.sl.H8_3, trip.sl.H8_2, View.readCov_cons_toLoadRect, View.readCov_skip, readAt_hit, readAt_skip, d1, d1', d80, d80', d256, d256', k0_pay10, k0_pay17, k0_pay26, k0_pay33, shapeCast_id, trip_r_14 (arg3 := arg3) (arg4 := arg4) (arg6 := arg6) (k0_t1 := k0_t1) (k := k) (f3 := f3) (f4 := f4) (f6 := f6) hs, trip_r_9 (arg4 := arg4) (k0_t1 := k0_t1) (k := k) (f4 := f4) hs, trip_v705 (arg3 := arg3) (arg4 := arg4) (arg6 := arg6) (k0_t1 := k0_t1) (k := k) (f3 := f3) (f4 := f4) (f6 := f6) hs, trip_r_11 (arg3 := arg3) (arg4 := arg4) (arg6 := arg6) (k0_t1 := k0_t1) (k := k) (f3 := f3) (f4 := f4) (f6 := f6) hs, trip_r_12 (arg3 := arg3) (arg4 := arg4) (arg6 := arg6) (k0_t1 := k0_t1) (k := k) (f3 := f3) (f4 := f4) (f6 := f6) hs, trip_v717 (arg3 := arg3) (arg4 := arg4) (arg6 := arg6) (k0_t1 := k0_t1) (k := k) (f3 := f3) (f4 := f4) (f6 := f6) hs, trip_r_7 (arg3 := arg3) (arg4 := arg4) (arg6 := arg6) (k0_t1 := k0_t1) (k := k) (f3 := f3) (f4 := f4) (f6 := f6) hs, trip_r_1 (arg4 := arg4) (k0_t1 := k0_t1) (k := k) (f4 := f4) hs, trip_r_3  hs, trip_r_4 (arg3 := arg3) (arg4 := arg4) (arg6 := arg6) (k0_t1 := k0_t1) (k := k) (f3 := f3) (f4 := f4) (f6 := f6) hs, trip_r_5 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, fold_m1 (keysAt c arg3 f3 k) (valsAt c arg4 f4 k0_t1 k) (arg6.view.readAt (Elt F) lo128.toLoadRect f6) s0]
  exact fold_a1 (keysAt c arg3 f3 k) (valsAt c arg4 f4 k0_t1 k) (arg6.view.readAt (Elt F) lo128.toLoadRect f6) s0

theorem trip_v814 : trip.sl.v814 c arg3 arg4 arg6 arg7 arg8 arg9 arg10 arg11 k0_t1 k s0.xA s1.xA s0.xB s1.xB f3 f4 f6 f7 f8 f9 f10 = (s1.after (keysAt c arg3 f3 k) (valsAt c arg4 f4 k0_t1 k) (arg6.view.readAt (Elt F) hi128.toLoadRect f6) 2).a := by
  simp -proj only [trip.sl.v814, trip.sl.H8_5, trip.sl.H8_4, trip.sl.H8_3, View.readCov_cons_toLoadRect, View.readCov_skip, readAt_hit, readAt_skip, d1, d1', d80, d80', d256, d256', k0_pay26, k0_pay33, k0_pay42, shapeCast_id, trip_r_16 (arg4 := arg4) (k0_t1 := k0_t1) (k := k) (f4 := f4) hs, trip_v775 (arg3 := arg3) (arg4 := arg4) (arg6 := arg6) (k0_t1 := k0_t1) (k := k) (f3 := f3) (f4 := f4) (f6 := f6) hs, trip_r_18 (arg3 := arg3) (arg4 := arg4) (arg6 := arg6) (k0_t1 := k0_t1) (k := k) (f3 := f3) (f4 := f4) (f6 := f6) hs, trip_r_19 (arg3 := arg3) (arg4 := arg4) (arg6 := arg6) (k0_t1 := k0_t1) (k := k) (f3 := f3) (f4 := f4) (f6 := f6) hs, trip_v787 (arg3 := arg3) (arg4 := arg4) (arg6 := arg6) (k0_t1 := k0_t1) (k := k) (f3 := f3) (f4 := f4) (f6 := f6) hs, trip_r_14 (arg3 := arg3) (arg4 := arg4) (arg6 := arg6) (k0_t1 := k0_t1) (k := k) (f3 := f3) (f4 := f4) (f6 := f6) hs, trip_r_9 (arg4 := arg4) (k0_t1 := k0_t1) (k := k) (f4 := f4) hs, trip_v705 (arg3 := arg3) (arg4 := arg4) (arg6 := arg6) (k0_t1 := k0_t1) (k := k) (f3 := f3) (f4 := f4) (f6 := f6) hs, trip_r_11 (arg3 := arg3) (arg4 := arg4) (arg6 := arg6) (k0_t1 := k0_t1) (k := k) (f3 := f3) (f4 := f4) (f6 := f6) hs, trip_r_12 (arg3 := arg3) (arg4 := arg4) (arg6 := arg6) (k0_t1 := k0_t1) (k := k) (f3 := f3) (f4 := f4) (f6 := f6) hs, trip_v717 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_21 : trip.sl.r_21 c arg3 arg4 arg6 arg7 arg8 arg9 arg10 arg11 k0_t1 k s0.xA s1.xA s0.xB s1.xB f3 f4 f6 f7 f8 f9 f10 = (s1.after (keysAt c arg3 f3 k) (valsAt c arg4 f4 k0_t1 k) (arg6.view.readAt (Elt F) hi128.toLoadRect f6) 3).a := by
  simp -proj only [trip.sl.r_21, View.readCov_cons_toLoadRect, View.readCov_skip, readAt_hit, readAt_skip, d1, d1', d80, d80', d256, d256', k0_pay46, k0_pay48, shapeCast_id, trip_r_6 (arg3 := arg3) (arg4 := arg4) (arg6 := arg6) (k0_t1 := k0_t1) (k := k) (f3 := f3) (f4 := f4) (f6 := f6) hs, trip_r_16 (arg4 := arg4) (k0_t1 := k0_t1) (k := k) (f4 := f4) hs, trip_v802 (arg3 := arg3) (arg4 := arg4) (arg6 := arg6) (k0_t1 := k0_t1) (k := k) (f3 := f3) (f4 := f4) (f6 := f6) hs, trip_v807 (arg3 := arg3) (arg4 := arg4) (arg6 := arg6) (k0_t1 := k0_t1) (k := k) (f3 := f3) (f4 := f4) (f6 := f6) hs, trip_v814 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 2).m (s1.after (keysAt c arg3 f3 k) (valsAt c arg4 f4 k0_t1 k) (arg6.view.readAt (Elt F) hi128.toLoadRect f6) 1).xB = (s1.after (keysAt c arg3 f3 k) (valsAt c arg4 f4 k0_t1 k) (arg6.view.readAt (Elt F) hi128.toLoadRect f6) 3).m from fold_m (keysAt c arg3 f3 k) (valsAt c arg4 f4 k0_t1 k) (arg6.view.readAt (Elt F) hi128.toLoadRect f6) s1 0)]
  exact fold_a (keysAt c arg3 f3 k) (valsAt c arg4 f4 k0_t1 k) (arg6.view.readAt (Elt F) hi128.toLoadRect f6) s1 0

theorem trip_v857 : trip.sl.v857 c arg3 arg4 arg6 arg7 arg8 arg9 arg10 arg11 k0_t1 k s0.xA s1.xA s0.xB s1.xB f3 f4 f6 f7 f8 f9 f10 = (s0.after (keysAt c arg3 f3 k) (valsAt c arg4 f4 k0_t1 k) (arg6.view.readAt (Elt F) lo128.toLoadRect f6) 3).a := by
  simp -proj only [trip.sl.v857, trip.sl.H8_6, trip.sl.H8_5, trip.sl.H8_4, View.readCov_cons_toLoadRect, View.readCov_skip, readAt_hit, readAt_skip, d1, d1', d80, d80', d256, d256', k0_pay33, k0_pay42, k0_pay49, shapeCast_id, trip_r_21 (arg3 := arg3) (arg4 := arg4) (arg6 := arg6) (k0_t1 := k0_t1) (k := k) (f3 := f3) (f4 := f4) (f6 := f6) hs, trip_r_16 (arg4 := arg4) (k0_t1 := k0_t1) (k := k) (f4 := f4) hs, trip_v775 (arg3 := arg3) (arg4 := arg4) (arg6 := arg6) (k0_t1 := k0_t1) (k := k) (f3 := f3) (f4 := f4) (f6 := f6) hs, trip_r_18 (arg3 := arg3) (arg4 := arg4) (arg6 := arg6) (k0_t1 := k0_t1) (k := k) (f3 := f3) (f4 := f4) (f6 := f6) hs, trip_r_19 (arg3 := arg3) (arg4 := arg4) (arg6 := arg6) (k0_t1 := k0_t1) (k := k) (f3 := f3) (f4 := f4) (f6 := f6) hs, trip_v787 (arg3 := arg3) (arg4 := arg4) (arg6 := arg6) (k0_t1 := k0_t1) (k := k) (f3 := f3) (f4 := f4) (f6 := f6) hs, trip_r_14 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 2).m (s0.after (keysAt c arg3 f3 k) (valsAt c arg4 f4 k0_t1 k) (arg6.view.readAt (Elt F) lo128.toLoadRect f6) 1).xB = (s0.after (keysAt c arg3 f3 k) (valsAt c arg4 f4 k0_t1 k) (arg6.view.readAt (Elt F) lo128.toLoadRect f6) 3).m from fold_m (keysAt c arg3 f3 k) (valsAt c arg4 f4 k0_t1 k) (arg6.view.readAt (Elt F) lo128.toLoadRect f6) s0 0)]
  exact fold_a (keysAt c arg3 f3 k) (valsAt c arg4 f4 k0_t1 k) (arg6.view.readAt (Elt F) lo128.toLoadRect f6) s0 0

theorem trip_v884 : trip.sl.v884 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 3).a := by
  simp -proj only [trip.sl.v884, trip.sl.H8_7, trip.sl.H8_6, trip.sl.H8_5, View.readCov_cons_toLoadRect, View.readCov_skip, readAt_hit, readAt_skip, d1, d1', d80, d80', d256, d256', k0_pay42, k0_pay49, k0_pay58, shapeCast_id, trip_r_23 (arg4 := arg4) (k0_t1 := k0_t1) (k := k) (f4 := f4) hs, trip_v845 (arg3 := arg3) (arg4 := arg4) (arg6 := arg6) (k0_t1 := k0_t1) (k := k) (f3 := f3) (f4 := f4) (f6 := f6) hs, trip_r_25 (arg3 := arg3) (arg4 := arg4) (arg6 := arg6) (k0_t1 := k0_t1) (k := k) (f3 := f3) (f4 := f4) (f6 := f6) hs, trip_r_26 (arg3 := arg3) (arg4 := arg4) (arg6 := arg6) (k0_t1 := k0_t1) (k := k) (f3 := f3) (f4 := f4) (f6 := f6) hs, trip_v857 (arg3 := arg3) (arg4 := arg4) (arg6 := arg6) (k0_t1 := k0_t1) (k := k) (f3 := f3) (f4 := f4) (f6 := f6) hs, trip_r_21 (arg3 := arg3) (arg4 := arg4) (arg6 := arg6) (k0_t1 := k0_t1) (k := k) (f3 := f3) (f4 := f4) (f6 := f6) hs, trip_r_16 (arg4 := arg4) (k0_t1 := k0_t1) (k := k) (f4 := f4) hs, trip_v775 (arg3 := arg3) (arg4 := arg4) (arg6 := arg6) (k0_t1 := k0_t1) (k := k) (f3 := f3) (f4 := f4) (f6 := f6) hs, trip_r_18 (arg3 := arg3) (arg4 := arg4) (arg6 := arg6) (k0_t1 := k0_t1) (k := k) (f3 := f3) (f4 := f4) (f6 := f6) hs, trip_r_19 (arg3 := arg3) (arg4 := arg4) (arg6 := arg6) (k0_t1 := k0_t1) (k := k) (f3 := f3) (f4 := f4) (f6 := f6) hs, trip_v787 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_28 : trip.sl.r_28 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 4).a := by
  simp -proj only [trip.sl.r_28, View.readCov_cons_toLoadRect, View.readCov_skip, readAt_hit, readAt_skip, d1, d1', d80, d80', d256, d256', k0_pay62, k0_pay64, shapeCast_id, trip_r_13 (arg3 := arg3) (arg4 := arg4) (arg6 := arg6) (k0_t1 := k0_t1) (k := k) (f3 := f3) (f4 := f4) (f6 := f6) hs, trip_r_23 (arg4 := arg4) (k0_t1 := k0_t1) (k := k) (f4 := f4) hs, trip_v872 (arg3 := arg3) (arg4 := arg4) (arg6 := arg6) (k0_t1 := k0_t1) (k := k) (f3 := f3) (f4 := f4) (f6 := f6) hs, trip_v877 (arg3 := arg3) (arg4 := arg4) (arg6 := arg6) (k0_t1 := k0_t1) (k := k) (f3 := f3) (f4 := f4) (f6 := f6) hs, trip_v884 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 3).m (s1.after (keysAt c arg3 f3 k) (valsAt c arg4 f4 k0_t1 k) (arg6.view.readAt (Elt F) hi128.toLoadRect f6) 2).xB = (s1.after (keysAt c arg3 f3 k) (valsAt c arg4 f4 k0_t1 k) (arg6.view.readAt (Elt F) hi128.toLoadRect f6) 4).m from fold_m (keysAt c arg3 f3 k) (valsAt c arg4 f4 k0_t1 k) (arg6.view.readAt (Elt F) hi128.toLoadRect f6) s1 1)]
  exact fold_a (keysAt c arg3 f3 k) (valsAt c arg4 f4 k0_t1 k) (arg6.view.readAt (Elt F) hi128.toLoadRect f6) s1 1

theorem trip_v927 : trip.sl.v927 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 4).a := by
  simp -proj only [trip.sl.v927, trip.sl.H8_8, trip.sl.H8_7, trip.sl.H8_6, View.readCov_cons_toLoadRect, View.readCov_skip, readAt_hit, readAt_skip, d1, d1', d80, d80', d256, d256', k0_pay49, k0_pay58, k0_pay65, shapeCast_id, trip_r_28 (arg3 := arg3) (arg4 := arg4) (arg6 := arg6) (k0_t1 := k0_t1) (k := k) (f3 := f3) (f4 := f4) (f6 := f6) hs, trip_r_23 (arg4 := arg4) (k0_t1 := k0_t1) (k := k) (f4 := f4) hs, trip_v845 (arg3 := arg3) (arg4 := arg4) (arg6 := arg6) (k0_t1 := k0_t1) (k := k) (f3 := f3) (f4 := f4) (f6 := f6) hs, trip_r_25 (arg3 := arg3) (arg4 := arg4) (arg6 := arg6) (k0_t1 := k0_t1) (k := k) (f3 := f3) (f4 := f4) (f6 := f6) hs, trip_r_26 (arg3 := arg3) (arg4 := arg4) (arg6 := arg6) (k0_t1 := k0_t1) (k := k) (f3 := f3) (f4 := f4) (f6 := f6) hs, trip_v857 (arg3 := arg3) (arg4 := arg4) (arg6 := arg6) (k0_t1 := k0_t1) (k := k) (f3 := f3) (f4 := f4) (f6 := f6) hs, trip_r_21 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 3).m (s0.after (keysAt c arg3 f3 k) (valsAt c arg4 f4 k0_t1 k) (arg6.view.readAt (Elt F) lo128.toLoadRect f6) 2).xB = (s0.after (keysAt c arg3 f3 k) (valsAt c arg4 f4 k0_t1 k) (arg6.view.readAt (Elt F) lo128.toLoadRect f6) 4).m from fold_m (keysAt c arg3 f3 k) (valsAt c arg4 f4 k0_t1 k) (arg6.view.readAt (Elt F) lo128.toLoadRect f6) s0 1)]
  exact fold_a (keysAt c arg3 f3 k) (valsAt c arg4 f4 k0_t1 k) (arg6.view.readAt (Elt F) lo128.toLoadRect f6) s0 1

theorem trip_v954 : trip.sl.v954 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 4).a := by
  simp -proj only [trip.sl.v954, trip.sl.H8_9, trip.sl.H8_8, trip.sl.H8_7, View.readCov_cons_toLoadRect, View.readCov_skip, readAt_hit, readAt_skip, d1, d1', d80, d80', d256, d256', k0_pay58, k0_pay65, k0_pay74, shapeCast_id, trip_r_30 (arg4 := arg4) (k0_t1 := k0_t1) (k := k) (f4 := f4) hs, trip_v915 (arg3 := arg3) (arg4 := arg4) (arg6 := arg6) (k0_t1 := k0_t1) (k := k) (f3 := f3) (f4 := f4) (f6 := f6) hs, trip_r_32 (arg3 := arg3) (arg4 := arg4) (arg6 := arg6) (k0_t1 := k0_t1) (k := k) (f3 := f3) (f4 := f4) (f6 := f6) hs, trip_r_33 (arg3 := arg3) (arg4 := arg4) (arg6 := arg6) (k0_t1 := k0_t1) (k := k) (f3 := f3) (f4 := f4) (f6 := f6) hs, trip_v927 (arg3 := arg3) (arg4 := arg4) (arg6 := arg6) (k0_t1 := k0_t1) (k := k) (f3 := f3) (f4 := f4) (f6 := f6) hs, trip_r_28 (arg3 := arg3) (arg4 := arg4) (arg6 := arg6) (k0_t1 := k0_t1) (k := k) (f3 := f3) (f4 := f4) (f6 := f6) hs, trip_r_23 (arg4 := arg4) (k0_t1 := k0_t1) (k := k) (f4 := f4) hs, trip_v845 (arg3 := arg3) (arg4 := arg4) (arg6 := arg6) (k0_t1 := k0_t1) (k := k) (f3 := f3) (f4 := f4) (f6 := f6) hs, trip_r_25 (arg3 := arg3) (arg4 := arg4) (arg6 := arg6) (k0_t1 := k0_t1) (k := k) (f3 := f3) (f4 := f4) (f6 := f6) hs, trip_r_26 (arg3 := arg3) (arg4 := arg4) (arg6 := arg6) (k0_t1 := k0_t1) (k := k) (f3 := f3) (f4 := f4) (f6 := f6) hs, trip_v857 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_35 : trip.sl.r_35 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 5).a := by
  simp -proj only [trip.sl.r_35, View.readCov_cons_toLoadRect, View.readCov_skip, readAt_hit, readAt_skip, d1, d1', d80, d80', d256, d256', k0_pay78, k0_pay80, shapeCast_id, trip_r_20 (arg3 := arg3) (arg4 := arg4) (arg6 := arg6) (k0_t1 := k0_t1) (k := k) (f3 := f3) (f4 := f4) (f6 := f6) hs, trip_r_30 (arg4 := arg4) (k0_t1 := k0_t1) (k := k) (f4 := f4) hs, trip_v942 (arg3 := arg3) (arg4 := arg4) (arg6 := arg6) (k0_t1 := k0_t1) (k := k) (f3 := f3) (f4 := f4) (f6 := f6) hs, trip_v947 (arg3 := arg3) (arg4 := arg4) (arg6 := arg6) (k0_t1 := k0_t1) (k := k) (f3 := f3) (f4 := f4) (f6 := f6) hs, trip_v954 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 4).m (s1.after (keysAt c arg3 f3 k) (valsAt c arg4 f4 k0_t1 k) (arg6.view.readAt (Elt F) hi128.toLoadRect f6) 3).xB = (s1.after (keysAt c arg3 f3 k) (valsAt c arg4 f4 k0_t1 k) (arg6.view.readAt (Elt F) hi128.toLoadRect f6) 5).m from fold_m (keysAt c arg3 f3 k) (valsAt c arg4 f4 k0_t1 k) (arg6.view.readAt (Elt F) hi128.toLoadRect f6) s1 2)]
  exact fold_a (keysAt c arg3 f3 k) (valsAt c arg4 f4 k0_t1 k) (arg6.view.readAt (Elt F) hi128.toLoadRect f6) s1 2

theorem trip_r_37 : trip.sl.r_37 c arg4 k0_t1 k f4 = valMat ((valsAt c arg4 f4 k0_t1 k) 5) := by
  simp -proj only [trip.sl.r_37, View.readCov_cons_toLoadRect, View.readCov_skip, readAt_hit, readAt_skip, d1, d1', d80, d80', d256, d256', k0_pay83, shapeCast_id, hs.m0, hs.m1, hs.a0, hs.a1, hs.sA0, hs.sA1, hs.sB0, hs.sB1]
  exact rfl

theorem trip_r_39 : trip.sl.r_39 c arg3 arg6 arg7 k s0.xA s1.xA s0.xB s1.xB f3 f6 f7 = (s0.after (keysAt c arg3 f3 k) (valsAt c arg4 f4 k0_t1 k) (arg6.view.readAt (Elt F) lo128.toLoadRect f6) 6).m := by
  simp -proj only [trip.sl.r_39, View.readCov_cons_toLoadRect, View.readCov_skip, readAt_hit, readAt_skip, d1, d1', d80, d80', d256, d256', k0_pay87, shapeCast_id, trip_r_24 (arg3 := arg3) (arg4 := arg4) (arg6 := arg6) (k0_t1 := k0_t1) (k := k) (f3 := f3) (f4 := f4) (f6 := f6) hs, trip_v985 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 5).m (s0.after (keysAt c arg3 f3 k) (valsAt c arg4 f4 k0_t1 k) (arg6.view.readAt (Elt F) lo128.toLoadRect f6) 4).xB = (s0.after (keysAt c arg3 f3 k) (valsAt c arg4 f4 k0_t1 k) (arg6.view.readAt (Elt F) lo128.toLoadRect f6) 6).m from fold_m (keysAt c arg3 f3 k) (valsAt c arg4 f4 k0_t1 k) (arg6.view.readAt (Elt F) lo128.toLoadRect f6) s0 3)]

theorem trip_v990 : trip.sl.v990 c arg3 arg6 arg10 k f3 f6 = (s0.after (keysAt c arg3 f3 k) (valsAt c arg4 f4 k0_t1 k) (arg6.view.readAt (Elt F) lo128.toLoadRect f6) 4).sB := by
  simp -proj only [trip.sl.v990, trip.sl.H10_2, View.readCov_cons_toLoadRect, View.readCov_skip, readAt_hit, readAt_skip, d1, d1', d80, d80', d256, d256', k0_pay50, k0_pay52, k0_pay53, k0_pay59, k0_pay60, shapeCast_id, trip_r_22 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 3

theorem trip_r_40 : trip.sl.r_40 c arg3 arg6 arg7 arg10 k s0.xA s1.xA s0.xB s1.xB f3 f6 f7 = weights (s0.after (keysAt c arg3 f3 k) (valsAt c arg4 f4 k0_t1 k) (arg6.view.readAt (Elt F) lo128.toLoadRect f6) 6).m (s0.after (keysAt c arg3 f3 k) (valsAt c arg4 f4 k0_t1 k) (arg6.view.readAt (Elt F) lo128.toLoadRect f6) 4).sB := by
  simp -proj only [trip.sl.r_40, View.readCov_cons_toLoadRect, View.readCov_skip, readAt_hit, readAt_skip, d1, d1', d80, d80', d256, d256', k0_pay87, k0_pay89, shapeCast_id, trip_r_24 (arg3 := arg3) (arg4 := arg4) (arg6 := arg6) (k0_t1 := k0_t1) (k := k) (f3 := f3) (f4 := f4) (f6 := f6) hs, trip_v985 (arg3 := arg3) (arg4 := arg4) (arg6 := arg6) (k0_t1 := k0_t1) (k := k) (f3 := f3) (f4 := f4) (f6 := f6) hs, trip_v990 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 5).m (s0.after (keysAt c arg3 f3 k) (valsAt c arg4 f4 k0_t1 k) (arg6.view.readAt (Elt F) lo128.toLoadRect f6) 4).xB = (s0.after (keysAt c arg3 f3 k) (valsAt c arg4 f4 k0_t1 k) (arg6.view.readAt (Elt F) lo128.toLoadRect f6) 6).m from fold_m (keysAt c arg3 f3 k) (valsAt c arg4 f4 k0_t1 k) (arg6.view.readAt (Elt F) lo128.toLoadRect f6) s0 3)]
  exact rfl

theorem trip_v997 : trip.sl.v997 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 5).a := by
  simp -proj only [trip.sl.v997, trip.sl.H8_10, trip.sl.H8_9, trip.sl.H8_8, View.readCov_cons_toLoadRect, View.readCov_skip, readAt_hit, readAt_skip, d1, d1', d80, d80', d256, d256', k0_pay65, k0_pay74, k0_pay81, shapeCast_id, trip_r_35 (arg3 := arg3) (arg4 := arg4) (arg6 := arg6) (k0_t1 := k0_t1) (k := k) (f3 := f3) (f4 := f4) (f6 := f6) hs, trip_r_30 (arg4 := arg4) (k0_t1 := k0_t1) (k := k) (f4 := f4) hs, trip_v915 (arg3 := arg3) (arg4 := arg4) (arg6 := arg6) (k0_t1 := k0_t1) (k := k) (f3 := f3) (f4 := f4) (f6 := f6) hs, trip_r_32 (arg3 := arg3) (arg4 := arg4) (arg6 := arg6) (k0_t1 := k0_t1) (k := k) (f3 := f3) (f4 := f4) (f6 := f6) hs, trip_r_33 (arg3 := arg3) (arg4 := arg4) (arg6 := arg6) (k0_t1 := k0_t1) (k := k) (f3 := f3) (f4 := f4) (f6 := f6) hs, trip_v927 (arg3 := arg3) (arg4 := arg4) (arg6 := arg6) (k0_t1 := k0_t1) (k := k) (f3 := f3) (f4 := f4) (f6 := f6) hs, trip_r_28 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 4).m (s0.after (keysAt c arg3 f3 k) (valsAt c arg4 f4 k0_t1 k) (arg6.view.readAt (Elt F) lo128.toLoadRect f6) 3).xB = (s0.after (keysAt c arg3 f3 k) (valsAt c arg4 f4 k0_t1 k) (arg6.view.readAt (Elt F) lo128.toLoadRect f6) 5).m from fold_m (keysAt c arg3 f3 k) (valsAt c arg4 f4 k0_t1 k) (arg6.view.readAt (Elt F) lo128.toLoadRect f6) s0 2)]
  exact fold_a (keysAt c arg3 f3 k) (valsAt c arg4 f4 k0_t1 k) (arg6.view.readAt (Elt F) lo128.toLoadRect f6) s0 2

theorem trip_v1017 : trip.sl.v1017 c arg3 arg6 arg10 k f3 f6 = (s1.after (keysAt c arg3 f3 k) (valsAt c arg4 f4 k0_t1 k) (arg6.view.readAt (Elt F) hi128.toLoadRect f6) 4).sB := by
  simp -proj only [trip.sl.v1017, trip.sl.H10_2, View.readCov_cons_toLoadRect, View.readCov_skip, readAt_hit, readAt_skip, d1, d1', d80, d80', d256, d256', k0_pay50, k0_pay52, k0_pay53, k0_pay59, k0_pay60, shapeCast_id, trip_r_22 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 3

theorem trip_v1024 : trip.sl.v1024 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 5).a := by
  simp -proj only [trip.sl.v1024, trip.sl.H8_11, trip.sl.H8_10, trip.sl.H8_9, View.readCov_cons_toLoadRect, View.readCov_skip, readAt_hit, readAt_skip, d1, d1', d80, d80', d256, d256', k0_pay74, k0_pay81, k0_pay90, shapeCast_id, trip_r_37 (arg4 := arg4) (k0_t1 := k0_t1) (k := k) (f4 := f4) hs, trip_v985 (arg3 := arg3) (arg4 := arg4) (arg6 := arg6) (k0_t1 := k0_t1) (k := k) (f3 := f3) (f4 := f4) (f6 := f6) hs, trip_r_39 (arg3 := arg3) (arg4 := arg4) (arg6 := arg6) (k0_t1 := k0_t1) (k := k) (f3 := f3) (f4 := f4) (f6 := f6) hs, trip_r_40 (arg3 := arg3) (arg4 := arg4) (arg6 := arg6) (k0_t1 := k0_t1) (k := k) (f3 := f3) (f4 := f4) (f6 := f6) hs, trip_v997 (arg3 := arg3) (arg4 := arg4) (arg6 := arg6) (k0_t1 := k0_t1) (k := k) (f3 := f3) (f4 := f4) (f6 := f6) hs, trip_r_35 (arg3 := arg3) (arg4 := arg4) (arg6 := arg6) (k0_t1 := k0_t1) (k := k) (f3 := f3) (f4 := f4) (f6 := f6) hs, trip_r_30 (arg4 := arg4) (k0_t1 := k0_t1) (k := k) (f4 := f4) hs, trip_v915 (arg3 := arg3) (arg4 := arg4) (arg6 := arg6) (k0_t1 := k0_t1) (k := k) (f3 := f3) (f4 := f4) (f6 := f6) hs, trip_r_32 (arg3 := arg3) (arg4 := arg4) (arg6 := arg6) (k0_t1 := k0_t1) (k := k) (f3 := f3) (f4 := f4) (f6 := f6) hs, trip_r_33 (arg3 := arg3) (arg4 := arg4) (arg6 := arg6) (k0_t1 := k0_t1) (k := k) (f3 := f3) (f4 := f4) (f6 := f6) hs, trip_v927 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_42 : trip.sl.r_42 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 6).a := by
  simp -proj only [trip.sl.r_42, View.readCov_cons_toLoadRect, View.readCov_skip, readAt_hit, readAt_skip, d1, d1', d80, d80', d256, d256', k0_pay94, k0_pay96, shapeCast_id, trip_r_27 (arg3 := arg3) (arg4 := arg4) (arg6 := arg6) (k0_t1 := k0_t1) (k := k) (f3 := f3) (f4 := f4) (f6 := f6) hs, trip_r_37 (arg4 := arg4) (k0_t1 := k0_t1) (k := k) (f4 := f4) hs, trip_v1012 (arg3 := arg3) (arg4 := arg4) (arg6 := arg6) (k0_t1 := k0_t1) (k := k) (f3 := f3) (f4 := f4) (f6 := f6) hs, trip_v1017 (arg3 := arg3) (arg4 := arg4) (arg6 := arg6) (k0_t1 := k0_t1) (k := k) (f3 := f3) (f4 := f4) (f6 := f6) hs, trip_v1024 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 5).m (s1.after (keysAt c arg3 f3 k) (valsAt c arg4 f4 k0_t1 k) (arg6.view.readAt (Elt F) hi128.toLoadRect f6) 4).xB = (s1.after (keysAt c arg3 f3 k) (valsAt c arg4 f4 k0_t1 k) (arg6.view.readAt (Elt F) hi128.toLoadRect f6) 6).m from fold_m (keysAt c arg3 f3 k) (valsAt c arg4 f4 k0_t1 k) (arg6.view.readAt (Elt F) hi128.toLoadRect f6) s1 3)]
  exact fold_a (keysAt c arg3 f3 k) (valsAt c arg4 f4 k0_t1 k) (arg6.view.readAt (Elt F) hi128.toLoadRect f6) s1 3

theorem trip_r_44 : trip.sl.r_44 c arg4 k0_t1 k f4 = valMat ((valsAt c arg4 f4 k0_t1 k) 6) := by
  simp -proj only [trip.sl.r_44, View.readCov_cons_toLoadRect, View.readCov_skip, readAt_hit, readAt_skip, d1, d1', d80, d80', d256, d256', k0_pay99, shapeCast_id, hs.m0, hs.m1, hs.a0, hs.a1, hs.sA0, hs.sA1, hs.sB0, hs.sB1]
  exact rfl

theorem trip_r_46 : trip.sl.r_46 c arg3 arg6 arg7 k s0.xA s1.xA s0.xB s1.xB f3 f6 f7 = (s0.after (keysAt c arg3 f3 k) (valsAt c arg4 f4 k0_t1 k) (arg6.view.readAt (Elt F) lo128.toLoadRect f6) 7).m := by
  simp -proj only [trip.sl.r_46, View.readCov_cons_toLoadRect, View.readCov_skip, readAt_hit, readAt_skip, d1, d1', d80, d80', d256, d256', k0_pay103, shapeCast_id, trip_r_31 (arg3 := arg3) (arg4 := arg4) (arg6 := arg6) (k0_t1 := k0_t1) (k := k) (f3 := f3) (f4 := f4) (f6 := f6) hs, trip_v1055 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 6).m (s0.after (keysAt c arg3 f3 k) (valsAt c arg4 f4 k0_t1 k) (arg6.view.readAt (Elt F) lo128.toLoadRect f6) 5).xB = (s0.after (keysAt c arg3 f3 k) (valsAt c arg4 f4 k0_t1 k) (arg6.view.readAt (Elt F) lo128.toLoadRect f6) 7).m from fold_m (keysAt c arg3 f3 k) (valsAt c arg4 f4 k0_t1 k) (arg6.view.readAt (Elt F) lo128.toLoadRect f6) s0 4)]

theorem trip_v1060 : trip.sl.v1060 c arg3 arg6 arg11 k f3 f6 = (s0.after (keysAt c arg3 f3 k) (valsAt c arg4 f4 k0_t1 k) (arg6.view.readAt (Elt F) lo128.toLoadRect f6) 5).sB := by
  simp -proj only [trip.sl.v1060, trip.sl.H11_4, trip.sl.H11_2, View.readCov_cons_toLoadRect, View.readCov_skip, readAt_hit, readAt_skip, d1, d1', d80, d80', d256, d256', k0_pay2, k0_pay4, k0_pay5, k0_pay11, k0_pay12, k0_pay66, k0_pay68, k0_pay69, k0_pay75, k0_pay76, shapeCast_id, trip_r_29 (arg3 := arg3) (k := k) (f3 := f3) hs, trip_r (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 4

theorem trip_r_47 : trip.sl.r_47 c arg3 arg6 arg7 arg11 k s0.xA s1.xA s0.xB s1.xB f3 f6 f7 = weights (s0.after (keysAt c arg3 f3 k) (valsAt c arg4 f4 k0_t1 k) (arg6.view.readAt (Elt F) lo128.toLoadRect f6) 7).m (s0.after (keysAt c arg3 f3 k) (valsAt c arg4 f4 k0_t1 k) (arg6.view.readAt (Elt F) lo128.toLoadRect f6) 5).sB := by
  simp -proj only [trip.sl.r_47, View.readCov_cons_toLoadRect, View.readCov_skip, readAt_hit, readAt_skip, d1, d1', d80, d80', d256, d256', k0_pay103, k0_pay105, shapeCast_id, trip_r_31 (arg3 := arg3) (arg4 := arg4) (arg6 := arg6) (k0_t1 := k0_t1) (k := k) (f3 := f3) (f4 := f4) (f6 := f6) hs, trip_v1055 (arg3 := arg3) (arg4 := arg4) (arg6 := arg6) (k0_t1 := k0_t1) (k := k) (f3 := f3) (f4 := f4) (f6 := f6) hs, trip_v1060 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 6).m (s0.after (keysAt c arg3 f3 k) (valsAt c arg4 f4 k0_t1 k) (arg6.view.readAt (Elt F) lo128.toLoadRect f6) 5).xB = (s0.after (keysAt c arg3 f3 k) (valsAt c arg4 f4 k0_t1 k) (arg6.view.readAt (Elt F) lo128.toLoadRect f6) 7).m from fold_m (keysAt c arg3 f3 k) (valsAt c arg4 f4 k0_t1 k) (arg6.view.readAt (Elt F) lo128.toLoadRect f6) s0 4)]
  exact rfl

theorem trip_v1067 : trip.sl.v1067 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 6).a := by
  simp -proj only [trip.sl.v1067, trip.sl.H8_12, trip.sl.H8_11, trip.sl.H8_10, View.readCov_cons_toLoadRect, View.readCov_skip, readAt_hit, readAt_skip, d1, d1', d80, d80', d256, d256', k0_pay81, k0_pay90, k0_pay97, shapeCast_id, trip_r_42 (arg3 := arg3) (arg4 := arg4) (arg6 := arg6) (k0_t1 := k0_t1) (k := k) (f3 := f3) (f4 := f4) (f6 := f6) hs, trip_r_37 (arg4 := arg4) (k0_t1 := k0_t1) (k := k) (f4 := f4) hs, trip_v985 (arg3 := arg3) (arg4 := arg4) (arg6 := arg6) (k0_t1 := k0_t1) (k := k) (f3 := f3) (f4 := f4) (f6 := f6) hs, trip_r_39 (arg3 := arg3) (arg4 := arg4) (arg6 := arg6) (k0_t1 := k0_t1) (k := k) (f3 := f3) (f4 := f4) (f6 := f6) hs, trip_r_40 (arg3 := arg3) (arg4 := arg4) (arg6 := arg6) (k0_t1 := k0_t1) (k := k) (f3 := f3) (f4 := f4) (f6 := f6) hs, trip_v997 (arg3 := arg3) (arg4 := arg4) (arg6 := arg6) (k0_t1 := k0_t1) (k := k) (f3 := f3) (f4 := f4) (f6 := f6) hs, trip_r_35 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 5).m (s0.after (keysAt c arg3 f3 k) (valsAt c arg4 f4 k0_t1 k) (arg6.view.readAt (Elt F) lo128.toLoadRect f6) 4).xB = (s0.after (keysAt c arg3 f3 k) (valsAt c arg4 f4 k0_t1 k) (arg6.view.readAt (Elt F) lo128.toLoadRect f6) 6).m from fold_m (keysAt c arg3 f3 k) (valsAt c arg4 f4 k0_t1 k) (arg6.view.readAt (Elt F) lo128.toLoadRect f6) s0 3)]
  exact fold_a (keysAt c arg3 f3 k) (valsAt c arg4 f4 k0_t1 k) (arg6.view.readAt (Elt F) lo128.toLoadRect f6) s0 3

theorem trip_v1087 : trip.sl.v1087 c arg3 arg6 arg11 k f3 f6 = (s1.after (keysAt c arg3 f3 k) (valsAt c arg4 f4 k0_t1 k) (arg6.view.readAt (Elt F) hi128.toLoadRect f6) 5).sB := by
  simp -proj only [trip.sl.v1087, trip.sl.H11_4, trip.sl.H11_2, View.readCov_cons_toLoadRect, View.readCov_skip, readAt_hit, readAt_skip, d1, d1', d80, d80', d256, d256', k0_pay2, k0_pay4, k0_pay5, k0_pay11, k0_pay12, k0_pay66, k0_pay68, k0_pay69, k0_pay75, k0_pay76, shapeCast_id, trip_r_29 (arg3 := arg3) (k := k) (f3 := f3) hs, trip_r (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 4

theorem trip_v1094 : trip.sl.v1094 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 6).a := by
  simp -proj only [trip.sl.v1094, trip.sl.H8_13, trip.sl.H8_12, trip.sl.H8_11, View.readCov_cons_toLoadRect, View.readCov_skip, readAt_hit, readAt_skip, d1, d1', d80, d80', d256, d256', k0_pay90, k0_pay97, k0_pay106, shapeCast_id, trip_r_44 (arg4 := arg4) (k0_t1 := k0_t1) (k := k) (f4 := f4) hs, trip_v1055 (arg3 := arg3) (arg4 := arg4) (arg6 := arg6) (k0_t1 := k0_t1) (k := k) (f3 := f3) (f4 := f4) (f6 := f6) hs, trip_r_46 (arg3 := arg3) (arg4 := arg4) (arg6 := arg6) (k0_t1 := k0_t1) (k := k) (f3 := f3) (f4 := f4) (f6 := f6) hs, trip_r_47 (arg3 := arg3) (arg4 := arg4) (arg6 := arg6) (k0_t1 := k0_t1) (k := k) (f3 := f3) (f4 := f4) (f6 := f6) hs, trip_v1067 (arg3 := arg3) (arg4 := arg4) (arg6 := arg6) (k0_t1 := k0_t1) (k := k) (f3 := f3) (f4 := f4) (f6 := f6) hs, trip_r_42 (arg3 := arg3) (arg4 := arg4) (arg6 := arg6) (k0_t1 := k0_t1) (k := k) (f3 := f3) (f4 := f4) (f6 := f6) hs, trip_r_37 (arg4 := arg4) (k0_t1 := k0_t1) (k := k) (f4 := f4) hs, trip_v985 (arg3 := arg3) (arg4 := arg4) (arg6 := arg6) (k0_t1 := k0_t1) (k := k) (f3 := f3) (f4 := f4) (f6 := f6) hs, trip_r_39 (arg3 := arg3) (arg4 := arg4) (arg6 := arg6) (k0_t1 := k0_t1) (k := k) (f3 := f3) (f4 := f4) (f6 := f6) hs, trip_r_40 (arg3 := arg3) (arg4 := arg4) (arg6 := arg6) (k0_t1 := k0_t1) (k := k) (f3 := f3) (f4 := f4) (f6 := f6) hs, trip_v997 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_49 : trip.sl.r_49 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 7).a := by
  simp -proj only [trip.sl.r_49, View.readCov_cons_toLoadRect, View.readCov_skip, readAt_hit, readAt_skip, d1, d1', d80, d80', d256, d256', k0_pay110, k0_pay112, shapeCast_id, trip_r_34 (arg3 := arg3) (arg4 := arg4) (arg6 := arg6) (k0_t1 := k0_t1) (k := k) (f3 := f3) (f4 := f4) (f6 := f6) hs, trip_r_44 (arg4 := arg4) (k0_t1 := k0_t1) (k := k) (f4 := f4) hs, trip_v1082 (arg3 := arg3) (arg4 := arg4) (arg6 := arg6) (k0_t1 := k0_t1) (k := k) (f3 := f3) (f4 := f4) (f6 := f6) hs, trip_v1087 (arg3 := arg3) (arg4 := arg4) (arg6 := arg6) (k0_t1 := k0_t1) (k := k) (f3 := f3) (f4 := f4) (f6 := f6) hs, trip_v1094 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 6).m (s1.after (keysAt c arg3 f3 k) (valsAt c arg4 f4 k0_t1 k) (arg6.view.readAt (Elt F) hi128.toLoadRect f6) 5).xB = (s1.after (keysAt c arg3 f3 k) (valsAt c arg4 f4 k0_t1 k) (arg6.view.readAt (Elt F) hi128.toLoadRect f6) 7).m from fold_m (keysAt c arg3 f3 k) (valsAt c arg4 f4 k0_t1 k) (arg6.view.readAt (Elt F) hi128.toLoadRect f6) s1 4)]
  exact fold_a (keysAt c arg3 f3 k) (valsAt c arg4 f4 k0_t1 k) (arg6.view.readAt (Elt F) hi128.toLoadRect f6) s1 4

theorem trip_r_51 : trip.sl.r_51 c arg4 k0_t1 k f4 = valMat ((valsAt c arg4 f4 k0_t1 k) 7) := by
  simp -proj only [trip.sl.r_51, View.readCov_cons_toLoadRect, View.readCov_skip, readAt_hit, readAt_skip, d1, d1', d80, d80', d256, d256', k0_pay115, shapeCast_id, hs.m0, hs.m1, hs.a0, hs.a1, hs.sA0, hs.sA1, hs.sB0, hs.sB1]
  exact rfl

theorem trip_r_53 : trip.sl.r_53 c arg3 arg6 arg7 k s0.xA s1.xA s0.xB s1.xB f3 f6 f7 = (s0.after (keysAt c arg3 f3 k) (valsAt c arg4 f4 k0_t1 k) (arg6.view.readAt (Elt F) lo128.toLoadRect f6) 8).m := by
  simp -proj only [trip.sl.r_53, View.readCov_cons_toLoadRect, View.readCov_skip, readAt_hit, readAt_skip, d1, d1', d80, d80', d256, d256', k0_pay119, shapeCast_id, trip_r_38 (arg3 := arg3) (arg4 := arg4) (arg6 := arg6) (k0_t1 := k0_t1) (k := k) (f3 := f3) (f4 := f4) (f6 := f6) hs, trip_v1125 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 7).m (s0.after (keysAt c arg3 f3 k) (valsAt c arg4 f4 k0_t1 k) (arg6.view.readAt (Elt F) lo128.toLoadRect f6) 6).xB = (s0.after (keysAt c arg3 f3 k) (valsAt c arg4 f4 k0_t1 k) (arg6.view.readAt (Elt F) lo128.toLoadRect f6) 8).m from fold_m (keysAt c arg3 f3 k) (valsAt c arg4 f4 k0_t1 k) (arg6.view.readAt (Elt F) lo128.toLoadRect f6) s0 5)]

theorem trip_v1130 : trip.sl.v1130 c arg3 arg6 arg12 k f3 f6 = (s0.after (keysAt c arg3 f3 k) (valsAt c arg4 f4 k0_t1 k) (arg6.view.readAt (Elt F) lo128.toLoadRect f6) 6).sB := by
  simp -proj only [trip.sl.v1130, trip.sl.H12_4, trip.sl.H12_2, View.readCov_cons_toLoadRect, View.readCov_skip, readAt_hit, readAt_skip, d1, d1', d80, d80', d256, d256', k0_pay18, k0_pay20, k0_pay21, k0_pay27, k0_pay28, k0_pay82, k0_pay84, k0_pay85, k0_pay91, k0_pay92, shapeCast_id, trip_r_36 (arg3 := arg3) (k := k) (f3 := f3) hs, trip_r_8 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 5

theorem trip_r_54 : trip.sl.r_54 c arg3 arg6 arg7 arg12 k s0.xA s1.xA s0.xB s1.xB f3 f6 f7 = weights (s0.after (keysAt c arg3 f3 k) (valsAt c arg4 f4 k0_t1 k) (arg6.view.readAt (Elt F) lo128.toLoadRect f6) 8).m (s0.after (keysAt c arg3 f3 k) (valsAt c arg4 f4 k0_t1 k) (arg6.view.readAt (Elt F) lo128.toLoadRect f6) 6).sB := by
  simp -proj only [trip.sl.r_54, View.readCov_cons_toLoadRect, View.readCov_skip, readAt_hit, readAt_skip, d1, d1', d80, d80', d256, d256', k0_pay119, k0_pay121, shapeCast_id, trip_r_38 (arg3 := arg3) (arg4 := arg4) (arg6 := arg6) (k0_t1 := k0_t1) (k := k) (f3 := f3) (f4 := f4) (f6 := f6) hs, trip_v1125 (arg3 := arg3) (arg4 := arg4) (arg6 := arg6) (k0_t1 := k0_t1) (k := k) (f3 := f3) (f4 := f4) (f6 := f6) hs, trip_v1130 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 7).m (s0.after (keysAt c arg3 f3 k) (valsAt c arg4 f4 k0_t1 k) (arg6.view.readAt (Elt F) lo128.toLoadRect f6) 6).xB = (s0.after (keysAt c arg3 f3 k) (valsAt c arg4 f4 k0_t1 k) (arg6.view.readAt (Elt F) lo128.toLoadRect f6) 8).m from fold_m (keysAt c arg3 f3 k) (valsAt c arg4 f4 k0_t1 k) (arg6.view.readAt (Elt F) lo128.toLoadRect f6) s0 5)]
  exact rfl

theorem trip_v1137 : trip.sl.v1137 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 7).a := by
  simp -proj only [trip.sl.v1137, trip.sl.H8_14, trip.sl.H8_13, trip.sl.H8_12, View.readCov_cons_toLoadRect, View.readCov_skip, readAt_hit, readAt_skip, d1, d1', d80, d80', d256, d256', k0_pay97, k0_pay106, k0_pay113, shapeCast_id, trip_r_49 (arg3 := arg3) (arg4 := arg4) (arg6 := arg6) (k0_t1 := k0_t1) (k := k) (f3 := f3) (f4 := f4) (f6 := f6) hs, trip_r_44 (arg4 := arg4) (k0_t1 := k0_t1) (k := k) (f4 := f4) hs, trip_v1055 (arg3 := arg3) (arg4 := arg4) (arg6 := arg6) (k0_t1 := k0_t1) (k := k) (f3 := f3) (f4 := f4) (f6 := f6) hs, trip_r_46 (arg3 := arg3) (arg4 := arg4) (arg6 := arg6) (k0_t1 := k0_t1) (k := k) (f3 := f3) (f4 := f4) (f6 := f6) hs, trip_r_47 (arg3 := arg3) (arg4 := arg4) (arg6 := arg6) (k0_t1 := k0_t1) (k := k) (f3 := f3) (f4 := f4) (f6 := f6) hs, trip_v1067 (arg3 := arg3) (arg4 := arg4) (arg6 := arg6) (k0_t1 := k0_t1) (k := k) (f3 := f3) (f4 := f4) (f6 := f6) hs, trip_r_42 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 6).m (s0.after (keysAt c arg3 f3 k) (valsAt c arg4 f4 k0_t1 k) (arg6.view.readAt (Elt F) lo128.toLoadRect f6) 5).xB = (s0.after (keysAt c arg3 f3 k) (valsAt c arg4 f4 k0_t1 k) (arg6.view.readAt (Elt F) lo128.toLoadRect f6) 7).m from fold_m (keysAt c arg3 f3 k) (valsAt c arg4 f4 k0_t1 k) (arg6.view.readAt (Elt F) lo128.toLoadRect f6) s0 4)]
  exact fold_a (keysAt c arg3 f3 k) (valsAt c arg4 f4 k0_t1 k) (arg6.view.readAt (Elt F) lo128.toLoadRect f6) s0 4

theorem trip_v1157 : trip.sl.v1157 c arg3 arg6 arg12 k f3 f6 = (s1.after (keysAt c arg3 f3 k) (valsAt c arg4 f4 k0_t1 k) (arg6.view.readAt (Elt F) hi128.toLoadRect f6) 6).sB := by
  simp -proj only [trip.sl.v1157, trip.sl.H12_4, trip.sl.H12_2, View.readCov_cons_toLoadRect, View.readCov_skip, readAt_hit, readAt_skip, d1, d1', d80, d80', d256, d256', k0_pay18, k0_pay20, k0_pay21, k0_pay27, k0_pay28, k0_pay82, k0_pay84, k0_pay85, k0_pay91, k0_pay92, shapeCast_id, trip_r_36 (arg3 := arg3) (k := k) (f3 := f3) hs, trip_r_8 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 5

theorem trip_v1164 : trip.sl.v1164 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 7).a := by
  simp -proj only [trip.sl.v1164, trip.sl.H8_15, trip.sl.H8_14, trip.sl.H8_13, View.readCov_cons_toLoadRect, View.readCov_skip, readAt_hit, readAt_skip, d1, d1', d80, d80', d256, d256', k0_pay106, k0_pay113, k0_pay122, shapeCast_id, trip_r_51 (arg4 := arg4) (k0_t1 := k0_t1) (k := k) (f4 := f4) hs, trip_v1125 (arg3 := arg3) (arg4 := arg4) (arg6 := arg6) (k0_t1 := k0_t1) (k := k) (f3 := f3) (f4 := f4) (f6 := f6) hs, trip_r_53 (arg3 := arg3) (arg4 := arg4) (arg6 := arg6) (k0_t1 := k0_t1) (k := k) (f3 := f3) (f4 := f4) (f6 := f6) hs, trip_r_54 (arg3 := arg3) (arg4 := arg4) (arg6 := arg6) (k0_t1 := k0_t1) (k := k) (f3 := f3) (f4 := f4) (f6 := f6) hs, trip_v1137 (arg3 := arg3) (arg4 := arg4) (arg6 := arg6) (k0_t1 := k0_t1) (k := k) (f3 := f3) (f4 := f4) (f6 := f6) hs, trip_r_49 (arg3 := arg3) (arg4 := arg4) (arg6 := arg6) (k0_t1 := k0_t1) (k := k) (f3 := f3) (f4 := f4) (f6 := f6) hs, trip_r_44 (arg4 := arg4) (k0_t1 := k0_t1) (k := k) (f4 := f4) hs, trip_v1055 (arg3 := arg3) (arg4 := arg4) (arg6 := arg6) (k0_t1 := k0_t1) (k := k) (f3 := f3) (f4 := f4) (f6 := f6) hs, trip_r_46 (arg3 := arg3) (arg4 := arg4) (arg6 := arg6) (k0_t1 := k0_t1) (k := k) (f3 := f3) (f4 := f4) (f6 := f6) hs, trip_r_47 (arg3 := arg3) (arg4 := arg4) (arg6 := arg6) (k0_t1 := k0_t1) (k := k) (f3 := f3) (f4 := f4) (f6 := f6) hs, trip_v1067 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_56 : trip.sl.r_56 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 8).a := by
  simp -proj only [trip.sl.r_56, View.readCov_cons_toLoadRect, View.readCov_skip, readAt_hit, readAt_skip, d1, d1', d80, d80', d256, d256', k0_pay126, k0_pay128, shapeCast_id, trip_r_41 (arg3 := arg3) (arg4 := arg4) (arg6 := arg6) (k0_t1 := k0_t1) (k := k) (f3 := f3) (f4 := f4) (f6 := f6) hs, trip_r_51 (arg4 := arg4) (k0_t1 := k0_t1) (k := k) (f4 := f4) hs, trip_v1152 (arg3 := arg3) (arg4 := arg4) (arg6 := arg6) (k0_t1 := k0_t1) (k := k) (f3 := f3) (f4 := f4) (f6 := f6) hs, trip_v1157 (arg3 := arg3) (arg4 := arg4) (arg6 := arg6) (k0_t1 := k0_t1) (k := k) (f3 := f3) (f4 := f4) (f6 := f6) hs, trip_v1164 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 7).m (s1.after (keysAt c arg3 f3 k) (valsAt c arg4 f4 k0_t1 k) (arg6.view.readAt (Elt F) hi128.toLoadRect f6) 6).xB = (s1.after (keysAt c arg3 f3 k) (valsAt c arg4 f4 k0_t1 k) (arg6.view.readAt (Elt F) hi128.toLoadRect f6) 8).m from fold_m (keysAt c arg3 f3 k) (valsAt c arg4 f4 k0_t1 k) (arg6.view.readAt (Elt F) hi128.toLoadRect f6) s1 5)]
  exact fold_a (keysAt c arg3 f3 k) (valsAt c arg4 f4 k0_t1 k) (arg6.view.readAt (Elt F) hi128.toLoadRect f6) s1 5

theorem trip_r_58 : trip.sl.r_58 c arg4 k0_t1 k f4 = valMat ((valsAt c arg4 f4 k0_t1 k) 8) := by
  simp -proj only [trip.sl.r_58, View.readCov_cons_toLoadRect, View.readCov_skip, readAt_hit, readAt_skip, d1, d1', d80, d80', d256, d256', k0_pay131, shapeCast_id, hs.m0, hs.m1, hs.a0, hs.a1, hs.sA0, hs.sA1, hs.sB0, hs.sB1]
  exact rfl

theorem trip_r_60 : trip.sl.r_60 c arg3 arg6 arg7 k s0.xA s1.xA s0.xB s1.xB f3 f6 f7 = (s0.after (keysAt c arg3 f3 k) (valsAt c arg4 f4 k0_t1 k) (arg6.view.readAt (Elt F) lo128.toLoadRect f6) 9).m := by
  simp -proj only [trip.sl.r_60, View.readCov_cons_toLoadRect, View.readCov_skip, readAt_hit, readAt_skip, d1, d1', d80, d80', d256, d256', k0_pay135, shapeCast_id, trip_r_45 (arg3 := arg3) (arg4 := arg4) (arg6 := arg6) (k0_t1 := k0_t1) (k := k) (f3 := f3) (f4 := f4) (f6 := f6) hs, trip_v1195 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 8).m (s0.after (keysAt c arg3 f3 k) (valsAt c arg4 f4 k0_t1 k) (arg6.view.readAt (Elt F) lo128.toLoadRect f6) 7).xB = (s0.after (keysAt c arg3 f3 k) (valsAt c arg4 f4 k0_t1 k) (arg6.view.readAt (Elt F) lo128.toLoadRect f6) 9).m from fold_m (keysAt c arg3 f3 k) (valsAt c arg4 f4 k0_t1 k) (arg6.view.readAt (Elt F) lo128.toLoadRect f6) s0 6)]

theorem trip_v1200 : trip.sl.v1200 c arg3 arg6 arg9 k f3 f6 = (s0.after (keysAt c arg3 f3 k) (valsAt c arg4 f4 k0_t1 k) (arg6.view.readAt (Elt F) lo128.toLoadRect f6) 7).sB := by
  simp -proj only [trip.sl.v1200, trip.sl.H9_4, trip.sl.H9_2, View.readCov_cons_toLoadRect, View.readCov_skip, readAt_hit, readAt_skip, d1, d1', d80, d80', d256, d256', k0_pay34, k0_pay36, k0_pay37, k0_pay43, k0_pay44, k0_pay98, k0_pay100, k0_pay101, k0_pay107, k0_pay108, shapeCast_id, trip_r_43 (arg3 := arg3) (k := k) (f3 := f3) hs, trip_r_15 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 6

theorem trip_r_61 : trip.sl.r_61 c arg3 arg6 arg7 arg9 k s0.xA s1.xA s0.xB s1.xB f3 f6 f7 = weights (s0.after (keysAt c arg3 f3 k) (valsAt c arg4 f4 k0_t1 k) (arg6.view.readAt (Elt F) lo128.toLoadRect f6) 9).m (s0.after (keysAt c arg3 f3 k) (valsAt c arg4 f4 k0_t1 k) (arg6.view.readAt (Elt F) lo128.toLoadRect f6) 7).sB := by
  simp -proj only [trip.sl.r_61, View.readCov_cons_toLoadRect, View.readCov_skip, readAt_hit, readAt_skip, d1, d1', d80, d80', d256, d256', k0_pay135, k0_pay137, shapeCast_id, trip_r_45 (arg3 := arg3) (arg4 := arg4) (arg6 := arg6) (k0_t1 := k0_t1) (k := k) (f3 := f3) (f4 := f4) (f6 := f6) hs, trip_v1195 (arg3 := arg3) (arg4 := arg4) (arg6 := arg6) (k0_t1 := k0_t1) (k := k) (f3 := f3) (f4 := f4) (f6 := f6) hs, trip_v1200 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 8).m (s0.after (keysAt c arg3 f3 k) (valsAt c arg4 f4 k0_t1 k) (arg6.view.readAt (Elt F) lo128.toLoadRect f6) 7).xB = (s0.after (keysAt c arg3 f3 k) (valsAt c arg4 f4 k0_t1 k) (arg6.view.readAt (Elt F) lo128.toLoadRect f6) 9).m from fold_m (keysAt c arg3 f3 k) (valsAt c arg4 f4 k0_t1 k) (arg6.view.readAt (Elt F) lo128.toLoadRect f6) s0 6)]
  exact rfl

theorem trip_v1207 : trip.sl.v1207 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 8).a := by
  simp -proj only [trip.sl.v1207, trip.sl.H8_16, trip.sl.H8_15, trip.sl.H8_14, View.readCov_cons_toLoadRect, View.readCov_skip, readAt_hit, readAt_skip, d1, d1', d80, d80', d256, d256', k0_pay113, k0_pay122, k0_pay129, shapeCast_id, trip_r_56 (arg3 := arg3) (arg4 := arg4) (arg6 := arg6) (k0_t1 := k0_t1) (k := k) (f3 := f3) (f4 := f4) (f6 := f6) hs, trip_r_51 (arg4 := arg4) (k0_t1 := k0_t1) (k := k) (f4 := f4) hs, trip_v1125 (arg3 := arg3) (arg4 := arg4) (arg6 := arg6) (k0_t1 := k0_t1) (k := k) (f3 := f3) (f4 := f4) (f6 := f6) hs, trip_r_53 (arg3 := arg3) (arg4 := arg4) (arg6 := arg6) (k0_t1 := k0_t1) (k := k) (f3 := f3) (f4 := f4) (f6 := f6) hs, trip_r_54 (arg3 := arg3) (arg4 := arg4) (arg6 := arg6) (k0_t1 := k0_t1) (k := k) (f3 := f3) (f4 := f4) (f6 := f6) hs, trip_v1137 (arg3 := arg3) (arg4 := arg4) (arg6 := arg6) (k0_t1 := k0_t1) (k := k) (f3 := f3) (f4 := f4) (f6 := f6) hs, trip_r_49 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 7).m (s0.after (keysAt c arg3 f3 k) (valsAt c arg4 f4 k0_t1 k) (arg6.view.readAt (Elt F) lo128.toLoadRect f6) 6).xB = (s0.after (keysAt c arg3 f3 k) (valsAt c arg4 f4 k0_t1 k) (arg6.view.readAt (Elt F) lo128.toLoadRect f6) 8).m from fold_m (keysAt c arg3 f3 k) (valsAt c arg4 f4 k0_t1 k) (arg6.view.readAt (Elt F) lo128.toLoadRect f6) s0 5)]
  exact fold_a (keysAt c arg3 f3 k) (valsAt c arg4 f4 k0_t1 k) (arg6.view.readAt (Elt F) lo128.toLoadRect f6) s0 5

theorem trip_v1227 : trip.sl.v1227 c arg3 arg6 arg9 k f3 f6 = (s1.after (keysAt c arg3 f3 k) (valsAt c arg4 f4 k0_t1 k) (arg6.view.readAt (Elt F) hi128.toLoadRect f6) 7).sB := by
  simp -proj only [trip.sl.v1227, trip.sl.H9_4, trip.sl.H9_2, View.readCov_cons_toLoadRect, View.readCov_skip, readAt_hit, readAt_skip, d1, d1', d80, d80', d256, d256', k0_pay34, k0_pay36, k0_pay37, k0_pay43, k0_pay44, k0_pay98, k0_pay100, k0_pay101, k0_pay107, k0_pay108, shapeCast_id, trip_r_43 (arg3 := arg3) (k := k) (f3 := f3) hs, trip_r_15 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 6

theorem trip_v1234 : trip.sl.v1234 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 8).a := by
  simp -proj only [trip.sl.v1234, trip.sl.H8_17, trip.sl.H8_16, trip.sl.H8_15, View.readCov_cons_toLoadRect, View.readCov_skip, readAt_hit, readAt_skip, d1, d1', d80, d80', d256, d256', k0_pay122, k0_pay129, k0_pay138, shapeCast_id, trip_r_58 (arg4 := arg4) (k0_t1 := k0_t1) (k := k) (f4 := f4) hs, trip_v1195 (arg3 := arg3) (arg4 := arg4) (arg6 := arg6) (k0_t1 := k0_t1) (k := k) (f3 := f3) (f4 := f4) (f6 := f6) hs, trip_r_60 (arg3 := arg3) (arg4 := arg4) (arg6 := arg6) (k0_t1 := k0_t1) (k := k) (f3 := f3) (f4 := f4) (f6 := f6) hs, trip_r_61 (arg3 := arg3) (arg4 := arg4) (arg6 := arg6) (k0_t1 := k0_t1) (k := k) (f3 := f3) (f4 := f4) (f6 := f6) hs, trip_v1207 (arg3 := arg3) (arg4 := arg4) (arg6 := arg6) (k0_t1 := k0_t1) (k := k) (f3 := f3) (f4 := f4) (f6 := f6) hs, trip_r_56 (arg3 := arg3) (arg4 := arg4) (arg6 := arg6) (k0_t1 := k0_t1) (k := k) (f3 := f3) (f4 := f4) (f6 := f6) hs, trip_r_51 (arg4 := arg4) (k0_t1 := k0_t1) (k := k) (f4 := f4) hs, trip_v1125 (arg3 := arg3) (arg4 := arg4) (arg6 := arg6) (k0_t1 := k0_t1) (k := k) (f3 := f3) (f4 := f4) (f6 := f6) hs, trip_r_53 (arg3 := arg3) (arg4 := arg4) (arg6 := arg6) (k0_t1 := k0_t1) (k := k) (f3 := f3) (f4 := f4) (f6 := f6) hs, trip_r_54 (arg3 := arg3) (arg4 := arg4) (arg6 := arg6) (k0_t1 := k0_t1) (k := k) (f3 := f3) (f4 := f4) (f6 := f6) hs, trip_v1137 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_63 : trip.sl.r_63 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 9).a := by
  simp -proj only [trip.sl.r_63, View.readCov_cons_toLoadRect, View.readCov_skip, readAt_hit, readAt_skip, d1, d1', d80, d80', d256, d256', k0_pay142, k0_pay144, shapeCast_id, trip_r_48 (arg3 := arg3) (arg4 := arg4) (arg6 := arg6) (k0_t1 := k0_t1) (k := k) (f3 := f3) (f4 := f4) (f6 := f6) hs, trip_r_58 (arg4 := arg4) (k0_t1 := k0_t1) (k := k) (f4 := f4) hs, trip_v1222 (arg3 := arg3) (arg4 := arg4) (arg6 := arg6) (k0_t1 := k0_t1) (k := k) (f3 := f3) (f4 := f4) (f6 := f6) hs, trip_v1227 (arg3 := arg3) (arg4 := arg4) (arg6 := arg6) (k0_t1 := k0_t1) (k := k) (f3 := f3) (f4 := f4) (f6 := f6) hs, trip_v1234 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 8).m (s1.after (keysAt c arg3 f3 k) (valsAt c arg4 f4 k0_t1 k) (arg6.view.readAt (Elt F) hi128.toLoadRect f6) 7).xB = (s1.after (keysAt c arg3 f3 k) (valsAt c arg4 f4 k0_t1 k) (arg6.view.readAt (Elt F) hi128.toLoadRect f6) 9).m from fold_m (keysAt c arg3 f3 k) (valsAt c arg4 f4 k0_t1 k) (arg6.view.readAt (Elt F) hi128.toLoadRect f6) s1 6)]
  exact fold_a (keysAt c arg3 f3 k) (valsAt c arg4 f4 k0_t1 k) (arg6.view.readAt (Elt F) hi128.toLoadRect f6) s1 6

theorem trip_r_65 : trip.sl.r_65 c arg4 k0_t1 k f4 = valMat ((valsAt c arg4 f4 k0_t1 k) 9) := by
  simp -proj only [trip.sl.r_65, View.readCov_cons_toLoadRect, View.readCov_skip, readAt_hit, readAt_skip, d1, d1', d80, d80', d256, d256', k0_pay147, shapeCast_id, hs.m0, hs.m1, hs.a0, hs.a1, hs.sA0, hs.sA1, hs.sB0, hs.sB1]
  exact rfl

theorem trip_r_67 : trip.sl.r_67 c arg3 arg6 arg7 k s0.xA s1.xA s0.xB s1.xB f3 f6 f7 = (s0.after (keysAt c arg3 f3 k) (valsAt c arg4 f4 k0_t1 k) (arg6.view.readAt (Elt F) lo128.toLoadRect f6) 10).m := by
  simp -proj only [trip.sl.r_67, View.readCov_cons_toLoadRect, View.readCov_skip, readAt_hit, readAt_skip, d1, d1', d80, d80', d256, d256', k0_pay151, shapeCast_id, trip_r_52 (arg3 := arg3) (arg4 := arg4) (arg6 := arg6) (k0_t1 := k0_t1) (k := k) (f3 := f3) (f4 := f4) (f6 := f6) hs, trip_v1265 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 9).m (s0.after (keysAt c arg3 f3 k) (valsAt c arg4 f4 k0_t1 k) (arg6.view.readAt (Elt F) lo128.toLoadRect f6) 8).xB = (s0.after (keysAt c arg3 f3 k) (valsAt c arg4 f4 k0_t1 k) (arg6.view.readAt (Elt F) lo128.toLoadRect f6) 10).m from fold_m (keysAt c arg3 f3 k) (valsAt c arg4 f4 k0_t1 k) (arg6.view.readAt (Elt F) lo128.toLoadRect f6) s0 7)]

theorem trip_v1270 : trip.sl.v1270 c arg3 arg6 arg10 k f3 f6 = (s0.after (keysAt c arg3 f3 k) (valsAt c arg4 f4 k0_t1 k) (arg6.view.readAt (Elt F) lo128.toLoadRect f6) 8).sB := by
  simp -proj only [trip.sl.v1270, trip.sl.H10_4, trip.sl.H10_2, View.readCov_cons_toLoadRect, View.readCov_skip, readAt_hit, readAt_skip, d1, d1', d80, d80', d256, d256', k0_pay50, k0_pay52, k0_pay53, k0_pay59, k0_pay60, k0_pay114, k0_pay116, k0_pay117, k0_pay123, k0_pay124, shapeCast_id, trip_r_50 (arg3 := arg3) (k := k) (f3 := f3) hs, trip_r_22 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 7

theorem trip_r_68 : trip.sl.r_68 c arg3 arg6 arg7 arg10 k s0.xA s1.xA s0.xB s1.xB f3 f6 f7 = weights (s0.after (keysAt c arg3 f3 k) (valsAt c arg4 f4 k0_t1 k) (arg6.view.readAt (Elt F) lo128.toLoadRect f6) 10).m (s0.after (keysAt c arg3 f3 k) (valsAt c arg4 f4 k0_t1 k) (arg6.view.readAt (Elt F) lo128.toLoadRect f6) 8).sB := by
  simp -proj only [trip.sl.r_68, View.readCov_cons_toLoadRect, View.readCov_skip, readAt_hit, readAt_skip, d1, d1', d80, d80', d256, d256', k0_pay151, k0_pay153, shapeCast_id, trip_r_52 (arg3 := arg3) (arg4 := arg4) (arg6 := arg6) (k0_t1 := k0_t1) (k := k) (f3 := f3) (f4 := f4) (f6 := f6) hs, trip_v1265 (arg3 := arg3) (arg4 := arg4) (arg6 := arg6) (k0_t1 := k0_t1) (k := k) (f3 := f3) (f4 := f4) (f6 := f6) hs, trip_v1270 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 9).m (s0.after (keysAt c arg3 f3 k) (valsAt c arg4 f4 k0_t1 k) (arg6.view.readAt (Elt F) lo128.toLoadRect f6) 8).xB = (s0.after (keysAt c arg3 f3 k) (valsAt c arg4 f4 k0_t1 k) (arg6.view.readAt (Elt F) lo128.toLoadRect f6) 10).m from fold_m (keysAt c arg3 f3 k) (valsAt c arg4 f4 k0_t1 k) (arg6.view.readAt (Elt F) lo128.toLoadRect f6) s0 7)]
  exact rfl

theorem trip_v1277 : trip.sl.v1277 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 9).a := by
  simp -proj only [trip.sl.v1277, trip.sl.H8_18, trip.sl.H8_17, trip.sl.H8_16, View.readCov_cons_toLoadRect, View.readCov_skip, readAt_hit, readAt_skip, d1, d1', d80, d80', d256, d256', k0_pay129, k0_pay138, k0_pay145, shapeCast_id, trip_r_63 (arg3 := arg3) (arg4 := arg4) (arg6 := arg6) (k0_t1 := k0_t1) (k := k) (f3 := f3) (f4 := f4) (f6 := f6) hs, trip_r_58 (arg4 := arg4) (k0_t1 := k0_t1) (k := k) (f4 := f4) hs, trip_v1195 (arg3 := arg3) (arg4 := arg4) (arg6 := arg6) (k0_t1 := k0_t1) (k := k) (f3 := f3) (f4 := f4) (f6 := f6) hs, trip_r_60 (arg3 := arg3) (arg4 := arg4) (arg6 := arg6) (k0_t1 := k0_t1) (k := k) (f3 := f3) (f4 := f4) (f6 := f6) hs, trip_r_61 (arg3 := arg3) (arg4 := arg4) (arg6 := arg6) (k0_t1 := k0_t1) (k := k) (f3 := f3) (f4 := f4) (f6 := f6) hs, trip_v1207 (arg3 := arg3) (arg4 := arg4) (arg6 := arg6) (k0_t1 := k0_t1) (k := k) (f3 := f3) (f4 := f4) (f6 := f6) hs, trip_r_56 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 8).m (s0.after (keysAt c arg3 f3 k) (valsAt c arg4 f4 k0_t1 k) (arg6.view.readAt (Elt F) lo128.toLoadRect f6) 7).xB = (s0.after (keysAt c arg3 f3 k) (valsAt c arg4 f4 k0_t1 k) (arg6.view.readAt (Elt F) lo128.toLoadRect f6) 9).m from fold_m (keysAt c arg3 f3 k) (valsAt c arg4 f4 k0_t1 k) (arg6.view.readAt (Elt F) lo128.toLoadRect f6) s0 6)]
  exact fold_a (keysAt c arg3 f3 k) (valsAt c arg4 f4 k0_t1 k) (arg6.view.readAt (Elt F) lo128.toLoadRect f6) s0 6

theorem trip_v1297 : trip.sl.v1297 c arg3 arg6 arg10 k f3 f6 = (s1.after (keysAt c arg3 f3 k) (valsAt c arg4 f4 k0_t1 k) (arg6.view.readAt (Elt F) hi128.toLoadRect f6) 8).sB := by
  simp -proj only [trip.sl.v1297, trip.sl.H10_4, trip.sl.H10_2, View.readCov_cons_toLoadRect, View.readCov_skip, readAt_hit, readAt_skip, d1, d1', d80, d80', d256, d256', k0_pay50, k0_pay52, k0_pay53, k0_pay59, k0_pay60, k0_pay114, k0_pay116, k0_pay117, k0_pay123, k0_pay124, shapeCast_id, trip_r_50 (arg3 := arg3) (k := k) (f3 := f3) hs, trip_r_22 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 7

theorem trip_v1304 : trip.sl.v1304 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 9).a := by
  simp -proj only [trip.sl.v1304, trip.sl.H8_19, trip.sl.H8_18, trip.sl.H8_17, View.readCov_cons_toLoadRect, View.readCov_skip, readAt_hit, readAt_skip, d1, d1', d80, d80', d256, d256', k0_pay138, k0_pay145, k0_pay154, shapeCast_id, trip_r_65 (arg4 := arg4) (k0_t1 := k0_t1) (k := k) (f4 := f4) hs, trip_v1265 (arg3 := arg3) (arg4 := arg4) (arg6 := arg6) (k0_t1 := k0_t1) (k := k) (f3 := f3) (f4 := f4) (f6 := f6) hs, trip_r_67 (arg3 := arg3) (arg4 := arg4) (arg6 := arg6) (k0_t1 := k0_t1) (k := k) (f3 := f3) (f4 := f4) (f6 := f6) hs, trip_r_68 (arg3 := arg3) (arg4 := arg4) (arg6 := arg6) (k0_t1 := k0_t1) (k := k) (f3 := f3) (f4 := f4) (f6 := f6) hs, trip_v1277 (arg3 := arg3) (arg4 := arg4) (arg6 := arg6) (k0_t1 := k0_t1) (k := k) (f3 := f3) (f4 := f4) (f6 := f6) hs, trip_r_63 (arg3 := arg3) (arg4 := arg4) (arg6 := arg6) (k0_t1 := k0_t1) (k := k) (f3 := f3) (f4 := f4) (f6 := f6) hs, trip_r_58 (arg4 := arg4) (k0_t1 := k0_t1) (k := k) (f4 := f4) hs, trip_v1195 (arg3 := arg3) (arg4 := arg4) (arg6 := arg6) (k0_t1 := k0_t1) (k := k) (f3 := f3) (f4 := f4) (f6 := f6) hs, trip_r_60 (arg3 := arg3) (arg4 := arg4) (arg6 := arg6) (k0_t1 := k0_t1) (k := k) (f3 := f3) (f4 := f4) (f6 := f6) hs, trip_r_61 (arg3 := arg3) (arg4 := arg4) (arg6 := arg6) (k0_t1 := k0_t1) (k := k) (f3 := f3) (f4 := f4) (f6 := f6) hs, trip_v1207 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_70 : trip.sl.r_70 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 10).a := by
  simp -proj only [trip.sl.r_70, View.readCov_cons_toLoadRect, View.readCov_skip, readAt_hit, readAt_skip, d1, d1', d80, d80', d256, d256', k0_pay158, k0_pay160, shapeCast_id, trip_r_55 (arg3 := arg3) (arg4 := arg4) (arg6 := arg6) (k0_t1 := k0_t1) (k := k) (f3 := f3) (f4 := f4) (f6 := f6) hs, trip_r_65 (arg4 := arg4) (k0_t1 := k0_t1) (k := k) (f4 := f4) hs, trip_v1292 (arg3 := arg3) (arg4 := arg4) (arg6 := arg6) (k0_t1 := k0_t1) (k := k) (f3 := f3) (f4 := f4) (f6 := f6) hs, trip_v1297 (arg3 := arg3) (arg4 := arg4) (arg6 := arg6) (k0_t1 := k0_t1) (k := k) (f3 := f3) (f4 := f4) (f6 := f6) hs, trip_v1304 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 9).m (s1.after (keysAt c arg3 f3 k) (valsAt c arg4 f4 k0_t1 k) (arg6.view.readAt (Elt F) hi128.toLoadRect f6) 8).xB = (s1.after (keysAt c arg3 f3 k) (valsAt c arg4 f4 k0_t1 k) (arg6.view.readAt (Elt F) hi128.toLoadRect f6) 10).m from fold_m (keysAt c arg3 f3 k) (valsAt c arg4 f4 k0_t1 k) (arg6.view.readAt (Elt F) hi128.toLoadRect f6) s1 7)]
  exact fold_a (keysAt c arg3 f3 k) (valsAt c arg4 f4 k0_t1 k) (arg6.view.readAt (Elt F) hi128.toLoadRect f6) s1 7

theorem trip_r_72 : trip.sl.r_72 c arg4 k0_t1 k f4 = valMat ((valsAt c arg4 f4 k0_t1 k) 10) := by
  simp -proj only [trip.sl.r_72, View.readCov_cons_toLoadRect, View.readCov_skip, readAt_hit, readAt_skip, d1, d1', d80, d80', d256, d256', k0_pay163, shapeCast_id, hs.m0, hs.m1, hs.a0, hs.a1, hs.sA0, hs.sA1, hs.sB0, hs.sB1]
  exact rfl

theorem trip_r_74 : trip.sl.r_74 c arg3 arg6 arg7 k s0.xA s1.xA s0.xB s1.xB f3 f6 f7 = (s0.after (keysAt c arg3 f3 k) (valsAt c arg4 f4 k0_t1 k) (arg6.view.readAt (Elt F) lo128.toLoadRect f6) 11).m := by
  simp -proj only [trip.sl.r_74, View.readCov_cons_toLoadRect, View.readCov_skip, readAt_hit, readAt_skip, d1, d1', d80, d80', d256, d256', k0_pay167, shapeCast_id, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 10).m (s0.after (keysAt c arg3 f3 k) (valsAt c arg4 f4 k0_t1 k) (arg6.view.readAt (Elt F) lo128.toLoadRect f6) 9).xB = (s0.after (keysAt c arg3 f3 k) (valsAt c arg4 f4 k0_t1 k) (arg6.view.readAt (Elt F) lo128.toLoadRect f6) 11).m from fold_m (keysAt c arg3 f3 k) (valsAt c arg4 f4 k0_t1 k) (arg6.view.readAt (Elt F) lo128.toLoadRect f6) s0 8)]

theorem trip_v1340 : trip.sl.v1340 c arg3 arg6 arg11 k f3 f6 = (s0.after (keysAt c arg3 f3 k) (valsAt c arg4 f4 k0_t1 k) (arg6.view.readAt (Elt F) lo128.toLoadRect f6) 9).sB := by
  simp -proj only [trip.sl.v1340, trip.sl.H11_6, trip.sl.H11_4, trip.sl.H11_2, View.readCov_cons_toLoadRect, View.readCov_skip, readAt_hit, readAt_skip, d1, d1', d80, d80', d256, d256', k0_pay2, k0_pay4, k0_pay5, k0_pay11, k0_pay12, k0_pay66, k0_pay68, k0_pay69, k0_pay75, k0_pay76, k0_pay130, k0_pay132, k0_pay133, k0_pay139, k0_pay140, shapeCast_id, trip_r_57 (arg3 := arg3) (k := k) (f3 := f3) hs, trip_r_29 (arg3 := arg3) (k := k) (f3 := f3) hs, trip_r (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 8

theorem trip_r_75 : trip.sl.r_75 c arg3 arg6 arg7 arg11 k s0.xA s1.xA s0.xB s1.xB f3 f6 f7 = weights (s0.after (keysAt c arg3 f3 k) (valsAt c arg4 f4 k0_t1 k) (arg6.view.readAt (Elt F) lo128.toLoadRect f6) 11).m (s0.after (keysAt c arg3 f3 k) (valsAt c arg4 f4 k0_t1 k) (arg6.view.readAt (Elt F) lo128.toLoadRect f6) 9).sB := by
  simp -proj only [trip.sl.r_75, View.readCov_cons_toLoadRect, View.readCov_skip, readAt_hit, readAt_skip, d1, d1', d80, d80', d256, d256', k0_pay167, k0_pay169, shapeCast_id, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, trip_v1340 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 10).m (s0.after (keysAt c arg3 f3 k) (valsAt c arg4 f4 k0_t1 k) (arg6.view.readAt (Elt F) lo128.toLoadRect f6) 9).xB = (s0.after (keysAt c arg3 f3 k) (valsAt c arg4 f4 k0_t1 k) (arg6.view.readAt (Elt F) lo128.toLoadRect f6) 11).m from fold_m (keysAt c arg3 f3 k) (valsAt c arg4 f4 k0_t1 k) (arg6.view.readAt (Elt F) lo128.toLoadRect f6) s0 8)]
  exact rfl

theorem trip_v1347 : trip.sl.v1347 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 10).a := by
  simp -proj only [trip.sl.v1347, trip.sl.H8_20, trip.sl.H8_19, trip.sl.H8_18, View.readCov_cons_toLoadRect, View.readCov_skip, readAt_hit, readAt_skip, d1, d1', d80, d80', d256, d256', k0_pay145, k0_pay154, k0_pay161, shapeCast_id, trip_r_70 (arg3 := arg3) (arg4 := arg4) (arg6 := arg6) (k0_t1 := k0_t1) (k := k) (f3 := f3) (f4 := f4) (f6 := f6) hs, trip_r_65 (arg4 := arg4) (k0_t1 := k0_t1) (k := k) (f4 := f4) hs, trip_v1265 (arg3 := arg3) (arg4 := arg4) (arg6 := arg6) (k0_t1 := k0_t1) (k := k) (f3 := f3) (f4 := f4) (f6 := f6) hs, trip_r_67 (arg3 := arg3) (arg4 := arg4) (arg6 := arg6) (k0_t1 := k0_t1) (k := k) (f3 := f3) (f4 := f4) (f6 := f6) hs, trip_r_68 (arg3 := arg3) (arg4 := arg4) (arg6 := arg6) (k0_t1 := k0_t1) (k := k) (f3 := f3) (f4 := f4) (f6 := f6) hs, trip_v1277 (arg3 := arg3) (arg4 := arg4) (arg6 := arg6) (k0_t1 := k0_t1) (k := k) (f3 := f3) (f4 := f4) (f6 := f6) hs, trip_r_63 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 9).m (s0.after (keysAt c arg3 f3 k) (valsAt c arg4 f4 k0_t1 k) (arg6.view.readAt (Elt F) lo128.toLoadRect f6) 8).xB = (s0.after (keysAt c arg3 f3 k) (valsAt c arg4 f4 k0_t1 k) (arg6.view.readAt (Elt F) lo128.toLoadRect f6) 10).m from fold_m (keysAt c arg3 f3 k) (valsAt c arg4 f4 k0_t1 k) (arg6.view.readAt (Elt F) lo128.toLoadRect f6) s0 7)]
  exact fold_a (keysAt c arg3 f3 k) (valsAt c arg4 f4 k0_t1 k) (arg6.view.readAt (Elt F) lo128.toLoadRect f6) s0 7

theorem trip_v1367 : trip.sl.v1367 c arg3 arg6 arg11 k f3 f6 = (s1.after (keysAt c arg3 f3 k) (valsAt c arg4 f4 k0_t1 k) (arg6.view.readAt (Elt F) hi128.toLoadRect f6) 9).sB := by
  simp -proj only [trip.sl.v1367, trip.sl.H11_6, trip.sl.H11_4, trip.sl.H11_2, View.readCov_cons_toLoadRect, View.readCov_skip, readAt_hit, readAt_skip, d1, d1', d80, d80', d256, d256', k0_pay2, k0_pay4, k0_pay5, k0_pay11, k0_pay12, k0_pay66, k0_pay68, k0_pay69, k0_pay75, k0_pay76, k0_pay130, k0_pay132, k0_pay133, k0_pay139, k0_pay140, shapeCast_id, trip_r_57 (arg3 := arg3) (k := k) (f3 := f3) hs, trip_r_29 (arg3 := arg3) (k := k) (f3 := f3) hs, trip_r (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 8

theorem trip_v1374 : trip.sl.v1374 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 10).a := by
  simp -proj only [trip.sl.v1374, trip.sl.H8_21, trip.sl.H8_20, trip.sl.H8_19, View.readCov_cons_toLoadRect, View.readCov_skip, readAt_hit, readAt_skip, d1, d1', d80, d80', d256, d256', k0_pay154, k0_pay161, k0_pay170, shapeCast_id, trip_r_72 (arg4 := arg4) (k0_t1 := k0_t1) (k := k) (f4 := f4) hs, trip_v1335 (arg3 := arg3) (arg4 := arg4) (arg6 := arg6) (k0_t1 := k0_t1) (k := k) (f3 := f3) (f4 := f4) (f6 := f6) hs, trip_r_74 (arg3 := arg3) (arg4 := arg4) (arg6 := arg6) (k0_t1 := k0_t1) (k := k) (f3 := f3) (f4 := f4) (f6 := f6) hs, trip_r_75 (arg3 := arg3) (arg4 := arg4) (arg6 := arg6) (k0_t1 := k0_t1) (k := k) (f3 := f3) (f4 := f4) (f6 := f6) hs, trip_v1347 (arg3 := arg3) (arg4 := arg4) (arg6 := arg6) (k0_t1 := k0_t1) (k := k) (f3 := f3) (f4 := f4) (f6 := f6) hs, trip_r_70 (arg3 := arg3) (arg4 := arg4) (arg6 := arg6) (k0_t1 := k0_t1) (k := k) (f3 := f3) (f4 := f4) (f6 := f6) hs, trip_r_65 (arg4 := arg4) (k0_t1 := k0_t1) (k := k) (f4 := f4) hs, trip_v1265 (arg3 := arg3) (arg4 := arg4) (arg6 := arg6) (k0_t1 := k0_t1) (k := k) (f3 := f3) (f4 := f4) (f6 := f6) hs, trip_r_67 (arg3 := arg3) (arg4 := arg4) (arg6 := arg6) (k0_t1 := k0_t1) (k := k) (f3 := f3) (f4 := f4) (f6 := f6) hs, trip_r_68 (arg3 := arg3) (arg4 := arg4) (arg6 := arg6) (k0_t1 := k0_t1) (k := k) (f3 := f3) (f4 := f4) (f6 := f6) hs, trip_v1277 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_77 : trip.sl.r_77 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 11).a := by
  simp -proj only [trip.sl.r_77, View.readCov_cons_toLoadRect, View.readCov_skip, readAt_hit, readAt_skip, d1, d1', d80, d80', d256, d256', k0_pay174, k0_pay176, shapeCast_id, trip_r_62 (arg3 := arg3) (arg4 := arg4) (arg6 := arg6) (k0_t1 := k0_t1) (k := k) (f3 := f3) (f4 := f4) (f6 := f6) hs, trip_r_72 (arg4 := arg4) (k0_t1 := k0_t1) (k := k) (f4 := f4) hs, trip_v1362 (arg3 := arg3) (arg4 := arg4) (arg6 := arg6) (k0_t1 := k0_t1) (k := k) (f3 := f3) (f4 := f4) (f6 := f6) hs, trip_v1367 (arg3 := arg3) (arg4 := arg4) (arg6 := arg6) (k0_t1 := k0_t1) (k := k) (f3 := f3) (f4 := f4) (f6 := f6) hs, trip_v1374 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 10).m (s1.after (keysAt c arg3 f3 k) (valsAt c arg4 f4 k0_t1 k) (arg6.view.readAt (Elt F) hi128.toLoadRect f6) 9).xB = (s1.after (keysAt c arg3 f3 k) (valsAt c arg4 f4 k0_t1 k) (arg6.view.readAt (Elt F) hi128.toLoadRect f6) 11).m from fold_m (keysAt c arg3 f3 k) (valsAt c arg4 f4 k0_t1 k) (arg6.view.readAt (Elt F) hi128.toLoadRect f6) s1 8)]
  exact fold_a (keysAt c arg3 f3 k) (valsAt c arg4 f4 k0_t1 k) (arg6.view.readAt (Elt F) hi128.toLoadRect f6) s1 8

theorem trip_r_79 : trip.sl.r_79 c arg4 k0_t1 k f4 = valMat ((valsAt c arg4 f4 k0_t1 k) 11) := by
  simp -proj only [trip.sl.r_79, View.readCov_cons_toLoadRect, View.readCov_skip, readAt_hit, readAt_skip, d1, d1', d80, d80', d256, d256', k0_pay179, shapeCast_id, hs.m0, hs.m1, hs.a0, hs.a1, hs.sA0, hs.sA1, hs.sB0, hs.sB1]
  exact rfl

theorem trip_r_81 : trip.sl.r_81 c arg3 arg6 arg7 k s0.xA s1.xA s0.xB s1.xB f3 f6 f7 = (s0.after (keysAt c arg3 f3 k) (valsAt c arg4 f4 k0_t1 k) (arg6.view.readAt (Elt F) lo128.toLoadRect f6) 12).m := by
  simp -proj only [trip.sl.r_81, View.readCov_cons_toLoadRect, View.readCov_skip, readAt_hit, readAt_skip, d1, d1', d80, d80', d256, d256', k0_pay183, shapeCast_id, trip_r_66 (arg3 := arg3) (arg4 := arg4) (arg6 := arg6) (k0_t1 := k0_t1) (k := k) (f3 := f3) (f4 := f4) (f6 := f6) hs, trip_v1405 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 11).m (s0.after (keysAt c arg3 f3 k) (valsAt c arg4 f4 k0_t1 k) (arg6.view.readAt (Elt F) lo128.toLoadRect f6) 10).xB = (s0.after (keysAt c arg3 f3 k) (valsAt c arg4 f4 k0_t1 k) (arg6.view.readAt (Elt F) lo128.toLoadRect f6) 12).m from fold_m (keysAt c arg3 f3 k) (valsAt c arg4 f4 k0_t1 k) (arg6.view.readAt (Elt F) lo128.toLoadRect f6) s0 9)]

theorem trip_v1410 : trip.sl.v1410 c arg3 arg6 arg12 k f3 f6 = (s0.after (keysAt c arg3 f3 k) (valsAt c arg4 f4 k0_t1 k) (arg6.view.readAt (Elt F) lo128.toLoadRect f6) 10).sB := by
  simp -proj only [trip.sl.v1410, trip.sl.H12_6, trip.sl.H12_4, trip.sl.H12_2, View.readCov_cons_toLoadRect, View.readCov_skip, readAt_hit, readAt_skip, d1, d1', d80, d80', d256, d256', k0_pay18, k0_pay20, k0_pay21, k0_pay27, k0_pay28, k0_pay82, k0_pay84, k0_pay85, k0_pay91, k0_pay92, k0_pay146, k0_pay148, k0_pay149, k0_pay155, k0_pay156, shapeCast_id, trip_r_64 (arg3 := arg3) (k := k) (f3 := f3) hs, trip_r_36 (arg3 := arg3) (k := k) (f3 := f3) hs, trip_r_8 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) lo128.toLoadRect f6) s0 9

theorem trip_r_82 : trip.sl.r_82 c arg3 arg6 arg7 arg12 k s0.xA s1.xA s0.xB s1.xB f3 f6 f7 = weights (s0.after (keysAt c arg3 f3 k) (valsAt c arg4 f4 k0_t1 k) (arg6.view.readAt (Elt F) lo128.toLoadRect f6) 12).m (s0.after (keysAt c arg3 f3 k) (valsAt c arg4 f4 k0_t1 k) (arg6.view.readAt (Elt F) lo128.toLoadRect f6) 10).sB := by
  simp -proj only [trip.sl.r_82, View.readCov_cons_toLoadRect, View.readCov_skip, readAt_hit, readAt_skip, d1, d1', d80, d80', d256, d256', k0_pay183, k0_pay185, shapeCast_id, trip_r_66 (arg3 := arg3) (arg4 := arg4) (arg6 := arg6) (k0_t1 := k0_t1) (k := k) (f3 := f3) (f4 := f4) (f6 := f6) hs, trip_v1405 (arg3 := arg3) (arg4 := arg4) (arg6 := arg6) (k0_t1 := k0_t1) (k := k) (f3 := f3) (f4 := f4) (f6 := f6) hs, trip_v1410 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 11).m (s0.after (keysAt c arg3 f3 k) (valsAt c arg4 f4 k0_t1 k) (arg6.view.readAt (Elt F) lo128.toLoadRect f6) 10).xB = (s0.after (keysAt c arg3 f3 k) (valsAt c arg4 f4 k0_t1 k) (arg6.view.readAt (Elt F) lo128.toLoadRect f6) 12).m from fold_m (keysAt c arg3 f3 k) (valsAt c arg4 f4 k0_t1 k) (arg6.view.readAt (Elt F) lo128.toLoadRect f6) s0 9)]
  exact rfl

theorem trip_v1417 : trip.sl.v1417 c arg3 arg4 arg6 arg7 arg8 arg9 arg10 arg11 arg12 k0_t1 k s0.xA s1.xA s0.xB s1.xB f3 f4 f6 f7 f8 f9 f10 = (s0.after (keysAt c arg3 f3 k) (valsAt c arg4 f4 k0_t1 k) (arg6.view.readAt (Elt F) lo128.toLoadRect f6) 11).a := by
  simp -proj only [trip.sl.v1417, trip.sl.H8_22, trip.sl.H8_21, trip.sl.H8_20, View.readCov_cons_toLoadRect, View.readCov_skip, readAt_hit, readAt_skip, d1, d1', d80, d80', d256, d256', k0_pay161, k0_pay170, k0_pay177, shapeCast_id, trip_r_77 (arg3 := arg3) (arg4 := arg4) (arg6 := arg6) (k0_t1 := k0_t1) (k := k) (f3 := f3) (f4 := f4) (f6 := f6) hs, trip_r_72 (arg4 := arg4) (k0_t1 := k0_t1) (k := k) (f4 := f4) hs, trip_v1335 (arg3 := arg3) (arg4 := arg4) (arg6 := arg6) (k0_t1 := k0_t1) (k := k) (f3 := f3) (f4 := f4) (f6 := f6) hs, trip_r_74 (arg3 := arg3) (arg4 := arg4) (arg6 := arg6) (k0_t1 := k0_t1) (k := k) (f3 := f3) (f4 := f4) (f6 := f6) hs, trip_r_75 (arg3 := arg3) (arg4 := arg4) (arg6 := arg6) (k0_t1 := k0_t1) (k := k) (f3 := f3) (f4 := f4) (f6 := f6) hs, trip_v1347 (arg3 := arg3) (arg4 := arg4) (arg6 := arg6) (k0_t1 := k0_t1) (k := k) (f3 := f3) (f4 := f4) (f6 := f6) hs, trip_r_70 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 10).m (s0.after (keysAt c arg3 f3 k) (valsAt c arg4 f4 k0_t1 k) (arg6.view.readAt (Elt F) lo128.toLoadRect f6) 9).xB = (s0.after (keysAt c arg3 f3 k) (valsAt c arg4 f4 k0_t1 k) (arg6.view.readAt (Elt F) lo128.toLoadRect f6) 11).m from fold_m (keysAt c arg3 f3 k) (valsAt c arg4 f4 k0_t1 k) (arg6.view.readAt (Elt F) lo128.toLoadRect f6) s0 8)]
  exact fold_a (keysAt c arg3 f3 k) (valsAt c arg4 f4 k0_t1 k) (arg6.view.readAt (Elt F) lo128.toLoadRect f6) s0 8

theorem trip_r_69 : trip.sl.r_69 c arg3 arg6 k f3 f6 = (s1.after (keysAt c arg3 f3 k) (valsAt c arg4 f4 k0_t1 k) (arg6.view.readAt (Elt F) hi128.toLoadRect f6) 10).xB := by
  simp -proj only [trip.sl.r_69, View.readCov_cons_toLoadRect, View.readCov_skip, readAt_hit, readAt_skip, d1, d1', d80, d80', d256, d256', k0_pay155, k0_pay157, shapeCast_id, trip_r_64 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 9

theorem trip_r_71 : trip.sl.r_71 c arg3 k f3 = keyMat ((keysAt c arg3 f3 k) 10) := by
  simp -proj only [trip.sl.r_71, View.readCov_cons_toLoadRect, View.readCov_skip, readAt_hit, readAt_skip, d1, d1', d80, d80', d256, d256', k0_pay162, shapeCast_id, hs.m0, hs.m1, hs.a0, hs.a1, hs.sA0, hs.sA1, hs.sB0, hs.sB1]
  exact rfl

theorem trip_r_73 : trip.sl.r_73 c arg3 arg6 k f3 f6 = (s0.after (keysAt c arg3 f3 k) (valsAt c arg4 f4 k0_t1 k) (arg6.view.readAt (Elt F) lo128.toLoadRect f6) 11).xB := by
  simp -proj only [trip.sl.r_73, View.readCov_cons_toLoadRect, View.readCov_skip, readAt_hit, readAt_skip, d1, d1', d80, d80', d256, d256', k0_pay162, k0_pay164, k0_pay166, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 10

theorem trip_r_76 : trip.sl.r_76 c arg3 arg6 k f3 f6 = (s1.after (keysAt c arg3 f3 k) (valsAt c arg4 f4 k0_t1 k) (arg6.view.readAt (Elt F) hi128.toLoadRect f6) 11).xB := by
  simp -proj only [trip.sl.r_76, View.readCov_cons_toLoadRect, View.readCov_skip, readAt_hit, readAt_skip, d1, d1', d80, d80', d256, d256', k0_pay171, k0_pay173, shapeCast_id, trip_r_71 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 10

theorem trip_r_78 : trip.sl.r_78 c arg3 k f3 = keyMat ((keysAt c arg3 f3 k) 11) := by
  simp -proj only [trip.sl.r_78, View.readCov_cons_toLoadRect, View.readCov_skip, readAt_hit, readAt_skip, d1, d1', d80, d80', d256, d256', k0_pay178, shapeCast_id, hs.m0, hs.m1, hs.a0, hs.a1, hs.sA0, hs.sA1, hs.sB0, hs.sB1]
  exact rfl

theorem trip_r_80 : trip.sl.r_80 c arg3 arg6 k f3 f6 = (s0.after (keysAt c arg3 f3 k) (valsAt c arg4 f4 k0_t1 k) (arg6.view.readAt (Elt F) lo128.toLoadRect f6) 12).xB := by
  simp -proj only [trip.sl.r_80, View.readCov_cons_toLoadRect, View.readCov_skip, readAt_hit, readAt_skip, d1, d1', d80, d80', d256, d256', k0_pay178, k0_pay180, k0_pay182, shapeCast_id, hs.m0, hs.m1, hs.a0, hs.a1, hs.sA0, hs.sA1, hs.sB0, hs.sB1]
  exact fold_x (keysAt c arg3 f3 k) (valsAt c arg4 f4 k0_t1 k) (arg6.view.readAt (Elt F) lo128.toLoadRect f6) s0 11

theorem trip_r_83 : trip.sl.r_83 c arg3 arg6 k f3 f6 = (s1.after (keysAt c arg3 f3 k) (valsAt c arg4 f4 k0_t1 k) (arg6.view.readAt (Elt F) hi128.toLoadRect f6) 12).xB := by
  simp -proj only [trip.sl.r_83, View.readCov_cons_toLoadRect, View.readCov_skip, readAt_hit, readAt_skip, d1, d1', d80, d80', d256, d256', k0_pay187, k0_pay189, shapeCast_id, trip_r_78 (arg3 := arg3) (k := k) (f3 := f3) hs, hs.m0, hs.m1, hs.a0, hs.a1, hs.sA0, hs.sA1, hs.sB0, hs.sB1]
  exact fold_x (keysAt c arg3 f3 k) (valsAt c arg4 f4 k0_t1 k) (arg6.view.readAt (Elt F) hi128.toLoadRect f6) s1 11

theorem trip_v1432 : trip.sl.v1432 c arg3 arg6 arg7 k s0.xA s1.xA s0.xB s1.xB f3 f6 f7 = (s1.after (keysAt c arg3 f3 k) (valsAt c arg4 f4 k0_t1 k) (arg6.view.readAt (Elt F) hi128.toLoadRect f6) 11).m := by
  simp -proj only [trip.sl.v1432, trip.sl.H7_23, trip.sl.H7_22, trip.sl.H7_21, View.readCov_cons_toLoadRect, View.readCov_skip, readAt_hit, readAt_skip, d1, d1', d80, d80', d256, d256', k0_pay167, k0_pay168, k0_pay174, k0_pay175, k0_pay183, k0_pay184, shapeCast_id, trip_r_66 (arg3 := arg3) (arg4 := arg4) (arg6 := arg6) (k0_t1 := k0_t1) (k := k) (f3 := f3) (f4 := f4) (f6 := f6) hs, trip_v1405 (arg3 := arg3) (arg4 := arg4) (arg6 := arg6) (k0_t1 := k0_t1) (k := k) (f3 := f3) (f4 := f4) (f6 := f6) hs, trip_r_62 (arg3 := arg3) (arg4 := arg4) (arg6 := arg6) (k0_t1 := k0_t1) (k := k) (f3 := f3) (f4 := f4) (f6 := f6) hs, trip_v1362 (arg3 := arg3) (arg4 := arg4) (arg6 := arg6) (k0_t1 := k0_t1) (k := k) (f3 := f3) (f4 := f4) (f6 := f6) hs, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 10).m (s1.after (keysAt c arg3 f3 k) (valsAt c arg4 f4 k0_t1 k) (arg6.view.readAt (Elt F) hi128.toLoadRect f6) 9).xB = (s1.after (keysAt c arg3 f3 k) (valsAt c arg4 f4 k0_t1 k) (arg6.view.readAt (Elt F) hi128.toLoadRect f6) 11).m from fold_m (keysAt c arg3 f3 k) (valsAt c arg4 f4 k0_t1 k) (arg6.view.readAt (Elt F) hi128.toLoadRect f6) s1 8)]

theorem trip_v1437 : trip.sl.v1437 c arg3 arg6 arg12 k f3 f6 = (s1.after (keysAt c arg3 f3 k) (valsAt c arg4 f4 k0_t1 k) (arg6.view.readAt (Elt F) hi128.toLoadRect f6) 10).sB := by
  simp -proj only [trip.sl.v1437, trip.sl.H12_6, trip.sl.H12_4, trip.sl.H12_2, View.readCov_cons_toLoadRect, View.readCov_skip, readAt_hit, readAt_skip, d1, d1', d80, d80', d256, d256', k0_pay18, k0_pay20, k0_pay21, k0_pay27, k0_pay28, k0_pay82, k0_pay84, k0_pay85, k0_pay91, k0_pay92, k0_pay146, k0_pay148, k0_pay149, k0_pay155, k0_pay156, shapeCast_id, trip_r_64 (arg3 := arg3) (k := k) (f3 := f3) hs, trip_r_36 (arg3 := arg3) (k := k) (f3 := f3) hs, trip_r_8 (arg3 := arg3) (k := k) (f3 := f3) hs, hs.m0, hs.m1, hs.a0, hs.a1, hs.sA0, hs.sA1, hs.sB0, hs.sB1]
  exact fold_s (keysAt c arg3 f3 k) (valsAt c arg4 f4 k0_t1 k) (arg6.view.readAt (Elt F) hi128.toLoadRect f6) s1 9

theorem trip_v1444 : trip.sl.v1444 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 11).a := by
  simp -proj only [trip.sl.v1444, trip.sl.H8_23, trip.sl.H8_22, trip.sl.H8_21, View.readCov_cons_toLoadRect, View.readCov_skip, readAt_hit, readAt_skip, d1, d1', d80, d80', d256, d256', k0_pay170, k0_pay177, k0_pay186, shapeCast_id, trip_r_79 (arg4 := arg4) (k0_t1 := k0_t1) (k := k) (f4 := f4) hs, trip_v1405 (arg3 := arg3) (arg4 := arg4) (arg6 := arg6) (k0_t1 := k0_t1) (k := k) (f3 := f3) (f4 := f4) (f6 := f6) hs, trip_r_81 (arg3 := arg3) (arg4 := arg4) (arg6 := arg6) (k0_t1 := k0_t1) (k := k) (f3 := f3) (f4 := f4) (f6 := f6) hs, trip_r_82 (arg3 := arg3) (arg4 := arg4) (arg6 := arg6) (k0_t1 := k0_t1) (k := k) (f3 := f3) (f4 := f4) (f6 := f6) hs, trip_v1417 (arg3 := arg3) (arg4 := arg4) (arg6 := arg6) (k0_t1 := k0_t1) (k := k) (f3 := f3) (f4 := f4) (f6 := f6) hs, trip_r_77 (arg3 := arg3) (arg4 := arg4) (arg6 := arg6) (k0_t1 := k0_t1) (k := k) (f3 := f3) (f4 := f4) (f6 := f6) hs, trip_r_72 (arg4 := arg4) (k0_t1 := k0_t1) (k := k) (f4 := f4) hs, trip_v1335 (arg3 := arg3) (arg4 := arg4) (arg6 := arg6) (k0_t1 := k0_t1) (k := k) (f3 := f3) (f4 := f4) (f6 := f6) hs, trip_r_74 (arg3 := arg3) (arg4 := arg4) (arg6 := arg6) (k0_t1 := k0_t1) (k := k) (f3 := f3) (f4 := f4) (f6 := f6) hs, trip_r_75 (arg3 := arg3) (arg4 := arg4) (arg6 := arg6) (k0_t1 := k0_t1) (k := k) (f3 := f3) (f4 := f4) (f6 := f6) hs, trip_v1347 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1]

theorem trip_r_84 : trip.sl.r_84 c arg3 arg4 arg6 arg7 arg8 arg9 arg10 arg11 arg12 k0_t1 k s0.xA s1.xA s0.xB s1.xB f3 f4 f6 f7 f8 f9 f10 = (s1.after (keysAt c arg3 f3 k) (valsAt c arg4 f4 k0_t1 k) (arg6.view.readAt (Elt F) hi128.toLoadRect f6) 12).a := by
  simp -proj only [trip.sl.r_84, View.readCov_cons_toLoadRect, View.readCov_skip, readAt_hit, readAt_skip, d1, d1', d80, d80', d256, d256', k0_pay190, k0_pay192, shapeCast_id, trip_r_69 (arg3 := arg3) (arg4 := arg4) (arg6 := arg6) (k0_t1 := k0_t1) (k := k) (f3 := f3) (f4 := f4) (f6 := f6) hs, trip_r_79 (arg4 := arg4) (k0_t1 := k0_t1) (k := k) (f4 := f4) hs, trip_v1432 (arg3 := arg3) (arg4 := arg4) (arg6 := arg6) (k0_t1 := k0_t1) (k := k) (f3 := f3) (f4 := f4) (f6 := f6) hs, trip_v1437 (arg3 := arg3) (arg4 := arg4) (arg6 := arg6) (k0_t1 := k0_t1) (k := k) (f3 := f3) (f4 := f4) (f6 := f6) hs, trip_v1444 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 11).m (s1.after (keysAt c arg3 f3 k) (valsAt c arg4 f4 k0_t1 k) (arg6.view.readAt (Elt F) hi128.toLoadRect f6) 10).xB = (s1.after (keysAt c arg3 f3 k) (valsAt c arg4 f4 k0_t1 k) (arg6.view.readAt (Elt F) hi128.toLoadRect f6) 12).m from fold_m (keysAt c arg3 f3 k) (valsAt c arg4 f4 k0_t1 k) (arg6.view.readAt (Elt F) hi128.toLoadRect f6) s1 9)]
  exact fold_a (keysAt c arg3 f3 k) (valsAt c arg4 f4 k0_t1 k) (arg6.view.readAt (Elt F) hi128.toLoadRect f6) s1 9

end
end Cert.Proof.KernelIdeal
end
-- ==== Proof.Att.TripSum.lean ====
module

public import proofs.«01_k».proof.Proof.Att.TripFacts2
public import proofs.«01_k».proof.Proof.Att.Loop
public import Idealize.ShloMosaic.Lib.Tactic
public import Idealize.ShloMosaic.Lib.Pipeline.ReadBack
public import Idealize.ShloMosaic.Lib.Pointwise.Reshape

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {c : Dev nD} {i : grid0.Coords} {arg2 : Memref sig .tc .vmem S1x8x64x256 .bf16} {harg2 : arg2.IsWhole} {arg3 : Memref sig .tc .vmem S1x8448x128 .bf16} {harg3 : arg3.IsWhole} {arg4 : Memref sig .tc .vmem S1x2x64x8448 .bf16} {harg4 : arg4.IsWhole} {arg5 : Memref sig .tc .vmem S1x256x512 .bf16} {harg5 : arg5.IsWhole} {arg6 : Memref sig .tc .vmem S128x1024 .bf16} {harg6 : arg6.IsWhole} {arg7 : Memref sig .tc .vmem S1x1024 .f32} {harg7 : arg7.IsWhole} {arg8 : Memref sig .tc .vmem S80x1024 .f32} {harg8 : arg8.IsWhole} {arg9 : Memref sig .tc .vmem S256x1024 .f32} {harg9 : arg9.IsWhole} {arg10 : Memref sig .tc .vmem S256x1024 .f32} {harg10 : arg10.IsWhole} {arg11 : Memref sig .tc .vmem S256x1024 .f32} {harg11 : arg11.IsWhole} {arg12 : Memref sig .tc .vmem S256x1024 .f32} {harg12 : arg12.IsWhole} {k0_t1 : Fin k0_t1_loop.trips} {arg13 : BitVec 32} {v47 : FVec F S1x512 .f32} {v54 : FVec F S1x512 .f32} {v56 : FVec F S256x128 .bf16} {v58 : FVec F S256x512 .f32} {k : Fin k0_t2_loop.trips} {f3 : Bf (F := F) c arg3} {f4 : Bf (F := F) c arg4} {f6 : Bf (F := F) c arg6} {f7 : Bf (F := F) c arg7} {f8 : Bf (F := F) c arg8} {f9 : Bf (F := F) c arg9} {f10 : Bf (F := F) c arg10} {f11 : Bf (F := F) c arg11} {f12 : Bf (F := F) c arg12} {s0 s1 : HS F}
  (hs : Holds c arg7 arg8 arg9 arg10 f7 f8 f9 f10 s0 s1)
  (arg13 : BitVec 32) (v47 v54 : FVec F S1x512 .f32) (v56 : FVec F S256x128 .bf16) (v58 : FVec F S256x512 .f32)
include hs

/-- What a trip hands to the next: the column maxima of the two tiles still to be consumed. -/
theorem trip_carry : (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.1 = ((s0.after (keysAt c arg3 f3 k) (valsAt c arg4 f4 k0_t1 k) (arg6.view.readAt (Elt F) lo128.toLoadRect f6) 12).xA, (s1.after (keysAt c arg3 f3 k) (valsAt c arg4 f4 k0_t1 k) (arg6.view.readAt (Elt F) hi128.toLoadRect f6) 12).xA, (s0.after (keysAt c arg3 f3 k) (valsAt c arg4 f4 k0_t1 k) (arg6.view.readAt (Elt F) lo128.toLoadRect f6) 12).xB, (s1.after (keysAt c arg3 f3 k) (valsAt c arg4 f4 k0_t1 k) (arg6.view.readAt (Elt F) hi128.toLoadRect f6) 12).xB) := by
  have e (t : HS F) (q) : (t.after (keysAt c arg3 f3 k) (valsAt c arg4 f4 k0_t1 k) q 12).xA = (t.after (keysAt c arg3 f3 k) (valsAt c arg4 f4 k0_t1 k) q 11).xB := by rw [after_succ, step_xA]
  rw [e, e]
  exact congrArg₂ Prod.mk (trip_r_73 (arg3 := arg3) (arg4 := arg4) (arg6 := arg6) (k0_t1 := k0_t1) (k := k) (f3 := f3) (f4 := f4) (f6 := f6) hs) (congrArg₂ Prod.mk (trip_r_76 (arg3 := arg3) (arg4 := arg4) (arg6 := arg6) (k0_t1 := k0_t1) (k := k) (f3 := f3) (f4 := f4) (f6 := f6) hs) (congrArg₂ Prod.mk (trip_r_80 (arg3 := arg3) (arg4 := arg4) (arg6 := arg6) (k0_t1 := k0_t1) (k := k) (f3 := f3) (f4 := f4) (f6 := f6) hs) (trip_r_83 (arg3 := arg3) (arg4 := arg4) (arg6 := arg6) (k0_t1 := k0_t1) (k := k) (f3 := f3) (f4 := f4) (f6 := f6) hs)))

theorem trip_m0 : arg7.view.readAt (Elt F) lo1.toLoadRect (arg7.view.writes (Elt F) f7 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.1) = (s0.after (keysAt c arg3 f3 k) (valsAt c arg4 f4 k0_t1 k) (arg6.view.readAt (Elt F) lo128.toLoadRect f6) 12).m := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.1 = ⟨hi1, k0_pay191 (trip.sl.r_69 c arg3 arg6 k f3 f6) (trip.sl.v1432 c arg3 arg6 arg7 k s0.xA s1.xA s0.xB s1.xB f3 f6 f7)⟩ :: trip.sl.H7_23 c arg3 arg6 arg7 k s0.xA s1.xA s0.xB s1.xB f3 f6 f7 from rfl]
  simp -proj only [trip.sl.H7_23, trip.sl.H7_22, trip.sl.H7_21, View.readCov_cons_toLoadRect, View.readCov_skip, readAt_hit, readAt_skip, d1, d1', d80, d80', d256, d256', k0_pay167, k0_pay168, k0_pay174, k0_pay175, k0_pay183, k0_pay184, k0_pay190, k0_pay191, shapeCast_id, trip_r_69 (arg3 := arg3) (arg4 := arg4) (arg6 := arg6) (k0_t1 := k0_t1) (k := k) (f3 := f3) (f4 := f4) (f6 := f6) hs, trip_v1432 (arg3 := arg3) (arg4 := arg4) (arg6 := arg6) (k0_t1 := k0_t1) (k := k) (f3 := f3) (f4 := f4) (f6 := f6) hs, trip_r_66 (arg3 := arg3) (arg4 := arg4) (arg6 := arg6) (k0_t1 := k0_t1) (k := k) (f3 := f3) (f4 := f4) (f6 := f6) hs, trip_v1405 (arg3 := arg3) (arg4 := arg4) (arg6 := arg6) (k0_t1 := k0_t1) (k := k) (f3 := f3) (f4 := f4) (f6 := f6) hs, trip_r_62 (arg3 := arg3) (arg4 := arg4) (arg6 := arg6) (k0_t1 := k0_t1) (k := k) (f3 := f3) (f4 := f4) (f6 := f6) hs, trip_v1362 (arg3 := arg3) (arg4 := arg4) (arg6 := arg6) (k0_t1 := k0_t1) (k := k) (f3 := f3) (f4 := f4) (f6 := f6) hs, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 11).m (s0.after (keysAt c arg3 f3 k) (valsAt c arg4 f4 k0_t1 k) (arg6.view.readAt (Elt F) lo128.toLoadRect f6) 10).xB = (s0.after (keysAt c arg3 f3 k) (valsAt c arg4 f4 k0_t1 k) (arg6.view.readAt (Elt F) lo128.toLoadRect f6) 12).m from fold_m (keysAt c arg3 f3 k) (valsAt c arg4 f4 k0_t1 k) (arg6.view.readAt (Elt F) lo128.toLoadRect f6) s0 9)]

theorem trip_m1 : arg7.view.readAt (Elt F) hi1.toLoadRect (arg7.view.writes (Elt F) f7 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.1) = (s1.after (keysAt c arg3 f3 k) (valsAt c arg4 f4 k0_t1 k) (arg6.view.readAt (Elt F) hi128.toLoadRect f6) 12).m := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.1 = ⟨hi1, k0_pay191 (trip.sl.r_69 c arg3 arg6 k f3 f6) (trip.sl.v1432 c arg3 arg6 arg7 k s0.xA s1.xA s0.xB s1.xB f3 f6 f7)⟩ :: trip.sl.H7_23 c arg3 arg6 arg7 k s0.xA s1.xA s0.xB s1.xB f3 f6 f7 from rfl]
  simp -proj only [trip.sl.H7_23, trip.sl.H7_22, trip.sl.H7_21, View.readCov_cons_toLoadRect, View.readCov_skip, readAt_hit, readAt_skip, d1, d1', d80, d80', d256, d256', k0_pay167, k0_pay168, k0_pay174, k0_pay175, k0_pay183, k0_pay184, k0_pay190, k0_pay191, shapeCast_id, trip_r_69 (arg3 := arg3) (arg4 := arg4) (arg6 := arg6) (k0_t1 := k0_t1) (k := k) (f3 := f3) (f4 := f4) (f6 := f6) hs, trip_v1432 (arg3 := arg3) (arg4 := arg4) (arg6 := arg6) (k0_t1 := k0_t1) (k := k) (f3 := f3) (f4 := f4) (f6 := f6) hs, trip_r_66 (arg3 := arg3) (arg4 := arg4) (arg6 := arg6) (k0_t1 := k0_t1) (k := k) (f3 := f3) (f4 := f4) (f6 := f6) hs, trip_v1405 (arg3 := arg3) (arg4 := arg4) (arg6 := arg6) (k0_t1 := k0_t1) (k := k) (f3 := f3) (f4 := f4) (f6 := f6) hs, trip_r_62 (arg3 := arg3) (arg4 := arg4) (arg6 := arg6) (k0_t1 := k0_t1) (k := k) (f3 := f3) (f4 := f4) (f6 := f6) hs, trip_v1362 (arg3 := arg3) (arg4 := arg4) (arg6 := arg6) (k0_t1 := k0_t1) (k := k) (f3 := f3) (f4 := f4) (f6 := f6) hs, trip_r_59 (arg3 := arg3) (arg4 := arg4) (arg6 := arg6) (k0_t1 := k0_t1) (k := k) (f3 := f3) (f4 := f4) (f6 := f6) hs, trip_v1335 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 11).m (s1.after (keysAt c arg3 f3 k) (valsAt c arg4 f4 k0_t1 k) (arg6.view.readAt (Elt F) hi128.toLoadRect f6) 10).xB = (s1.after (keysAt c arg3 f3 k) (valsAt c arg4 f4 k0_t1 k) (arg6.view.readAt (Elt F) hi128.toLoadRect f6) 12).m from fold_m (keysAt c arg3 f3 k) (valsAt c arg4 f4 k0_t1 k) (arg6.view.readAt (Elt F) hi128.toLoadRect f6) s1 9)]

theorem trip_a0 : arg8.view.readAt (Elt F) lo80.toLoadRect (arg8.view.writes (Elt F) f8 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.1) = (s0.after (keysAt c arg3 f3 k) (valsAt c arg4 f4 k0_t1 k) (arg6.view.readAt (Elt F) lo128.toLoadRect f6) 12).a := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.1 = ⟨hi80, k0_pay211 (trip.sl.r_84 c arg3 arg4 arg6 arg7 arg8 arg9 arg10 arg11 arg12 k0_t1 k s0.xA s1.xA s0.xB s1.xB f3 f4 f6 f7 f8 f9 f10)⟩ :: trip.sl.H8_23 c arg3 arg4 arg6 arg7 arg8 arg9 arg10 arg11 arg12 k0_t1 k s0.xA s1.xA s0.xB s1.xB f3 f4 f6 f7 f8 f9 f10 from rfl]
  simp -proj only [trip.sl.H8_23, trip.sl.H8_22, trip.sl.H8_21, View.readCov_cons_toLoadRect, View.readCov_skip, readAt_hit, readAt_skip, d1, d1', d80, d80', d256, d256', k0_pay170, k0_pay177, k0_pay186, k0_pay211, shapeCast_id, trip_r_84 (arg3 := arg3) (arg4 := arg4) (arg6 := arg6) (k0_t1 := k0_t1) (k := k) (f3 := f3) (f4 := f4) (f6 := f6) hs, trip_r_79 (arg4 := arg4) (k0_t1 := k0_t1) (k := k) (f4 := f4) hs, trip_v1405 (arg3 := arg3) (arg4 := arg4) (arg6 := arg6) (k0_t1 := k0_t1) (k := k) (f3 := f3) (f4 := f4) (f6 := f6) hs, trip_r_81 (arg3 := arg3) (arg4 := arg4) (arg6 := arg6) (k0_t1 := k0_t1) (k := k) (f3 := f3) (f4 := f4) (f6 := f6) hs, trip_r_82 (arg3 := arg3) (arg4 := arg4) (arg6 := arg6) (k0_t1 := k0_t1) (k := k) (f3 := f3) (f4 := f4) (f6 := f6) hs, trip_v1417 (arg3 := arg3) (arg4 := arg4) (arg6 := arg6) (k0_t1 := k0_t1) (k := k) (f3 := f3) (f4 := f4) (f6 := f6) hs, trip_r_77 (arg3 := arg3) (arg4 := arg4) (arg6 := arg6) (k0_t1 := k0_t1) (k := k) (f3 := f3) (f4 := f4) (f6 := f6) hs, trip_r_72 (arg4 := arg4) (k0_t1 := k0_t1) (k := k) (f4 := f4) hs, trip_v1335 (arg3 := arg3) (arg4 := arg4) (arg6 := arg6) (k0_t1 := k0_t1) (k := k) (f3 := f3) (f4 := f4) (f6 := f6) hs, trip_r_74 (arg3 := arg3) (arg4 := arg4) (arg6 := arg6) (k0_t1 := k0_t1) (k := k) (f3 := f3) (f4 := f4) (f6 := f6) hs, trip_r_75 (arg3 := arg3) (arg4 := arg4) (arg6 := arg6) (k0_t1 := k0_t1) (k := k) (f3 := f3) (f4 := f4) (f6 := f6) hs, trip_v1347 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s0.after (keysAt c arg3 f3 k) (valsAt c arg4 f4 k0_t1 k) (arg6.view.readAt (Elt F) lo128.toLoadRect f6) 11).m (s0.after (keysAt c arg3 f3 k) (valsAt c arg4 f4 k0_t1 k) (arg6.view.readAt (Elt F) lo128.toLoadRect f6) 10).xB = (s0.after (keysAt c arg3 f3 k) (valsAt c arg4 f4 k0_t1 k) (arg6.view.readAt (Elt F) lo128.toLoadRect f6) 12).m from fold_m (keysAt c arg3 f3 k) (valsAt c arg4 f4 k0_t1 k) (arg6.view.readAt (Elt F) lo128.toLoadRect f6) s0 9)] <;> exact fold_a (keysAt c arg3 f3 k) (valsAt c arg4 f4 k0_t1 k) (arg6.view.readAt (Elt F) lo128.toLoadRect f6) s0 9

theorem trip_a1 : arg8.view.readAt (Elt F) hi80.toLoadRect (arg8.view.writes (Elt F) f8 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.1) = (s1.after (keysAt c arg3 f3 k) (valsAt c arg4 f4 k0_t1 k) (arg6.view.readAt (Elt F) hi128.toLoadRect f6) 12).a := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.1 = ⟨hi80, k0_pay211 (trip.sl.r_84 c arg3 arg4 arg6 arg7 arg8 arg9 arg10 arg11 arg12 k0_t1 k s0.xA s1.xA s0.xB s1.xB f3 f4 f6 f7 f8 f9 f10)⟩ :: trip.sl.H8_23 c arg3 arg4 arg6 arg7 arg8 arg9 arg10 arg11 arg12 k0_t1 k s0.xA s1.xA s0.xB s1.xB f3 f4 f6 f7 f8 f9 f10 from rfl]
  simp -proj only [trip.sl.H8_23, trip.sl.H8_22, trip.sl.H8_21, View.readCov_cons_toLoadRect, View.readCov_skip, readAt_hit, readAt_skip, d1, d1', d80, d80', d256, d256', k0_pay170, k0_pay177, k0_pay186, k0_pay211, shapeCast_id, trip_r_84 (arg3 := arg3) (arg4 := arg4) (arg6 := arg6) (k0_t1 := k0_t1) (k := k) (f3 := f3) (f4 := f4) (f6 := f6) hs, trip_r_79 (arg4 := arg4) (k0_t1 := k0_t1) (k := k) (f4 := f4) hs, trip_v1405 (arg3 := arg3) (arg4 := arg4) (arg6 := arg6) (k0_t1 := k0_t1) (k := k) (f3 := f3) (f4 := f4) (f6 := f6) hs, trip_r_81 (arg3 := arg3) (arg4 := arg4) (arg6 := arg6) (k0_t1 := k0_t1) (k := k) (f3 := f3) (f4 := f4) (f6 := f6) hs, trip_r_82 (arg3 := arg3) (arg4 := arg4) (arg6 := arg6) (k0_t1 := k0_t1) (k := k) (f3 := f3) (f4 := f4) (f6 := f6) hs, trip_v1417 (arg3 := arg3) (arg4 := arg4) (arg6 := arg6) (k0_t1 := k0_t1) (k := k) (f3 := f3) (f4 := f4) (f6 := f6) hs, trip_r_77 (arg3 := arg3) (arg4 := arg4) (arg6 := arg6) (k0_t1 := k0_t1) (k := k) (f3 := f3) (f4 := f4) (f6 := f6) hs, trip_r_72 (arg4 := arg4) (k0_t1 := k0_t1) (k := k) (f4 := f4) hs, trip_v1335 (arg3 := arg3) (arg4 := arg4) (arg6 := arg6) (k0_t1 := k0_t1) (k := k) (f3 := f3) (f4 := f4) (f6 := f6) hs, trip_r_74 (arg3 := arg3) (arg4 := arg4) (arg6 := arg6) (k0_t1 := k0_t1) (k := k) (f3 := f3) (f4 := f4) (f6 := f6) hs, trip_r_75 (arg3 := arg3) (arg4 := arg4) (arg6 := arg6) (k0_t1 := k0_t1) (k := k) (f3 := f3) (f4 := f4) (f6 := f6) hs, trip_v1347 (arg3 := arg3) (arg4 := arg4) (arg6 := arg6) (k0_t1 := k0_t1) (k := k) (f3 := f3) (f4 := f4) (f6 := f6) hs, hs.m0, hs.m1, hs.a0, hs.a1, hs.sA0, hs.sA1, hs.sB0, hs.sB1, (show maximumf (s1.after (keysAt c arg3 f3 k) (valsAt c arg4 f4 k0_t1 k) (arg6.view.readAt (Elt F) hi128.toLoadRect f6) 11).m (s1.after (keysAt c arg3 f3 k) (valsAt c arg4 f4 k0_t1 k) (arg6.view.readAt (Elt F) hi128.toLoadRect f6) 10).xB = (s1.after (keysAt c arg3 f3 k) (valsAt c arg4 f4 k0_t1 k) (arg6.view.readAt (Elt F) hi128.toLoadRect f6) 12).m from fold_m (keysAt c arg3 f3 k) (valsAt c arg4 f4 k0_t1 k) (arg6.view.readAt (Elt F) hi128.toLoadRect f6) s1 9)] <;> exact fold_a (keysAt c arg3 f3 k) (valsAt c arg4 f4 k0_t1 k) (arg6.view.readAt (Elt F) hi128.toLoadRect f6) s1 9

theorem trip_sA0 : arg9.view.readAt (Elt F) lo256.toLoadRect (arg9.view.writes (Elt F) f9 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.1) = (s0.after (keysAt c arg3 f3 k) (valsAt c arg4 f4 k0_t1 k) (arg6.view.readAt (Elt F) lo128.toLoadRect f6) 12).sA := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.1 = ⟨hi256, k0_pay172 (trip.sl.r_71 c arg3 k f3) (arg6.view.readAt (Elt F) hi128.toLoadRect f6)⟩ :: ⟨lo256, k0_pay165 (keysAt c arg3 f3 k 10) (arg6.view.readAt (Elt F) lo128.toLoadRect f6)⟩ :: trip.sl.H9_4 c arg3 arg6 k f3 f6 from rfl]
  simp -proj only [trip.sl.H9_4, trip.sl.H9_2, View.readCov_cons_toLoadRect, View.readCov_skip, readAt_hit, readAt_skip, d1, d1', d80, d80', d256, d256', k0_pay34, k0_pay36, k0_pay37, k0_pay43, k0_pay44, k0_pay98, k0_pay100, k0_pay101, k0_pay107, k0_pay108, k0_pay162, k0_pay164, k0_pay165, k0_pay171, k0_pay172, shapeCast_id, trip_r_71 (arg3 := arg3) (k := k) (f3 := f3) hs, trip_r_43 (arg3 := arg3) (k := k) (f3 := f3) hs, trip_r_15 (arg3 := arg3) (k := k) (f3 := f3) hs, hs.m0, hs.m1, hs.a0, hs.a1, hs.sA0, hs.sA1, hs.sB0, hs.sB1] <;> exact (fold_s (keysAt c arg3 f3 k) (valsAt c arg4 f4 k0_t1 k) (arg6.view.readAt (Elt F) lo128.toLoadRect f6) s0 10).trans (by rw [after_succ (keysAt c arg3 f3 k) (valsAt c arg4 f4 k0_t1 k) (arg6.view.readAt (Elt F) lo128.toLoadRect f6) s0 11, step_sA])

theorem trip_sA1 : arg9.view.readAt (Elt F) hi256.toLoadRect (arg9.view.writes (Elt F) f9 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.1) = (s1.after (keysAt c arg3 f3 k) (valsAt c arg4 f4 k0_t1 k) (arg6.view.readAt (Elt F) hi128.toLoadRect f6) 12).sA := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.1 = ⟨hi256, k0_pay172 (trip.sl.r_71 c arg3 k f3) (arg6.view.readAt (Elt F) hi128.toLoadRect f6)⟩ :: ⟨lo256, k0_pay165 (keysAt c arg3 f3 k 10) (arg6.view.readAt (Elt F) lo128.toLoadRect f6)⟩ :: trip.sl.H9_4 c arg3 arg6 k f3 f6 from rfl]
  simp -proj only [trip.sl.H9_4, trip.sl.H9_2, View.readCov_cons_toLoadRect, View.readCov_skip, readAt_hit, readAt_skip, d1, d1', d80, d80', d256, d256', k0_pay34, k0_pay36, k0_pay37, k0_pay43, k0_pay44, k0_pay98, k0_pay100, k0_pay101, k0_pay107, k0_pay108, k0_pay162, k0_pay164, k0_pay165, k0_pay171, k0_pay172, shapeCast_id, trip_r_71 (arg3 := arg3) (k := k) (f3 := f3) hs, trip_r_43 (arg3 := arg3) (k := k) (f3 := f3) hs, trip_r_15 (arg3 := arg3) (k := k) (f3 := f3) hs, hs.m0, hs.m1, hs.a0, hs.a1, hs.sA0, hs.sA1, hs.sB0, hs.sB1] <;> exact (fold_s (keysAt c arg3 f3 k) (valsAt c arg4 f4 k0_t1 k) (arg6.view.readAt (Elt F) hi128.toLoadRect f6) s1 10).trans (by rw [after_succ (keysAt c arg3 f3 k) (valsAt c arg4 f4 k0_t1 k) (arg6.view.readAt (Elt F) hi128.toLoadRect f6) s1 11, step_sA])

theorem trip_sB0 : arg10.view.readAt (Elt F) lo256.toLoadRect (arg10.view.writes (Elt F) f10 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.2.1) = (s0.after (keysAt c arg3 f3 k) (valsAt c arg4 f4 k0_t1 k) (arg6.view.readAt (Elt F) lo128.toLoadRect f6) 12).sB := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.2.1 = ⟨hi256, k0_pay188 (trip.sl.r_78 c arg3 k f3) (arg6.view.readAt (Elt F) hi128.toLoadRect f6)⟩ :: ⟨lo256, k0_pay181 (keysAt c arg3 f3 k 11) (arg6.view.readAt (Elt F) lo128.toLoadRect f6)⟩ :: trip.sl.H10_4 c arg3 arg6 k f3 f6 from rfl]
  simp -proj only [trip.sl.H10_4, trip.sl.H10_2, View.readCov_cons_toLoadRect, View.readCov_skip, readAt_hit, readAt_skip, d1, d1', d80, d80', d256, d256', k0_pay50, k0_pay52, k0_pay53, k0_pay59, k0_pay60, k0_pay114, k0_pay116, k0_pay117, k0_pay123, k0_pay124, k0_pay178, k0_pay180, k0_pay181, k0_pay187, k0_pay188, shapeCast_id, trip_r_78 (arg3 := arg3) (k := k) (f3 := f3) hs, trip_r_50 (arg3 := arg3) (k := k) (f3 := f3) hs, trip_r_22 (arg3 := arg3) (k := k) (f3 := f3) hs, hs.m0, hs.m1, hs.a0, hs.a1, hs.sA0, hs.sA1, hs.sB0, hs.sB1] <;> exact fold_s (keysAt c arg3 f3 k) (valsAt c arg4 f4 k0_t1 k) (arg6.view.readAt (Elt F) lo128.toLoadRect f6) s0 11

theorem trip_sB1 : arg10.view.readAt (Elt F) hi256.toLoadRect (arg10.view.writes (Elt F) f10 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.2.1) = (s1.after (keysAt c arg3 f3 k) (valsAt c arg4 f4 k0_t1 k) (arg6.view.readAt (Elt F) hi128.toLoadRect f6) 12).sB := by
  rw [show (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.2.1 = ⟨hi256, k0_pay188 (trip.sl.r_78 c arg3 k f3) (arg6.view.readAt (Elt F) hi128.toLoadRect f6)⟩ :: ⟨lo256, k0_pay181 (keysAt c arg3 f3 k 11) (arg6.view.readAt (Elt F) lo128.toLoadRect f6)⟩ :: trip.sl.H10_4 c arg3 arg6 k f3 f6 from rfl]
  simp -proj only [trip.sl.H10_4, trip.sl.H10_2, View.readCov_cons_toLoadRect, View.readCov_skip, readAt_hit, readAt_skip, d1, d1', d80, d80', d256, d256', k0_pay50, k0_pay52, k0_pay53, k0_pay59, k0_pay60, k0_pay114, k0_pay116, k0_pay117, k0_pay123, k0_pay124, k0_pay178, k0_pay180, k0_pay181, k0_pay187, k0_pay188, shapeCast_id, trip_r_78 (arg3 := arg3) (k := k) (f3 := f3) hs, trip_r_50 (arg3 := arg3) (k := k) (f3 := f3) hs, trip_r_22 (arg3 := arg3) (k := k) (f3 := f3) hs, hs.m0, hs.m1, hs.a0, hs.a1, hs.sA0, hs.sA1, hs.sB0, hs.sB1] <;> exact fold_s (keysAt c arg3 f3 k) (valsAt c arg4 f4 k0_t1 k) (arg6.view.readAt (Elt F) hi128.toLoadRect f6) s1 11

/-- After a trip the scratch buffers hold the states twelve steps on. -/
theorem trip_holds : Holds c arg7 arg8 arg9 arg10 (arg7.view.writes (Elt F) f7 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.1) (arg8.view.writes (Elt F) f8 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.1) (arg9.view.writes (Elt F) f9 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.1) (arg10.view.writes (Elt F) f10 (trip c i arg2 harg2 arg3 harg3 arg4 harg4 arg5 harg5 arg6 harg6 arg7 harg7 arg8 harg8 arg9 harg9 arg10 harg10 arg11 harg11 arg12 harg12 k0_t1 arg13 v47 v54 v56 v58 k s0.xA s1.xA s0.xB s1.xB f3 f4 f6 f7 f8 f9 f10 f11 f12).1.2.2.2.2.1) (s0.after (keysAt c arg3 f3 k) (valsAt c arg4 f4 k0_t1 k) (arg6.view.readAt (Elt F) lo128.toLoadRect f6) 12) (s1.after (keysAt c arg3 f3 k) (valsAt c arg4 f4 k0_t1 k) (arg6.view.readAt (Elt F) hi128.toLoadRect f6) 12) :=
  ⟨trip_m0 hs arg13 v47 v54 v56 v58, trip_m1 hs arg13 v47 v54 v56 v58, trip_a0 hs arg13 v47 v54 v56 v58, trip_a1 hs arg13 v47 v54 v56 v58, trip_sA0 hs arg13 v47 v54 v56 v58, trip_sA1 hs arg13 v47 v54 v56 v58, trip_sB0 hs arg13 v47 v54 v56 v58, trip_sB1 hs arg13 v47 v54 v56 v58⟩

end
end Cert.Proof.KernelIdeal
end
-- ==== Proof.Att.OuterFacts.lean ====
module

public import proofs.«01_k».proof.Proof.Att.Outer
public import proofs.«01_k».proof.Proof.Att.TripSum
public import Idealize.ShloMosaic.Lib.Tactic
public import Idealize.ShloMosaic.Lib.Pipeline.ReadBack
public import Idealize.ShloMosaic.Lib.Pointwise.Reshape

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- Where the inner loop leaves off, for the steps after it: what the run reads there, in terms of the two halves' states, and the tiles
    of keys and values of these steps. -/
structure TailIn (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (h : Fin k0_t1_loop.trips) (f2 : Bf (F := F) c arg2) (f3 : Bf (F := F) c arg3) (f4 : Bf (F := F) c arg4) (f11 : Bf (F := F) c arg11) (f12 : Bf (F := F) c arg12) (kt : Fin 12 → Vec F S1x256x128 .bf16) (vt : Fin 12 → Vec F S1x1x64x256 .bf16) (q0 q1 : Vec F S128x512 .bf16) (s0 s1 : HS F) : Prop where
  v87 : outer.sl.v87 c i arg2 harg2 arg3 harg3 arg4 harg4 arg5 harg5 arg6 harg6 arg7 harg7 arg8 harg8 arg9 harg9 arg10 harg10 arg11 harg11 arg12 harg12 h f2 f3 f4 f11 f12 = s0.m
  v114 : outer.sl.v114 c i arg2 harg2 arg3 harg3 arg4 harg4 arg5 harg5 arg6 harg6 arg7 harg7 arg8 harg8 arg9 harg9 arg10 harg10 arg11 harg11 arg12 harg12 h f2 f3 f4 f11 f12 = s1.m
  v99 : outer.sl.v99 c i arg2 harg2 arg3 harg3 arg4 harg4 arg5 harg5 arg6 harg6 arg7 harg7 arg8 harg8 arg9 harg9 arg10 harg10 arg11 harg11 arg12 harg12 h f2 f3 f4 f11 f12 = s0.a
  v126 : outer.sl.v126 c i arg2 harg2 arg3 harg3 arg4 harg4 arg5 harg5 arg6 harg6 arg7 harg7 arg8 harg8 arg9 harg9 arg10 harg10 arg11 harg11 arg12 harg12 h f2 f3 f4 f11 f12 = s1.a
  v92 : outer.sl.v92 c i arg2 harg2 arg3 harg3 arg4 harg4 arg5 harg5 arg6 harg6 arg7 harg7 arg8 harg8 arg9 harg9 arg10 harg10 arg11 harg11 arg12 harg12 h f2 f3 f4 f11 f12 = s0.sA
  v119 : outer.sl.v119 c i arg2 harg2 arg3 harg3 arg4 harg4 arg5 harg5 arg6 harg6 arg7 harg7 arg8 harg8 arg9 harg9 arg10 harg10 arg11 harg11 arg12 harg12 h f2 f3 f4 f11 f12 = s1.sA
  v153 : outer.sl.v153 c i arg2 harg2 arg3 harg3 arg4 harg4 arg5 harg5 arg6 harg6 arg7 harg7 arg8 harg8 arg9 harg9 arg10 harg10 arg11 harg11 arg12 harg12 h f2 f3 f4 f11 f12 = s0.sB
  v180 : outer.sl.v180 c i arg2 harg2 arg3 harg3 arg4 harg4 arg5 harg5 arg6 harg6 arg7 harg7 arg8 harg8 arg9 harg9 arg10 harg10 arg11 harg11 arg12 harg12 h f2 f3 f4 f11 f12 = s1.sB
  r_4 : outer.sl.r_4 c i arg2 harg2 arg3 harg3 arg4 harg4 arg5 harg5 arg6 harg6 arg7 harg7 arg8 harg8 arg9 harg9 arg10 harg10 arg11 harg11 arg12 harg12 h f2 f3 f4 f11 f12 = s1.xA
  r_5 : outer.sl.r_5 c i arg2 harg2 arg3 harg3 arg4 harg4 arg5 harg5 arg6 harg6 arg7 harg7 arg8 harg8 arg9 harg9 arg10 harg10 arg11 harg11 arg12 harg12 h f2 f3 f4 f11 f12 = s0.xB
  r_6 : outer.sl.r_6 c i arg2 harg2 arg3 harg3 arg4 harg4 arg5 harg5 arg6 harg6 arg7 harg7 arg8 harg8 arg9 harg9 arg10 harg10 arg11 harg11 arg12 harg12 h f2 f3 f4 f11 f12 = s1.xB
  r_10 : outer.sl.r_10 c i arg2 harg2 arg3 harg3 arg4 harg4 arg5 harg5 arg6 harg6 arg7 harg7 arg8 harg8 arg9 harg9 arg10 harg10 arg11 harg11 arg12 harg12 h f2 f3 f4 f11 f12 = maximumf s0.m s0.xA
  v80 : outer.sl.v80 c arg2 arg6 h f2 = q0
  v107 : outer.sl.v107 c arg2 arg6 h f2 = q1
  hk0 : arg3.view.readAt (Elt F) (Rect.unit (s := S1x8448x128) ![0, 6656, 0] S1x256x128.size inb_S1x8448x128_S1x256x128_0_6656_0).toLoadRect f3 = kt 0
  hk1 : arg3.view.readAt (Elt F) (Rect.unit (s := S1x8448x128) ![0, 6912, 0] S1x256x128.size inb_S1x8448x128_S1x256x128_0_6912_0).toLoadRect f3 = kt 1
  hk2 : arg3.view.readAt (Elt F) (Rect.unit (s := S1x8448x128) ![0, 7168, 0] S1x256x128.size inb_S1x8448x128_S1x256x128_0_7168_0).toLoadRect f3 = kt 2
  hk3 : arg3.view.readAt (Elt F) (Rect.unit (s := S1x8448x128) ![0, 7424, 0] S1x256x128.size inb_S1x8448x128_S1x256x128_0_7424_0).toLoadRect f3 = kt 3
  hk4 : arg3.view.readAt (Elt F) (Rect.unit (s := S1x8448x128) ![0, 7680, 0] S1x256x128.size inb_S1x8448x128_S1x256x128_0_7680_0).toLoadRect f3 = kt 4
  hk5 : arg3.view.readAt (Elt F) (Rect.unit (s := S1x8448x128) ![0, 7936, 0] S1x256x128.size inb_S1x8448x128_S1x256x128_0_7936_0).toLoadRect f3 = kt 5
  hk6 : arg3.view.readAt (Elt F) (Rect.unit (s := S1x8448x128) ![0, 8192, 0] S1x256x128.size inb_S1x8448x128_S1x256x128_0_8192_0).toLoadRect f3 = kt 6
  hv0 : arg4.view.readAt (Elt F) (Rect.unit (s := S1x2x64x8448) (k0_off4 h) S1x1x64x256.size (k0_off4_inb h)).toLoadRect f4 = vt 0
  hv1 : arg4.view.readAt (Elt F) (Rect.unit (s := S1x2x64x8448) (k0_off5 h) S1x1x64x256.size (k0_off5_inb h)).toLoadRect f4 = vt 1
  hv2 : arg4.view.readAt (Elt F) (Rect.unit (s := S1x2x64x8448) (k0_off6 h) S1x1x64x256.size (k0_off6_inb h)).toLoadRect f4 = vt 2
  hv3 : arg4.view.readAt (Elt F) (Rect.unit (s := S1x2x64x8448) (k0_off7 h) S1x1x64x256.size (k0_off7_inb h)).toLoadRect f4 = vt 3
  hv4 : arg4.view.readAt (Elt F) (Rect.unit (s := S1x2x64x8448) (k0_off8 h) S1x1x64x256.size (k0_off8_inb h)).toLoadRect f4 = vt 4
  hv5 : arg4.view.readAt (Elt F) (Rect.unit (s := S1x2x64x8448) (k0_off9 h) S1x1x64x256.size (k0_off9_inb h)).toLoadRect f4 = vt 5
  hv6 : arg4.view.readAt (Elt F) (Rect.unit (s := S1x2x64x8448) (k0_off10 h) S1x1x64x256.size (k0_off10_inb h)).toLoadRect f4 = vt 6
  hv7 : arg4.view.readAt (Elt F) (Rect.unit (s := S1x2x64x8448) (k0_off11 h) S1x1x64x256.size (k0_off11_inb h)).toLoadRect f4 = vt 7
  hv8 : arg4.view.readAt (Elt F) (Rect.unit (s := S1x2x64x8448) (k0_off12 h) S1x1x64x256.size (k0_off12_inb h)).toLoadRect f4 = vt 8

section
variable {c : Dev nD} {i : grid0.Coords} {arg2 : Memref sig .tc .vmem S1x8x64x256 .bf16} {harg2 : arg2.IsWhole} {arg3 : Memref sig .tc .vmem S1x8448x128 .bf16} {harg3 : arg3.IsWhole} {arg4 : Memref sig .tc .vmem S1x2x64x8448 .bf16} {harg4 : arg4.IsWhole} {arg5 : Memref sig .tc .vmem S1x256x512 .bf16} {harg5 : arg5.IsWhole} {arg6 : Memref sig .tc .vmem S128x1024 .bf16} {harg6 : arg6.IsWhole} {arg7 : Memref sig .tc .vmem S1x1024 .f32} {harg7 : arg7.IsWhole} {arg8 : Memref sig .tc .vmem S80x1024 .f32} {harg8 : arg8.IsWhole} {arg9 : Memref sig .tc .vmem S256x1024 .f32} {harg9 : arg9.IsWhole} {arg10 : Memref sig .tc .vmem S256x1024 .f32} {harg10 : arg10.IsWhole} {arg11 : Memref sig .tc .vmem S256x1024 .f32} {harg11 : arg11.IsWhole} {arg12 : Memref sig .tc .vmem S256x1024 .f32} {harg12 : arg12.IsWhole} {h : Fin k0_t1_loop.trips} {f2 : Bf (F := F) c arg2} {f3 : Bf (F := F) c arg3} {f4 : Bf (F := F) c arg4} {f11 : Bf (F := F) c arg11} {f12 : Bf (F := F) c arg12} {kt : Fin 12 → Vec F S1x256x128 .bf16} {vt : Fin 12 → Vec F S1x1x64x256 .bf16} {q0 q1 : Vec F S128x512 .bf16} {s0 s1 : HS F}
  (ht : TailIn c i arg2 harg2 arg3 harg3 arg4 harg4 arg5 harg5 arg6 harg6 arg7 harg7 arg8 harg8 arg9 harg9 arg10 harg10 arg11 harg11 arg12 harg12 h f2 f3 f4 f11 f12 kt vt q0 q1 s0 s1)
include ht

theorem outer_r_46 : outer.sl.r_46 c arg3 f3 = keyMat (kt 6) := by
  simp -proj only [outer.sl.r_46, View.readCov_cons_toLoadRect, View.readCov_skip, d1, d1', d80, d80', d256, d256', k0_pay304, shapeCast_id, ht.hk6] <;> exact rfl

theorem outer_r_51 : outer.sl.r_51 c arg2 arg3 arg6 h f2 f3 = (s1.after kt vt q1 7).xB := by
  simp -proj only [outer.sl.r_51, View.readCov_cons_toLoadRect, View.readCov_skip, d1, d1', d80, d80', d256, d256', k0_pay314, k0_pay316, shapeCast_id, outer_r_46 ht, ht.v107] <;> exact fold_x kt vt q1 s1 6

theorem outer_r_56 : outer.sl.r_56 c arg4 h f4 = valMat (vt 8) := by
  simp -proj only [outer.sl.r_56, View.readCov_cons_toLoadRect, View.readCov_skip, d1, d1', d80, d80', d256, d256', k0_pay328, shapeCast_id, ht.hv8] <;> rw [ht.hv8] <;> exact rfl

theorem outer_r_48 : outer.sl.r_48 c arg2 arg3 arg6 h f2 f3 = (s0.after kt vt q0 7).xB := by
  simp -proj only [outer.sl.r_48, View.readCov_cons_toLoadRect, View.readCov_skip, d1, d1', d80, d80', d256, d256', k0_pay304, k0_pay306, k0_pay308, shapeCast_id, ht.v80, ht.hk6] <;> exact fold_x kt vt q0 s0 6

theorem outer_r_39 : outer.sl.r_39 c arg3 f3 = keyMat (kt 5) := by
  simp -proj only [outer.sl.r_39, View.readCov_cons_toLoadRect, View.readCov_skip, d1, d1', d80, d80', d256, d256', k0_pay288, shapeCast_id, ht.hk5] <;> exact rfl

theorem outer_r_43 : outer.sl.r_43 c arg2 arg3 arg6 h f2 f3 = (s1.after kt vt q1 6).xB := by
  simp -proj only [outer.sl.r_43, View.readCov_cons_toLoadRect, View.readCov_skip, d1, d1', d80, d80', d256, d256', k0_pay296, k0_pay298, shapeCast_id, outer_r_39 ht, ht.v107] <;> exact fold_x kt vt q1 s1 5

theorem outer_r_41 : outer.sl.r_41 c arg2 arg3 arg6 h f2 f3 = (s0.after kt vt q0 6).xB := by
  simp -proj only [outer.sl.r_41, View.readCov_cons_toLoadRect, View.readCov_skip, d1, d1', d80, d80', d256, d256', k0_pay288, k0_pay290, k0_pay292, shapeCast_id, ht.v80, ht.hk5] <;> exact fold_x kt vt q0 s0 5

theorem outer_r_33 : outer.sl.r_33 c arg3 f3 = keyMat (kt 4) := by
  simp -proj only [outer.sl.r_33, View.readCov_cons_toLoadRect, View.readCov_skip, d1, d1', d80, d80', d256, d256', k0_pay274, shapeCast_id, ht.hk4] <;> exact rfl

theorem outer_r_37 : outer.sl.r_37 c arg2 arg3 arg6 h f2 f3 = (s1.after kt vt q1 5).xB := by
  simp -proj only [outer.sl.r_37, View.readCov_cons_toLoadRect, View.readCov_skip, d1, d1', d80, d80', d256, d256', k0_pay282, k0_pay284, shapeCast_id, outer_r_33 ht, ht.v107] <;> exact fold_x kt vt q1 s1 4

theorem outer_r_36 : outer.sl.r_36 c arg2 arg3 arg6 h f2 f3 = (s0.after kt vt q0 5).xB := by
  simp -proj only [outer.sl.r_36, outer.sl.r_35, View.readCov_cons_toLoadRect, View.readCov_skip, d1, d1', d80, d80', d256, d256', k0_pay274, k0_pay276, k0_pay278, shapeCast_id, ht.v80, ht.hk4] <;> exact fold_x kt vt q0 s0 4

theorem outer_r_26 : outer.sl.r_26 c arg3 f3 = keyMat (kt 3) := by
  simp -proj only [outer.sl.r_26, View.readCov_cons_toLoadRect, View.readCov_skip, d1, d1', d80, d80', d256, d256', k0_pay259, shapeCast_id, ht.hk3] <;> exact rfl

theorem outer_r_32 : outer.sl.r_32 c arg2 arg3 arg6 h f2 f3 = (s1.after kt vt q1 4).xB := by
  simp -proj only [outer.sl.r_32, outer.sl.r_30, View.readCov_cons_toLoadRect, View.readCov_skip, d1, d1', d80, d80', d256, d256', k0_pay268, k0_pay270, shapeCast_id, outer_r_26 ht, ht.v107] <;> exact fold_x kt vt q1 s1 3

theorem outer_r_29 : outer.sl.r_29 c arg2 arg3 arg6 h f2 f3 = (s0.after kt vt q0 4).xB := by
  simp -proj only [outer.sl.r_29, View.readCov_cons_toLoadRect, View.readCov_skip, d1, d1', d80, d80', d256, d256', k0_pay262, k0_pay264, shapeCast_id, outer_r_26 ht, ht.v80] <;> exact fold_x kt vt q0 s0 3

theorem outer_r_21 : outer.sl.r_21 c arg3 f3 = keyMat (kt 2) := by
  simp -proj only [outer.sl.r_21, View.readCov_cons_toLoadRect, View.readCov_skip, d1, d1', d80, d80', d256, d256', k0_pay244, shapeCast_id, ht.hk2] <;> exact rfl

theorem outer_r_25 : outer.sl.r_25 c arg2 arg3 arg6 h f2 f3 = (s1.after kt vt q1 3).xB := by
  simp -proj only [outer.sl.r_25, View.readCov_cons_toLoadRect, View.readCov_skip, d1, d1', d80, d80', d256, d256', k0_pay253, k0_pay255, shapeCast_id, outer_r_21 ht, ht.v107] <;> exact fold_x kt vt q1 s1 2

theorem outer_r_23 : outer.sl.r_23 c arg2 arg3 arg6 h f2 f3 = (s0.after kt vt q0 3).xB := by
  simp -proj only [outer.sl.r_23, View.readCov_cons_toLoadRect, View.readCov_skip, d1, d1', d80, d80', d256, d256', k0_pay244, k0_pay246, k0_pay248, shapeCast_id, ht.v80, ht.hk2] <;> exact fold_x kt vt q0 s0 2

theorem outer_r_14 : outer.sl.r_14 c arg3 f3 = keyMat (kt 1) := by
  simp -proj only [outer.sl.r_14, View.readCov_cons_toLoadRect, View.readCov_skip, d1, d1', d80, d80', d256, d256', k0_pay228, shapeCast_id, ht.hk1] <;> exact rfl

theorem outer_r_19 : outer.sl.r_19 c arg2 arg3 arg6 h f2 f3 = (s1.after kt vt q1 2).xB := by
  simp -proj only [outer.sl.r_19, View.readCov_cons_toLoadRect, View.readCov_skip, d1, d1', d80, d80', d256, d256', k0_pay238, k0_pay240, shapeCast_id, outer_r_14 ht, ht.v107] <;> exact fold_x kt vt q1 s1 1

theorem outer_r_16 : outer.sl.r_16 c arg2 arg3 arg6 h f2 f3 = (s0.after kt vt q0 2).xB := by
  simp -proj only [outer.sl.r_16, View.readCov_cons_toLoadRect, View.readCov_skip, d1, d1', d80, d80', d256, d256', k0_pay228, k0_pay230, k0_pay232, shapeCast_id, ht.v80, ht.hk1] <;> exact fold_x kt vt q0 s0 1

theorem outer_r_7 : outer.sl.r_7 c arg3 f3 = keyMat (kt 0) := by
  simp -proj only [outer.sl.r_7, View.readCov_cons_toLoadRect, View.readCov_skip, d1, d1', d80, d80', d256, d256', k0_pay212, shapeCast_id, ht.hk0] <;> exact rfl

theorem outer_r_11 : outer.sl.r_11 c arg2 arg3 arg6 h f2 f3 = (s1.after kt vt q1 1).xB := by
  simp -proj only [outer.sl.r_11, View.readCov_cons_toLoadRect, View.readCov_skip, d1, d1', d80, d80', d256, d256', k0_pay220, k0_pay222, shapeCast_id, outer_r_7 ht, ht.v107] <;> exact fold_x kt vt q1 s1 0

theorem outer_r_9 : outer.sl.r_9 c arg2 arg3 arg6 h f2 f3 = (s0.after kt vt q0 1).xB := by
  simp -proj only [outer.sl.r_9, View.readCov_cons_toLoadRect, View.readCov_skip, d1, d1', d80, d80', d256, d256', k0_pay212, k0_pay214, k0_pay216, shapeCast_id, ht.v80, ht.hk0] <;> exact fold_x kt vt q0 s0 0

theorem outer_v148 : outer.sl.v148 c i arg2 harg2 arg3 harg3 arg4 harg4 arg5 harg5 arg6 harg6 arg7 harg7 arg8 harg8 arg9 harg9 arg10 harg10 arg11 harg11 arg12 harg12 h f2 f3 f4 f11 f12 = (s0.after kt vt q0 1).m := by
  simp -proj only [outer.sl.v148, outer.sl.H7_2, View.readCov_cons_toLoadRect, View.readCov_skip, d1, d1', d80, d80', d256, d256', k0_pay218, k0_pay223, k0_pay224, shapeCast_id, ht.r_4, ht.v114, ht.r_10, fold_m0 kt vt q0 s0]

theorem outer_v175 : outer.sl.v175 c i arg2 harg2 arg3 harg3 arg4 harg4 arg5 harg5 arg6 harg6 arg7 harg7 arg8 harg8 arg9 harg9 arg10 harg10 arg11 harg11 arg12 harg12 h f2 f3 f4 f11 f12 = (s1.after kt vt q1 1).m := by
  simp -proj only [outer.sl.v175, outer.sl.H7_3, outer.sl.H7_2, View.readCov_cons_toLoadRect, View.readCov_skip, d1, d1', d80, d80', d256, d256', k0_pay218, k0_pay223, k0_pay224, k0_pay233, k0_pay234, shapeCast_id, ht.r_5, outer_v148 ht, ht.r_4, ht.v114, ht.r_10, fold_m0 kt vt q1 s1]

theorem outer_v209 : outer.sl.v209 c i arg2 harg2 arg3 harg3 arg4 harg4 arg5 harg5 arg6 harg6 arg7 harg7 arg8 harg8 arg9 harg9 arg10 harg10 arg11 harg11 arg12 harg12 h f2 f3 f4 f11 f12 = (s0.after kt vt q0 2).m := by
  simp -proj only [outer.sl.v209, outer.sl.H7_4, outer.sl.H7_3, outer.sl.H7_2, View.readCov_cons_toLoadRect, View.readCov_skip, d1, d1', d80, d80', d256, d256', k0_pay218, k0_pay223, k0_pay224, k0_pay233, k0_pay234, k0_pay241, k0_pay242, shapeCast_id, ht.r_6, outer_v175 ht, ht.r_5, outer_v148 ht, ht.r_4, ht.v114, ht.r_10, fold_m1 kt vt q0 s0]

theorem outer_v236 : outer.sl.v236 c i arg2 harg2 arg3 harg3 arg4 harg4 arg5 harg5 arg6 harg6 arg7 harg7 arg8 harg8 arg9 harg9 arg10 harg10 arg11 harg11 arg12 harg12 h f2 f3 f4 f11 f12 = (s1.after kt vt q1 2).m := by
  simp -proj only [outer.sl.v236, outer.sl.H7_5, outer.sl.H7_4, outer.sl.H7_3, View.readCov_cons_toLoadRect, View.readCov_skip, d1, d1', d80, d80', d256, d256', k0_pay233, k0_pay234, k0_pay241, k0_pay242, k0_pay249, k0_pay250, shapeCast_id, outer_r_9 ht, outer_v209 ht, ht.r_6, outer_v175 ht, ht.r_5, outer_v148 ht, fold_m1 kt vt q1 s1]

theorem outer_v270 : outer.sl.v270 c i arg2 harg2 arg3 harg3 arg4 harg4 arg5 harg5 arg6 harg6 arg7 harg7 arg8 harg8 arg9 harg9 arg10 harg10 arg11 harg11 arg12 harg12 h f2 f3 f4 f11 f12 = (s0.after kt vt q0 3).m := by
  simp -proj only [outer.sl.v270, outer.sl.H7_6, outer.sl.H7_5, outer.sl.H7_4, View.readCov_cons_toLoadRect, View.readCov_skip, d1, d1', d80, d80', d256, d256', k0_pay241, k0_pay242, k0_pay249, k0_pay250, k0_pay256, k0_pay257, shapeCast_id, outer_r_11 ht, outer_v236 ht, outer_r_9 ht, outer_v209 ht, ht.r_6, outer_v175 ht, (show maximumf (s0.after kt vt q0 2).m (s0.after kt vt q0 1).xB = (s0.after kt vt q0 3).m from fold_m kt vt q0 s0 0)]

theorem outer_v297 : outer.sl.v297 c i arg2 harg2 arg3 harg3 arg4 harg4 arg5 harg5 arg6 harg6 arg7 harg7 arg8 harg8 arg9 harg9 arg10 harg10 arg11 harg11 arg12 harg12 h f2 f3 f4 f11 f12 = (s1.after kt vt q1 3).m := by
  simp -proj only [outer.sl.v297, outer.sl.H7_7, outer.sl.H7_6, outer.sl.H7_5, View.readCov_cons_toLoadRect, View.readCov_skip, d1, d1', d80, d80', d256, d256', k0_pay249, k0_pay250, k0_pay256, k0_pay257, k0_pay265, k0_pay266, shapeCast_id, outer_r_16 ht, outer_v270 ht, outer_r_11 ht, outer_v236 ht, outer_r_9 ht, outer_v209 ht, (show maximumf (s1.after kt vt q1 2).m (s1.after kt vt q1 1).xB = (s1.after kt vt q1 3).m from fold_m kt vt q1 s1 0)]

theorem outer_v331 : outer.sl.v331 c i arg2 harg2 arg3 harg3 arg4 harg4 arg5 harg5 arg6 harg6 arg7 harg7 arg8 harg8 arg9 harg9 arg10 harg10 arg11 harg11 arg12 harg12 h f2 f3 f4 f11 f12 = (s0.after kt vt q0 4).m := by
  simp -proj only [outer.sl.v331, outer.sl.H7_8, outer.sl.H7_7, outer.sl.H7_6, View.readCov_cons_toLoadRect, View.readCov_skip, d1, d1', d80, d80', d256, d256', k0_pay256, k0_pay257, k0_pay265, k0_pay266, k0_pay271, k0_pay272, shapeCast_id, outer_r_19 ht, outer_v297 ht, outer_r_16 ht, outer_v270 ht, outer_r_11 ht, outer_v236 ht, (show maximumf (s0.after kt vt q0 3).m (s0.after kt vt q0 2).xB = (s0.after kt vt q0 4).m from fold_m kt vt q0 s0 1)]

theorem outer_v358 : outer.sl.v358 c i arg2 harg2 arg3 harg3 arg4 harg4 arg5 harg5 arg6 harg6 arg7 harg7 arg8 harg8 arg9 harg9 arg10 harg10 arg11 harg11 arg12 harg12 h f2 f3 f4 f11 f12 = (s1.after kt vt q1 4).m := by
  simp -proj only [outer.sl.v358, outer.sl.H7_9, outer.sl.H7_8, outer.sl.H7_7, View.readCov_cons_toLoadRect, View.readCov_skip, d1, d1', d80, d80', d256, d256', k0_pay265, k0_pay266, k0_pay271, k0_pay272, k0_pay279, k0_pay280, shapeCast_id, outer_r_23 ht, outer_v331 ht, outer_r_19 ht, outer_v297 ht, outer_r_16 ht, outer_v270 ht, (show maximumf (s1.after kt vt q1 3).m (s1.after kt vt q1 2).xB = (s1.after kt vt q1 4).m from fold_m kt vt q1 s1 1)]

theorem outer_r_38 : outer.sl.r_38 c i arg2 harg2 arg3 harg3 arg4 harg4 arg5 harg5 arg6 harg6 arg7 harg7 arg8 harg8 arg9 harg9 arg10 harg10 arg11 harg11 arg12 harg12 h f2 f3 f4 f11 f12 = (s1.after kt vt q1 5).m := by
  simp -proj only [outer.sl.r_38, View.readCov_cons_toLoadRect, View.readCov_skip, d1, d1', d80, d80', d256, d256', k0_pay285, shapeCast_id, outer_r_25 ht, outer_v358 ht, (show maximumf (s1.after kt vt q1 4).m (s1.after kt vt q1 3).xB = (s1.after kt vt q1 5).m from fold_m kt vt q1 s1 2)]

theorem outer_v392 : outer.sl.v392 c i arg2 harg2 arg3 harg3 arg4 harg4 arg5 harg5 arg6 harg6 arg7 harg7 arg8 harg8 arg9 harg9 arg10 harg10 arg11 harg11 arg12 harg12 h f2 f3 f4 f11 f12 = (s0.after kt vt q0 5).m := by
  simp -proj only [outer.sl.v392, outer.sl.H7_10, outer.sl.H7_9, outer.sl.H7_8, View.readCov_cons_toLoadRect, View.readCov_skip, d1, d1', d80, d80', d256, d256', k0_pay271, k0_pay272, k0_pay279, k0_pay280, k0_pay286, shapeCast_id, outer_r_38 ht, outer_r_23 ht, outer_v331 ht, outer_r_19 ht, outer_v297 ht, (show maximumf (s0.after kt vt q0 4).m (s0.after kt vt q0 3).xB = (s0.after kt vt q0 5).m from fold_m kt vt q0 s0 2)]

theorem outer_r_42 : outer.sl.r_42 c i arg2 harg2 arg3 harg3 arg4 harg4 arg5 harg5 arg6 harg6 arg7 harg7 arg8 harg8 arg9 harg9 arg10 harg10 arg11 harg11 arg12 harg12 h f2 f3 f4 f11 f12 = (s0.after kt vt q0 6).m := by
  simp -proj only [outer.sl.r_42, View.readCov_cons_toLoadRect, View.readCov_skip, d1, d1', d80, d80', d256, d256', k0_pay293, shapeCast_id, outer_r_29 ht, outer_v392 ht, (show maximumf (s0.after kt vt q0 5).m (s0.after kt vt q0 4).xB = (s0.after kt vt q0 6).m from fold_m kt vt q0 s0 3)]

theorem outer_v419 : outer.sl.v419 c i arg2 harg2 arg3 harg3 arg4 harg4 arg5 harg5 arg6 harg6 arg7 harg7 arg8 harg8 arg9 harg9 arg10 harg10 arg11 harg11 arg12 harg12 h f2 f3 f4 f11 f12 = (s1.after kt vt q1 5).m := by
  simp -proj only [outer.sl.v419, outer.sl.H7_11, outer.sl.H7_10, outer.sl.H7_9, View.readCov_cons_toLoadRect, View.readCov_skip, d1, d1', d80, d80', d256, d256', k0_pay279, k0_pay280, k0_pay286, k0_pay294, shapeCast_id, outer_r_42 ht, outer_r_38 ht, outer_r_23 ht, outer_v331 ht, (show maximumf (s1.after kt vt q1 4).m (s1.after kt vt q1 3).xB = (s1.after kt vt q1 5).m from fold_m kt vt q1 s1 2)]

theorem outer_v453 : outer.sl.v453 c i arg2 harg2 arg3 harg3 arg4 harg4 arg5 harg5 arg6 harg6 arg7 harg7 arg8 harg8 arg9 harg9 arg10 harg10 arg11 harg11 arg12 harg12 h f2 f3 f4 f11 f12 = (s0.after kt vt q0 6).m := by
  simp -proj only [outer.sl.v453, outer.sl.H7_12, outer.sl.H7_11, outer.sl.H7_10, View.readCov_cons_toLoadRect, View.readCov_skip, d1, d1', d80, d80', d256, d256', k0_pay286, k0_pay294, k0_pay299, k0_pay300, shapeCast_id, outer_r_32 ht, outer_v419 ht, outer_r_42 ht, outer_r_38 ht, (show maximumf (s0.after kt vt q0 5).m (s0.after kt vt q0 4).xB = (s0.after kt vt q0 6).m from fold_m kt vt q0 s0 3)]

theorem outer_v480 : outer.sl.v480 c i arg2 harg2 arg3 harg3 arg4 harg4 arg5 harg5 arg6 harg6 arg7 harg7 arg8 harg8 arg9 harg9 arg10 harg10 arg11 harg11 arg12 harg12 h f2 f3 f4 f11 f12 = (s1.after kt vt q1 6).m := by
  simp -proj only [outer.sl.v480, outer.sl.H7_13, outer.sl.H7_12, outer.sl.H7_11, View.readCov_cons_toLoadRect, View.readCov_skip, d1, d1', d80, d80', d256, d256', k0_pay294, k0_pay299, k0_pay300, k0_pay309, k0_pay310, shapeCast_id, outer_r_36 ht, outer_v453 ht, outer_r_32 ht, outer_v419 ht, outer_r_42 ht, (show maximumf (s1.after kt vt q1 5).m (s1.after kt vt q1 4).xB = (s1.after kt vt q1 6).m from fold_m kt vt q1 s1 3)]

theorem outer_v505 : outer.sl.v505 c i arg2 harg2 arg3 harg3 arg4 harg4 arg5 harg5 arg6 harg6 arg7 harg7 arg8 harg8 arg9 harg9 arg10 harg10 arg11 harg11 arg12 harg12 h f2 f3 f4 f11 f12 = (s0.after kt vt q0 7).m := by
  simp -proj only [outer.sl.v505, outer.sl.H7_14, outer.sl.H7_13, outer.sl.H7_12, View.readCov_cons_toLoadRect, View.readCov_skip, d1, d1', d80, d80', d256, d256', k0_pay299, k0_pay300, k0_pay309, k0_pay310, k0_pay317, k0_pay318, shapeCast_id, outer_r_37 ht, outer_v480 ht, outer_r_36 ht, outer_v453 ht, outer_r_32 ht, outer_v419 ht, (show maximumf (s0.after kt vt q0 6).m (s0.after kt vt q0 5).xB = (s0.after kt vt q0 7).m from fold_m kt vt q0 s0 4)]

theorem outer_v525 : outer.sl.v525 c i arg2 harg2 arg3 harg3 arg4 harg4 arg5 harg5 arg6 harg6 arg7 harg7 arg8 harg8 arg9 harg9 arg10 harg10 arg11 harg11 arg12 harg12 h f2 f3 f4 f11 f12 = (s1.after kt vt q1 7).m := by
  simp -proj only [outer.sl.v525, outer.sl.H7_15, outer.sl.H7_14, outer.sl.H7_13, View.readCov_cons_toLoadRect, View.readCov_skip, d1, d1', d80, d80', d256, d256', k0_pay309, k0_pay310, k0_pay317, k0_pay318, k0_pay321, k0_pay322, shapeCast_id, outer_r_41 ht, outer_v505 ht, outer_r_37 ht, outer_v480 ht, outer_r_36 ht, outer_v453 ht, (show maximumf (s1.after kt vt q1 6).m (s1.after kt vt q1 5).xB = (s1.after kt vt q1 7).m from fold_m kt vt q1 s1 4)]

theorem outer_v550 : outer.sl.v550 c i arg2 harg2 arg3 harg3 arg4 harg4 arg5 harg5 arg6 harg6 arg7 harg7 arg8 harg8 arg9 harg9 arg10 harg10 arg11 harg11 arg12 harg12 h f2 f3 f4 f11 f12 = (s0.after kt vt q0 8).m := by
  simp -proj only [outer.sl.v550, outer.sl.H7_16, outer.sl.H7_15, outer.sl.H7_14, View.readCov_cons_toLoadRect, View.readCov_skip, d1, d1', d80, d80', d256, d256', k0_pay317, k0_pay318, k0_pay321, k0_pay322, k0_pay324, k0_pay325, shapeCast_id, outer_r_43 ht, outer_v525 ht, outer_r_41 ht, outer_v505 ht, outer_r_37 ht, outer_v480 ht, (show maximumf (s0.after kt vt q0 7).m (s0.after kt vt q0 6).xB = (s0.after kt vt q0 8).m from fold_m kt vt q0 s0 5)]

theorem outer_v570 : outer.sl.v570 c i arg2 harg2 arg3 harg3 arg4 harg4 arg5 harg5 arg6 harg6 arg7 harg7 arg8 harg8 arg9 harg9 arg10 harg10 arg11 harg11 arg12 harg12 h f2 f3 f4 f11 f12 = (s1.after kt vt q1 8).m := by
  simp -proj only [outer.sl.v570, outer.sl.H7_17, outer.sl.H7_16, outer.sl.H7_15, View.readCov_cons_toLoadRect, View.readCov_skip, d1, d1', d80, d80', d256, d256', k0_pay321, k0_pay322, k0_pay324, k0_pay325, k0_pay329, k0_pay330, shapeCast_id, outer_r_48 ht, outer_v550 ht, outer_r_43 ht, outer_v525 ht, outer_r_41 ht, outer_v505 ht, (show maximumf (s1.after kt vt q1 7).m (s1.after kt vt q1 6).xB = (s1.after kt vt q1 8).m from fold_m kt vt q1 s1 5)]

theorem outer_v575 : outer.sl.v575 c arg2 arg3 arg6 arg9 h f2 f3 = (s1.after kt vt q1 7).sB := by
  simp -proj only [outer.sl.v575, outer.sl.H9_4, outer.sl.H9_2_1, View.readCov_cons_toLoadRect, View.readCov_skip, d1, d1', d80, d80', d256, d256', k0_pay244, k0_pay246, k0_pay247, k0_pay253, k0_pay254, k0_pay304, k0_pay306, k0_pay307, k0_pay314, k0_pay315, shapeCast_id, outer_r_46 ht, ht.v107, ht.v80, outer_r_21 ht, ht.hk2, ht.hk6] <;> exact fold_s kt vt q1 s1 6

theorem outer_v555 : outer.sl.v555 c arg2 arg3 arg6 arg9 h f2 f3 = (s0.after kt vt q0 7).sB := by
  simp -proj only [outer.sl.v555, outer.sl.H9_4, outer.sl.H9_2_1, View.readCov_cons_toLoadRect, View.readCov_skip, d1, d1', d80, d80', d256, d256', k0_pay244, k0_pay246, k0_pay247, k0_pay253, k0_pay254, k0_pay304, k0_pay306, k0_pay307, k0_pay314, k0_pay315, shapeCast_id, outer_r_46 ht, ht.v107, ht.v80, outer_r_21 ht, ht.hk2, ht.hk6] <;> exact fold_s kt vt q0 s0 6

theorem outer_r_53 : outer.sl.r_53 c arg4 h f4 = valMat (vt 7) := by
  simp -proj only [outer.sl.r_53, View.readCov_cons_toLoadRect, View.readCov_skip, d1, d1', d80, d80', d256, d256', k0_pay320, shapeCast_id, ht.hv7] <;> rw [ht.hv7] <;> exact rfl

theorem outer_r_54 : outer.sl.r_54 c i arg2 harg2 arg3 harg3 arg4 harg4 arg5 harg5 arg6 harg6 arg7 harg7 arg8 harg8 arg9 harg9 arg10 harg10 arg11 harg11 arg12 harg12 h f2 f3 f4 f11 f12 = (s1.after kt vt q1 8).m := by
  simp -proj only [outer.sl.r_54, View.readCov_cons_toLoadRect, View.readCov_skip, d1, d1', d80, d80', d256, d256', k0_pay324, shapeCast_id, outer_r_43 ht, outer_v525 ht, (show maximumf (s1.after kt vt q1 7).m (s1.after kt vt q1 6).xB = (s1.after kt vt q1 8).m from fold_m kt vt q1 s1 5)]

theorem outer_v530 : outer.sl.v530 c arg2 arg3 arg6 arg12 h f2 f3 = (s1.after kt vt q1 6).sB := by
  simp -proj only [outer.sl.v530, outer.sl.H12_4, outer.sl.H12_2, View.readCov_cons_toLoadRect, View.readCov_skip, d1, d1', d80, d80', d256, d256', k0_pay228, k0_pay230, k0_pay231, k0_pay238, k0_pay239, k0_pay288, k0_pay290, k0_pay291, k0_pay296, k0_pay297, shapeCast_id, outer_r_39 ht, ht.v107, ht.v80, outer_r_14 ht, ht.hk1, ht.hk5] <;> exact fold_s kt vt q1 s1 5

theorem outer_r_55 : outer.sl.r_55 c i arg2 harg2 arg3 harg3 arg4 harg4 arg5 harg5 arg6 harg6 arg7 harg7 arg8 harg8 arg9 harg9 arg10 harg10 arg11 harg11 arg12 harg12 h f2 f3 f4 f11 f12 = weights (s1.after kt vt q1 8).m (s1.after kt vt q1 6).sB := by
  simp -proj only [outer.sl.r_55, View.readCov_cons_toLoadRect, View.readCov_skip, d1, d1', d80, d80', d256, d256', k0_pay324, k0_pay326, shapeCast_id, outer_r_43 ht, outer_v525 ht, outer_v530 ht, (show maximumf (s1.after kt vt q1 7).m (s1.after kt vt q1 6).xB = (s1.after kt vt q1 8).m from fold_m kt vt q1 s1 5)] <;> exact rfl

theorem outer_v510 : outer.sl.v510 c arg2 arg3 arg6 arg12 h f2 f3 = (s0.after kt vt q0 6).sB := by
  simp -proj only [outer.sl.v510, outer.sl.H12_4, outer.sl.H12_2, View.readCov_cons_toLoadRect, View.readCov_skip, d1, d1', d80, d80', d256, d256', k0_pay228, k0_pay230, k0_pay231, k0_pay238, k0_pay239, k0_pay288, k0_pay290, k0_pay291, k0_pay296, k0_pay297, shapeCast_id, outer_r_39 ht, ht.v107, ht.v80, outer_r_14 ht, ht.hk1, ht.hk5] <;> exact fold_s kt vt q0 s0 5

theorem outer_r_47 : outer.sl.r_47 c arg4 h f4 = valMat (vt 6) := by
  simp -proj only [outer.sl.r_47, View.readCov_cons_toLoadRect, View.readCov_skip, d1, d1', d80, d80', d256, d256', k0_pay305, shapeCast_id, ht.hv6] <;> rw [ht.hv6] <;> exact rfl

theorem outer_v485 : outer.sl.v485 c arg2 arg3 arg6 arg11 h f2 f3 = (s1.after kt vt q1 5).sB := by
  simp -proj only [outer.sl.v485, outer.sl.H11_4, outer.sl.H11_2, outer.sl.r_35, View.readCov_cons_toLoadRect, View.readCov_skip, d1, d1', d80, d80', d256, d256', k0_pay212, k0_pay214, k0_pay215, k0_pay220, k0_pay221, k0_pay274, k0_pay276, k0_pay277, k0_pay282, k0_pay283, shapeCast_id, outer_r_33 ht, ht.v107, outer_r_7 ht, ht.v80, ht.hk0, ht.hk4] <;> exact fold_s kt vt q1 s1 4

theorem outer_v458 : outer.sl.v458 c arg2 arg3 arg6 arg11 h f2 f3 = (s0.after kt vt q0 5).sB := by
  simp -proj only [outer.sl.v458, outer.sl.H11_4, outer.sl.H11_2, outer.sl.r_35, View.readCov_cons_toLoadRect, View.readCov_skip, d1, d1', d80, d80', d256, d256', k0_pay212, k0_pay214, k0_pay215, k0_pay220, k0_pay221, k0_pay274, k0_pay276, k0_pay277, k0_pay282, k0_pay283, shapeCast_id, outer_r_33 ht, ht.v107, outer_r_7 ht, ht.v80, ht.hk0, ht.hk4] <;> exact fold_s kt vt q0 s0 4

theorem outer_r_49 : outer.sl.r_49 c i arg2 harg2 arg3 harg3 arg4 harg4 arg5 harg5 arg6 harg6 arg7 harg7 arg8 harg8 arg9 harg9 arg10 harg10 arg11 harg11 arg12 harg12 h f2 f3 f4 f11 f12 = weights (s0.after kt vt q0 7).m (s0.after kt vt q0 5).sB := by
  simp -proj only [outer.sl.r_49, View.readCov_cons_toLoadRect, View.readCov_skip, d1, d1', d80, d80', d256, d256', k0_pay309, k0_pay311, shapeCast_id, outer_r_36 ht, outer_v453 ht, outer_v458 ht, (show maximumf (s0.after kt vt q0 6).m (s0.after kt vt q0 5).xB = (s0.after kt vt q0 7).m from fold_m kt vt q0 s0 4)] <;> exact rfl

theorem outer_r_40 : outer.sl.r_40 c arg4 h f4 = valMat (vt 5) := by
  simp -proj only [outer.sl.r_40, View.readCov_cons_toLoadRect, View.readCov_skip, d1, d1', d80, d80', d256, d256', k0_pay289, shapeCast_id, ht.hv5] <;> rw [ht.hv5] <;> exact rfl

theorem outer_r_31 : outer.sl.r_31 c arg2 arg3 arg6 h f2 f3 = (s1.after kt vt q1 4).sB := by
  simp -proj only [outer.sl.r_31, View.readCov_cons_toLoadRect, View.readCov_skip, d1, d1', d80, d80', d256, d256', k0_pay268, k0_pay269, shapeCast_id, outer_r_26 ht, ht.v107] <;> exact fold_s kt vt q1 s1 3

theorem outer_v424 : outer.sl.v424 c arg2 arg3 arg6 arg10 h f2 f3 = (s1.after kt vt q1 4).sB := by
  simp -proj only [outer.sl.v424, outer.sl.H10_2_1, View.readCov_cons_toLoadRect, View.readCov_skip, d1, d1', d80, d80', d256, d256', k0_pay262, k0_pay263, shapeCast_id, outer_r_31 ht, outer_r_26 ht, ht.v80] <;> exact fold_s kt vt q1 s1 3

theorem outer_r_44 : outer.sl.r_44 c i arg2 harg2 arg3 harg3 arg4 harg4 arg5 harg5 arg6 harg6 arg7 harg7 arg8 harg8 arg9 harg9 arg10 harg10 arg11 harg11 arg12 harg12 h f2 f3 f4 f11 f12 = weights (s1.after kt vt q1 6).m (s1.after kt vt q1 4).sB := by
  simp -proj only [outer.sl.r_44, View.readCov_cons_toLoadRect, View.readCov_skip, d1, d1', d80, d80', d256, d256', k0_pay299, k0_pay301, shapeCast_id, outer_r_32 ht, outer_v419 ht, outer_v424 ht, (show maximumf (s1.after kt vt q1 5).m (s1.after kt vt q1 4).xB = (s1.after kt vt q1 6).m from fold_m kt vt q1 s1 3)] <;> exact rfl

theorem outer_v397 : outer.sl.v397 c arg2 arg3 arg6 arg10 h f2 f3 = (s0.after kt vt q0 4).sB := by
  simp -proj only [outer.sl.v397, outer.sl.H10_2_1, View.readCov_cons_toLoadRect, View.readCov_skip, d1, d1', d80, d80', d256, d256', k0_pay262, k0_pay263, shapeCast_id, outer_r_31 ht, outer_r_26 ht, ht.v80] <;> exact fold_s kt vt q0 s0 3

theorem outer_r_34 : outer.sl.r_34 c arg4 h f4 = valMat (vt 4) := by
  simp -proj only [outer.sl.r_34, View.readCov_cons_toLoadRect, View.readCov_skip, d1, d1', d80, d80', d256, d256', k0_pay275, shapeCast_id, ht.hv4] <;> rw [ht.hv4] <;> exact rfl

theorem outer_v363 : outer.sl.v363 c arg2 arg3 arg6 arg9 h f2 f3 = (s1.after kt vt q1 3).sB := by
  simp -proj only [outer.sl.v363, outer.sl.H9_2_1, View.readCov_cons_toLoadRect, View.readCov_skip, d1, d1', d80, d80', d256, d256', k0_pay244, k0_pay246, k0_pay247, k0_pay253, k0_pay254, shapeCast_id, outer_r_21 ht, ht.v107, ht.v80, ht.hk2] <;> exact fold_s kt vt q1 s1 2

theorem outer_v336 : outer.sl.v336 c arg2 arg3 arg6 arg9 h f2 f3 = (s0.after kt vt q0 3).sB := by
  simp -proj only [outer.sl.v336, outer.sl.H9_2_1, View.readCov_cons_toLoadRect, View.readCov_skip, d1, d1', d80, d80', d256, d256', k0_pay244, k0_pay246, k0_pay247, k0_pay253, k0_pay254, shapeCast_id, outer_r_21 ht, ht.v107, ht.v80, ht.hk2] <;> exact fold_s kt vt q0 s0 2

theorem outer_r_28 : outer.sl.r_28 c arg4 h f4 = valMat (vt 3) := by
  simp -proj only [outer.sl.r_28, outer.sl.r_27, View.readCov_cons_toLoadRect, View.readCov_skip, d1, d1', d80, d80', d256, d256', k0_pay260, k0_pay261, shapeCast_id, ht.hv3] <;> rw [ht.hv3] <;> exact rfl

theorem outer_v302 : outer.sl.v302 c arg2 arg3 arg6 arg12 h f2 f3 = (s1.after kt vt q1 2).sB := by
  simp -proj only [outer.sl.v302, outer.sl.H12_2, View.readCov_cons_toLoadRect, View.readCov_skip, d1, d1', d80, d80', d256, d256', k0_pay228, k0_pay230, k0_pay231, k0_pay238, k0_pay239, shapeCast_id, outer_r_14 ht, ht.v107, ht.v80, ht.hk1] <;> exact fold_s kt vt q1 s1 1

theorem outer_v275 : outer.sl.v275 c arg2 arg3 arg6 arg12 h f2 f3 = (s0.after kt vt q0 2).sB := by
  simp -proj only [outer.sl.v275, outer.sl.H12_2, View.readCov_cons_toLoadRect, View.readCov_skip, d1, d1', d80, d80', d256, d256', k0_pay228, k0_pay230, k0_pay231, k0_pay238, k0_pay239, shapeCast_id, outer_r_14 ht, ht.v107, ht.v80, ht.hk1] <;> exact fold_s kt vt q0 s0 1

theorem outer_r_22 : outer.sl.r_22 c arg4 h f4 = valMat (vt 2) := by
  simp -proj only [outer.sl.r_22, View.readCov_cons_toLoadRect, View.readCov_skip, d1, d1', d80, d80', d256, d256', k0_pay245, shapeCast_id, ht.hv2] <;> rw [ht.hv2] <;> exact rfl

theorem outer_v241 : outer.sl.v241 c arg2 arg3 arg6 arg11 h f2 f3 = (s1.after kt vt q1 1).sB := by
  simp -proj only [outer.sl.v241, outer.sl.H11_2, View.readCov_cons_toLoadRect, View.readCov_skip, d1, d1', d80, d80', d256, d256', k0_pay212, k0_pay214, k0_pay215, k0_pay220, k0_pay221, shapeCast_id, outer_r_7 ht, ht.v107, ht.v80, ht.hk0] <;> exact fold_s kt vt q1 s1 0

theorem outer_v214 : outer.sl.v214 c arg2 arg3 arg6 arg11 h f2 f3 = (s0.after kt vt q0 1).sB := by
  simp -proj only [outer.sl.v214, outer.sl.H11_2, View.readCov_cons_toLoadRect, View.readCov_skip, d1, d1', d80, d80', d256, d256', k0_pay212, k0_pay214, k0_pay215, k0_pay220, k0_pay221, shapeCast_id, outer_r_7 ht, ht.v107, ht.v80, ht.hk0] <;> exact fold_s kt vt q0 s0 0

theorem outer_r_15 : outer.sl.r_15 c arg4 h f4 = valMat (vt 1) := by
  simp -proj only [outer.sl.r_15, View.readCov_cons_toLoadRect, View.readCov_skip, d1, d1', d80, d80', d256, d256', k0_pay229, shapeCast_id, ht.hv1] <;> rw [ht.hv1] <;> exact rfl

theorem outer_r_17 : outer.sl.r_17 c i arg2 harg2 arg3 harg3 arg4 harg4 arg5 harg5 arg6 harg6 arg7 harg7 arg8 harg8 arg9 harg9 arg10 harg10 arg11 harg11 arg12 harg12 h f2 f3 f4 f11 f12 = weights (s0.after kt vt q0 2).m s0.sB := by
  simp -proj only [outer.sl.r_17, View.readCov_cons_toLoadRect, View.readCov_skip, d1, d1', d80, d80', d256, d256', k0_pay233, k0_pay235, shapeCast_id, ht.r_5, outer_v148 ht, ht.v153, fold_m1 kt vt q0 s0] <;> exact rfl

theorem outer_r_8 : outer.sl.r_8 c arg4 h f4 = valMat (vt 0) := by
  simp -proj only [outer.sl.r_8, View.readCov_cons_toLoadRect, View.readCov_skip, d1, d1', d80, d80', d256, d256', k0_pay213, shapeCast_id, ht.hv0] <;> rw [ht.hv0] <;> exact rfl

theorem outer_r_12 : outer.sl.r_12 c i arg2 harg2 arg3 harg3 arg4 harg4 arg5 harg5 arg6 harg6 arg7 harg7 arg8 harg8 arg9 harg9 arg10 harg10 arg11 harg11 arg12 harg12 h f2 f3 f4 f11 f12 = weights (s1.after kt vt q1 1).m s1.sA := by
  simp -proj only [outer.sl.r_12, View.readCov_cons_toLoadRect, View.readCov_skip, d1, d1', d80, d80', d256, d256', k0_pay223, k0_pay225, shapeCast_id, ht.r_4, ht.v114, ht.v119, fold_m0 kt vt q1 s1] <;> exact rfl

theorem outer_v160 : outer.sl.v160 c i arg2 harg2 arg3 harg3 arg4 harg4 arg5 harg5 arg6 harg6 arg7 harg7 arg8 harg8 arg9 harg9 arg10 harg10 arg11 harg11 arg12 harg12 h f2 f3 f4 f11 f12 = (s0.after kt vt q0 1).a := by
  simp -proj only [outer.sl.v160, outer.sl.H8_2, outer.sl.r_13, View.readCov_cons_toLoadRect, View.readCov_skip, d1, d1', d80, d80', d256, d256', k0_pay219, k0_pay223, k0_pay226, k0_pay227, shapeCast_id, outer_r_8 ht, outer_r_12 ht, ht.v126, ht.v87, ht.r_10, ht.v92, ht.v99, ht.r_4, ht.v114, fold_m0 kt vt q0 s0] <;> exact fold_a0 kt vt q0 s0

theorem outer_v187 : outer.sl.v187 c i arg2 harg2 arg3 harg3 arg4 harg4 arg5 harg5 arg6 harg6 arg7 harg7 arg8 harg8 arg9 harg9 arg10 harg10 arg11 harg11 arg12 harg12 h f2 f3 f4 f11 f12 = (s1.after kt vt q1 1).a := by
  simp -proj only [outer.sl.v187, outer.sl.H8_3, outer.sl.H8_2, outer.sl.r_18, outer.sl.r_13, View.readCov_cons_toLoadRect, View.readCov_skip, d1, d1', d80, d80', d256, d256', k0_pay219, k0_pay223, k0_pay226, k0_pay227, k0_pay233, k0_pay236, k0_pay237, shapeCast_id, outer_r_15 ht, outer_r_17 ht, outer_v160 ht, outer_r_8 ht, outer_r_12 ht, ht.v126, ht.v87, ht.r_10, ht.v92, ht.v99, ht.r_5, outer_v148 ht, ht.r_4, ht.v114, fold_m0 kt vt q1 s1] <;> exact fold_a0 kt vt q1 s1

theorem outer_r_20 : outer.sl.r_20 c i arg2 harg2 arg3 harg3 arg4 harg4 arg5 harg5 arg6 harg6 arg7 harg7 arg8 harg8 arg9 harg9 arg10 harg10 arg11 harg11 arg12 harg12 h f2 f3 f4 f11 f12 = (s1.after kt vt q1 2).a := by
  simp -proj only [outer.sl.r_20, View.readCov_cons_toLoadRect, View.readCov_skip, d1, d1', d80, d80', d256, d256', k0_pay241, k0_pay243, shapeCast_id, ht.r_6, outer_r_15 ht, outer_v175 ht, ht.v180, outer_v187 ht, fold_m1 kt vt q1 s1] <;> exact fold_a1 kt vt q1 s1

theorem outer_v221 : outer.sl.v221 c i arg2 harg2 arg3 harg3 arg4 harg4 arg5 harg5 arg6 harg6 arg7 harg7 arg8 harg8 arg9 harg9 arg10 harg10 arg11 harg11 arg12 harg12 h f2 f3 f4 f11 f12 = (s0.after kt vt q0 2).a := by
  simp -proj only [outer.sl.v221, outer.sl.H8_4, outer.sl.H8_3, outer.sl.H8_2, outer.sl.r_18, outer.sl.r_13, View.readCov_cons_toLoadRect, View.readCov_skip, d1, d1', d80, d80', d256, d256', k0_pay219, k0_pay223, k0_pay226, k0_pay227, k0_pay233, k0_pay236, k0_pay237, shapeCast_id, outer_r_20 ht, outer_r_15 ht, outer_r_17 ht, outer_v160 ht, outer_r_8 ht, outer_r_12 ht, ht.v126, ht.v87, ht.r_10, ht.v92, ht.v99, ht.r_5, outer_v148 ht, ht.r_4, ht.v114, fold_m1 kt vt q0 s0] <;> exact fold_a1 kt vt q0 s0

theorem outer_r_24 : outer.sl.r_24 c i arg2 harg2 arg3 harg3 arg4 harg4 arg5 harg5 arg6 harg6 arg7 harg7 arg8 harg8 arg9 harg9 arg10 harg10 arg11 harg11 arg12 harg12 h f2 f3 f4 f11 f12 = (s0.after kt vt q0 3).a := by
  simp -proj only [outer.sl.r_24, View.readCov_cons_toLoadRect, View.readCov_skip, d1, d1', d80, d80', d256, d256', k0_pay245, k0_pay249, k0_pay251, shapeCast_id, outer_r_9 ht, outer_v209 ht, outer_v214 ht, outer_v221 ht, ht.hv2, (show maximumf (s0.after kt vt q0 2).m (s0.after kt vt q0 1).xB = (s0.after kt vt q0 3).m from fold_m kt vt q0 s0 0)] <;> (try rw [ht.hv2]) <;> exact fold_a kt vt q0 s0 0

theorem outer_v248 : outer.sl.v248 c i arg2 harg2 arg3 harg3 arg4 harg4 arg5 harg5 arg6 harg6 arg7 harg7 arg8 harg8 arg9 harg9 arg10 harg10 arg11 harg11 arg12 harg12 h f2 f3 f4 f11 f12 = (s1.after kt vt q1 2).a := by
  simp -proj only [outer.sl.v248, outer.sl.H8_5, outer.sl.H8_4, outer.sl.H8_3, outer.sl.r_18, View.readCov_cons_toLoadRect, View.readCov_skip, d1, d1', d80, d80', d256, d256', k0_pay233, k0_pay236, k0_pay237, k0_pay252, shapeCast_id, outer_r_24 ht, outer_r_20 ht, outer_r_15 ht, outer_r_17 ht, outer_v160 ht, ht.r_5, outer_v148 ht, fold_m1 kt vt q1 s1] <;> exact fold_a1 kt vt q1 s1

theorem outer_v282 : outer.sl.v282 c i arg2 harg2 arg3 harg3 arg4 harg4 arg5 harg5 arg6 harg6 arg7 harg7 arg8 harg8 arg9 harg9 arg10 harg10 arg11 harg11 arg12 harg12 h f2 f3 f4 f11 f12 = (s0.after kt vt q0 3).a := by
  simp -proj only [outer.sl.v282, outer.sl.H8_6, outer.sl.H8_5, outer.sl.H8_4, View.readCov_cons_toLoadRect, View.readCov_skip, d1, d1', d80, d80', d256, d256', k0_pay252, k0_pay256, k0_pay258, shapeCast_id, outer_r_11 ht, outer_r_22 ht, outer_v236 ht, outer_v241 ht, outer_v248 ht, outer_r_24 ht, outer_r_20 ht, (show maximumf (s0.after kt vt q0 2).m (s0.after kt vt q0 1).xB = (s0.after kt vt q0 3).m from fold_m kt vt q0 s0 0)] <;> exact fold_a kt vt q0 s0 0

theorem outer_v309 : outer.sl.v309 c i arg2 harg2 arg3 harg3 arg4 harg4 arg5 harg5 arg6 harg6 arg7 harg7 arg8 harg8 arg9 harg9 arg10 harg10 arg11 harg11 arg12 harg12 h f2 f3 f4 f11 f12 = (s1.after kt vt q1 3).a := by
  simp -proj only [outer.sl.v309, outer.sl.H8_7, outer.sl.H8_6, outer.sl.H8_5, outer.sl.r_27, View.readCov_cons_toLoadRect, View.readCov_skip, d1, d1', d80, d80', d256, d256', k0_pay252, k0_pay256, k0_pay258, k0_pay260, k0_pay261, k0_pay265, k0_pay267, shapeCast_id, outer_r_16 ht, outer_v270 ht, outer_v275 ht, outer_v282 ht, outer_r_11 ht, outer_r_22 ht, outer_v236 ht, outer_v241 ht, outer_v248 ht, outer_r_24 ht, ht.hv3, (show maximumf (s1.after kt vt q1 2).m (s1.after kt vt q1 1).xB = (s1.after kt vt q1 3).m from fold_m kt vt q1 s1 0)] <;> (try rw [ht.hv3]) <;> exact fold_a kt vt q1 s1 0

theorem outer_v343 : outer.sl.v343 c i arg2 harg2 arg3 harg3 arg4 harg4 arg5 harg5 arg6 harg6 arg7 harg7 arg8 harg8 arg9 harg9 arg10 harg10 arg11 harg11 arg12 harg12 h f2 f3 f4 f11 f12 = (s0.after kt vt q0 4).a := by
  simp -proj only [outer.sl.v343, outer.sl.H8_8, outer.sl.H8_7, outer.sl.H8_6, outer.sl.r_27, View.readCov_cons_toLoadRect, View.readCov_skip, d1, d1', d80, d80', d256, d256', k0_pay256, k0_pay258, k0_pay260, k0_pay261, k0_pay265, k0_pay267, k0_pay271, k0_pay273, shapeCast_id, outer_r_19 ht, outer_r_28 ht, outer_v297 ht, outer_v302 ht, outer_v309 ht, outer_r_16 ht, outer_v270 ht, outer_v275 ht, outer_v282 ht, outer_r_11 ht, outer_r_22 ht, outer_v236 ht, outer_v241 ht, outer_v248 ht, ht.hv3, (show maximumf (s0.after kt vt q0 3).m (s0.after kt vt q0 2).xB = (s0.after kt vt q0 4).m from fold_m kt vt q0 s0 1)] <;> (try rw [ht.hv3]) <;> exact fold_a kt vt q0 s0 1

theorem outer_v370 : outer.sl.v370 c i arg2 harg2 arg3 harg3 arg4 harg4 arg5 harg5 arg6 harg6 arg7 harg7 arg8 harg8 arg9 harg9 arg10 harg10 arg11 harg11 arg12 harg12 h f2 f3 f4 f11 f12 = (s1.after kt vt q1 4).a := by
  simp -proj only [outer.sl.v370, outer.sl.H8_9, outer.sl.H8_8, outer.sl.H8_7, outer.sl.r_27, View.readCov_cons_toLoadRect, View.readCov_skip, d1, d1', d80, d80', d256, d256', k0_pay260, k0_pay261, k0_pay265, k0_pay267, k0_pay271, k0_pay273, k0_pay279, k0_pay281, shapeCast_id, outer_r_23 ht, outer_r_34 ht, outer_v331 ht, outer_v336 ht, outer_v343 ht, outer_r_19 ht, outer_r_28 ht, outer_v297 ht, outer_v302 ht, outer_v309 ht, outer_r_16 ht, outer_v270 ht, outer_v275 ht, outer_v282 ht, ht.hv3, (show maximumf (s1.after kt vt q1 3).m (s1.after kt vt q1 2).xB = (s1.after kt vt q1 4).m from fold_m kt vt q1 s1 1)] <;> (try rw [ht.hv3]) <;> exact fold_a kt vt q1 s1 1

theorem outer_v404 : outer.sl.v404 c i arg2 harg2 arg3 harg3 arg4 harg4 arg5 harg5 arg6 harg6 arg7 harg7 arg8 harg8 arg9 harg9 arg10 harg10 arg11 harg11 arg12 harg12 h f2 f3 f4 f11 f12 = (s0.after kt vt q0 5).a := by
  simp -proj only [outer.sl.v404, outer.sl.H8_10, outer.sl.H8_9, outer.sl.H8_8, View.readCov_cons_toLoadRect, View.readCov_skip, d1, d1', d80, d80', d256, d256', k0_pay271, k0_pay273, k0_pay279, k0_pay281, k0_pay287, shapeCast_id, outer_r_34 ht, outer_v358 ht, outer_r_38 ht, outer_v363 ht, outer_v370 ht, outer_r_23 ht, outer_v331 ht, outer_v336 ht, outer_v343 ht, outer_r_19 ht, outer_r_28 ht, outer_v297 ht, outer_v302 ht, outer_v309 ht, (show maximumf (s0.after kt vt q0 4).m (s0.after kt vt q0 3).xB = (s0.after kt vt q0 5).m from fold_m kt vt q0 s0 2)] <;> exact fold_a kt vt q0 s0 2

theorem outer_v431 : outer.sl.v431 c i arg2 harg2 arg3 harg3 arg4 harg4 arg5 harg5 arg6 harg6 arg7 harg7 arg8 harg8 arg9 harg9 arg10 harg10 arg11 harg11 arg12 harg12 h f2 f3 f4 f11 f12 = (s1.after kt vt q1 5).a := by
  simp -proj only [outer.sl.v431, outer.sl.H8_11, outer.sl.H8_10, outer.sl.H8_9, View.readCov_cons_toLoadRect, View.readCov_skip, d1, d1', d80, d80', d256, d256', k0_pay279, k0_pay281, k0_pay287, k0_pay295, shapeCast_id, outer_r_40 ht, outer_v392 ht, outer_r_42 ht, outer_v397 ht, outer_v404 ht, outer_r_34 ht, outer_v358 ht, outer_r_38 ht, outer_v363 ht, outer_v370 ht, outer_r_23 ht, outer_v331 ht, outer_v336 ht, outer_v343 ht, (show maximumf (s1.after kt vt q1 4).m (s1.after kt vt q1 3).xB = (s1.after kt vt q1 5).m from fold_m kt vt q1 s1 2)] <;> exact fold_a kt vt q1 s1 2

theorem outer_v465 : outer.sl.v465 c i arg2 harg2 arg3 harg3 arg4 harg4 arg5 harg5 arg6 harg6 arg7 harg7 arg8 harg8 arg9 harg9 arg10 harg10 arg11 harg11 arg12 harg12 h f2 f3 f4 f11 f12 = (s0.after kt vt q0 6).a := by
  simp -proj only [outer.sl.v465, outer.sl.H8_12, outer.sl.H8_11, outer.sl.H8_10, outer.sl.r_45, View.readCov_cons_toLoadRect, View.readCov_skip, d1, d1', d80, d80', d256, d256', k0_pay287, k0_pay295, k0_pay299, k0_pay302, k0_pay303, shapeCast_id, outer_r_40 ht, outer_r_44 ht, outer_v431 ht, outer_v392 ht, outer_r_42 ht, outer_v397 ht, outer_v404 ht, outer_r_34 ht, outer_v358 ht, outer_r_38 ht, outer_v363 ht, outer_v370 ht, outer_r_32 ht, outer_v419 ht, (show maximumf (s0.after kt vt q0 5).m (s0.after kt vt q0 4).xB = (s0.after kt vt q0 6).m from fold_m kt vt q0 s0 3)] <;> exact fold_a kt vt q0 s0 3

theorem outer_v492 : outer.sl.v492 c i arg2 harg2 arg3 harg3 arg4 harg4 arg5 harg5 arg6 harg6 arg7 harg7 arg8 harg8 arg9 harg9 arg10 harg10 arg11 harg11 arg12 harg12 h f2 f3 f4 f11 f12 = (s1.after kt vt q1 6).a := by
  simp -proj only [outer.sl.v492, outer.sl.H8_13, outer.sl.H8_12, outer.sl.H8_11, outer.sl.r_50, outer.sl.r_45, View.readCov_cons_toLoadRect, View.readCov_skip, d1, d1', d80, d80', d256, d256', k0_pay295, k0_pay299, k0_pay302, k0_pay303, k0_pay309, k0_pay312, k0_pay313, shapeCast_id, outer_r_47 ht, outer_r_49 ht, outer_v465 ht, outer_r_40 ht, outer_r_44 ht, outer_v431 ht, outer_v392 ht, outer_r_42 ht, outer_v397 ht, outer_v404 ht, outer_r_36 ht, outer_v453 ht, outer_r_32 ht, outer_v419 ht, (show maximumf (s1.after kt vt q1 5).m (s1.after kt vt q1 4).xB = (s1.after kt vt q1 6).m from fold_m kt vt q1 s1 3)] <;> exact fold_a kt vt q1 s1 3

theorem outer_r_52 : outer.sl.r_52 c i arg2 harg2 arg3 harg3 arg4 harg4 arg5 harg5 arg6 harg6 arg7 harg7 arg8 harg8 arg9 harg9 arg10 harg10 arg11 harg11 arg12 harg12 h f2 f3 f4 f11 f12 = (s1.after kt vt q1 7).a := by
  simp -proj only [outer.sl.r_52, View.readCov_cons_toLoadRect, View.readCov_skip, d1, d1', d80, d80', d256, d256', k0_pay317, k0_pay319, shapeCast_id, outer_r_37 ht, outer_r_47 ht, outer_v480 ht, outer_v485 ht, outer_v492 ht, (show maximumf (s1.after kt vt q1 6).m (s1.after kt vt q1 5).xB = (s1.after kt vt q1 7).m from fold_m kt vt q1 s1 4)] <;> exact fold_a kt vt q1 s1 4

theorem outer_v517 : outer.sl.v517 c i arg2 harg2 arg3 harg3 arg4 harg4 arg5 harg5 arg6 harg6 arg7 harg7 arg8 harg8 arg9 harg9 arg10 harg10 arg11 harg11 arg12 harg12 h f2 f3 f4 f11 f12 = (s0.after kt vt q0 7).a := by
  simp -proj only [outer.sl.v517, outer.sl.H8_14, outer.sl.H8_13, outer.sl.H8_12, outer.sl.r_50, outer.sl.r_45, View.readCov_cons_toLoadRect, View.readCov_skip, d1, d1', d80, d80', d256, d256', k0_pay299, k0_pay302, k0_pay303, k0_pay309, k0_pay312, k0_pay313, shapeCast_id, outer_r_52 ht, outer_r_47 ht, outer_r_49 ht, outer_v465 ht, outer_r_40 ht, outer_r_44 ht, outer_v431 ht, outer_r_36 ht, outer_v453 ht, outer_r_32 ht, outer_v419 ht, (show maximumf (s0.after kt vt q0 6).m (s0.after kt vt q0 5).xB = (s0.after kt vt q0 7).m from fold_m kt vt q0 s0 4)] <;> exact fold_a kt vt q0 s0 4

theorem outer_v537 : outer.sl.v537 c i arg2 harg2 arg3 harg3 arg4 harg4 arg5 harg5 arg6 harg6 arg7 harg7 arg8 harg8 arg9 harg9 arg10 harg10 arg11 harg11 arg12 harg12 h f2 f3 f4 f11 f12 = (s1.after kt vt q1 7).a := by
  simp -proj only [outer.sl.v537, outer.sl.H8_15, outer.sl.H8_14, outer.sl.H8_13, outer.sl.r_50, View.readCov_cons_toLoadRect, View.readCov_skip, d1, d1', d80, d80', d256, d256', k0_pay309, k0_pay312, k0_pay313, k0_pay320, k0_pay321, k0_pay323, shapeCast_id, outer_r_41 ht, outer_v505 ht, outer_v510 ht, outer_v517 ht, outer_r_52 ht, outer_r_47 ht, outer_r_49 ht, outer_v465 ht, outer_r_36 ht, outer_v453 ht, ht.hv7, (show maximumf (s1.after kt vt q1 6).m (s1.after kt vt q1 5).xB = (s1.after kt vt q1 7).m from fold_m kt vt q1 s1 4)] <;> (try rw [ht.hv7]) <;> exact fold_a kt vt q1 s1 4

theorem outer_v562 : outer.sl.v562 c i arg2 harg2 arg3 harg3 arg4 harg4 arg5 harg5 arg6 harg6 arg7 harg7 arg8 harg8 arg9 harg9 arg10 harg10 arg11 harg11 arg12 harg12 h f2 f3 f4 f11 f12 = (s0.after kt vt q0 8).a := by
  simp -proj only [outer.sl.v562, outer.sl.H8_16, outer.sl.H8_15, outer.sl.H8_14, View.readCov_cons_toLoadRect, View.readCov_skip, d1, d1', d80, d80', d256, d256', k0_pay320, k0_pay321, k0_pay323, k0_pay327, shapeCast_id, outer_r_53 ht, outer_v525 ht, outer_r_54 ht, outer_r_55 ht, outer_v537 ht, outer_r_41 ht, outer_v505 ht, outer_v510 ht, outer_v517 ht, outer_r_52 ht, ht.hv7, (show maximumf (s0.after kt vt q0 7).m (s0.after kt vt q0 6).xB = (s0.after kt vt q0 8).m from fold_m kt vt q0 s0 5)] <;> (try rw [ht.hv7]) <;> exact fold_a kt vt q0 s0 5

theorem outer_v582 : outer.sl.v582 c i arg2 harg2 arg3 harg3 arg4 harg4 arg5 harg5 arg6 harg6 arg7 harg7 arg8 harg8 arg9 harg9 arg10 harg10 arg11 harg11 arg12 harg12 h f2 f3 f4 f11 f12 = (s1.after kt vt q1 8).a := by
  simp -proj only [outer.sl.v582, outer.sl.H8_17, outer.sl.H8_16, outer.sl.H8_15, View.readCov_cons_toLoadRect, View.readCov_skip, d1, d1', d80, d80', d256, d256', k0_pay320, k0_pay321, k0_pay323, k0_pay327, k0_pay328, k0_pay329, k0_pay331, shapeCast_id, outer_r_48 ht, outer_v550 ht, outer_v555 ht, outer_v562 ht, outer_r_53 ht, outer_v525 ht, outer_r_54 ht, outer_r_55 ht, outer_v537 ht, outer_r_41 ht, outer_v505 ht, outer_v510 ht, outer_v517 ht, ht.hv7, ht.hv8, (show maximumf (s1.after kt vt q1 7).m (s1.after kt vt q1 6).xB = (s1.after kt vt q1 8).m from fold_m kt vt q1 s1 5)] <;> (try rw [ht.hv7]) <;> (try rw [ht.hv8]) <;> exact fold_a kt vt q1 s1 5

/-- The stores to the accumulator end with the right half's and the left half's last ones. -/
theorem outer_acc : ∃ L, outer.sl.H8_18 c i arg2 harg2 arg3 harg3 arg4 harg4 arg5 harg5 arg6 harg6 arg7 harg7 arg8 harg8 arg9 harg9 arg10 harg10 arg11 harg11 arg12 harg12 h f2 f3 f4 f11 f12 = ⟨hi80, (s1.after kt vt q1 9).a⟩ :: ⟨lo80, (s0.after kt vt q0 9).a⟩ :: L := by
  refine ⟨outer.sl.H8_16 c i arg2 harg2 arg3 harg3 arg4 harg4 arg5 harg5 arg6 harg6 arg7 harg7 arg8 harg8 arg9 harg9 arg10 harg10 arg11 harg11 arg12 harg12 h f2 f3 f4 f11 f12, ?_⟩
  rw [← show _ = (s0.after kt vt q0 9).a from fold_a kt vt q0 s0 6, ← show _ = (s1.after kt vt q1 9).a from fold_a kt vt q1 s1 6]
  simp -proj only [outer.sl.H8_18, outer.sl.H8_17, ht.hv8, View.readCov_cons_toLoadRect, View.readCov_skip, d1, d1', d80, d80', d256, d256', k0_pay327, k0_pay328, k0_pay329, k0_pay331, k0_pay332, k0_pay334, shapeCast_id, outer_r_51 ht, outer_r_56 ht, outer_v570 ht, outer_v575 ht, outer_v582 ht, outer_r_48 ht, outer_v550 ht, outer_v555 ht, outer_v562 ht, outer_r_53 ht, outer_v525 ht, outer_r_54 ht, outer_r_55 ht, outer_v537 ht, ht.hv8, (show maximumf (s0.after kt vt q0 8).m (s0.after kt vt q0 7).xB = (s0.after kt vt q0 9).m from fold_m kt vt q0 s0 6), (show maximumf (s1.after kt vt q1 8).m (s1.after kt vt q1 7).xB = (s1.after kt vt q1 9).m from fold_m kt vt q1 s1 6)]
  first | rfl | (rw [ht.hv8]; rfl)

end
end Cert.Proof.KernelIdeal
end
-- ==== Proof.Att.Whole.lean ====
module

public import proofs.«01_k».proof.Proof.Att.Outer
public import proofs.«01_k».proof.Proof.Att.OuterFacts
public import Idealize.ShloMosaic.Lib.ValueLayout
public import Idealize.ShloMosaic.Lib.Pipeline.ValueKit.Tiles
public import Idealize.ShloMosaic.Lib.Tactic
public import Idealize.ShloMosaic.Lib.Pipeline.ReadBack
public import Idealize.ShloMosaic.Lib.Pointwise.Reshape

@[expose] public section

set_option maxRecDepth 16384

noncomputable section

namespace Cert.Proof.KernelIdeal

open Cert.KernelIdeal Cert.KernelIdeal.Gen
open Idealize.ShloMosaic hiding ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## The tiles, and the states over all of them -/

/-- The `n`-th tile of 256 keys. -/
def keyTile (X : Vec F S1x8448x128 .bf16) (n : ℕ) : Vec F S1x256x128 .bf16 := fun j =>
  X (ix3 (0 : Fin 1) (⟨(256 * n + (j 1).val) % 8448, Nat.mod_lt _ (by decide)⟩ : Fin 8448) (j 2))
/-- The `n`-th tile of 256 values of head `h`. -/
def valTile (X : Vec F S1x2x64x8448 .bf16) (h : Fin k0_t1_loop.trips) (n : ℕ) : Vec F S1x1x64x256 .bf16 := fun j =>
  X (ix4 (0 : Fin 1) (h : Fin 2) (j 2) (⟨(256 * n + (j 3).val) % 8448, Nat.mod_lt _ (by decide)⟩ : Fin 8448))
/-- The queries of query head `n`. -/
def qTile (X : Vec F S1x8x64x256 .bf16) (n : ℕ) : Vec F S1x1x64x256 .bf16 := fun j =>
  X (ix4 (0 : Fin 1) (⟨n % 8, Nat.mod_lt _ (by decide)⟩ : Fin 8) (j 2) (j 3))

theorem read_keyTile (c : Dev nD) (arg3 : Memref sig .tc .vmem S1x8448x128 .bf16) (f3 : Bf (F := F) c arg3) (off : Fin 3 → ℕ) (n : ℕ) (hn : n < 33)
    (h : off = ![0, 256 * n, 0]) (inb : ∀ a, off a + S1x256x128.size a ≤ S1x8448x128.size a) :
    arg3.view.readAt (Elt F) (Rect.unit (s := S1x8448x128) off S1x256x128.size inb).toLoadRect f3 = keyTile (arg3.view.read (Elt F) f3) n := by
  subst h
  funext j
  refine congrArg (arg3.view.read (Elt F) f3) ?_
  have h1 : (j 1).val < 256 := (j 1).isLt
  have e : (256 * n + (j 1).val) % 8448 = 256 * n + (j 1).val := Nat.mod_eq_of_lt (by omega)
  refine funext fun a => Fin.ext ?_
  rw [Rect.idx_unit_val]
  match a with
  | 0 => exact (Nat.zero_add _).trans (Nat.lt_one_iff.mp (j 0).isLt)
  | 1 => exact e.symm
  | 2 => exact Nat.zero_add _

theorem read_valTile (c : Dev nD) (arg4 : Memref sig .tc .vmem S1x2x64x8448 .bf16) (f4 : Bf (F := F) c arg4) (off : Fin 4 → ℕ) (g : Fin k0_t1_loop.trips) (n : ℕ) (hn : n < 33)
    (h : off = ![0, g.val, 0, 256 * n]) (inb : ∀ a, off a + S1x1x64x256.size a ≤ S1x2x64x8448.size a) :
    arg4.view.readAt (Elt F) (Rect.unit (s := S1x2x64x8448) off S1x1x64x256.size inb).toLoadRect f4 = valTile (arg4.view.read (Elt F) f4) g n := by
  subst h
  funext j
  refine congrArg (arg4.view.read (Elt F) f4) ?_
  have h1 : (j 3).val < 256 := (j 3).isLt
  have h0 : (j 1).val = 0 := Nat.lt_one_iff.mp (j 1).isLt
  have e : (256 * n + (j 3).val) % 8448 = 256 * n + (j 3).val := Nat.mod_eq_of_lt (by omega)
  refine funext fun a => Fin.ext ?_
  rw [Rect.idx_unit_val]
  match a with
  | 0 => exact (Nat.zero_add _).trans (Nat.lt_one_iff.mp (j 0).isLt)
  | 1 => exact (congrArg (g.val + ·) h0 : _)
  | 2 => exact Nat.zero_add _
  | 3 => exact e.symm

theorem read_qTile (c : Dev nD) (arg2 : Memref sig .tc .vmem S1x8x64x256 .bf16) (f2 : Bf (F := F) c arg2) (off : Fin 4 → ℕ) (n : ℕ) (hn : n < 8)
    (h : off = ![0, n, 0, 0]) (inb : ∀ a, off a + S1x1x64x256.size a ≤ S1x8x64x256.size a) :
    arg2.view.readAt (Elt F) (Rect.unit (s := S1x8x64x256) off S1x1x64x256.size inb).toLoadRect f2 = qTile (arg2.view.read (Elt F) f2) n := by
  subst h
  funext j
  refine congrArg (arg2.view.read (Elt F) f2) ?_
  have h0 : (j 1).val = 0 := Nat.lt_one_iff.mp (j 1).isLt
  refine funext fun a => Fin.ext ?_
  rw [Rect.idx_unit_val]
  match a with
  | 0 => exact (Nat.zero_add _).trans (Nat.lt_one_iff.mp (j 0).isLt)
  | 1 => exact (congrArg (n + ·) h0 : _).trans (Nat.mod_eq_of_lt hn).symm
  | 2 => exact Nat.zero_add _
  | 3 => exact Nat.zero_add _

/-- The state after `n` steps over all tiles: step `j` consumes tile `j` and produces tile `j + 2`. -/
def HS.over (K : ℕ → Vec F S1x256x128 .bf16) (V : ℕ → Vec F S1x1x64x256 .bf16) (q : Vec F S128x512 .bf16) (s : HS F) (n : ℕ) : HS F :=
  Nat.rec s (fun j t => t.step (K (j + 2)) (V j) q) n

theorem over_after (K : ℕ → Vec F S1x256x128 .bf16) (V : ℕ → Vec F S1x1x64x256 .bf16) (q : Vec F S128x512 .bf16) (s : HS F) (n : ℕ)
    (kt : Fin 12 → Vec F S1x256x128 .bf16) (vt : Fin 12 → Vec F S1x1x64x256 .bf16) (hk : ∀ j, kt j = K (n + j.val + 2)) (hv : ∀ j, vt j = V (n + j.val))
    (m : ℕ) (hm : m ≤ 12) : (s.over K V q n).after kt vt q m = s.over K V q (n + m) := by
  induction m with
  | zero => rfl
  | succ m ih =>
      have e : (Fin.ofNat 12 m).val = m := Nat.mod_eq_of_lt (by omega)
      rw [after_succ, ih (by omega), hk, hv, e]
      rfl

/-- One half's state before the first step: nothing seen, the first two tiles scored. -/
def HS.start (K : ℕ → Vec F S1x256x128 .bf16) (q : Vec F S128x512 .bf16) : HS F :=
  ⟨broadcast S1x512 (Scalar.ofBits .f32 0xFF800000#32), broadcast S80x512 (Scalar.ofBits .f32 0x00000000#32), score (keyMat (K 0)) q, score (keyMat (K 1)) q, colMax (score (keyMat (K 0)) q), colMax (score (keyMat (K 1)) q)⟩

/-- The four query heads of head `h`, side by side, over the rows of `h`'s half. -/
def queries (X : Vec F S1x8x64x256 .bf16) (h : Fin k0_t1_loop.trips) : FVec F S128x1024 .bf16 :=
  k0_pay193 0#32 1#32 h (qTile X (4 * h.val)) (qTile X (4 * h.val + 1)) (qTile X (4 * h.val + 2)) (qTile X (4 * h.val + 3))
/-- Their left and their right half. -/
def queries0 (X : Vec F S1x8x64x256 .bf16) (h : Fin k0_t1_loop.trips) : Vec F S128x512 .bf16 := View.ld (queries X h) lo128
def queries1 (X : Vec F S1x8x64x256 .bf16) (h : Fin k0_t1_loop.trips) : Vec F S128x512 .bf16 := View.ld (queries X h) hi128

/-- Two halves side by side. -/
def beside (A B : FVec F S80x512 .f32) : FVec F S80x1024 .f32 := fun j =>
  if h : (j 1).val < 512 then A (ix2 (j 0) (⟨(j 1).val, h⟩ : Fin 512))
  else B (ix2 (j 0) (⟨(j 1).val - 512, Nat.sub_lt_right_of_lt_add (Nat.not_lt.mp h) (j 1).isLt⟩ : Fin 512))

/-- One half's state after all 33 tiles. -/
def final (X3 : Vec F S1x8448x128 .bf16) (X4 : Vec F S1x2x64x8448 .bf16) (h : Fin k0_t1_loop.trips) (q : Vec F S128x512 .bf16) : HS F :=
  (HS.start (keyTile X3) q).over (keyTile X3) (valTile X4 h) q 33
/-- Both halves' accumulators after all tiles. -/
def accs (X2 : Vec F S1x8x64x256 .bf16) (X3 : Vec F S1x8448x128 .bf16) (X4 : Vec F S1x2x64x8448 .bf16) (h : Fin k0_t1_loop.trips) : FVec F S80x1024 .f32 :=
  beside (final X3 X4 h (queries0 X2 h)).a (final X3 X4 h (queries1 X2 h)).a
/-- What head `h` stores: the accumulated values over the accumulated weights, laid out by query. -/
def headOut (X2 : Vec F S1x8x64x256 .bf16) (X3 : Vec F S1x8448x128 .bf16) (X4 : Vec F S1x2x64x8448 .bf16) (h : Fin k0_t1_loop.trips) : FVec F S1x256x256 .bf16 :=
  k0_pay1 (k0_pay335 (accs X2 X3 X4 h)) (k0_pay336 (accs X2 X3 X4 h)) (k0_pay337 (accs X2 X3 X4 h))

/-- A load of any rectangle after a store of the whole buffer reads the store there. -/
theorem readAt_fill {s : Shape} {e : EltTy} (v : View sig .tc .vmem s e) (f : v.ty.Contents (Elt F)) (off : Fin s.rank → ℕ) (h : ∀ a, off a = 0)
    (inb : ∀ a, off a + s.size a ≤ s.size a) (Z : s.Idx → Elt F e) (r : Rect s) :
    v.readAt (Elt F) r.toLoadRect (v.writes (Elt F) f [⟨Rect.unit off s.size inb, Z⟩]) = View.ld Z r := by
  rw [View.readAt_eq_ld]
  have e : v.read (Elt F) (v.writes (Elt F) f [⟨Rect.unit off s.size inb, Z⟩]) = Z :=
    (View.ld_unit_zero (funext h) inb _).symm.trans (readAt_hit v f (Rect.unit off s.size inb) Z [])
  rw [e]

theorem canon_beside (A B : FVec F S80x512 .f32) (L : List (View.Piece (Elt F) S80x1024 .f32)) (y : S80x1024.Idx) :
    View.canon ((⟨hi80, B⟩ : View.Piece (Elt F) S80x1024 .f32) :: (⟨lo80, A⟩ : View.Piece (Elt F) S80x1024 .f32) :: L) y = beside A B y := by
  have h0 : (y 0).val < 80 := (y 0).isLt
  have h1 : (y 1).val < 1024 := (y 1).isLt
  unfold beside
  by_cases h : (y 1).val < 512
  · rw [dif_pos h]
    have e : y = lo80.emb (ix2 (y 0) (⟨(y 1).val, h⟩ : Fin 512)) := funext fun a => Fin.ext (by
      rw [Rect.emb_apply]
      match a with
      | 0 => exact ((Nat.zero_add _).trans (Nat.one_mul _)).symm
      | 1 => exact ((Nat.zero_add _).trans (Nat.one_mul _)).symm)
    have hn : y ∉ hi80.set := fun hm => by
      obtain ⟨x, rfl⟩ := hi80.exists_idx_of_mem hm
      have h' : 512 + 1 * (x 1).val < 512 := h
      omega
    refine (View.canon_cons_of_not_mem (⟨hi80, B⟩ : View.Piece (Elt F) S80x1024 .f32) _ hn).trans ?_
    exact (congrArg (View.canon ((⟨lo80, A⟩ : View.Piece (Elt F) S80x1024 .f32) :: L)) e).trans (View.canon_cons_emb lo80 A L _)
  · rw [dif_neg h]
    have e : y = hi80.emb (ix2 (y 0) (⟨(y 1).val - 512, Nat.sub_lt_right_of_lt_add (Nat.not_lt.mp h) (y 1).isLt⟩ : Fin 512)) := funext fun a => Fin.ext (by
      rw [Rect.emb_apply]
      match a with
      | 0 => exact ((Nat.zero_add _).trans (Nat.one_mul _)).symm
      | 1 =>
        show (y 1).val = 512 + 1 * ((y 1).val - 512)
        omega)
    exact (congrArg (View.canon ((⟨hi80, B⟩ : View.Piece (Elt F) S80x1024 .f32) :: (⟨lo80, A⟩ : View.Piece (Elt F) S80x1024 .f32) :: L)) e).trans (View.canon_cons_emb hi80 B ((⟨lo80, A⟩ : View.Piece (Elt F) S80x1024 .f32) :: L) (ix2 (y 0) (⟨(y 1).val - 512, Nat.sub_lt_right_of_lt_add (Nat.not_lt.mp h) (y 1).isLt⟩ : Fin 512)))

theorem readCov_beside (v : View sig .tc .vmem S80x1024 .f32) (A B : FVec F S80x512 .f32) (L : List (View.Piece (Elt F) S80x1024 .f32))
    (inb : ∀ a, (![0, 0] : Fin 2 → ℕ) a + S80x1024.size a ≤ S80x1024.size a) :
    v.readCov (⟨hi80, B⟩ :: ⟨lo80, A⟩ :: L) (Rect.unit (s := S80x1024) ![0, 0] S80x1024.size inb).toLoadRect = beside A B := by
  rw [View.readCov_eq_canon']
  have e (j : S80x1024.Idx) : (Rect.unit (s := S80x1024) ![0, 0] S80x1024.size inb).idx j = j := funext fun a => Fin.ext (by
    rw [Rect.idx_unit_val]
    match a with
    | 0 => exact Nat.zero_add _
    | 1 => exact Nat.zero_add _)
  refine funext fun (j : S80x1024.Idx) => ?_
  refine Eq.trans ?_ (canon_beside A B L j)
  exact congrArg (View.canon ((⟨hi80, B⟩ : View.Piece (Elt F) S80x1024 .f32) :: (⟨lo80, A⟩ : View.Piece (Elt F) S80x1024 .f32) :: L)) (e j)

/-! ## The loop over the first 24 tiles -/

section
variable (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (h : Fin k0_t1_loop.trips) (f2 : Bf (F := F) c arg2) (f3 : Bf (F := F) c arg3) (f4 : Bf (F := F) c arg4) (f11 : Bf (F := F) c arg11) (f12 : Bf (F := F) c arg12)

/-- The states the inner loop is entered with. -/
def entry : LS (F := F) c arg7 arg8 arg9 arg10 arg11 arg12 :=
  ⟨ (outer.sl.r c arg2 arg3 arg6 h f2 f3, outer.sl.r_1 c arg2 arg3 arg6 h f2 f3, k0_pay207 (outer.sl.r_3 c arg2 arg3 arg6 h f2 f3), k0_pay210 (outer.sl.r_2 c arg3 f3) (outer.sl.v48 c arg2 arg6 h f2)), arg7.view.writes (Elt F) arg7.view.junk outer.sl.H7_1, arg8.view.writes (Elt F) arg8.view.junk outer.sl.H8_1, arg9.view.writes (Elt F) arg9.view.junk (outer.sl.H9_2 c arg2 arg3 arg6 h f2 f3), arg10.view.writes (Elt F) arg10.view.junk (outer.sl.H10_2 c arg2 arg3 arg6 h f2 f3), f11, f12 ⟩
/-- The state before trip `k` of the inner loop. -/
def atTrip (k : ℕ) : LS (F := F) c arg7 arg8 arg9 arg10 arg11 arg12 :=
  (entry c arg2 arg3 arg6 arg7 arg8 arg9 arg10 arg11 arg12 h f2 f3 f11 f12).upto c i arg2 harg2 arg3 harg3 arg4 harg4 arg5 harg5 arg6 harg6 arg7 harg7 arg8 harg8 arg9 harg9 arg10 harg10 arg11 harg11 arg12 harg12 h (outer.sl.arg13 h) (outer.sl.r c arg2 arg3 arg6 h f2 f3) (outer.sl.r_1 c arg2 arg3 arg6 h f2 f3) (outer.sl.r_2 c arg3 f3) (outer.sl.r_3 c arg2 arg3 arg6 h f2 f3) f3 f4 (arg6.view.writes (Elt F) arg6.view.junk (outer.sl.H6_1 c arg2 h f2)) k

/-- The scratch buffers and what the loop carries are at the two halves' states. -/
structure Good (t : LS (F := F) c arg7 arg8 arg9 arg10 arg11 arg12) (S0 S1 : HS F) : Prop where
  holds : Holds c arg7 arg8 arg9 arg10 t.f7 t.f8 t.f9 t.f10 S0 S1
  x : t.x = (S0.xA, S1.xA, S0.xB, S1.xB)

theorem Good.next {arg13 : BitVec 32} {v47 v54 : FVec F S1x512 .f32} {v56 : FVec F S256x128 .bf16} {v58 : FVec F S256x512 .f32} {f6 : Bf (F := F) c arg6}
    {t : LS (F := F) c arg7 arg8 arg9 arg10 arg11 arg12} {S0 S1 : HS F} (g : Good c arg7 arg8 arg9 arg10 arg11 arg12 t S0 S1) (k : Fin k0_t2_loop.trips) :
    Good c arg7 arg8 arg9 arg10 arg11 arg12 (t.next c i arg2 harg2 arg3 harg3 arg4 harg4 arg5 harg5 arg6 harg6 arg7 harg7 arg8 harg8 arg9 harg9 arg10 harg10 arg11 harg11 arg12 harg12 h arg13 v47 v54 v56 v58 f3 f4 f6 k)
      (S0.after (keysAt c arg3 f3 k) (valsAt c arg4 f4 h k) (arg6.view.readAt (Elt F) lo128.toLoadRect f6) 12)
      (S1.after (keysAt c arg3 f3 k) (valsAt c arg4 f4 h k) (arg6.view.readAt (Elt F) hi128.toLoadRect f6) 12) := by
  obtain ⟨x, g7, g8, g9, g10, g11, g12⟩ := t
  obtain ⟨hs, hx⟩ := g
  dsimp only at hs hx
  subst hx
  rw [LS.next]
  refine ⟨?_, ?_⟩
  · dsimp only
    exact trip_holds (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (k := k) (f3 := f3) (f4 := f4) (f6 := f6) (k0_t1 := h) (f11 := g11) (f12 := g12) hs arg13 v47 v54 v56 v58
  · dsimp only
    exact trip_carry (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (k := k) (f3 := f3) (f4 := f4) (f6 := f6) (k0_t1 := h) (f11 := g11) (f12 := g12) hs arg13 v47 v54 v56 v58
/-
  exact ⟨trip_holds (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (k := k) (f3 := f3) (f4 := f4) (f6 := f6) (k0_t1 := h) (f11 := g11) (f12 := g12) hs arg13 v47 v54 v56 v58, trip_carry (i := i) (arg2 := arg2) (harg2 := harg2) (arg3 := arg3) (harg3 := harg3) (arg4 := arg4) (harg4 := harg4) (arg5 := arg5) (harg5 := harg5) (arg6 := arg6) (harg6 := harg6) (arg7 := arg7) (harg7 := harg7) (arg8 := arg8) (harg8 := harg8) (arg9 := arg9) (harg9 := harg9) (arg10 := arg10) (harg10 := harg10) (arg11 := arg11) (harg11 := harg11) (arg12 := arg12) (harg12 := harg12) (k := k) (f3 := f3) (f4 := f4) (f6 := f6) (k0_t1 := h) (f11 := g11) (f12 := g12) hs arg13 v47 v54 v56 v58⟩-/

/-- The queries' halves as the kernel reads them. -/
theorem q_lo : outer.sl.v80 c arg2 arg6 h f2 = queries0 (arg2.view.read (Elt F) f2) h := by
  simp -proj only [outer.sl.v80, outer.sl.H6_1]
  refine (View.readCov_fill _ _ _ _ _ (by decide)).trans ?_
  unfold queries0 queries
  rw [read_qTile c arg2 f2 _ (4 * h.val) (by have := h.isLt; have e : k0_t1_loop.trips = 2 := rfl; omega) (by revert h; decide +kernel), read_qTile c arg2 f2 _ (4 * h.val + 1) (by have := h.isLt; have e : k0_t1_loop.trips = 2 := rfl; omega) (by revert h; decide +kernel), read_qTile c arg2 f2 _ (4 * h.val + 2) (by have := h.isLt; have e : k0_t1_loop.trips = 2 := rfl; omega) (by revert h; decide +kernel), read_qTile c arg2 f2 _ (4 * h.val + 3) (by have := h.isLt; have e : k0_t1_loop.trips = 2 := rfl; omega) (by revert h; decide +kernel)]
theorem q_hi : outer.sl.v107 c arg2 arg6 h f2 = queries1 (arg2.view.read (Elt F) f2) h := by
  simp -proj only [outer.sl.v107, outer.sl.H6_1]
  refine (View.readCov_fill _ _ _ _ _ (by decide)).trans ?_
  unfold queries1 queries
  rw [read_qTile c arg2 f2 _ (4 * h.val) (by have := h.isLt; have e : k0_t1_loop.trips = 2 := rfl; omega) (by revert h; decide +kernel), read_qTile c arg2 f2 _ (4 * h.val + 1) (by have := h.isLt; have e : k0_t1_loop.trips = 2 := rfl; omega) (by revert h; decide +kernel), read_qTile c arg2 f2 _ (4 * h.val + 2) (by have := h.isLt; have e : k0_t1_loop.trips = 2 := rfl; omega) (by revert h; decide +kernel), read_qTile c arg2 f2 _ (4 * h.val + 3) (by have := h.isLt; have e : k0_t1_loop.trips = 2 := rfl; omega) (by revert h; decide +kernel)]

theorem key0 (inb) : arg3.view.readAt (Elt F) (Rect.unit (s := S1x8448x128) ![0, 0, 0] S1x256x128.size inb).toLoadRect f3 = keyTile (arg3.view.read (Elt F) f3) 0 :=
  read_keyTile c arg3 f3 _ 0 (by decide) rfl inb
theorem key1 (inb) : arg3.view.readAt (Elt F) (Rect.unit (s := S1x8448x128) ![0, 256, 0] S1x256x128.size inb).toLoadRect f3 = keyTile (arg3.view.read (Elt F) f3) 1 :=
  read_keyTile c arg3 f3 _ 1 (by decide) rfl inb

theorem entry_good : Good c arg7 arg8 arg9 arg10 arg11 arg12 (entry c arg2 arg3 arg6 arg7 arg8 arg9 arg10 arg11 arg12 h f2 f3 f11 f12)
    (HS.start (keyTile (arg3.view.read (Elt F) f3)) (queries0 (arg2.view.read (Elt F) f2) h))
    (HS.start (keyTile (arg3.view.read (Elt F) f3)) (queries1 (arg2.view.read (Elt F) f2) h)) := by
  have l : outer.sl.v41 c arg2 arg6 h f2 = queries0 (arg2.view.read (Elt F) f2) h := q_lo c arg2 arg6 h f2
  have u : outer.sl.v48 c arg2 arg6 h f2 = queries1 (arg2.view.read (Elt F) f2) h := q_hi c arg2 arg6 h f2
  rw [entry, HS.start, HS.start]
  refine ⟨⟨?_, ?_, ?_, ?_, ?_, ?_, ?_, ?_⟩, ?_⟩ <;> dsimp only
  · exact readAt_fill arg7.view _ _ (by decide) _ _ lo1
  · exact readAt_fill arg7.view _ _ (by decide) _ _ hi1
  · exact readAt_fill arg8.view _ _ (by decide) _ _ lo80
  · exact readAt_fill arg8.view _ _ (by decide) _ _ hi80
  · simp -proj only [outer.sl.H9_2, readAt_skip, readAt_hit, d256, k0_pay199, k0_pay198, k0_pay197, shapeCast_id, l, key0]
    rfl
  · simp -proj only [outer.sl.H9_2, readAt_skip, readAt_hit, d256, k0_pay202, k0_pay201, shapeCast_id, u, key0]
    rfl
  · simp -proj only [outer.sl.H10_2, outer.sl.r_3, readAt_skip, readAt_hit, d256, k0_pay206, k0_pay205, k0_pay204, shapeCast_id, l, key1]
    rfl
  · simp -proj only [outer.sl.H10_2, outer.sl.r_2, readAt_skip, readAt_hit, d256, k0_pay209, k0_pay208, k0_pay204, shapeCast_id, u, key1]
    rfl
  · simp -proj only [outer.sl.r, outer.sl.r_1, outer.sl.r_2, outer.sl.r_3, k0_pay200, k0_pay198, k0_pay203, k0_pay201, k0_pay207, k0_pay205, k0_pay204, k0_pay210, k0_pay208, l, u, key0, key1]
    rfl

/-- The keys and the values of trip `k`'s steps are those of the tiles of the row. -/
theorem keys_trip (k : Fin k0_t2_loop.trips) (j : Fin 12) : keysAt c arg3 f3 k j = keyTile (arg3.view.read (Elt F) f3) (12 * k.val + j.val + 2) :=
  read_keyTile c arg3 f3 _ _ (by have := k.isLt; have := j.isLt; have e : k0_t2_loop.trips = 2 := rfl; omega) (by revert k j; decide +kernel) _
theorem vals_trip (k : Fin k0_t2_loop.trips) (j : Fin 12) : valsAt c arg4 f4 h k j = valTile (arg4.view.read (Elt F) f4) h (12 * k.val + j.val) :=
  read_valTile c arg4 f4 _ h _ (by have := k.isLt; have := j.isLt; have e : k0_t2_loop.trips = 2 := rfl; omega) (by revert h k j; decide +kernel) _

/-- The inner loop's reads of the queries. -/
theorem q_lo6 : arg6.view.readAt (Elt F) lo128.toLoadRect (arg6.view.writes (Elt F) arg6.view.junk (outer.sl.H6_1 c arg2 h f2)) = queries0 (arg2.view.read (Elt F) f2) h :=
  q_lo c arg2 arg6 h f2
theorem q_hi6 : arg6.view.readAt (Elt F) hi128.toLoadRect (arg6.view.writes (Elt F) arg6.view.junk (outer.sl.H6_1 c arg2 h f2)) = queries1 (arg2.view.read (Elt F) f2) h :=
  q_hi c arg2 arg6 h f2

theorem atTrip_good (k : ℕ) (hk : k ≤ 2) : Good c arg7 arg8 arg9 arg10 arg11 arg12 (atTrip c i arg2 harg2 arg3 harg3 arg4 harg4 arg5 harg5 arg6 harg6 arg7 harg7 arg8 harg8 arg9 harg9 arg10 harg10 arg11 harg11 arg12 harg12 h f2 f3 f4 f11 f12 k)
    ((HS.start (keyTile (arg3.view.read (Elt F) f3)) (queries0 (arg2.view.read (Elt F) f2) h)).over (keyTile (arg3.view.read (Elt F) f3)) (valTile (arg4.view.read (Elt F) f4) h) (queries0 (arg2.view.read (Elt F) f2) h) (12 * k))
    ((HS.start (keyTile (arg3.view.read (Elt F) f3)) (queries1 (arg2.view.read (Elt F) f2) h)).over (keyTile (arg3.view.read (Elt F) f3)) (valTile (arg4.view.read (Elt F) f4) h) (queries1 (arg2.view.read (Elt F) f2) h) (12 * k)) := by
  induction k with
  | zero => exact entry_good c arg2 arg3 arg6 arg7 arg8 arg9 arg10 arg11 arg12 h f2 f3 f11 f12
  | succ k ih =>
      have hl : k < k0_t2_loop.trips := by have e : k0_t2_loop.trips = 2 := rfl; omega
      have g := (ih (by omega)).next c i arg2 harg2 arg3 harg3 arg4 harg4 arg5 harg5 arg6 harg6 arg7 harg7 arg8 harg8 arg9 harg9 arg10 harg10 arg11 harg11 arg12 harg12 h f3 f4
        (arg13 := outer.sl.arg13 h) (v47 := outer.sl.r c arg2 arg3 arg6 h f2 f3) (v54 := outer.sl.r_1 c arg2 arg3 arg6 h f2 f3) (v56 := outer.sl.r_2 c arg3 f3) (v58 := outer.sl.r_3 c arg2 arg3 arg6 h f2 f3)
        (f6 := arg6.view.writes (Elt F) arg6.view.junk (outer.sl.H6_1 c arg2 h f2)) ⟨k, hl⟩
      rw [q_lo6, q_hi6, over_after _ _ _ _ _ _ _ (fun j => keys_trip c arg3 f3 ⟨k, hl⟩ j) (fun j => vals_trip c arg4 h f4 ⟨k, hl⟩ j) 12 (le_refl _), over_after _ _ _ _ _ _ _ (fun j => keys_trip c arg3 f3 ⟨k, hl⟩ j) (fun j => vals_trip c arg4 h f4 ⟨k, hl⟩ j) 12 (le_refl _)] at g
      rw [atTrip, LS.upto_succ (k := ⟨k, hl⟩)]
      exact g

theorem off_tile24 : ∀ h : Fin k0_t1_loop.trips, k0_off4 h = ![0, h.val, 0, 256 * 24] := by decide +kernel
theorem off_tile25 : ∀ h : Fin k0_t1_loop.trips, k0_off5 h = ![0, h.val, 0, 256 * 25] := by decide +kernel
theorem off_tile26 : ∀ h : Fin k0_t1_loop.trips, k0_off6 h = ![0, h.val, 0, 256 * 26] := by decide +kernel
theorem off_tile27 : ∀ h : Fin k0_t1_loop.trips, k0_off7 h = ![0, h.val, 0, 256 * 27] := by decide +kernel
theorem off_tile28 : ∀ h : Fin k0_t1_loop.trips, k0_off8 h = ![0, h.val, 0, 256 * 28] := by decide +kernel
theorem off_tile29 : ∀ h : Fin k0_t1_loop.trips, k0_off9 h = ![0, h.val, 0, 256 * 29] := by decide +kernel
theorem off_tile30 : ∀ h : Fin k0_t1_loop.trips, k0_off10 h = ![0, h.val, 0, 256 * 30] := by decide +kernel
theorem off_tile31 : ∀ h : Fin k0_t1_loop.trips, k0_off11 h = ![0, h.val, 0, 256 * 31] := by decide +kernel
theorem off_tile32 : ∀ h : Fin k0_t1_loop.trips, k0_off12 h = ![0, h.val, 0, 256 * 32] := by decide +kernel

set_option maxHeartbeats 1000000 in
/-- Where the loop leaves off: the states over 24 tiles. -/
theorem tailIn : TailIn c i arg2 harg2 arg3 harg3 arg4 harg4 arg5 harg5 arg6 harg6 arg7 harg7 arg8 harg8 arg9 harg9 arg10 harg10 arg11 harg11 arg12 harg12 h f2 f3 f4 f11 f12 (fun j => keyTile (arg3.view.read (Elt F) f3) (24 + j.val + 2)) (fun j => valTile (arg4.view.read (Elt F) f4) h (24 + j.val))
    (queries0 (arg2.view.read (Elt F) f2) h) (queries1 (arg2.view.read (Elt F) f2) h)
    ((HS.start (keyTile (arg3.view.read (Elt F) f3)) (queries0 (arg2.view.read (Elt F) f2) h)).over (keyTile (arg3.view.read (Elt F) f3)) (valTile (arg4.view.read (Elt F) f4) h) (queries0 (arg2.view.read (Elt F) f2) h) 24)
    ((HS.start (keyTile (arg3.view.read (Elt F) f3)) (queries1 (arg2.view.read (Elt F) f2) h)).over (keyTile (arg3.view.read (Elt F) f3)) (valTile (arg4.view.read (Elt F) f4) h) (queries1 (arg2.view.read (Elt F) f2) h) 24) := by
  have g := atTrip_good c i arg2 harg2 arg3 harg3 arg4 harg4 arg5 harg5 arg6 harg6 arg7 harg7 arg8 harg8 arg9 harg9 arg10 harg10 arg11 harg11 arg12 harg12 h f2 f3 f4 f11 f12 2 (le_refl 2)
  rw [show 12 * 2 = 24 from rfl] at g
  have n2 : Scf.trips k0_t2_loop.lb k0_t2_loop.ub k0_t2_loop.st = 2 := rfl
  have f7 := stage_eq (fun k => (atTrip c i arg2 harg2 arg3 harg3 arg4 harg4 arg5 harg5 arg6 harg6 arg7 harg7 arg8 harg8 arg9 harg9 arg10 harg10 arg11 harg11 arg12 harg12 h f2 f3 f4 f11 f12 k).f7) 2
  have f8 := stage_eq (fun k => (atTrip c i arg2 harg2 arg3 harg3 arg4 harg4 arg5 harg5 arg6 harg6 arg7 harg7 arg8 harg8 arg9 harg9 arg10 harg10 arg11 harg11 arg12 harg12 h f2 f3 f4 f11 f12 k).f8) 2
  have f9 := stage_eq (fun k => (atTrip c i arg2 harg2 arg3 harg3 arg4 harg4 arg5 harg5 arg6 harg6 arg7 harg7 arg8 harg8 arg9 harg9 arg10 harg10 arg11 harg11 arg12 harg12 h f2 f3 f4 f11 f12 k).f9) 2
  have f10 := stage_eq (fun k => (atTrip c i arg2 harg2 arg3 harg3 arg4 harg4 arg5 harg5 arg6 harg6 arg7 harg7 arg8 harg8 arg9 harg9 arg10 harg10 arg11 harg11 arg12 harg12 h f2 f3 f4 f11 f12 k).f10) 2
  have m0 : outer.sl.v87 c i arg2 harg2 arg3 harg3 arg4 harg4 arg5 harg5 arg6 harg6 arg7 harg7 arg8 harg8 arg9 harg9 arg10 harg10 arg11 harg11 arg12 harg12 h f2 f3 f4 f11 f12 = ((HS.start (keyTile (arg3.view.read (Elt F) f3)) (queries0 (arg2.view.read (Elt F) f2) h)).over (keyTile (arg3.view.read (Elt F) f3)) (valTile (arg4.view.read (Elt F) f4) h) (queries0 (arg2.view.read (Elt F) f2) h) 24).m := by rw [outer.sl.v87, n2]; exact (congrArg (arg7.view.readAt (Elt F) lo1.toLoadRect) f7).trans g.holds.m0
  constructor
  case v80 => exact q_lo c arg2 arg6 h f2
  case v107 => exact q_hi c arg2 arg6 h f2
  case v87 => exact m0
  case v114 => rw [outer.sl.v114, n2]; exact (congrArg (arg7.view.readAt (Elt F) hi1.toLoadRect) f7).trans g.holds.m1
  case v99 => rw [outer.sl.v99, n2]; exact (congrArg (arg8.view.readAt (Elt F) lo80.toLoadRect) f8).trans g.holds.a0
  case v126 => rw [outer.sl.v126, n2]; exact (congrArg (arg8.view.readAt (Elt F) hi80.toLoadRect) f8).trans g.holds.a1
  case v92 => rw [outer.sl.v92, n2]; exact (congrArg (arg9.view.readAt (Elt F) lo256.toLoadRect) f9).trans g.holds.sA0
  case v119 => rw [outer.sl.v119, n2]; exact (congrArg (arg9.view.readAt (Elt F) hi256.toLoadRect) f9).trans g.holds.sA1
  case v153 => rw [outer.sl.v153, n2]; exact (congrArg (arg10.view.readAt (Elt F) lo256.toLoadRect) f10).trans g.holds.sB0
  case v180 => rw [outer.sl.v180, n2]; exact (congrArg (arg10.view.readAt (Elt F) hi256.toLoadRect) f10).trans g.holds.sB1
  case r_4 =>
    have e1 : (atTrip c i arg2 harg2 arg3 harg3 arg4 harg4 arg5 harg5 arg6 harg6 arg7 harg7 arg8 harg8 arg9 harg9 arg10 harg10 arg11 harg11 arg12 harg12 h f2 f3 f4 f11 f12 2).x.2.1 = ((HS.start (keyTile (arg3.view.read (Elt F) f3)) (queries1 (arg2.view.read (Elt F) f2) h)).over (keyTile (arg3.view.read (Elt F) f3)) (valTile (arg4.view.read (Elt F) f4) h) (queries1 (arg2.view.read (Elt F) f2) h) 24).xA := by rw [g.x]
    rw [outer.sl.r_4, ← e1]
    rfl
  case r_5 =>
    have e1 : (atTrip c i arg2 harg2 arg3 harg3 arg4 harg4 arg5 harg5 arg6 harg6 arg7 harg7 arg8 harg8 arg9 harg9 arg10 harg10 arg11 harg11 arg12 harg12 h f2 f3 f4 f11 f12 2).x.2.2.1 = ((HS.start (keyTile (arg3.view.read (Elt F) f3)) (queries0 (arg2.view.read (Elt F) f2) h)).over (keyTile (arg3.view.read (Elt F) f3)) (valTile (arg4.view.read (Elt F) f4) h) (queries0 (arg2.view.read (Elt F) f2) h) 24).xB := by rw [g.x]
    rw [outer.sl.r_5, ← e1]
    rfl
  case r_6 =>
    have e1 : (atTrip c i arg2 harg2 arg3 harg3 arg4 harg4 arg5 harg5 arg6 harg6 arg7 harg7 arg8 harg8 arg9 harg9 arg10 harg10 arg11 harg11 arg12 harg12 h f2 f3 f4 f11 f12 2).x.2.2.2 = ((HS.start (keyTile (arg3.view.read (Elt F) f3)) (queries1 (arg2.view.read (Elt F) f2) h)).over (keyTile (arg3.view.read (Elt F) f3)) (valTile (arg4.view.read (Elt F) f4) h) (queries1 (arg2.view.read (Elt F) f2) h) 24).xB := by rw [g.x]
    rw [outer.sl.r_6, ← e1]
    rfl
  case r_10 =>
    have e1 : (atTrip c i arg2 harg2 arg3 harg3 arg4 harg4 arg5 harg5 arg6 harg6 arg7 harg7 arg8 harg8 arg9 harg9 arg10 harg10 arg11 harg11 arg12 harg12 h f2 f3 f4 f11 f12 2).x.1 = ((HS.start (keyTile (arg3.view.read (Elt F) f3)) (queries0 (arg2.view.read (Elt F) f2) h)).over (keyTile (arg3.view.read (Elt F) f3)) (valTile (arg4.view.read (Elt F) f4) h) (queries0 (arg2.view.read (Elt F) f2) h) 24).xA := by rw [g.x]
    rw [outer.sl.r_10, m0, ← e1]
    rfl
  case hk0 => exact read_keyTile c arg3 f3 _ 26 (by decide) rfl _
  case hk1 => exact read_keyTile c arg3 f3 _ 27 (by decide) rfl _
  case hk2 => exact read_keyTile c arg3 f3 _ 28 (by decide) rfl _
  case hk3 => exact read_keyTile c arg3 f3 _ 29 (by decide) rfl _
  case hk4 => exact read_keyTile c arg3 f3 _ 30 (by decide) rfl _
  case hk5 => exact read_keyTile c arg3 f3 _ 31 (by decide) rfl _
  case hk6 => exact read_keyTile c arg3 f3 _ 32 (by decide) rfl _
  case hv0 => exact read_valTile c arg4 f4 _ h 24 (by decide) (off_tile24 h) _
  case hv1 => exact read_valTile c arg4 f4 _ h 25 (by decide) (off_tile25 h) _
  case hv2 => exact read_valTile c arg4 f4 _ h 26 (by decide) (off_tile26 h) _
  case hv3 => exact read_valTile c arg4 f4 _ h 27 (by decide) (off_tile27 h) _
  case hv4 => exact read_valTile c arg4 f4 _ h 28 (by decide) (off_tile28 h) _
  case hv5 => exact read_valTile c arg4 f4 _ h 29 (by decide) (off_tile29 h) _
  case hv6 => exact read_valTile c arg4 f4 _ h 30 (by decide) (off_tile30 h) _
  case hv7 => exact read_valTile c arg4 f4 _ h 31 (by decide) (off_tile31 h) _
  case hv8 => exact read_valTile c arg4 f4 _ h 32 (by decide) (off_tile32 h) _

/-- The accumulator read at the end holds both halves' accumulators over all 33 tiles. -/
theorem acc_read : outer.sl.v590 c i arg2 harg2 arg3 harg3 arg4 harg4 arg5 harg5 arg6 harg6 arg7 harg7 arg8 harg8 arg9 harg9 arg10 harg10 arg11 harg11 arg12 harg12 h f2 f3 f4 f11 f12 = accs (arg2.view.read (Elt F) f2) (arg3.view.read (Elt F) f3) (arg4.view.read (Elt F) f4) h := by
  obtain ⟨L, e⟩ := outer_acc (tailIn c i arg2 harg2 arg3 harg3 arg4 harg4 arg5 harg5 arg6 harg6 arg7 harg7 arg8 harg8 arg9 harg9 arg10 harg10 arg11 harg11 arg12 harg12 h f2 f3 f4 f11 f12)
  have o (q s) := over_after (keyTile (arg3.view.read (Elt F) f3)) (valTile (arg4.view.read (Elt F) f4) h) q s 24
    (fun j => keyTile (arg3.view.read (Elt F) f3) (24 + j.val + 2)) (fun j => valTile (arg4.view.read (Elt F) f4) h (24 + j.val)) (fun _ => rfl) (fun _ => rfl) 9 (by decide)
  rw [outer.sl.v590, e, o, o]
  exact readCov_beside _ _ _ _ _

variable (f5 : Bf (F := F) c arg5) (f6 : Bf (F := F) c arg6) (f7 : Bf (F := F) c arg7) (f8 : Bf (F := F) c arg8) (f9 : Bf (F := F) c arg9) (f10 : Bf (F := F) c arg10)

/-- One head's trip of the outer loop stores that head's rows of the output. -/
theorem outer_stores : (outer c i arg2 harg2 arg3 harg3 arg4 harg4 arg5 harg5 arg6 harg6 arg7 harg7 arg8 harg8 arg9 harg9 arg10 harg10 arg11 harg11 arg12 harg12 h f2 f3 f4 f5 f6 f7 f8 f9 f10 f11 f12).1 = [⟨Rect.unit (s := S1x256x512) (k0_off13 h) S1x256x256.size (k0_off13_inb h),
    headOut (arg2.view.read (Elt F) f2) (arg3.view.read (Elt F) f3) (arg4.view.read (Elt F) f4) h⟩] := by
  have e := acc_read c i arg2 harg2 arg3 harg3 arg4 harg4 arg5 harg5 arg6 harg6 arg7 harg7 arg8 harg8 arg9 harg9 arg10 harg10 arg11 harg11 arg12 harg12 h f2 f3 f4 f11 f12
  rw [headOut, ← e]
  rfl

end
end Cert.Proof.KernelIdeal
end
-- ==== Proof.Att.Soft.lean ====
module

public import Idealize.ShloMosaic.PureOps.Ideal

@[expose] public section

noncomputable section

/-! The softmax of one query over tiles of 256 keys, one tile at a time, over the extended reals. Only the scores need be
    finite; the values may be infinite. -/

namespace Cert.Proof.Soft

open Idealize.ShloMosaic

/-- A positive finite factor moves into a sum. -/
theorem mul_sum_pos {ι : Type*} (S : Finset ι) (r : ℝ) (hr : 0 ≤ r) (f : ι → EReal) : (r : EReal) * ∑ i ∈ S, f i = ∑ i ∈ S, (r : EReal) * f i := by
  classical
  induction S using Finset.induction_on with
  | empty => simp
  | insert a S ha ih =>
      rw [Finset.sum_insert ha, Finset.sum_insert ha, EReal.left_distrib_of_nonneg_of_ne_top (EReal.coe_nonneg.mpr hr) (EReal.coe_ne_top r), ih]

/-- A sum of finite numbers, in the extended reals. -/
theorem coe_sum {ι : Type*} (S : Finset ι) (f : ι → ℝ) : ((∑ i ∈ S, f i : ℝ) : EReal) = ∑ i ∈ S, (f i : EReal) := by
  classical
  induction S using Finset.induction_on with
  | empty => simp
  | insert a S ha ih => rw [Finset.sum_insert ha, Finset.sum_insert ha, EReal.coe_add, ih]

/-- The weight of a finite score against a finite maximum. -/
theorem exp2_sub (x y : ℝ) : Ideal.exp2 ((x : EReal) - (y : EReal)) = ((2 : ℝ) ^ (x - y) : ℝ) := by
  rw [← EReal.coe_sub, Ideal.exp2_coe]; rfl

/-- The greatest of finitely many finite numbers is finite. -/
theorem fold_max_coe {ι : Type*} (S : Finset ι) (hS : S.Nonempty) (f : ι → ℝ) : ∃ r : ℝ, S.fold max (⊥ : EReal) (fun i => (f i : EReal)) = r := by
  classical
  induction hS using Finset.Nonempty.cons_induction with
  | singleton a => exact ⟨f a, by simp⟩
  | cons a S ha hS ih =>
      obtain ⟨r, hr⟩ := ih
      exact ⟨max (f a) r, by rw [Finset.fold_cons, hr]; exact (EReal.coe_strictMono.monotone.map_max).symm⟩

variable (σ : ℕ → ℝ) (v : ℕ → EReal) (m a : ℕ → EReal) (t : ℕ → ℝ)

/-- After the first tile the running maximum is finite. -/
theorem max_coe (hm0 : m 0 = ⊥) (hm : ∀ n, m (n + 1) = max (m n) (t n)) (n : ℕ) : ∃ μ : ℝ, m (n + 1) = μ := by
  induction n with
  | zero => exact ⟨t 0, by rw [hm, hm0, max_eq_right bot_le]⟩
  | succ n ih =>
      obtain ⟨μ, h⟩ := ih
      exact ⟨max μ (t (n + 1)), by rw [hm, h]; exact (EReal.coe_strictMono.monotone.map_max).symm⟩

/-- The running sum is the sum over all keys seen, each weighed against the running maximum. -/
theorem acc_eq (hm0 : m 0 = ⊥) (hm : ∀ n, m (n + 1) = max (m n) (t n)) (ha0 : a 0 = 0)
    (ha : ∀ n, a (n + 1) = Ideal.exp2 (m n - m (n + 1)) * a n + ∑ i : Fin 256, v (256 * n + i.val) * Ideal.exp2 ((σ (256 * n + i.val) : EReal) - m (n + 1)))
    (n : ℕ) (μ : ℝ) (h : m (n + 1) = μ) : a (n + 1) = ∑ j ∈ Finset.range (256 * (n + 1)), v j * ((2 : ℝ) ^ (σ j - μ) : ℝ) := by
  have tile : ∀ (n : ℕ) (μ : ℝ), ∑ i : Fin 256, v (256 * n + i.val) * Ideal.exp2 ((σ (256 * n + i.val) : EReal) - (μ : EReal))
      = ∑ i ∈ Finset.range 256, v (256 * n + i) * ((2 : ℝ) ^ (σ (256 * n + i) - μ) : ℝ) := fun n μ => by
    rw [← Fin.sum_univ_eq_sum_range (fun i => v (256 * n + i) * (((2 : ℝ) ^ (σ (256 * n + i) - μ) : ℝ) : EReal))]
    exact Finset.sum_congr rfl fun i _ => by rw [exp2_sub]
  induction n generalizing μ with
  | zero =>
      rw [ha, ha0, mul_zero, zero_add, h, tile]
      simp
  | succ n ih =>
      obtain ⟨ν, hν⟩ := max_coe m t hm0 hm n
      rw [ha, ih ν hν, h, hν, tile, exp2_sub, mul_sum_pos _ _ (by positivity), show 256 * (n + 1 + 1) = 256 * (n + 1) + 256 by ring, Finset.sum_range_add]
      congr 1
      refine Finset.sum_congr rfl fun j _ => ?_
      rw [mul_left_comm, ← EReal.coe_mul, ← Real.rpow_add (by norm_num)]
      congr 3
      ring

/-- The quotient of the running sums of the values and of ones is the softmax of the scores, in base two. -/
theorem quotient_eq (N : ℕ) (hN : 0 < N) (μ : ℝ) :
    Ideal.div (∑ j ∈ Finset.range N, v j * ((2 : ℝ) ^ (σ j - μ) : ℝ)) (∑ j ∈ Finset.range N, 1 * (((2 : ℝ) ^ (σ j - μ) : ℝ) : EReal))
      = ∑ j ∈ Finset.range N, v j * (((2 : ℝ) ^ σ j / ∑ i ∈ Finset.range N, (2 : ℝ) ^ σ i : ℝ) : EReal) := by
  have hS : (∑ i ∈ Finset.range N, (2 : ℝ) ^ σ i) ≠ 0 := (Finset.sum_pos (fun i _ => by positivity) (Finset.nonempty_range_iff.mpr hN.ne')).ne'
  have hd : ∀ j, (2 : ℝ) ^ (σ j - μ) = 2 ^ (-μ) * 2 ^ σ j := fun j => by rw [← Real.rpow_add (by norm_num)]; congr 1; ring
  have h2 : (2 : ℝ) ^ (-μ) ≠ 0 := by positivity
  have hs : (∑ j ∈ Finset.range N, 1 * (((2 : ℝ) ^ (σ j - μ) : ℝ) : EReal)) = ((2 ^ (-μ) * ∑ i ∈ Finset.range N, (2 : ℝ) ^ σ i : ℝ) : EReal) := by
    rw [Finset.mul_sum, coe_sum]
    exact Finset.sum_congr rfl fun j _ => by rw [one_mul, hd]
  rw [hs, Ideal.div_coe (mul_ne_zero h2 hS), mul_comm, mul_sum_pos _ _ (by positivity)]
  refine Finset.sum_congr rfl fun j _ => ?_
  rw [mul_left_comm, ← EReal.coe_mul, hd]
  congr 2
  field_simp

/-- The weights of the softmax in base e of the scores times `log 2`, against any finite number, are those in base two. -/
theorem weight_eq (N : ℕ) (hN : 0 < N) (M : ℝ) (j : ℕ) :
    Ideal.div (Real.exp (σ j * Real.log 2 - M) : ℝ) ((∑ i ∈ Finset.range N, Real.exp (σ i * Real.log 2 - M) : ℝ) : EReal)
      = (((2 : ℝ) ^ σ j / ∑ i ∈ Finset.range N, (2 : ℝ) ^ σ i : ℝ) : EReal) := by
  have hS : (∑ i ∈ Finset.range N, (2 : ℝ) ^ σ i) ≠ 0 := (Finset.sum_pos (fun i _ => by positivity) (Finset.nonempty_range_iff.mpr hN.ne')).ne'
  have hd : ∀ j, Real.exp (σ j * Real.log 2 - M) = Real.exp (-M) * 2 ^ σ j := fun j => by
    rw [Real.rpow_def_of_pos (by norm_num), ← Real.exp_add]; congr 1; ring
  have h2 : Real.exp (-M) ≠ 0 := (Real.exp_pos _).ne'
  simp only [hd]
  rw [← Finset.mul_sum, Ideal.div_coe (mul_ne_zero h2 hS), ← EReal.coe_mul]
  congr 1
  field_simp

end Cert.Proof.Soft
end
-- ==== Proof.Att.Column.lean ====
module

public import proofs.«01_k».proof.Proof.Att.Whole
public import proofs.«01_k».proof.Proof.Att.Soft
public import Idealize.ShloMosaic.Lib.MatmulPlain
public import Idealize.ShloMosaic.Lib.ValueLayout
public import Idealize.ShloMosaic.Lib.ValueLayoutCasts
public import Idealize.ShloMosaic.PureOps.Ideal.Laws
public import Idealize.ShloMosaic.Lib.ValueIdx
public import Idealize.ShloMosaic.Lib.IdealHost

@[expose] public section

set_option maxRecDepth 16384

noncomputable section

/-! One column of a half's state over the extended reals: one query's softmax, a tile at a time. -/

namespace Cert.Proof.KernelIdeal

open Cert.KernelIdeal Cert.KernelIdeal.Gen
open Idealize.ShloMosaic hiding ix1 ix2 ix3 ix4 ix5
open Idealize.ShloMosaic.ValueIdx

/-- A plain product into zeros, at an index. -/
theorem mm {M K N : ℕ} {φ₁ φ₂ : FTy} (l : FVec Ideal ⟨2, ![M, K]⟩ φ₁) (r : FVec Ideal ⟨2, ![K, N]⟩ φ₂) (a : Fin M) (b : Fin N) :
    FloatOps.matmul (DotDims.plain M K N) none l r (constant ⟨2, ![M, N]⟩ .f32 0x00000000#32) (ix2 a b) = ∑ k : Fin K, l (ix2 a k) * r (ix2 k b) := by
  rw [Ideal.matmul_plain_apply, constant_apply, Ideal.ofBits_zero_f32, zero_add]

theorem exp2_at {s : Shape} {φ : FTy} (x : FVec Ideal s φ) (i : s.Idx) : Idealize.ShloMosaic.exp2 x i = Ideal.exp2 (x i) := rfl
theorem bits_at {φ : FTy} (b : BitVec φ.bits) : (Scalar.ofBits φ b : Ideal φ) = Ideal.ofBits φ b := rfl
theorem bot_bits : Ideal.ofBits .f32 0xFF800000#32 = ⊥ := by
  simp [Ideal.ofBits, Ideal.ieee, -EReal.coe_mul]

/-- A score is the product of a key and a query. -/
theorem score_at (kt : Vec Ideal S1x256x128 .bf16) (q : Vec Ideal S128x512 .bf16) (i : Fin 256) (c : Fin 512) :
    score (keyMat kt) q (ix2 i c) = ∑ e : Fin 128, kt (ix3 0 i e) * q (ix2 e c) := by
  unfold score keyMat
  refine (mm (M := 256) (K := 128) (N := 512) (φ₁ := .bf16) (φ₂ := .bf16) (shapeCast S256x128 kt shapeCasts_S1x256x128_S256x128) q i c).trans (Finset.sum_congr rfl fun e _ => ?_)
  rw [shapeCast_1ab_ab_apply]

/-- The column maxima are folds. -/
theorem colMax_at (s : FVec Ideal S256x512 .f32) (c : Fin 512) :
    colMax s (ix2 0 c) = (Finset.univ : Finset (Fin 256)).fold max ⊥ fun i => s (ix2 i c) := by
  unfold colMax
  rw [shapeCast_a_1a_apply]
  refine (Ideal.multiReduction_maximumf_single (a := (0 : Fin S256x512.rank)) s 0xFF800000#32 reduces_S256x512_S512 (.inl rfl) rfl (ix1 c)).trans ?_
  rw [← bot_bits]
  refine congrArg ((Finset.univ : Finset (Fin 256)).fold max (Ideal.ofBits .f32 0xFF800000#32)) (funext fun i => congrArg s ?_)
  funext a
  match a with
  | ⟨0, _⟩ => rfl
  | ⟨1, _⟩ => rfl

theorem val_at (vt : Vec Ideal S1x1x64x256 .bf16) (d : Fin 64) (i : Fin 256) : valMat vt (ix2 (⟨d.val, by omega⟩ : Fin 80) i) = vt (ix4 0 0 d i) := by
  unfold valMat
  rw [concatenate_apply_piece (t := S80x256) 0 _ _ _ 0 (by simp) S64x256 _ rfl rfl 0 rfl (ix2 d i) (fun b hb => match b with
    | ⟨0, _⟩ => absurd rfl hb
    | ⟨1, _⟩ => rfl) (Nat.zero_add _)]
  exact shapeCast_apply vt _ _ _ (by
    rw [Shape.rowMajor_val_four, Shape.rowMajor_val_two]
    show ((0 * 1 + 0) * 64 + d.val) * 256 + i.val = d.val * 256 + i.val
    omega)

theorem ones_at (vt : Vec Ideal S1x1x64x256 .bf16) (i : Fin 256) : valMat vt (ix2 (⟨64, by omega⟩ : Fin 80) i) = (1 : EReal) := by
  unfold valMat
  rw [concatenate_apply_piece (t := S80x256) 0 _ _ _ 1 (by simp) S16x256 _ rfl rfl 64 rfl (ix2 0 i) (fun b hb => match b with
    | ⟨0, _⟩ => absurd rfl hb
    | ⟨1, _⟩ => rfl) rfl, broadcast_apply, bits_at, Ideal.ofBits_one_bf16]

/-- The accumulator after a tile. -/
theorem accum_at (v : FVec Ideal S80x256 .bf16) (m m' : FVec Ideal S1x512 .f32) (s : FVec Ideal S256x512 .f32) (a : FVec Ideal S80x512 .f32) (r : Fin 80) (c : Fin 512) :
    accum v m m' (weights m' s) a (ix2 r c)
      = Ideal.exp2 (m (ix2 0 c) - m' (ix2 0 c)) * a (ix2 r c) + ∑ i : Fin 256, v (ix2 r i) * Ideal.exp2 (s (ix2 i c) - m' (ix2 0 c)) := by
  unfold accum weights
  rw [addf_apply, mulf_apply, broadcastTo_1b_ab_apply, exp2_at, subf_apply]
  refine congrArg (_ + ·) ((mm (M := 80) (K := 256) (N := 512) (φ₁ := .bf16) (φ₂ := .bf16) v _ r c).trans (Finset.sum_congr rfl fun i _ => ?_))
  rw [truncf_apply, exp2_at, subf_apply, broadcastTo_1b_ab_apply]

variable (K : ℕ → Vec Ideal S1x256x128 .bf16) (V : ℕ → Vec Ideal S1x1x64x256 .bf16) (q : Vec Ideal S128x512 .bf16)

/-- The state before tile `n` is consumed. -/
abbrev St (n : ℕ) : HS Ideal := (HS.start K q).over K V q n

theorem St_succ (n : ℕ) : St K V q (n + 1) = (St K V q n).step (K (n + 2)) (V n) q := rfl

theorem St_tiles (n : ℕ) : (St K V q n).sA = score (keyMat (K n)) q ∧ (St K V q n).sB = score (keyMat (K (n + 1))) q
    ∧ (St K V q n).xA = colMax (score (keyMat (K n)) q) ∧ (St K V q n).xB = colMax (score (keyMat (K (n + 1))) q) := by
  induction n with
  | zero =>
      have e : St K V q 0 = HS.start K q := rfl
      rw [e, Nat.zero_add]
      exact ⟨by simp only [HS.start], by simp only [HS.start], by simp only [HS.start], by simp only [HS.start]⟩
  | succ n ih =>
      rw [St_succ, step_sA, step_sB, step_xA, step_xB]
      exact ⟨ih.2.1, rfl, ih.2.2.2, rfl⟩

theorem St_m (n : ℕ) (c : Fin 512) : (St K V q (n + 1)).m (ix2 0 c)
    = max ((St K V q n).m (ix2 0 c)) (colMax (score (keyMat (K n)) q) (ix2 0 c)) := by
  rw [St_succ, step_m, (St_tiles K V q n).2.2.1]; rfl

theorem St_a (n : ℕ) (r : Fin 80) (c : Fin 512) : (St K V q (n + 1)).a (ix2 r c)
    = Ideal.exp2 ((St K V q n).m (ix2 0 c) - (St K V q (n + 1)).m (ix2 0 c)) * (St K V q n).a (ix2 r c)
      + ∑ i : Fin 256, valMat (V n) (ix2 r i) * Ideal.exp2 (score (keyMat (K n)) q (ix2 i c) - (St K V q (n + 1)).m (ix2 0 c)) := by
  rw [St_succ, step_a, accum_at, (St_tiles K V q n).1]

/-- After 33 tiles the quotient of a row of the accumulator and the row of weights is the softmax over all keys. -/
theorem quotient_at (c : Fin 512) (d : Fin 64) (σ : ℕ → ℝ) (v : ℕ → EReal)
    (hσ : ∀ (n : ℕ) (i : Fin 256), score (keyMat (K n)) q (ix2 i c) = (σ (256 * n + i.val) : EReal))
    (hv : ∀ (n : ℕ) (i : Fin 256), V n (ix4 0 0 d i) = v (256 * n + i.val)) :
    Ideal.div ((St K V q 33).a (ix2 (⟨d.val, by omega⟩ : Fin 80) c)) ((St K V q 33).a (ix2 (⟨64, by omega⟩ : Fin 80) c))
      = ∑ j ∈ Finset.range 8448, v j * (((2 : ℝ) ^ σ j / ∑ i ∈ Finset.range 8448, (2 : ℝ) ^ σ i : ℝ) : EReal) := by
  have ht : ∀ n, ∃ t : ℝ, colMax (score (keyMat (K n)) q) (ix2 0 c) = t := fun n => by
    obtain ⟨t, h⟩ := Soft.fold_max_coe (Finset.univ : Finset (Fin 256)) ⟨0, Finset.mem_univ _⟩ fun i => σ (256 * n + i.val)
    refine ⟨t, (colMax_at _ c).trans (Eq.trans ?_ h)⟩
    exact congrArg ((Finset.univ : Finset (Fin 256)).fold max ⊥) (funext fun i => hσ n i)
  choose t ht using ht
  have hm0 : (St K V q 0).m (ix2 0 c) = (⊥ : EReal) := bot_bits
  have ha0 : ∀ r : Fin 80, (St K V q 0).a (ix2 r c) = (0 : EReal) := fun r => Ideal.ofBits_zero_f32
  have hm : ∀ n, (St K V q (n + 1)).m (ix2 0 c) = max ((St K V q n).m (ix2 0 c)) (t n : EReal) := fun n => by rw [St_m, ht]
  obtain ⟨μ, hμ⟩ := Soft.max_coe (fun n => (St K V q n).m (ix2 0 c)) t hm0 hm 32
  have h1 := Soft.acc_eq σ v (fun n => (St K V q n).m (ix2 0 c)) (fun n => (St K V q n).a (ix2 (⟨d.val, by omega⟩ : Fin 80) c)) t hm0 hm (ha0 _)
    (fun n => (St_a K V q n _ c).trans (congrArg (_ + ·) (Finset.sum_congr rfl fun i _ => by rw [val_at, hv, hσ]))) 32 μ hμ
  have h2 := Soft.acc_eq σ (fun _ => 1) (fun n => (St K V q n).m (ix2 0 c)) (fun n => (St K V q n).a (ix2 (⟨64, by omega⟩ : Fin 80) c)) t hm0 hm (ha0 _)
    (fun n => (St_a K V q n _ c).trans (congrArg (_ + ·) (Finset.sum_congr rfl fun i _ => by rw [ones_at, hσ]))) 32 μ hμ
  exact (congrArg₂ Ideal.div h1 h2).trans (Soft.quotient_eq σ v 8448 (by norm_num) μ)

end Cert.Proof.KernelIdeal
end
-- ==== Proof.Att.Head.lean ====
module

public import proofs.«01_k».proof.Proof.Att.Column

@[expose] public section

set_option maxRecDepth 16384

noncomputable section

/-! What one key head stores, over the extended reals: the softmax of each of its queries. -/

namespace Cert.Proof.KernelIdeal

open Cert.KernelIdeal Cert.KernelIdeal.Gen
open Idealize.ShloMosaic hiding ix1 ix2 ix3 ix4 ix5
open Idealize.ShloMosaic.ValueIdx

variable (X2 : Vec Ideal S1x8x64x256 .bf16) (X3 : Vec Ideal S1x8448x128 .bf16) (X4 : Vec Ideal S1x2x64x8448 .bf16) (h : Fin k0_t1_loop.trips)

theorem head_lt : h.val < 2 := h.isLt

/-- The four query heads of head `h`, side by side. -/
def four : FVec Ideal S64x1024 .bf16 :=
  concatenate S64x1024 1 [⟨S64x256, shapeCast S64x256 (qTile X2 (4 * h.val)) shapeCasts_S1x1x64x256_S64x256⟩,
    ⟨S64x256, shapeCast S64x256 (qTile X2 (4 * h.val + 1)) shapeCasts_S1x1x64x256_S64x256⟩,
    ⟨S64x256, shapeCast S64x256 (qTile X2 (4 * h.val + 2)) shapeCasts_S1x1x64x256_S64x256⟩,
    ⟨S64x256, shapeCast S64x256 (qTile X2 (4 * h.val + 3)) shapeCasts_S1x1x64x256_S64x256⟩] concatenates_S64x256_S64x256_S64x256_S64x256_S64x1024_d1

/-- An entry of a query head's tile. -/
theorem qTile_at (n : ℕ) (hn : n < 8) (e : Fin 64) (c : Fin 256) :
    shapeCast S64x256 (qTile X2 n) shapeCasts_S1x1x64x256_S64x256 (ix2 e c) = X2 (ix4 0 ⟨n, hn⟩ e c) := by
  refine (shapeCast_apply (qTile X2 n) _ (ix2 e c) (ix4 0 0 e c) (by
    rw [Shape.rowMajor_val_four, Shape.rowMajor_val_two]
    show ((0 * 1 + 0) * 64 + e.val) * 256 + c.val = e.val * 256 + c.val
    omega)).trans ?_
  show X2 (ix4 (0 : Fin 1) (⟨n % 8, _⟩ : Fin 8) e c) = _
  exact congrArg (fun k => X2 (ix4 (0 : Fin 1) k e c)) (Fin.ext (Nat.mod_eq_of_lt hn))

theorem four_at (g : Fin 4) (e : Fin 64) (r : Fin 256) :
    four X2 h (ix2 e (⟨256 * g.val + r.val, by omega⟩ : Fin 1024)) = X2 (ix4 0 (⟨4 * h.val + g.val, by have := head_lt h; omega⟩ : Fin 8) e r) := by
  have hh := head_lt h
  have off : ∀ (c : Fin 1024) (b : Fin S64x256.rank), b.cast (rfl : S64x256.rank = S64x1024.rank) ≠ 1 →
      ((ix2 e r : S64x256.Idx) b).val = ((ix2 e c : S64x1024.Idx) (b.cast rfl)).val := fun c b hb => match b with
    | ⟨0, _⟩ => rfl
    | ⟨1, _⟩ => absurd rfl hb
  unfold four
  match g with
  | 0 =>
    refine (concatenate_apply_piece (t := S64x1024) 1 _ _ _ 0 (by simp) S64x256 _ rfl rfl 0 rfl (ix2 e r) (off _) (by show 0 + r.val = 256 * 0 + r.val; omega)).trans ?_
    exact qTile_at X2 (4 * h.val + 0) (by omega) e r
  | 1 =>
    refine (concatenate_apply_piece (t := S64x1024) 1 _ _ _ 1 (by simp) S64x256 _ rfl rfl 256 rfl (ix2 e r) (off _) (by show 256 + r.val = 256 * 1 + r.val; omega)).trans ?_
    exact qTile_at X2 (4 * h.val + 1) (by omega) e r
  | 2 =>
    refine (concatenate_apply_piece (t := S64x1024) 1 _ _ _ 2 (by simp) S64x256 _ rfl rfl 512 rfl (ix2 e r) (off _) (by show 512 + r.val = 256 * 2 + r.val; omega)).trans ?_
    exact qTile_at X2 (4 * h.val + 2) (by omega) e r
  | 3 =>
    refine (concatenate_apply_piece (t := S64x1024) 1 _ _ _ 3 (by simp) S64x256 _ rfl rfl 768 rfl (ix2 e r) (off _) (by show 768 + r.val = 256 * 3 + r.val; omega)).trans ?_
    exact qTile_at X2 (4 * h.val + 3) (by omega) e r

theorem is_zero : ∀ h : Fin k0_t1_loop.trips, Scalar.cmpi .eq (Scf.iv 0#32 1#32 h) 0#32 = if h.val = 0 then 1#1 else 0#1 := by decide +kernel
theorem is_one : ∀ h : Fin k0_t1_loop.trips, Scalar.cmpi .eq (Scf.iv 0#32 1#32 h) 1#32 = if h.val = 1 then 1#1 else 0#1 := by decide +kernel

theorem queries_eq : queries X2 h = concatenate S128x1024 0
    [⟨S64x1024, if h.val = 0 then four X2 h else broadcast S64x1024 (Scalar.ofBits .bf16 0x0000#16)⟩,
     ⟨S64x1024, if h.val = 1 then four X2 h else broadcast S64x1024 (Scalar.ofBits .bf16 0x0000#16)⟩] concatenates_S64x1024_S64x1024_S128x1024_d0 := by
  unfold queries k0_pay193
  have e0 := is_zero h
  have e1 := is_one h
  dsimp only
  rw [shapeCast_id, e0, e1]
  by_cases a : h.val = 0
  · rw [if_pos a, if_pos a, if_neg (by omega), if_neg (by omega)]; rfl
  · have b : h.val = 1 := by have := head_lt h; omega
    rw [if_neg a, if_neg a, if_pos b, if_pos b]; rfl

theorem zero_bits : Ideal.ofBits .bf16 0x0000#16 = 0 := Ideal.ofBits_zero_bf16

/-- The upper and the lower 64 rows of the queries. -/
theorem queries_up (e : Fin 64) (c : Fin 1024) : queries X2 h (ix2 (⟨e.val, by omega⟩ : Fin 128) c) = if h.val = 0 then four X2 h (ix2 e c) else 0 := by
  rw [queries_eq]
  refine (concatenate_apply_piece (t := S128x1024) 0 _ _ _ 0 (by simp) S64x1024 _ rfl rfl 0 rfl (ix2 e c) (fun b hb => match b with
    | ⟨0, _⟩ => absurd rfl hb
    | ⟨1, _⟩ => rfl) (Nat.zero_add _)).trans ?_
  split
  · rfl
  · exact zero_bits
theorem queries_down (e : Fin 64) (c : Fin 1024) : queries X2 h (ix2 (⟨64 + e.val, by omega⟩ : Fin 128) c) = if h.val = 1 then four X2 h (ix2 e c) else 0 := by
  rw [queries_eq]
  refine (concatenate_apply_piece (t := S128x1024) 0 _ _ _ 1 (by simp) S64x1024 _ rfl rfl 64 rfl (ix2 e c) (fun b hb => match b with
    | ⟨0, _⟩ => absurd rfl hb
    | ⟨1, _⟩ => rfl) rfl).trans ?_
  split
  · rfl
  · exact zero_bits

/-- A product of depth 128 with the queries is the product of depth 64 of the head's half. -/
theorem half_sum (f : Fin 128 → EReal) (c : Fin 1024) :
    (∑ e : Fin 128, f e * queries X2 h (ix2 e c)) = ∑ e : Fin 64, f ⟨64 * h.val + e.val, by have := head_lt h; omega⟩ * four X2 h (ix2 e c) := by
  have hs := Fin.sum_univ_add (a := 64) (b := 64) (fun e : Fin 128 => f e * queries X2 h (ix2 e c))
  refine hs.trans ?_
  have up : ∀ e : Fin 64, f (Fin.castAdd 64 e) * queries X2 h (ix2 (Fin.castAdd 64 e) c) = f (Fin.castAdd 64 e) * if h.val = 0 then four X2 h (ix2 e c) else 0 :=
    fun e => congrArg (_ * ·) (queries_up X2 h e c)
  have dn : ∀ e : Fin 64, f (Fin.natAdd 64 e) * queries X2 h (ix2 (Fin.natAdd 64 e) c) = f (Fin.natAdd 64 e) * if h.val = 1 then four X2 h (ix2 e c) else 0 :=
    fun e => congrArg (_ * ·) (queries_down X2 h e c)
  rw [Finset.sum_congr rfl fun e _ => up e, Finset.sum_congr rfl fun e _ => dn e]
  by_cases a : h.val = 0
  · simp only [if_pos a, if_neg (show ¬ h.val = 1 by omega), mul_zero, Finset.sum_const_zero, add_zero]
    exact Finset.sum_congr rfl fun e _ => congrArg (fun k => f k * four X2 h (ix2 e c)) (Fin.ext (by show e.val = 64 * h.val + e.val; omega))
  · have b : h.val = 1 := by have := head_lt h; omega
    simp only [if_neg a, if_pos b, mul_zero, Finset.sum_const_zero, zero_add]
    exact Finset.sum_congr rfl fun e _ => congrArg (fun k => f k * four X2 h (ix2 e c)) (Fin.ext (by show 64 + e.val = 64 * h.val + e.val; omega))

/-- The score of key `j` for query `r` of query head `g` of head `h`. -/
def sc (g : Fin 4) (r : Fin 256) (j : ℕ) : EReal :=
  ∑ e : Fin 64, X3 (ix3 0 (⟨j % 8448, Nat.mod_lt _ (by decide)⟩ : Fin 8448) (⟨64 * h.val + e.val, by have := head_lt h; omega⟩ : Fin 128))
    * X2 (ix4 0 (⟨4 * h.val + g.val, by have := head_lt h; omega⟩ : Fin 8) e r)

theorem score_sum (n : ℕ) (i : Fin 256) (g : Fin 4) (r : Fin 256) (c : Fin 1024) (hc : c.val = 256 * g.val + r.val) :
    (∑ e : Fin 128, keyTile X3 n (ix3 0 i e) * queries X2 h (ix2 e c)) = sc X2 X3 h g r (256 * n + i.val) := by
  have e : c = ⟨256 * g.val + r.val, by omega⟩ := Fin.ext hc
  rw [e, half_sum X2 h (fun e => keyTile X3 n (ix3 0 i e))]
  unfold sc
  refine Finset.sum_congr rfl fun e _ => ?_
  rw [four_at]
  rfl

/-- The quotients, at a row and a column. -/
theorem quot_at (d : Fin 64) (g : Fin 4) (r : Fin 256) (σ : ℕ → ℝ) (hσ : ∀ j, sc X2 X3 h g r j = (σ j : EReal)) :
    k0_pay335 (accs X2 X3 X4 h) (ix2 d (⟨256 * g.val + r.val, by omega⟩ : Fin 1024))
      = ∑ j ∈ Finset.range 8448, X4 (ix4 (0 : Fin 1) (h : Fin 2) d (⟨j % 8448, Nat.mod_lt _ (by decide)⟩ : Fin 8448))
          * (((2 : ℝ) ^ σ j / ∑ i ∈ Finset.range 8448, (2 : ℝ) ^ σ i : ℝ) : EReal) := by
  unfold k0_pay335
  rw [divf_apply, broadcastTo_1b_ab_apply,
    extractStridedSlice_apply ![0, 0] (accs X2 X3 X4 h) _ (ix2 d _) (ix2 (⟨d.val, by omega⟩ : Fin 80) (⟨256 * g.val + r.val, by omega⟩ : Fin 1024)) (fun a => match a with
      | ⟨0, _⟩ => (Nat.zero_add _).symm
      | ⟨1, _⟩ => (Nat.zero_add _).symm),
    extractStridedSlice_apply ![64, 0] (accs X2 X3 X4 h) _ (ix2 (0 : Fin 1) _) (ix2 (⟨64, by omega⟩ : Fin 80) (⟨256 * g.val + r.val, by omega⟩ : Fin 1024)) (fun a => match a with
      | ⟨0, _⟩ => rfl
      | ⟨1, _⟩ => (Nat.zero_add _).symm)]
  unfold accs beside
  by_cases hc : 256 * g.val + r.val < 512
  · refine (congrArg₂ Ideal.div (dif_pos hc) (dif_pos hc)).trans ?_
    refine quotient_at (keyTile X3) (valTile X4 h) (queries0 X2 h) (⟨256 * g.val + r.val, hc⟩ : Fin 512) d σ
      (fun j => X4 (ix4 (0 : Fin 1) (h : Fin 2) d (⟨j % 8448, Nat.mod_lt _ (by decide)⟩ : Fin 8448))) (fun n i => ?_) (fun n i => rfl)
    rw [score_at, ← hσ, ← score_sum X2 X3 h n i g r (⟨256 * g.val + r.val, by omega⟩ : Fin 1024) rfl]
    refine Finset.sum_congr rfl fun e _ => congrArg (_ * ·) (congrArg (queries X2 h) ?_)
    funext a
    apply Fin.ext
    match a with
    | ⟨0, _⟩ => show 0 + 1 * e.val = e.val; omega
    | ⟨1, _⟩ => show 0 + 1 * (256 * g.val + r.val) = 256 * g.val + r.val; omega
  · refine (congrArg₂ Ideal.div (dif_neg hc) (dif_neg hc)).trans ?_
    refine quotient_at (keyTile X3) (valTile X4 h) (queries1 X2 h) (⟨256 * g.val + r.val - 512, by omega⟩ : Fin 512) d σ
      (fun j => X4 (ix4 (0 : Fin 1) (h : Fin 2) d (⟨j % 8448, Nat.mod_lt _ (by decide)⟩ : Fin 8448))) (fun n i => ?_) (fun n i => rfl)
    rw [score_at, ← hσ, ← score_sum X2 X3 h n i g r (⟨256 * g.val + r.val, by omega⟩ : Fin 1024) rfl]
    refine Finset.sum_congr rfl fun e _ => congrArg (_ * ·) (congrArg (queries X2 h) ?_)
    funext a
    apply Fin.ext
    match a with
    | ⟨0, _⟩ => show 0 + 1 * e.val = e.val; omega
    | ⟨1, _⟩ => show 512 + 1 * (256 * g.val + r.val - 512) = 256 * g.val + r.val; omega

/-- Two tiles under one another, transposed. -/
theorem pair_at (A B : FVec Ideal S64x256 .f32) (r : Fin 256) (g : Fin 2) (d : Fin 64) :
    transpose S256x128 [1, 0] (concatenate S128x256 0 [⟨S64x256, A⟩, ⟨S64x256, B⟩] concatenates_S64x256_S64x256_S128x256_d0) transposes_S128x256_p1_0_S256x128
      (ix2 r (⟨64 * g.val + d.val, by omega⟩ : Fin 128)) = if g.val = 0 then A (ix2 d r) else B (ix2 d r) := by
  refine (transpose_apply _ _ _ _ (ix2 (⟨64 * g.val + d.val, by omega⟩ : Fin 128) r) (fun b => match b with
    | ⟨0, _⟩ => rfl
    | ⟨1, _⟩ => rfl)).trans ?_
  match g with
  | 0 =>
    exact concatenate_apply_piece (t := S128x256) 0 _ _ _ 0 (by simp) S64x256 _ rfl rfl 0 rfl (ix2 d r) (fun b hb => match b with
      | ⟨0, _⟩ => absurd rfl hb
      | ⟨1, _⟩ => rfl) (by show 0 + d.val = 64 * 0 + d.val; omega)
  | 1 =>
    exact concatenate_apply_piece (t := S128x256) 0 _ _ _ 1 (by simp) S64x256 _ rfl rfl 64 rfl (ix2 d r) (fun b hb => match b with
      | ⟨0, _⟩ => absurd rfl hb
      | ⟨1, _⟩ => rfl) (by show 64 + d.val = 64 * 1 + d.val; omega)

/-- A tile of 256 columns of the quotients. -/
theorem slice_at (Q : FVec Ideal S64x1024 .f32) (g : Fin 4) (o : ℕ) (ho : o = 256 * g.val) (hs) (d : Fin 64) (r : Fin 256) :
    extractStridedSlice S64x256 ![0, o] Q hs (ix2 d r) = Q (ix2 d (⟨256 * g.val + r.val, by omega⟩ : Fin 1024)) := by
  subst ho
  exact extractStridedSlice_apply _ Q _ _ _ (fun a => match a with
    | ⟨0, _⟩ => (Nat.zero_add _).symm
    | ⟨1, _⟩ => rfl)

/-- What the head stores, at a query and an entry. -/
theorem headOut_at (d : Fin 64) (g : Fin 4) (r : Fin 256) :
    headOut X2 X3 X4 h (ix3 0 r (⟨64 * g.val + d.val, by omega⟩ : Fin 256)) = k0_pay335 (accs X2 X3 X4 h) (ix2 d (⟨256 * g.val + r.val, by omega⟩ : Fin 1024)) := by
  unfold headOut k0_pay1 k0_pay336 k0_pay337
  dsimp only
  generalize k0_pay335 (accs X2 X3 X4 h) = Q
  rw [shapeCast_ab_1ab_apply, truncf_apply]
  match g with
  | 0 =>
    refine (concatenate_apply_piece (t := S256x256) 1 _ _ _ 0 (by simp) S256x128 _ rfl rfl 0 rfl (ix2 r (⟨64 * 0 + d.val, by omega⟩ : Fin 128)) (fun b hb => match b with
      | ⟨0, _⟩ => rfl
      | ⟨1, _⟩ => absurd rfl hb) (by show 0 + (64 * 0 + d.val) = 64 * 0 + d.val; omega)).trans ((pair_at _ _ r 0 d).trans ?_)
    exact (if_pos rfl).trans (slice_at Q 0 0 rfl _ d r)
  | 1 =>
    refine (concatenate_apply_piece (t := S256x256) 1 _ _ _ 0 (by simp) S256x128 _ rfl rfl 0 rfl (ix2 r (⟨64 * 1 + d.val, by omega⟩ : Fin 128)) (fun b hb => match b with
      | ⟨0, _⟩ => rfl
      | ⟨1, _⟩ => absurd rfl hb) (by show 0 + (64 * 1 + d.val) = 64 * 1 + d.val; omega)).trans ((pair_at _ _ r 1 d).trans ?_)
    exact (if_neg (by decide)).trans (slice_at Q 1 256 rfl _ d r)
  | 2 =>
    refine (concatenate_apply_piece (t := S256x256) 1 _ _ _ 1 (by simp) S256x128 _ rfl rfl 128 rfl (ix2 r (⟨64 * 0 + d.val, by omega⟩ : Fin 128)) (fun b hb => match b with
      | ⟨0, _⟩ => rfl
      | ⟨1, _⟩ => absurd rfl hb) (by show 128 + (64 * 0 + d.val) = 64 * 2 + d.val; omega)).trans ((pair_at _ _ r 0 d).trans ?_)
    exact (if_pos rfl).trans (slice_at Q 2 512 rfl _ d r)
  | 3 =>
    refine (concatenate_apply_piece (t := S256x256) 1 _ _ _ 1 (by simp) S256x128 _ rfl rfl 128 rfl (ix2 r (⟨64 * 1 + d.val, by omega⟩ : Fin 128)) (fun b hb => match b with
      | ⟨0, _⟩ => rfl
      | ⟨1, _⟩ => absurd rfl hb) (by show 128 + (64 * 1 + d.val) = 64 * 3 + d.val; omega)).trans ((pair_at _ _ r 1 d).trans ?_)
    exact (if_neg (by decide)).trans (slice_at Q 3 768 rfl _ d r)

end Cert.Proof.KernelIdeal
end
-- ==== Proof.Att.Run.lean ====
module

public import proofs.«01_k».proof.Proof.Att.Whole
public import proofs.«01_k».proof.Proof.Gen.KernelIdeal.Frame
public import proofs.«01_k».proof.Proof.Gen.KernelIdeal.Points
public import Idealize.ShloMosaic.PureOps.BitExact
public import Idealize.ShloMosaic.Lib.ValueLayout
public import Idealize.ShloMosaic.Lib.Pipeline.ValueKit.Tiles
public import Idealize.ShloMosaic.Lib.Tactic
public import Idealize.ShloMosaic.Lib.Pipeline.ReadBack
public import Idealize.ShloMosaic.Lib.Pointwise.Reshape

@[expose] public section

set_option maxRecDepth 16384

noncomputable section

namespace Cert.Proof.KernelIdeal

open Cert.KernelIdeal Cert.KernelIdeal.Gen
open Idealize.ShloMosaic hiding ix1 ix2 ix3 ix4 ix5
open Idealize.ShloMosaic.ValueIdx Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

open Idealize.ShloMosaic.Pipeline (Dat Cfg Window BodyObligation cellOf ΦA)

variable {F : FTy → Type} [FloatOps F]

local notation "𝕄" => MT nD τ sig Unit (Elt F) ℕ (UR sig nD τ) ℕ

/-- The stores of the first `k` heads, the last one first. -/
def heads (X2 : Vec F S1x8x64x256 .bf16) (X3 : Vec F S1x8448x128 .bf16) (X4 : Vec F S1x2x64x8448 .bf16) (k : ℕ) : List (View.Piece (Elt F) S1x256x512 .bf16) :=
  Nat.rec [] (fun n L => if h : n < k0_t1_loop.trips then ⟨Rect.unit (s := S1x256x512) (k0_off13 ⟨n, h⟩) S1x256x256.size (k0_off13_inb ⟨n, h⟩), headOut X2 X3 X4 ⟨n, h⟩⟩ :: L else L) k

theorem heads_succ (X2 : Vec F S1x8x64x256 .bf16) (X3 : Vec F S1x8448x128 .bf16) (X4 : Vec F S1x2x64x8448 .bf16) (k : Fin k0_t1_loop.trips) :
    heads X2 X3 X4 (k.val + 1) = ⟨Rect.unit (s := S1x256x512) (k0_off13 k) S1x256x256.size (k0_off13_inb k), headOut X2 X3 X4 k⟩ :: heads X2 X3 X4 k.val :=
  dif_pos k.isLt

/-- The block the body leaves: both heads' rows. -/
def blockOut (X2 : Vec F S1x8x64x256 .bf16) (X3 : Vec F S1x8448x128 .bf16) (X4 : Vec F S1x2x64x8448 .bf16) : Vec F S1x256x512 .bf16 :=
  View.canon (heads X2 X3 X4 2)

/-- Before trip `k` of the loop over heads: the inputs as they were, the output with `k` heads' stores, the scratch at anything. -/
abbrev inv1 (c : Dev nD) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (f2 : Bf (F := F) c arg2) (f3 : Bf (F := F) c arg3) (f4 : Bf (F := F) c arg4) (f5 : Bf (F := F) c arg5) (k : ℕ) : sProp 𝕄 :=
  iprop(pt c arg2 f2 ∗ pt c arg3 f3 ∗ pt c arg4 f4
    ∗ pt c arg5 (stage f5 (fun k => arg5.view.writes (Elt F) f5 (heads (arg2.view.read (Elt F) f2) (arg3.view.read (Elt F) f3) (arg4.view.read (Elt F) f4) k)) k)
    ∗ (∃ g, pt c arg6 g) ∗ (∃ g, pt c arg7 g) ∗ (∃ g, pt c arg8 g) ∗ (∃ g, pt c arg9 g) ∗ (∃ g, pt c arg10 g) ∗ (∃ g, pt c arg11 g) ∗ (∃ g, pt c arg12 g))

set_option maxHeartbeats 1000000 in
/-- The invariant of the loop over heads. -/
@[sl_loop, instance_reducible] def loopInv_k0_t1 (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (f2 : Bf (F := F) c arg2) (f3 : Bf (F := F) c arg3) (f4 : Bf (F := F) c arg4) (f5 : Bf (F := F) c arg5) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg11 harg11 arg12 harg12 where
  inv k _ := inv1 c arg2 harg2 arg3 harg3 arg4 harg4 arg5 harg5 arg6 harg6 arg7 harg7 arg8 harg8 arg9 harg9 arg10 harg10 arg11 harg11 arg12 harg12 f2 f3 f4 f5 k
  step k x := by
    have e (n : ℕ) := stage_eq (fun k => arg5.view.writes (Elt F) f5 (heads (arg2.view.read (Elt F) f2) (arg3.view.read (Elt F) f3) (arg4.view.read (Elt F) f4) k)) n
    unfold inv1
    rw [show stage f5 _ k.val = _ from e k.val, show stage f5 _ (k.val + 1) = _ from e (k.val + 1), heads_succ]
    iintro ⟨H2, H3, H4, H5, ⟨%f6, H6⟩, ⟨%f7, H7⟩, ⟨%f8, H8⟩, ⟨%f9, H9⟩, ⟨%f10, H10⟩, ⟨%f11, H11⟩, ⟨%f12, H12⟩⟩
    iapply ((outer c i arg2 harg2 arg3 harg3 arg4 harg4 arg5 harg5 arg6 harg6 arg7 harg7 arg8 harg8 arg9 harg9 arg10 harg10 arg11 harg11 arg12 harg12 k f2 f3 f4 (arg5.view.writes (Elt F) f5 (heads (arg2.view.read (Elt F) f2) (arg3.view.read (Elt F) f3) (arg4.view.read (Elt F) f4) k.val)) f6 f7 f8 f9 f10 f11 f12).2 _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    rw [outer_stores]
    iintro ⟨H2, H3, H4, H5, H6, H7, H8, H9, H10, H11, H12⟩
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The two heads. -/
abbrev head0 : Fin k0_t1_loop.trips := ⟨0, by decide⟩
abbrev head1 : Fin k0_t1_loop.trips := ⟨1, by decide⟩

theorem off_head : ∀ h : Fin k0_t1_loop.trips, k0_off13 h = ![0, 0, 256 * h.val] := by decide +kernel

/-- The two heads' rows are the whole block, whatever was there before. -/
theorem block_read (v : View sig .tc .vmem S1x256x512 .bf16) (f : v.ty.Contents (Elt F)) (X2 : Vec F S1x8x64x256 .bf16) (X3 : Vec F S1x8448x128 .bf16) (X4 : Vec F S1x2x64x8448 .bf16) :
    v.read (Elt F) (v.writes (Elt F) f (heads X2 X3 X4 2)) = blockOut X2 X3 X4 := by
  funext y
  refine View.read_writes_apply_eq_canon v f y _ ?_
  have h0 : (y 0).val < 1 := (y 0).isLt
  have h1 : (y 1).val < 256 := (y 1).isLt
  have h2 : (y 2).val < 512 := (y 2).isLt
  by_cases h : (y 2).val < 256
  · refine ⟨⟨Rect.unit (s := S1x256x512) (k0_off13 head0) S1x256x256.size (k0_off13_inb head0), headOut X2 X3 X4 head0⟩, List.mem_cons_of_mem _ List.mem_cons_self, ?_⟩
    rw [show y = (Rect.unit (s := S1x256x512) (k0_off13 head0) S1x256x256.size (k0_off13_inb head0)).idx (ix3 (y 0) (y 1) (⟨(y 2).val, h⟩ : Fin 256)) from
      funext fun a => Fin.ext (by
        rw [Rect.idx_unit_val, congrFun (off_head _) a]
        match a with
        | 0 => exact (Nat.zero_add _).symm
        | 1 => exact (Nat.zero_add _).symm
        | 2 => exact (Nat.zero_add _).symm)]
    exact (Rect.unit (s := S1x256x512) (k0_off13 head0) S1x256x256.size (k0_off13_inb head0)).idx_mem _
  · refine ⟨⟨Rect.unit (s := S1x256x512) (k0_off13 head1) S1x256x256.size (k0_off13_inb head1), headOut X2 X3 X4 head1⟩, List.mem_cons_self, ?_⟩
    rw [show y = (Rect.unit (s := S1x256x512) (k0_off13 head1) S1x256x256.size (k0_off13_inb head1)).idx (ix3 (y 0) (y 1) (⟨(y 2).val - 256, by omega⟩ : Fin 256)) from
      funext fun a => Fin.ext (by
        rw [Rect.idx_unit_val, congrFun (off_head _) a]
        match a with
        | 0 => exact (Nat.zero_add _).symm
        | 1 => exact (Nat.zero_add _).symm
        | 2 =>
          show (y 2).val = 256 * 1 + ((y 2).val - 256)
          omega)]
    exact (Rect.unit (s := S1x256x512) (k0_off13 head1) S1x256x256.size (k0_off13_inb head1)).idx_mem _

variable (m : (ℓ : Loc nD τ sig) → Buf (Elt F) ℓ) (ρ : Dev nD → PrngReg)

abbrev 𝒱₀ : Variants := Variants.none

/-- The body, run: the inputs as they were, the output block at both heads' rows, the scratch at anything. -/
theorem kernelRun (c : Dev nD) (i : grid0.Coords) (arg2 : Memref sig .tc .vmem S1x8x64x256 .bf16) (harg2 : arg2.IsWhole) (arg3 : Memref sig .tc .vmem S1x8448x128 .bf16) (harg3 : arg3.IsWhole) (arg4 : Memref sig .tc .vmem S1x2x64x8448 .bf16) (harg4 : arg4.IsWhole) (arg5 : Memref sig .tc .vmem S1x256x512 .bf16) (harg5 : arg5.IsWhole) (arg6 : Memref sig .tc .vmem S128x1024 .bf16) (harg6 : arg6.IsWhole) (arg7 : Memref sig .tc .vmem S1x1024 .f32) (harg7 : arg7.IsWhole) (arg8 : Memref sig .tc .vmem S80x1024 .f32) (harg8 : arg8.IsWhole) (arg9 : Memref sig .tc .vmem S256x1024 .f32) (harg9 : arg9.IsWhole) (arg10 : Memref sig .tc .vmem S256x1024 .f32) (harg10 : arg10.IsWhole) (arg11 : Memref sig .tc .vmem S256x1024 .f32) (harg11 : arg11.IsWhole) (arg12 : Memref sig .tc .vmem S256x1024 .f32) (harg12 : arg12.IsWhole) (X2 : Vec F S1x8x64x256 .bf16) (X3 : Vec F S1x8448x128 .bf16) (X4 : Vec F S1x2x64x8448 .bf16) (K : PUnit → sProp 𝕄) :
    iprop(owns (c : Thread nD τ) arg2 fullShare X2 ∗ owns (c : Thread nD τ) arg3 fullShare X3 ∗ owns (c : Thread nD τ) arg4 fullShare X4
        ∗ (∃ d, owns (c : Thread nD τ) arg5 fullShare d) ∗ (∃ g, pt c arg6 g) ∗ (∃ g, pt c arg7 g) ∗ (∃ g, pt c arg8 g) ∗ (∃ g, pt c arg9 g) ∗ (∃ g, pt c arg10 g) ∗ (∃ g, pt c arg11 g) ∗ (∃ g, pt c arg12 g)
        ∗ (iprop(owns (c : Thread nD τ) arg2 fullShare X2 ∗ owns (c : Thread nD τ) arg3 fullShare X3 ∗ owns (c : Thread nD τ) arg4 fullShare X4
            ∗ owns (c : Thread nD τ) arg5 fullShare (blockOut X2 X3 X4) ∗ (∃ g, pt c arg6 g) ∗ (∃ g, pt c arg7 g) ∗ (∃ g, pt c arg8 g) ∗ (∃ g, pt c arg9 g) ∗ (∃ g, pt c arg10 g) ∗ (∃ g, pt c arg11 g) ∗ (∃ g, pt c arg12 g)) -∗ K ⟨⟩))
      ⊢ wp frame (wpE (defs₀ (F := F)) 𝒱₀ c none) Set.univ (cc0_attention (F := F) i arg2 harg2 arg3 harg3 arg4 harg4 arg5 harg5 arg6 harg6 arg7 harg7 arg8 harg8 arg9 harg9 arg10 harg10 arg11 harg11 arg12 harg12) K := by
  unfold owns
  rw [harg2.set_eq_univ, harg3.set_eq_univ, harg4.set_eq_univ, harg5.set_eq_univ]
  iintro ⟨⟨%f2, %h2, H2⟩, ⟨%f3, %h3, H3⟩, ⟨%f4, %h4, H4⟩, ⟨%d5, %f5, -, H5⟩, ⟨%f6, H6⟩, ⟨%f7, H7⟩, ⟨%f8, H8⟩, ⟨%f9, H9⟩, ⟨%f10, H10⟩, ⟨%f11, H11⟩, ⟨%f12, H12⟩, Hk⟩
  subst h2 h3 h4
  sl_unfold [cc0_attention]
  sl_exec
  sl_step
  iapply Hk
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; swap; · iexact H5
    ipureintro
    exact (congrArg (arg5.view.read (Elt F)) (stage_eq (fun k => arg5.view.writes (Elt F) f5 (heads (arg2.view.read (Elt F) f2) (arg3.view.read (Elt F) f3) (arg4.view.read (Elt F) f4) k)) 2)).trans (block_read arg5.view f5 _ _ _)
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  iexists _; iexact H12

/-- The block of the output after point `t`'s body. -/
def outAt (c : Dev nD) (t : Fin cfg0.N) : Vec F S1x256x512 .bf16 := blockOut (iblk m c 0 t) (iblk m c 1 t) (iblk m c 2 t)

/-- The arrays as the launch finds them; after each point's body the input blocks as they were and the output block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
  Φ _ := Pipeline.ΦA spec0 c
  q _ := fullShare
  owed _ := 0

theorem A_eq (c : Dev nD) (w : Fin cfg0.W) : (dats m 0 c).A w = V m c (Pipeline.arrRef spec0 w) := rfl
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

set_option maxHeartbeats 1000000 in
/-- Each point's body takes the blocks to what `dats` says. -/
theorem body_obligation (c : Dev nD) : BodyObligation (dats (F := F) m 0 c) (defs₀ (F := F)) 𝒱₀ () Set.univ := fun t => by
  rw [bigSep_W0, bigSep_W0]
  sl_whnfR [defs₀, Defs.onTc]
  simp only [before0_0, before0_1, before0_2]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl, after0_0, after0_1, after0_2, after0_3]
  unfold outAt Pipeline.ΦA
  rw [scopedRest0_eq]
  iintro ⟨⟨⟨⟨%f6, H6⟩, ⟨%f7, H7⟩, ⟨%f8, H8⟩, ⟨%f9, H9⟩, ⟨%f10, H10⟩, ⟨%f11, H11⟩, ⟨%f12, H12⟩⟩, HP⟩, Ho, ⟨%d0, H0⟩, ⟨%d1, H1⟩, ⟨%d2, H2⟩, ⟨%d3, H3⟩⟩
  iapply (kernelRun c _ _ _ _ _ _ _ _ _ _ _ _ _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H6]; · iexists _; iexact H6
  isplitl [H7]; · iexists _; iexact H7
  isplitl [H8]; · iexists _; iexact H8
  isplitl [H9]; · iexists _; iexact H9
  isplitl [H10]; · iexists _; iexact H10
  isplitl [H11]; · iexists _; iexact H11
  isplitl [H12]; · iexists _; iexact H12
  iintro ⟨H0, H1, H2, H3, H6, H7, H8, H9, H10, H11, H12⟩
  isplitl [HP H6 H7 H8 H9 H10 H11 H12]
  · isplitr [HP]; swap; · iexact HP
    isplitl [H6]; · iexact H6
    isplitl [H7]; · iexact H7
    isplitl [H8]; · iexact H8
    isplitl [H9]; · iexact H9
    isplitl [H10]; · iexact H10
    isplitl [H11]; · iexact H11
    iexact H12
  isplitl [Ho]; · iexact Ho
  isplitl [H0]; · iexact H0
  isplitl [H1]; · iexact H1
  isplitl [H2]; · iexact H2
  iexact H3

set_option backward.isDefEq.respectTransparency.types false in
/-- The launch ends, with the arrays at what `dats` says and the semaphores at zero. -/
theorem run_main : θ_run defs (onTc (τ := τ) (main (F := F))) (s₀ m ρ)
    (fun r => Pipeline.FramePost cfgs (dats m) 0 (V m) r ∧ r.2.sem = fun _ => 0) :=
  Pipeline.θ_run_frame (Q' := _) cfgs (dats m) (0 : Fin 1) launch0 defs₀ 𝒱₀ m ρ main
    (hbody := fun c => (body_obligation m c).loose) (hshare := fun c => (dats m 0 c).share_full fun _ => rfl)
    (howed := fun _ _ => rfl) (V := V m) (hmain := hmain m 𝒱₀) (hA := fun _ _ => rfl) (hΦ := fun _ _ => rfl)

/-- The launch leaves its arguments and the semaphores as they were. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_with_sems (frame_of m ρ (dats m) fun _ _ => rfl) (run_main m ρ)

end Cert.Proof.KernelIdeal
end
-- ==== Proof.Att.Array.lean ====
module

public import proofs.«01_k».proof.Proof.Att.Head
public import proofs.«01_k».proof.Proof.Att.Run

@[expose] public section

set_option maxRecDepth 16384

noncomputable section

/-! The result array of the attention kernel, as the softmax of every query over the argument arrays. -/

namespace Cert.Proof.KernelIdeal

open Cert.KernelIdeal Cert.KernelIdeal.Gen
open Idealize.ShloMosaic hiding ix1 ix2 ix3 ix4 ix5
open Idealize.ShloMosaic.ValueIdx Idealize.ShloMosaic.TcCoe Pipeline

/-- The score of key `j` for token `n` of query head `g` of head `h` of sequence `b`. -/
def dotqk (Q : S4x8x64x8192.Idx → EReal) (K : S4x8448x128.Idx → EReal) (b : Fin 4) (h : Fin 2) (g : Fin 4) (n : Fin 8192) (j : ℕ) : EReal :=
  ∑ e : Fin 64, K (ix3 b (⟨j % 8448, Nat.mod_lt _ (by decide)⟩ : Fin 8448) (⟨64 * h.val + e.val, by omega⟩ : Fin 128))
    * Q (ix4 b (⟨4 * h.val + g.val, by omega⟩ : Fin 8) e n)

/-- The softmax in base two of a query's scores, summed against entry `d` of the values. -/
def attend (Q : S4x8x64x8192.Idx → EReal) (K : S4x8448x128.Idx → EReal) (V : S4x2x64x8448.Idx → EReal) (b : Fin 4) (n : Fin 8192) (h : Fin 2) (g : Fin 4) (d : Fin 64) : EReal :=
  ∑ j ∈ Finset.range 8448, V (ix4 b h d (⟨j % 8448, Nat.mod_lt _ (by decide)⟩ : Fin 8448))
    * (((2 : ℝ) ^ (dotqk Q K b h g n j).toReal / ∑ i ∈ Finset.range 8448, (2 : ℝ) ^ (dotqk Q K b h g n i).toReal : ℝ) : EReal)

/-- Finite queries and keys have finite scores. -/
theorem dotqk_coe (Q : S4x8x64x8192.Idx → EReal) (K : S4x8448x128.Idx → EReal) (hQ : ∀ i, ∃ x : ℝ, Q i = (x : EReal)) (hK : ∀ i, ∃ x : ℝ, K i = (x : EReal))
    (b : Fin 4) (h : Fin 2) (g : Fin 4) (n : Fin 8192) (j : ℕ) : dotqk Q K b h g n j = ((dotqk Q K b h g n j).toReal : EReal) := by
  choose q hq using hQ
  choose k hk using hK
  unfold dotqk
  simp only [hq, hk, ← EReal.coe_mul, ← Soft.coe_sum]
  rw [EReal.toReal_coe]

variable (X2 : Vec Ideal S1x8x64x256 .bf16) (X3 : Vec Ideal S1x8448x128 .bf16) (X4 : Vec Ideal S1x2x64x8448 .bf16)

/-- Head `h`'s rows of the output block. -/
abbrev headRect (h : Fin k0_t1_loop.trips) : Rect S1x256x512 := Rect.unit (s := S1x256x512) (k0_off13 h) S1x256x256.size (k0_off13_inb h)

theorem heads_two : heads X2 X3 X4 2 = (⟨headRect head1, headOut X2 X3 X4 head1⟩ : View.Piece (Elt Ideal) S1x256x512 .bf16) :: [⟨headRect head0, headOut X2 X3 X4 head0⟩] :=
  (heads_succ X2 X3 X4 head1).trans (congrArg (_ :: ·) (heads_succ X2 X3 X4 head0))

theorem headRect_idx (h : Fin k0_t1_loop.trips) (r : Fin 256) (k : Fin 256) (z : Fin 512) (hz : z.val = 256 * h.val + k.val) :
    (headRect h).idx (ix3 0 r k) = ix3 0 r z :=
  funext fun a => Fin.ext (by
    rw [Rect.idx_unit_val, congrFun (off_head _) a]
    match a with
    | 0 => exact Nat.zero_add _
    | 1 => exact Nat.zero_add _
    | 2 => exact hz.symm)

/-- The block of the output is its two heads, side by side. -/
theorem blockOut_at1 (r : Fin 256) (k : Fin 256) (z : Fin 512) (hz : z.val = 256 * 1 + k.val) :
    blockOut X2 X3 X4 (ix3 0 r z) = headOut X2 X3 X4 head1 (ix3 0 r k) := by
  unfold blockOut
  rw [heads_two, ← headRect_idx head1 r k z hz]
  exact View.canon_cons_emb _ _ _ _

theorem blockOut_at0 (r : Fin 256) (k : Fin 256) (z : Fin 512) (hz : z.val = 256 * 0 + k.val) :
    blockOut X2 X3 X4 (ix3 0 r z) = headOut X2 X3 X4 head0 (ix3 0 r k) := by
  unfold blockOut
  rw [heads_two, View.canon_cons_of_not_mem]
  · rw [← headRect_idx head0 r k z hz]
    exact View.canon_cons_emb _ _ _ _
  · rw [Rect.mem_set_unit]
    intro hm
    have h2 := (hm 2).1
    rw [congrFun (off_head _) 2] at h2
    have h3 : 256 * 1 ≤ z.val := h2
    omega

theorem blockOut_at (h : Fin k0_t1_loop.trips) (r : Fin 256) (k : Fin 256) (z : Fin 512) (hz : z.val = 256 * h.val + k.val) :
    blockOut X2 X3 X4 (ix3 0 r z) = headOut X2 X3 X4 h (ix3 0 r k) := by
  by_cases a : h.val = 0
  · obtain rfl : h = head0 := Fin.ext a
    exact blockOut_at0 X2 X3 X4 r k z hz
  · obtain rfl : h = head1 := Fin.ext (by have := head_lt h; show h.val = 1; omega)
    exact blockOut_at1 X2 X3 X4 r k z hz

variable (m : (ℓ : Loc nD τ sig) → Buf (Elt Ideal) ℓ) (c : Dev nD)

/-- The sequence and the first token of a grid point's tile. -/
abbrev bOf (t : Fin cfg0.N) : Fin 4 := ⟨t.val / 32, by have : t.val < 128 := t.isLt; omega⟩
abbrev nOf (t : Fin cfg0.N) (r : Fin 256) : Fin 8192 := ⟨256 * (t.val % 32) + r.val, by omega⟩

theorem ib0 (t : Fin cfg0.N) (k : Fin 8) (e : Fin 64) (r : Fin 256) :
    (iblk m c 0 t : Vec Ideal S1x8x64x256 .bf16) (ix4 0 k e r) = m ((c : Thread nD τ).loc main_arg0) (ix4 (bOf t) k e (nOf t r)) := by
  have hi := (by decide +kernel : ∀ t : Fin grid0.N, win0_0.index t 0 = t.val / 32 ∧ win0_0.index t 1 = 0 ∧ win0_0.index t 2 = 0 ∧ win0_0.index t 3 = t.val % 32) t
  unfold iblk
  rw [View.read_apply]
  refine Eq.trans ?_ (congrFun (V_main_arg0 m c) _)
  show V m c main_arg0 _ = V m c main_arg0 _
  congr 1
  funext a
  apply Fin.ext
  match a with
  | ⟨0, _⟩ => show win0_0.index t 0 * 1 + 1 * 0 = t.val / 32; rw [hi.1]; omega
  | ⟨1, _⟩ => show win0_0.index t 1 * 8 + 1 * k.val = k.val; rw [hi.2.1]; omega
  | ⟨2, _⟩ => show win0_0.index t 2 * 64 + 1 * e.val = e.val; rw [hi.2.2.1]; omega
  | ⟨3, _⟩ => show win0_0.index t 3 * 256 + 1 * r.val = 256 * (t.val % 32) + r.val; rw [hi.2.2.2]; omega

theorem ib1 (t : Fin cfg0.N) (j : Fin 8448) (e : Fin 128) :
    (iblk m c 1 t : Vec Ideal S1x8448x128 .bf16) (ix3 0 j e) = m ((c : Thread nD τ).loc main_arg1) (ix3 (bOf t) j e) := by
  have hi := (by decide +kernel : ∀ t : Fin grid0.N, win0_1.index t 0 = t.val / 32 ∧ win0_1.index t 1 = 0 ∧ win0_1.index t 2 = 0) t
  unfold iblk
  rw [View.read_apply]
  refine Eq.trans ?_ (congrFun (V_main_arg1 m c) _)
  show V m c main_arg1 _ = V m c main_arg1 _
  congr 1
  funext a
  apply Fin.ext
  match a with
  | ⟨0, _⟩ => show win0_1.index t 0 * 1 + 1 * 0 = t.val / 32; rw [hi.1]; omega
  | ⟨1, _⟩ => show win0_1.index t 1 * 8448 + 1 * j.val = j.val; rw [hi.2.1]; omega
  | ⟨2, _⟩ => show win0_1.index t 2 * 128 + 1 * e.val = e.val; rw [hi.2.2]; omega

theorem ib2 (t : Fin cfg0.N) (h : Fin 2) (d : Fin 64) (j : Fin 8448) :
    (iblk m c 2 t : Vec Ideal S1x2x64x8448 .bf16) (ix4 0 h d j) = m ((c : Thread nD τ).loc main_arg2) (ix4 (bOf t) h d j) := by
  have hi := (by decide +kernel : ∀ t : Fin grid0.N, win0_2.index t 0 = t.val / 32 ∧ win0_2.index t 1 = 0 ∧ win0_2.index t 2 = 0 ∧ win0_2.index t 3 = 0) t
  unfold iblk
  rw [View.read_apply]
  refine Eq.trans ?_ (congrFun (V_main_arg2 m c) _)
  show V m c main_arg2 _ = V m c main_arg2 _
  congr 1
  funext a
  apply Fin.ext
  match a with
  | ⟨0, _⟩ => show win0_2.index t 0 * 1 + 1 * 0 = t.val / 32; rw [hi.1]; omega
  | ⟨1, _⟩ => show win0_2.index t 1 * 2 + 1 * h.val = h.val; rw [hi.2.1]; omega
  | ⟨2, _⟩ => show win0_2.index t 2 * 64 + 1 * d.val = d.val; rw [hi.2.2.1]; omega
  | ⟨3, _⟩ => show win0_2.index t 3 * 8448 + 1 * j.val = j.val; rw [hi.2.2.2]; omega

/-- The result array. -/
def G : Buf (Elt Ideal) ((c : Thread nD τ).loc main_v0) := fun (i : S4x8192x512.Idx) =>
  attend (m ((c : Thread nD τ).loc main_arg0)) (m ((c : Thread nD τ).loc main_arg1)) (m ((c : Thread nD τ).loc main_arg2)) (i 0) (i 1)
    ⟨(i 2).val / 256, by have : (i 2).val < 512 := (i 2).isLt; omega⟩ ⟨(i 2).val % 256 / 64, by omega⟩ ⟨(i 2).val % 64, by omega⟩

variable (hQ : ∀ i : S4x8x64x8192.Idx, ∃ x : ℝ, (show EReal from m ((c : Thread nD τ).loc main_arg0) i) = (x : EReal))
  (hK : ∀ i : S4x8448x128.Idx, ∃ x : ℝ, (show EReal from m ((c : Thread nD τ).loc main_arg1) i) = (x : EReal))

include hQ hK in
/-- One entry of the block a grid point writes. -/
theorem outAt_at (t : Fin cfg0.N) (r : Fin 256) (h : Fin 2) (g : Fin 4) (d : Fin 64) :
    outAt m c t (ix3 0 r (⟨256 * h.val + (64 * g.val + d.val), by omega⟩ : Fin 512))
      = attend (m ((c : Thread nD τ).loc main_arg0)) (m ((c : Thread nD τ).loc main_arg1)) (m ((c : Thread nD τ).loc main_arg2)) (bOf t) (nOf t r) h g d := by
  unfold outAt
  have e := blockOut_at (iblk m c 0 t) (iblk m c 1 t) (iblk m c 2 t) h r ⟨64 * g.val + d.val, by omega⟩ ⟨256 * h.val + (64 * g.val + d.val), by omega⟩ rfl
  refine e.trans ((headOut_at _ _ _ _ d g r).trans ?_)
  refine (quot_at _ _ _ _ d g r (fun j => (dotqk (m ((c : Thread nD τ).loc main_arg0)) (m ((c : Thread nD τ).loc main_arg1)) (bOf t) h g (nOf t r) j).toReal) (fun j => ?_)).trans ?_
  · refine Eq.trans ?_ (dotqk_coe _ _ hQ hK (bOf t) h g (nOf t r) j)
    unfold sc dotqk
    exact Finset.sum_congr rfl fun e _ => congrArg₂ (· * ·) (ib1 m c t _ _) (ib0 m c t _ _ _)
  · unfold attend
    exact Finset.sum_congr rfl fun j _ => congrArg (· * _) (ib2 m c t _ _ _)

include hQ hK in
theorem flushed_eq (t : Fin cfg0.N) : (dats m 0 c).flushed 3 t = ((cfg0.win 3).blk t).view.read (Elt Ideal) (G m c) := by
  have hi := (by decide +kernel : ∀ t : Fin grid0.N, win0_3.index t 0 = t.val / 32 ∧ win0_3.index t 1 = t.val % 32 ∧ win0_3.index t 2 = 0) t
  show (cfg0.win 3).cut (grid0.coords t) ((dats m 0 c).after 3 t) = _
  rw [after0_3]
  funext (y : S1x256x512.Idx)
  rw [View.read_apply]
  have ey : y = ix3 0 (y 1) (y 2) := by
    funext a
    match a with
    | ⟨0, _⟩ => exact Subsingleton.elim (α := Fin 1) _ _
    | ⟨1, _⟩ => rfl
    | ⟨2, _⟩ => rfl
  obtain ⟨r, k, hy⟩ : ∃ (r : Fin 256) (k : Fin 512), y = ix3 0 r k := ⟨y 1, y 2, ey⟩
  clear ey
  obtain ⟨h, g, d, hk⟩ : ∃ (h : Fin 2) (g : Fin 4) (d : Fin 64), k = ⟨256 * h.val + (64 * g.val + d.val), by omega⟩ :=
    ⟨⟨k.val / 256, by omega⟩, ⟨k.val % 256 / 64, by omega⟩, ⟨k.val % 64, by omega⟩, Fin.ext (by show k.val = 256 * (k.val / 256) + (64 * (k.val % 256 / 64) + k.val % 64); omega)⟩
  subst hk
  subst hy
  have key : ∀ (i : S4x8192x512.Idx), i 0 = bOf t → i 1 = nOf t r → (i 2).val = 256 * h.val + (64 * g.val + d.val) →
      attend (m ((c : Thread nD τ).loc main_arg0)) (m ((c : Thread nD τ).loc main_arg1)) (m ((c : Thread nD τ).loc main_arg2)) (bOf t) (nOf t r) h g d = G m c i := by
    intro i h0 h1 h2
    unfold G
    have e1 : (⟨(i 2).val / 256, by have : (i 2).val < 512 := (i 2).isLt; omega⟩ : Fin 2) = h := Fin.ext (by show (i 2).val / 256 = h.val; omega)
    have e2 : (⟨(i 2).val % 256 / 64, by omega⟩ : Fin 4) = g := Fin.ext (by show (i 2).val % 256 / 64 = g.val; omega)
    have e3 : (⟨(i 2).val % 64, by omega⟩ : Fin 64) = d := Fin.ext (by show (i 2).val % 64 = d.val; omega)
    rw [h0, h1, e1, e2, e3]
  have e := outAt_at m c hQ hK t r h g d
  refine Eq.trans e (key _ ?_ ?_ ?_)
  · refine Fin.ext ?_
    show win0_3.index t 0 * 1 + 1 * 0 = t.val / 32
    rw [hi.1]
    omega
  · refine Fin.ext ?_
    show win0_3.index t 1 * 256 + 1 * r.val = 256 * (t.val % 32) + r.val
    rw [hi.2.1]
    omega
  · show win0_3.index t 2 * 512 + 1 * (256 * h.val + (64 * g.val + d.val)) = 256 * h.val + (64 * g.val + d.val)
    rw [hi.2.2]
    omega

/-- Every index of the result array lies in some tile. -/
theorem cover (i : S4x8192x512.Idx) : ∃ t : Fin cfg0.N, (cfg0.win 3).flush t = true ∧ i ∈ ((cfg0.win 3).blk t).view.set := by
  have h0 : (i 0).val < 4 := (i 0).isLt
  have h1 : (i 1).val < 8192 := (i 1).isLt
  have h2 : (i 2).val < 512 := (i 2).isLt
  have ht : 32 * (i 0).val + (i 1).val / 256 < 128 := by omega
  refine ⟨⟨32 * (i 0).val + (i 1).val / 256, ht⟩, flush0_3 _, ?_⟩
  have hi := (by decide +kernel : ∀ t : Fin grid0.N, (win0_3.index t 0 = t.val / 32 ∧ win0_3.index t 1 = t.val % 32 ∧ win0_3.index t 2 = 0)
    ∧ ∀ a, win0_3.xsize (grid0.coords t) a = win0_3.size a) ⟨32 * (i 0).val + (i 1).val / 256, ht⟩
  show i ∈ ((View.whole main_v0).slice (win0_3.rect (⟨32 * (i 0).val + (i 1).val / 256, ht⟩ : Fin grid0.N))).set
  rw [View.set_slice_whole, Rect.mem_set_unit]
  intro a
  show win0_3.index _ a * win0_3.size a ≤ (i a : Nat) ∧ (i a : Nat) < win0_3.index _ a * win0_3.size a + win0_3.xsize (grid0.coords _) a
  rw [hi.2]
  match a with
  | ⟨0, _⟩ =>
    show win0_3.index _ 0 * 1 ≤ (i 0).val ∧ (i 0).val < win0_3.index _ 0 * 1 + 1
    rw [hi.1.1]
    show (32 * (i 0).val + (i 1).val / 256) / 32 * 1 ≤ (i 0).val ∧ (i 0).val < (32 * (i 0).val + (i 1).val / 256) / 32 * 1 + 1
    omega
  | ⟨1, _⟩ =>
    show win0_3.index _ 1 * 256 ≤ (i 1).val ∧ (i 1).val < win0_3.index _ 1 * 256 + 256
    rw [hi.1.2.1]
    show (32 * (i 0).val + (i 1).val / 256) % 32 * 256 ≤ (i 1).val ∧ (i 1).val < (32 * (i 0).val + (i 1).val / 256) % 32 * 256 + 256
    omega
  | ⟨2, _⟩ =>
    show win0_3.index _ 2 * 512 ≤ (i 2).val ∧ (i 2).val < win0_3.index _ 2 * 512 + 512
    rw [hi.1.2.2]
    omega

include hQ hK in
theorem final_array : (dats m 0 c).arrAt 3 cfg0.N = G m c :=
  (dats m 0 c).arrAt_eq_of_cover 3 (G m c) (fun t _ => flushed_eq m c hQ hK t) cover

end Cert.Proof.KernelIdeal
end
-- ==== Proof.Att.Ref.lean ====
module

public import proofs.«01_k».proof.Proof.Att.Array
public import proofs.«01_k».proof.Proof.Gen.ReferenceIdeal.Read

@[expose] public section

set_option maxRecDepth 16384

noncomputable section

/-! The reference's result, as the softmax of every query over its arguments. -/

namespace Cert.Proof.Att.Ref

open Cert.ReferenceIdeal Cert.ReferenceIdeal.Read
open Cert.Proof.KernelIdeal (dotqk attend dotqk_coe)
open Idealize.ShloMosaic hiding ix1 ix2 ix3 ix4 ix5
open Idealize.ShloMosaic.ValueIdx Idealize.ShloMosaic.TcCoe

variable (x0 : (⟨S4x8x64x8192, .bf16⟩ : BufTy).Contents (Elt Ideal)) (x1 : (⟨S4x8448x128, .bf16⟩ : BufTy).Contents (Elt Ideal)) (x2 : (⟨S4x2x64x8448, .bf16⟩ : BufTy).Contents (Elt Ideal))

theorem q_at (b : Fin 4) (h : Fin 2) (g : Fin 4) (n : Fin 8192) (e : Fin 64) :
    val_main_v2 (F := Ideal) x0 (ix5 b h g n e) = x0 (ix4 b (⟨4 * h.val + g.val, by omega⟩ : Fin 8) e n) := by
  rw [val_main_v2_apply, val_main_v1_apply, val_main_v0_apply]
  show x0 _ = x0 _
  congr 1
  funext a
  apply Fin.ext
  match a with
  | ⟨0, _⟩ => show ((((b.val * 2 + h.val) * 4 + g.val) * 64 + e.val) * 8192 + n.val) / 4194304 = b.val; omega
  | ⟨1, _⟩ => show ((((b.val * 2 + h.val) * 4 + g.val) * 64 + e.val) * 8192 + n.val) / 524288 % 8 = 4 * h.val + g.val; omega
  | ⟨2, _⟩ => show ((((b.val * 2 + h.val) * 4 + g.val) * 64 + e.val) * 8192 + n.val) / 8192 % 64 = e.val; omega
  | ⟨3, _⟩ => show ((((b.val * 2 + h.val) * 4 + g.val) * 64 + e.val) * 8192 + n.val) % 8192 = n.val; omega

theorem k_at (b : Fin 4) (h : Fin 2) (j : Fin 8448) (e : Fin 64) :
    val_main_v5 (F := Ideal) x1 (ix4 b h j e) = x1 (ix3 b j (⟨64 * h.val + e.val, by omega⟩ : Fin 128)) := by
  rw [val_main_v5_apply, val_main_v4_apply, val_main_v3_apply]
  show x1 _ = x1 _
  congr 1
  funext a
  apply Fin.ext
  match a with
  | ⟨0, _⟩ => show (((b.val * 8448 + j.val) * 2 + h.val) * 64 + e.val) / 1081344 = b.val; omega
  | ⟨1, _⟩ => show (((b.val * 8448 + j.val) * 2 + h.val) * 64 + e.val) / 128 % 8448 = j.val; omega
  | ⟨2, _⟩ => show (((b.val * 8448 + j.val) * 2 + h.val) * 64 + e.val) % 128 = 64 * h.val + e.val; omega

theorem v_at (b : Fin 4) (h : Fin 2) (j : Fin 8448) (d : Fin 64) :
    val_main_v7 (F := Ideal) x2 (ix4 b h j d) = x2 (ix4 b h d j) := by
  rw [val_main_v7_apply, val_main_v6_apply]
  show x2 _ = x2 _
  congr 1
  funext a
  match a with
  | ⟨0, _⟩ => rfl
  | ⟨1, _⟩ => rfl
  | ⟨2, _⟩ => rfl
  | ⟨3, _⟩ => rfl

/-- A score. -/
theorem score_at (b : Fin 4) (h : Fin 2) (g : Fin 4) (n : Fin 8192) (j : Fin 8448) :
    val_main_v8 (F := Ideal) x0 x1 (ix5 b h g n j) = dotqk x0 x1 b h g n j.val := by
  rw [val_main_v8_apply]
  unfold dotqk
  refine Finset.sum_congr rfl fun e _ => ?_
  rw [mul_comm]
  refine congrArg₂ (· * ·) ?_ ?_
  · refine Eq.trans ?_ ((k_at x1 b h j e).trans ?_)
    · congr 1
      funext a
      match a with
      | ⟨0, _⟩ => rfl
      | ⟨1, _⟩ => rfl
      | ⟨2, _⟩ => rfl
      | ⟨3, _⟩ => rfl
    · exact congrArg (fun k => x1 (ix3 b k _)) (Fin.ext (Nat.mod_eq_of_lt j.isLt).symm)
  · refine Eq.trans ?_ (q_at x0 b h g n e)
    congr 1
    funext a
    match a with
    | ⟨0, _⟩ => rfl
    | ⟨1, _⟩ => rfl
    | ⟨2, _⟩ => rfl
    | ⟨3, _⟩ => rfl
    | ⟨4, _⟩ => rfl

theorem two_bits : Ideal.ofBits .f32 0x40000000#32 = ((2 : ℝ) : EReal) := by
  simp [Ideal.ofBits, Ideal.ieee, -EReal.coe_mul]; norm_num

/-- The factor of the scores is the natural logarithm of two. -/
theorem log_two (i : S4x2x4x8192x8448.Idx) : val_main_v11 (F := Ideal) i = ((Real.log 2 : ℝ) : EReal) := by
  rw [val_main_v11_apply, val_main_v10_apply, val_main_v9_apply, val_main_cst_apply, Ideal.hostUnary_log_def, Ideal.ofBits_def, two_bits, Ideal.log_coe]
  exact if_neg (by norm_num)

variable (hQ : ∀ i : S4x8x64x8192.Idx, ∃ x : ℝ, (show EReal from x0 i) = (x : EReal)) (hK : ∀ i : S4x8448x128.Idx, ∃ x : ℝ, (show EReal from x1 i) = (x : EReal))

include hQ hK in
theorem scaled_at (b : Fin 4) (h : Fin 2) (g : Fin 4) (n : Fin 8192) (j : Fin 8448) :
    val_main_v12 (F := Ideal) x0 x1 (ix5 b h g n j) = (((dotqk x0 x1 b h g n j.val).toReal * Real.log 2 : ℝ) : EReal) := by
  rw [val_main_v12_apply, log_two, score_at, Ideal.mulf_def, dotqk_coe x0 x1 hQ hK b h g n j.val, EReal.toReal_coe, EReal.coe_mul]

include hQ hK in
/-- The greatest score is finite. -/
theorem max_at (b : Fin 4) (h : Fin 2) (g : Fin 4) (n : Fin 8192) : ∃ M : ℝ, val_main_v13 (F := Ideal) x0 x1 (ix4 b h g n) = (M : EReal) := by
  obtain ⟨M, hM⟩ := Soft.fold_max_coe (Finset.univ : Finset (Fin (S4x2x4x8192x8448.size 4))) ⟨(0 : Fin 8448), Finset.mem_univ _⟩ (fun j => (dotqk x0 x1 b h g n j.val).toReal * Real.log 2)
  refine ⟨M, Eq.trans ?_ hM⟩
  unfold val_main_v13
  refine (Host.reduce_eq_fold_single (a := (4 : Fin S4x2x4x8192x8448.rank)) _ _ _ _ (by decide) _ _).trans ?_
  rw [val_main_cst_0_apply, Ideal.ofBits_def, Cert.Proof.KernelIdeal.bot_bits]
  refine Finset.fold_congr fun j _ => ?_
  refine Eq.trans (congrArg (val_main_v12 (F := Ideal) x0 x1) ?_) (scaled_at x0 x1 hQ hK b h g n j)
  funext a
  match a with
  | ⟨0, _⟩ => rfl
  | ⟨1, _⟩ => rfl
  | ⟨2, _⟩ => rfl
  | ⟨3, _⟩ => rfl
  | ⟨4, _⟩ => rfl

include hQ hK in
/-- A weight. -/
theorem weight_at (b : Fin 4) (h : Fin 2) (g : Fin 4) (n : Fin 8192) (j : Fin 8448) :
    val_main_v21 (F := Ideal) x0 x1 (ix5 b h g n j)
      = (((2 : ℝ) ^ (dotqk x0 x1 b h g n j.val).toReal / ∑ i ∈ Finset.range 8448, (2 : ℝ) ^ (dotqk x0 x1 b h g n i).toReal : ℝ) : EReal) := by
  obtain ⟨M, hM⟩ := max_at x0 x1 hQ hK b h g n
  have num : ∀ j : Fin 8448, val_main_v17 (F := Ideal) x0 x1 (ix5 b h g n j) = ((Real.exp ((dotqk x0 x1 b h g n j.val).toReal * Real.log 2 - M) : ℝ) : EReal) := by
    intro j
    have hi : idx_main_v14 (idx_main_v15 (ix5 b h g n j)) = ix4 b h g n := by
      funext a
      match a with
      | ⟨0, _⟩ => rfl
      | ⟨1, _⟩ => rfl
      | ⟨2, _⟩ => rfl
      | ⟨3, _⟩ => rfl
    rw [val_main_v17_apply, val_main_v16_apply, val_main_v15_apply, val_main_v14_apply, scaled_at x0 x1 hQ hK, hi, hM, Ideal.hostUnary_exp_def, Ideal.subf_def,
      ← EReal.coe_sub, Ideal.exp_coe]
  have den : val_main_v20 (F := Ideal) x0 x1 (ix5 b h g n j) = ((∑ i ∈ Finset.range 8448, Real.exp ((dotqk x0 x1 b h g n i).toReal * Real.log 2 - M) : ℝ) : EReal) := by
    rw [val_main_v20_apply, val_main_v19_apply, val_main_v18_apply, val_main_cst_1_apply, Ideal.ofBits_def, Ideal.ofBits_zero_f32, zero_add,
      ← Fin.sum_univ_eq_sum_range (fun i => Real.exp ((dotqk x0 x1 b h g n i).toReal * Real.log 2 - M)), Soft.coe_sum]
    refine Finset.sum_congr rfl fun i _ => Eq.trans (congrArg (val_main_v17 (F := Ideal) x0 x1) ?_) (num i)
    funext a
    match a with
    | ⟨0, _⟩ => rfl
    | ⟨1, _⟩ => rfl
    | ⟨2, _⟩ => rfl
    | ⟨3, _⟩ => rfl
    | ⟨4, _⟩ => rfl
  rw [val_main_v21_apply, num, den, Ideal.hostDivf_def]
  exact Soft.weight_eq (fun j => (dotqk x0 x1 b h g n j).toReal) 8448 (by omega) M j.val

include hQ hK in
/-- An entry of the result. -/
theorem out_eq (b : Fin 4) (n : Fin 8192) (k : Fin 512) :
    val_main_v25 (F := Ideal) x0 x1 x2 (ix3 b n k) = attend x0 x1 x2 b n ⟨k.val / 256, by omega⟩ ⟨k.val % 256 / 64, by omega⟩ ⟨k.val % 64, by omega⟩ := by
  rw [val_main_v25_apply, val_main_v24_apply, val_main_v23_apply, val_main_v22_apply]
  show (∑ j : Fin 8448, _ * _) = _
  unfold attend
  rw [← Fin.sum_univ_eq_sum_range (fun j => x2 (ix4 b (⟨k.val / 256, by omega⟩ : Fin 2) (⟨k.val % 64, by omega⟩ : Fin 64) (⟨j % 8448, Nat.mod_lt _ (by decide)⟩ : Fin 8448))
    * (((2 : ℝ) ^ (dotqk x0 x1 b ⟨k.val / 256, by omega⟩ ⟨k.val % 256 / 64, by omega⟩ n j).toReal / ∑ i ∈ Finset.range 8448, (2 : ℝ) ^ (dotqk x0 x1 b ⟨k.val / 256, by omega⟩ ⟨k.val % 256 / 64, by omega⟩ n i).toReal : ℝ) : EReal))]
  refine Finset.sum_congr rfl fun j _ => ?_
  rw [mul_comm]
  refine congrArg₂ (· * ·) ?_ ?_
  · refine Eq.trans ?_ ((v_at x2 b ⟨k.val / 256, by omega⟩ j ⟨k.val % 64, by omega⟩).trans ?_)
    · congr 1
      funext a
      apply Fin.ext
      match a with
      | ⟨0, _⟩ => show ((b.val * 8192 + n.val) * 512 + k.val) / 4194304 = b.val; omega
      | ⟨1, _⟩ => show ((b.val * 8192 + n.val) * 512 + k.val) / 256 % 2 = k.val / 256; omega
      | ⟨2, _⟩ => rfl
      | ⟨3, _⟩ => show ((b.val * 8192 + n.val) * 512 + k.val) % 64 = k.val % 64; omega
    · exact congrArg (fun i => x2 (ix4 b _ _ i)) (Fin.ext (Nat.mod_eq_of_lt j.isLt).symm)
  · refine Eq.trans ?_ (weight_at x0 x1 hQ hK b ⟨k.val / 256, by omega⟩ ⟨k.val % 256 / 64, by omega⟩ n j)
    congr 1
    funext a
    apply Fin.ext
    match a with
    | ⟨0, _⟩ => show ((b.val * 8192 + n.val) * 512 + k.val) / 4194304 = b.val; omega
    | ⟨1, _⟩ => show ((b.val * 8192 + n.val) * 512 + k.val) / 256 % 2 = k.val / 256; omega
    | ⟨2, _⟩ => show ((b.val * 8192 + n.val) * 512 + k.val) / 64 % 4 = k.val % 256 / 64; omega
    | ⟨3, _⟩ => show ((b.val * 8192 + n.val) * 512 + k.val) / 512 % 8192 = n.val; omega
    | ⟨4, _⟩ => rfl

end Cert.Proof.Att.Ref
end
-- ==== Proof.Att.Finite.lean ====
module

public import proofs.«01_k».proof.Proof.Att.Ref
public import proofs.«01_k».proof.Pre_finite_qk

@[expose] public section

set_option maxRecDepth 16384

noncomputable section

/-! The precondition says of every query and every key that it is a real number. -/

namespace Cert.Proof.Att

open Cert.Pre_finite_qk Cert.Pre_finite_qk.Facts
open Idealize.ShloMosaic

/-- A conjunction that holds holds of every one. -/
theorem of_fold_andi {ι : Type*} (S : Finset ι) (f : ι → BitVec 1) (h : S.fold IntOp.andi 1#1 f = 1#1) : ∀ i ∈ S, f i = 1#1 := by
  classical
  have two : ∀ a b : BitVec 1, IntOp.andi a b = 1#1 → a = 1#1 ∧ b = 1#1 := by decide
  induction S using Finset.induction_on with
  | empty => simp
  | insert a S ha ih =>
      rw [Finset.fold_insert ha] at h
      obtain ⟨h1, h2⟩ := two _ _ h
      intro i hi
      rcases Finset.mem_insert.mp hi with rfl | hi
      · exact h1
      · exact ih h2 i hi

theorem top_bits : Ideal.ofBits .f32 0x7F800000#32 = ⊤ := by
  simp [Ideal.ofBits, Ideal.ieee]

/-- A number whose size is below infinity is a real. -/
theorem real_of_lt (x : EReal) (h : Ideal.cmp .olt (max x (-x)) ⊤ = 1#1) : ∃ r : ℝ, x = (r : EReal) := by
  have hl : max x (-x) < ⊤ := by
    by_contra hn
    have e : Ideal.cmp .olt (max x (-x)) ⊤ = BitVec.ofBool (decide (max x (-x) < ⊤)) := rfl
    rw [e, decide_eq_false hn] at h
    exact absurd h (by decide)
  induction x using EReal.rec with
  | bot => simp at hl
  | coe r => exact ⟨r, rfl⟩
  | top => simp at hl

variable [Cert.Pre_finite_qk.Facts]

theorem finite_of (x0 : FVec Ideal S4x8x64x8192 .bf16) (x1 : FVec Ideal S4x8448x128 .bf16) (x2 : FVec Ideal S4x2x64x8448 .bf16)
    (h : Cert.Pre_finite_qk.fn (F := Ideal) x0 x1 x2 = fun _ => 1#1) :
    (∀ i : S4x8x64x8192.Idx, ∃ x : ℝ, (show EReal from x0 i) = (x : EReal)) ∧ ∀ i : S4x8448x128.Idx, ∃ x : ℝ, (show EReal from x1 i) = (x : EReal) := by
  have two : ∀ a b : BitVec 1, IntOp.andi a b = 1#1 → a = 1#1 ∧ b = 1#1 := by decide
  have h0 := congrFun h (Shape.Idx.first h_S_)
  unfold Cert.Pre_finite_qk.fn at h0
  obtain ⟨a, b⟩ := two _ _ h0
  replace a := (Host.reduce_eq_fold _ _ _ _ _ _).symm.trans a
  replace b := (Host.reduce_eq_fold _ _ _ _ _ _).symm.trans b
  refine ⟨fun i => ?_, fun i => ?_⟩
  · have e := of_fold_andi _ _ a i (Finset.mem_filter.mpr ⟨Finset.mem_univ _, funext fun k => k.elim0⟩)
    refine real_of_lt (x0 i) ?_
    rw [← top_bits]
    exact e
  · have e := of_fold_andi _ _ b i (Finset.mem_filter.mpr ⟨Finset.mem_univ _, funext fun k => k.elim0⟩)
    refine real_of_lt (x1 i) ?_
    rw [← top_bits]
    exact e

end Cert.Proof.Att
end
-- ==== Proof.Att.Claims.lean ====
module

public import proofs.«01_k».proof.Defs
public import proofs.«01_k».proof.Proof.Gen.Kernel
public import proofs.«01_k».proof.Proof.Gen.ReferenceIdeal.Run
public import proofs.«01_k».proof.Proof.Gen.Pre_finite_qk
public import proofs.«01_k».proof.Proof.Att.Finite
public import Idealize.ShloMosaic.Init

@[expose] public section

set_option maxRecDepth 65536

noncomputable section

/-! The claims about the attention. -/

namespace Cert.Proof.Att

open Idealize.ShloMosaic hiding ix1 ix2 ix3 ix4 ix5
open Idealize.ShloMosaic.ValueIdx Idealize.ShloMosaic.TcCoe Idealize.SL.Sem

set_option maxHeartbeats 4000000
set_option smartUnfolding false
set_option backward.isDefEq.respectTransparency.types false in
/-- The kernel runs, leaves its arguments and ends with every semaphore at zero: it is, word for word, the kernel read over
    the extended reals, so that kernel's launch at machine words is its launch. -/
theorem frame_p : Cert.quiescent_Kernel (hKernel := Cert.Kernel.Gen.facts) := fun m ρ _ => Cert.Proof.KernelIdeal.frame_main (F := Bits) m ρ

/-- The same of the kernel over the extended reals. -/
theorem frame_pi : Cert.quiescent_KernelIdeal (hKernelIdeal := Cert.KernelIdeal.Gen.facts) := fun m ρ _ => Cert.Proof.KernelIdeal.frame_main (F := Ideal) m ρ

/-- The same of the reference over the extended reals. -/
theorem frame_ri : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The launch leaves in its result array what the grid points wrote there, and its arguments as they were. -/
theorem run_result (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = (KernelIdeal.dats m 0 c).arrAt 3 Cert.KernelIdeal.cfg0.N
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) :=
  (θ_run Cert.KernelIdeal.defs _ _).mono (fun _ h c => ⟨(h.1 c).1 3,
    ((h.1 c).1 0).trans (((KernelIdeal.dats m 0 c).arrAt_in 0 rfl _).trans (Cert.KernelIdeal.Gen.V_main_arg0 m c)),
    ((h.1 c).1 1).trans (((KernelIdeal.dats m 0 c).arrAt_in 1 rfl _).trans (Cert.KernelIdeal.Gen.V_main_arg1 m c)),
    ((h.1 c).1 2).trans (((KernelIdeal.dats m 0 c).arrAt_in 2 rfl _).trans (Cert.KernelIdeal.Gen.V_main_arg2 m c))⟩) (KernelIdeal.run_main m ρ)

/-- Over the extended reals, where every query and every key is a real number, the kernel and the reference leave the same
    result: every entry is its query's softmax summed against the values. -/
theorem algebraic : Cert.algebraic_KernelIdeal_ReferenceIdeal_pre_finite_qk (hKernelIdeal := Cert.KernelIdeal.Gen.facts)
    (hReferenceIdeal := Cert.ReferenceIdeal.Gen.facts) (hPre_finite_qk := Cert.Pre_finite_qk.Gen.facts) := fun m ρ m' ρ' hpre hin => by
  refine ⟨fun c => KernelIdeal.G m c, ?_, ?_⟩
  · exact (θ_run Cert.KernelIdeal.defs _ _).mono (fun r h c => by
      obtain ⟨hQ, hK⟩ := finite_of _ _ _ (hpre c)
      exact ⟨(h c).1.trans (KernelIdeal.final_array m c hQ hK), (h c).2⟩) (run_result m ρ)
  · refine (θ_run Cert.ReferenceIdeal.defs _ _).mono (fun r h c => ⟨(h c).1.trans ?_, (h c).2⟩) (Cert.ReferenceIdeal.Value.run (F := Ideal) m' ρ')
    obtain ⟨hQ, hK⟩ := finite_of _ _ _ (hpre c)
    obtain ⟨h0, h1, h2⟩ := hin c
    rw [Cert.ReferenceIdeal.Read.val_main_v25_eq, h0, h1, h2]
    funext i
    rw [show i = ix3 (i 0) (i 1) (i 2) from by
      funext a
      match a with
      | ⟨0, _⟩ => rfl
      | ⟨1, _⟩ => rfl
      | ⟨2, _⟩ => rfl]
    exact Ref.out_eq _ _ _ hQ hK (i 0) (i 1) (i 2)

end Cert.Proof.Att
end
-- ==== Proof.Post.Spec.lean ====
module

public import Idealize.ShloMosaic.PureOps.Ideal.Laws
public import Idealize.ShloMosaic.Lib.ValueIdx

@[expose] public section

set_option maxRecDepth 16384

noncomputable section

/-! What the second half of the layer computes for one token, written over the token's own row of every operand. -/

namespace Cert.Proof.Post

open Idealize.ShloMosaic

/-- The number one, as both programs write it. -/
abbrev one : EReal := Ideal.ofBits .f32 0x3F800000#32

/-- The logistic function. -/
def sg (z : EReal) : EReal := Ideal.div one (one + Ideal.exp (-z))

/-- One token's row of every operand, and the weights. -/
@[ext]
structure Row where
  x : Fin 1024 → EReal
  g1 : Fin 1024 → EReal
  sh : Fin 1024 → EReal
  sc : Fin 1024 → EReal
  g2 : Fin 1024 → EReal
  att : Fin 512 → EReal
  u : Fin 512 → EReal
  sp : Fin 512 → EReal
  ga : Fin 1024 → EReal
  gb : Fin 1024 → EReal
  wa : Fin 512 → Fin 1024 → EReal
  wg : Fin 512 → Fin 1024 → EReal
  wo : Fin 1024 → Fin 1024 → EReal
  n2 : Fin 1024 → EReal
  w1 : Fin 1024 → Fin 4096 → EReal
  w2 : Fin 4096 → Fin 1024 → EReal

namespace Row

variable (R : Row)

/-- The gated sum of the two branches. -/
def y (e : Fin 1024) : EReal :=
  sg (R.ga e) * (∑ k : Fin 512, R.att k * R.wa k e) + sg (R.gb e) * (∑ k : Fin 512, R.u k * R.sp k * R.wg k e)

/-- The residual stream after the mixing sub-layer. -/
def x1 (e : Fin 1024) : EReal := R.x e + R.g1 e * ∑ k : Fin 1024, R.y k * R.wo k e

/-- The modulated normalised stream the channel sub-layer reads. -/
def h (e : Fin 1024) : EReal :=
  R.x1 e * Ideal.rsqrt (Ideal.div (∑ k : Fin 1024, R.x1 k * R.x1 k) (Ideal.ofBits .f32 0x44800000#32) + Ideal.ofBits .f32 0x358637BD#32)
    * R.n2 e * (one + R.sc e) + R.sh e

/-- The hidden layer before its square. -/
def act (f : Fin 4096) : EReal := max (∑ e : Fin 1024, R.h e * R.w1 e f) 0

/-- The layer's output row. -/
def out (e : Fin 1024) : EReal := R.x1 e + R.g2 e * ∑ f : Fin 4096, R.act f * R.act f * R.w2 f e

end Row

end Cert.Proof.Post
end
-- ==== Proof.Post.Body.lean ====
module

public import proofs.«01_k».proof.Proof.Gen.Kernel2Ideal.Value
public import proofs.«01_k».proof.Proof.Post.Spec
public import Idealize.ShloMosaic.Lib.MatmulPlain
public import Idealize.ShloMosaic.Lib.ValueLayout
public import Idealize.ShloMosaic.Lib.ValueLayoutCasts
public import Idealize.ShloMosaic.Lib.Pointwise.Reshape

@[expose] public section

set_option maxRecDepth 16384

noncomputable section

/-! What the post call's body computes, read at an index of its block over the ideal values. -/

namespace Cert.Proof.Post

open Cert.Kernel2Ideal Cert.Kernel2Ideal.Gen
open Idealize.ShloMosaic hiding ix1 ix2 ix3 ix4 ix5
open Idealize.ShloMosaic.ValueIdx

/-- A plain product into zeros, at an index. -/
theorem mm {M K N : ℕ} {φ₁ φ₂ : FTy} (l : FVec Ideal ⟨2, ![M, K]⟩ φ₁) (r : FVec Ideal ⟨2, ![K, N]⟩ φ₂) (a : Fin M) (b : Fin N) :
    FloatOps.matmul (DotDims.plain M K N) none l r (constant ⟨2, ![M, N]⟩ .f32 0x00000000#32) (ix2 a b) = ∑ k : Fin K, l (ix2 a k) * r (ix2 k b) := by
  rw [Ideal.matmul_plain_apply, constant_apply, Ideal.ofBits_zero_f32, zero_add]

theorem exp_at {s : Shape} {φ : FTy} (x : FVec Ideal s φ) (i : s.Idx) : Idealize.ShloMosaic.exp x i = Ideal.exp (x i) := rfl
theorem rsqrt_at {s : Shape} {φ : FTy} (x : FVec Ideal s φ) (i : s.Idx) : Idealize.ShloMosaic.rsqrt x i = Ideal.rsqrt (x i) := rfl
theorem bits_at {φ : FTy} (b : BitVec φ.bits) : (Scalar.ofBits φ b : Ideal φ) = Ideal.ofBits φ b := rfl

/-- The attention branch under its gate. -/
theorem pay25_apply (P1 : Vec Ideal S1x512x1024 .bf16) (P2 : Vec Ideal S1x512x512 .bf16) (P3 : Vec Ideal S512x1024 .bf16) (r : Fin 512) (e : Fin 1024) :
    k0_pay25 P1 P2 P3 (ix2 r e) = sg (P1 (ix3 0 r e)) * ∑ k : Fin 512, P2 (ix3 0 r k) * P3 (ix2 k e) := by
  unfold k0_pay25
  rw [mulf_apply, divf_apply, addf_apply, broadcast_apply, exp_at, subf_apply, extf_apply, broadcast_apply, bits_at, bits_at, Ideal.ofBits_zero_f32,
    zero_sub, shapeCast_1ab_ab_apply]
  refine congrArg (sg _ * ·) ((mm (M := 512) (K := 512) (N := 1024) _ _ r e).trans ?_)
  refine Finset.sum_congr rfl fun k _ => ?_
  rw [shapeCast_1ab_ab_apply, shapeCast_id]

/-- Four blocks of 128 columns side by side. -/
theorem cat_cols (x0 x1 x2 x3 : S128x128.Idx → EReal) (G : Fin 128 → Fin 512 → EReal)
    (h0 : ∀ p c : Fin 128, x0 (ix2 p c) = G p ⟨0 + c.val, by omega⟩) (h1 : ∀ p c : Fin 128, x1 (ix2 p c) = G p ⟨128 + c.val, by omega⟩)
    (h2 : ∀ p c : Fin 128, x2 (ix2 p c) = G p ⟨256 + c.val, by omega⟩) (h3 : ∀ p c : Fin 128, x3 (ix2 p c) = G p ⟨384 + c.val, by omega⟩)
    (h) (p : Fin 128) (k : Fin 512) :
    concatenate S128x512 1 [⟨S128x128, x0⟩, ⟨S128x128, x1⟩, ⟨S128x128, x2⟩, ⟨S128x128, x3⟩] h (ix2 p k) = G p k := by
  have off : ∀ b : Fin S128x128.rank, b.cast (rfl : S128x128.rank = S128x512.rank) ≠ 1 →
      ∀ c : Fin 128, ((ix2 p c : S128x128.Idx) b).val = ((ix2 p k : S128x512.Idx) (b.cast rfl)).val := fun b hb c => match b with
    | ⟨0, _⟩ => rfl
    | ⟨1, _⟩ => absurd rfl hb
  rcases Nat.lt_or_ge k.val 128 with a | a
  · rw [concatenate_apply_piece 1 _ h _ 0 (by simp) S128x128 x0 rfl rfl 0 rfl (ix2 p ⟨k.val, a⟩) (fun b hb => off b hb _) (Nat.zero_add _), h0]
    exact congrArg (G p) (Fin.ext (Nat.zero_add _))
  rcases Nat.lt_or_ge k.val 256 with b | b
  · rw [concatenate_apply_piece 1 _ h _ 1 (by simp) S128x128 x1 rfl rfl 128 rfl (ix2 p ⟨k.val - 128, by omega⟩) (fun b hb => off b hb _)
      (show 128 + (k.val - 128) = k.val by omega), h1]
    exact congrArg (G p) (Fin.ext (show 128 + (k.val - 128) = k.val by omega))
  rcases Nat.lt_or_ge k.val 384 with d | d
  · rw [concatenate_apply_piece 1 _ h _ 2 (by simp) S128x128 x2 rfl rfl 256 rfl (ix2 p ⟨k.val - 256, by omega⟩) (fun b hb => off b hb _)
      (show 256 + (k.val - 256) = k.val by omega), h2]
    exact congrArg (G p) (Fin.ext (show 256 + (k.val - 256) = k.val by omega))
  · rw [concatenate_apply_piece 1 _ h _ 3 (by simp) S128x128 x3 rfl rfl 384 rfl (ix2 p ⟨k.val - 384, by omega⟩) (fun b hb => off b hb _)
      (show 384 + (k.val - 384) = k.val by omega), h3]
    exact congrArg (G p) (Fin.ext (show 384 + (k.val - 384) = k.val by omega))

/-- Four blocks of 128 rows under one another. -/
theorem cat_rows (x0 x1 x2 x3 : S128x512.Idx → EReal) (G : Fin 512 → Fin 512 → EReal)
    (h0 : ∀ (p : Fin 128) (k : Fin 512), x0 (ix2 p k) = G ⟨0 + p.val, by omega⟩ k) (h1 : ∀ (p : Fin 128) (k : Fin 512), x1 (ix2 p k) = G ⟨128 + p.val, by omega⟩ k)
    (h2 : ∀ (p : Fin 128) (k : Fin 512), x2 (ix2 p k) = G ⟨256 + p.val, by omega⟩ k) (h3 : ∀ (p : Fin 128) (k : Fin 512), x3 (ix2 p k) = G ⟨384 + p.val, by omega⟩ k)
    (h) (r k : Fin 512) :
    concatenate S512x512 0 [⟨S128x512, x0⟩, ⟨S128x512, x1⟩, ⟨S128x512, x2⟩, ⟨S128x512, x3⟩] h (ix2 r k) = G r k := by
  have off : ∀ b : Fin S128x512.rank, b.cast (rfl : S128x512.rank = S512x512.rank) ≠ 0 →
      ∀ c : Fin 128, ((ix2 c k : S128x512.Idx) b).val = ((ix2 r k : S512x512.Idx) (b.cast rfl)).val := fun b hb c => match b with
    | ⟨0, _⟩ => absurd rfl hb
    | ⟨1, _⟩ => rfl
  rcases Nat.lt_or_ge r.val 128 with a | a
  · rw [concatenate_apply_piece 0 _ h _ 0 (by simp) S128x512 x0 rfl rfl 0 rfl (ix2 ⟨r.val, a⟩ k) (fun b hb => off b hb _) (Nat.zero_add _), h0]
    exact congrArg (G · k) (Fin.ext (Nat.zero_add _))
  rcases Nat.lt_or_ge r.val 256 with b | b
  · rw [concatenate_apply_piece 0 _ h _ 1 (by simp) S128x512 x1 rfl rfl 128 rfl (ix2 ⟨r.val - 128, by omega⟩ k) (fun b hb => off b hb _)
      (show 128 + (r.val - 128) = r.val by omega), h1]
    exact congrArg (G · k) (Fin.ext (show 128 + (r.val - 128) = r.val by omega))
  rcases Nat.lt_or_ge r.val 384 with d | d
  · rw [concatenate_apply_piece 0 _ h _ 2 (by simp) S128x512 x2 rfl rfl 256 rfl (ix2 ⟨r.val - 256, by omega⟩ k) (fun b hb => off b hb _)
      (show 256 + (r.val - 256) = r.val by omega), h2]
    exact congrArg (G · k) (Fin.ext (show 256 + (r.val - 256) = r.val by omega))
  · rw [concatenate_apply_piece 0 _ h _ 3 (by simp) S128x512 x3 rfl rfl 384 rfl (ix2 ⟨r.val - 384, by omega⟩ k) (fun b hb => off b hb _)
      (show 384 + (r.val - 384) = r.val by omega), h3]
    exact congrArg (G · k) (Fin.ext (show 384 + (r.val - 384) = r.val by omega))

/-- The gated branch: its gate, and the product of the gating factor with the mixed values. -/
theorem pay26_apply (x0 x1 x2 x3 : FVec Ideal S128x512 .f32) (P14 : Vec Ideal S1x512x512 .bf16) (P15 : Vec Ideal S1x512x1024 .bf16) (P16 : Vec Ideal S512x1024 .bf16)
    (G : Fin 512 → Fin 512 → EReal)
    (h0 : ∀ (p : Fin 128) (k : Fin 512), x0 (ix2 p k) = G ⟨0 + p.val, by omega⟩ k) (h1 : ∀ (p : Fin 128) (k : Fin 512), x1 (ix2 p k) = G ⟨128 + p.val, by omega⟩ k)
    (h2 : ∀ (p : Fin 128) (k : Fin 512), x2 (ix2 p k) = G ⟨256 + p.val, by omega⟩ k) (h3 : ∀ (p : Fin 128) (k : Fin 512), x3 (ix2 p k) = G ⟨384 + p.val, by omega⟩ k)
    (r : Fin 512) (e : Fin 1024) :
    k0_pay26 x0 x1 x2 x3 P14 P15 P16 (ix2 r e) = sg (P15 (ix3 0 r e)) * ∑ k : Fin 512, P14 (ix3 0 r k) * G r k * P16 (ix2 k e) := by
  unfold k0_pay26
  rw [mulf_apply, divf_apply, addf_apply, broadcast_apply, exp_at, subf_apply, extf_apply, broadcast_apply, bits_at, bits_at, Ideal.ofBits_zero_f32,
    zero_sub, shapeCast_1ab_ab_apply]
  refine congrArg (sg _ * ·) ((mm (M := 512) (K := 512) (N := 1024) _ _ r e).trans ?_)
  refine Finset.sum_congr rfl fun k _ => ?_
  rw [shapeCast_id, truncf_apply, mulf_apply, extf_apply, shapeCast_1ab_ab_apply, cat_rows x0 x1 x2 x3 G h0 h1 h2 h3]

/-- The residual stream after the mixing sub-layer. -/
theorem pay27_apply (g1 : FVec Ideal S1x1024 .f32) (a b : FVec Ideal S512x1024 .f32) (P17 : Vec Ideal S1x512x1024 .f32) (P18 : Vec Ideal S1024x1024 .bf16)
    (r : Fin 512) (e : Fin 1024) :
    k0_pay27 g1 a b P17 P18 (ix2 r e) = P17 (ix3 0 r e) + g1 (ix2 0 e) * ∑ k : Fin 1024, (a (ix2 r k) + b (ix2 r k)) * P18 (ix2 k e) := by
  unfold k0_pay27
  rw [addf_apply, mulf_apply, shapeCast_1ab_ab_apply, broadcastTo_1b_ab_apply]
  refine congrArg (P17 _ + g1 _ * ·) ((mm (M := 512) (K := 1024) (N := 1024) _ _ r e).trans ?_)
  refine Finset.sum_congr rfl fun k _ => ?_
  rw [shapeCast_id, truncf_apply, addf_apply]

/-- The sum of a row of 1024. -/
theorem row_sum (x : FVec Ideal S512x1024 .f32) (h1 h2 h3) (r : Fin 512) :
    multiReduction .add [1] S512 x 0x00000000#32 h1 h2 h3 (ix1 r) = ∑ k : Fin 1024, x (ix2 r k) := by
  rw [Ideal.multiReduction_add_single]
  refine Finset.sum_congr rfl fun k _ => congrArg x ?_
  funext a
  match a with
  | ⟨0, _⟩ => rfl
  | ⟨1, _⟩ => rfl

theorem col_at {α : Type} (v : S512x1.Idx → α) (h) (r : Fin 512) (e : Fin 1024) : broadcastTo S512x1024 v h (ix2 r e) = v (ix2 r 0) :=
  broadcastTo_apply v h (ix2 r e) (ix2 r 0) fun a => match a with
    | ⟨0, _⟩ => rfl
    | ⟨1, _⟩ => rfl

/-- The modulated normalised stream at an entry, over any residual stream. -/
theorem norm_apply (x : FVec Ideal S512x1024 .f32) (n2 sc sh : FVec Ideal S1x1024 .f32) (h1 h2 h3 h4 h5 h6 h7 h8) (r : Fin 512) (e : Fin 1024) (X : Fin 1024 → EReal)
    (hX : ∀ e, x (ix2 r e) = X e) :
    addf (mulf (mulf (mulf x (broadcastTo S512x1024 (Idealize.ShloMosaic.rsqrt (addf (divf (shapeCast S512x1 (multiReduction .add [1] S512 (mulf x x) 0x00000000#32 h1 h2 h3) h4)
        (broadcast S512x1 (Scalar.ofBits .f32 0x44800000#32 : Ideal .f32))) (broadcast S512x1 (Scalar.ofBits .f32 0x358637BD#32 : Ideal .f32)))) h5))
      (broadcastTo S512x1024 n2 h6)) (broadcastTo S512x1024 (addf (broadcast S1x1024 (Scalar.ofBits .f32 0x3F800000#32 : Ideal .f32)) sc) h7)) (broadcastTo S512x1024 sh h8) (ix2 r e)
    = X e * Ideal.rsqrt (Ideal.div (∑ k : Fin 1024, X k * X k) (Ideal.ofBits .f32 0x44800000#32) + Ideal.ofBits .f32 0x358637BD#32)
      * n2 (ix2 0 e) * (one + sc (ix2 0 e)) + sh (ix2 0 e) := by
  rw [addf_apply, mulf_apply, mulf_apply, mulf_apply, hX, col_at, rsqrt_at, addf_apply, divf_apply,
    shapeCast_a_a1_apply, row_sum, broadcastTo_1b_ab_apply, broadcastTo_1b_ab_apply, broadcastTo_1b_ab_apply, addf_apply, broadcast_apply, broadcast_apply,
    broadcast_apply]
  simp only [mulf_apply, hX]
  rfl

/-- The channel sub-layer's two products. -/
theorem pay28_apply (g1 sh sc : FVec Ideal S1x1024 .f32) (a b : FVec Ideal S512x1024 .f32) (P17 : Vec Ideal S1x512x1024 .f32) (P18 : Vec Ideal S1024x1024 .bf16)
    (P19 : Vec Ideal S1x1024 .f32) (P20 : Vec Ideal S1024x4096 .bf16) (P21 : Vec Ideal S4096x1024 .bf16) (r : Fin 512) (e : Fin 1024)
    (X : Fin 1024 → EReal) (hX : ∀ e, k0_pay27 g1 a b P17 P18 (ix2 r e) = X e) (H : Fin 1024 → EReal)
    (hH : ∀ e, X e * Ideal.rsqrt (Ideal.div (∑ k : Fin 1024, X k * X k) (Ideal.ofBits .f32 0x44800000#32) + Ideal.ofBits .f32 0x358637BD#32)
      * P19 (ix2 0 e) * (one + sc (ix2 0 e)) + sh (ix2 0 e) = H e) :
    k0_pay28 g1 sh sc a b P17 P18 P19 P20 P21 (ix2 r e)
      = ∑ f : Fin 4096, max (∑ k : Fin 1024, H k * P20 (ix2 k f)) 0 * max (∑ k : Fin 1024, H k * P20 (ix2 k f)) 0 * P21 (ix2 f e) := by
  unfold k0_pay28
  generalize k0_pay27 g1 a b P17 P18 = x at hX
  refine (mm (M := 512) (K := 4096) (N := 1024) _ _ r e).trans ?_
  refine Finset.sum_congr rfl fun f _ => ?_
  rw [shapeCast_id, shapeCast_id, truncf_apply, mulf_apply, maximumf_apply, broadcast_apply, show (Scalar.ofBits .f32 0x00000000#32 : Ideal .f32) = 0 from Ideal.ofBits_zero_f32]
  have key : ∀ l : FVec Ideal S512x1024 .bf16, (∀ k, l (ix2 r k) = H k) →
      matmul dot_S512x1024_S1024x4096_S512x4096_1_0_0_1_n_n none l (P20 : FVec Ideal S1024x4096 .bf16) (constant S512x4096 .f32 0x00000000#32) (ix2 r f)
        = ∑ k : Fin 1024, H k * P20 (ix2 k f) := fun l hl => by
    refine (mm (M := 512) (K := 1024) (N := 4096) l (P20 : FVec Ideal S1024x4096 .bf16) r f).trans (Finset.sum_congr rfl fun k _ => ?_)
    rw [hl]
  rw [key _ fun k => ?_]
  rw [truncf_apply]
  exact (norm_apply x P19 sc sh _ _ _ _ _ _ _ _ r k X hX).trans (hH k)

/-- The lanes of the first of a block's two groups. -/
theorem lane_at (p c : Fin 128) : k0_pay7 (ix2 p c) = if c.val < 64 then 1#1 else 0#1 := by
  have e : k0_pay7 (ix2 p c) = IntOp.cmpi .slt (BitVec.ofNat 32 c.val) 64#32 := by
    unfold k0_pay7
    show IntOp.cmpi .slt (iota .tc S128x128 32 [1] iota_S128x128_d1_w32 (ix2 p c)) 64#32 = _
    rw [iota_single_apply]
  rw [e]
  clear e
  revert c
  decide +kernel

/-- One block of 128 tokens and 128 columns (two groups): each column's mix over the block's tokens, with its group's matrix. -/
theorem blk (o0 o1 : ℕ) (hs : S512x512.Slices ![o0, o1] S128x128) (b0 : o0 + 128 ≤ 512) (b1 : o1 + 128 ≤ 512) (v : FVec Ideal S512x512 .bf16)
    (Wa Wb : Vec Ideal S1x128x128 .bf16) (ha hb) (p c : Fin 128) :
    select k0_pay7
      (matmul dot_S128x128_S128x128_S128x128_1_0_0_1_n_n none (shapeCast S128x128 Wa ha : FVec Ideal S128x128 .bf16) (extractStridedSlice S128x128 ![o0, o1] v hs) (constant S128x128 .f32 0x00000000#32))
      (matmul dot_S128x128_S128x128_S128x128_1_0_0_1_n_n none (shapeCast S128x128 Wb hb : FVec Ideal S128x128 .bf16) (extractStridedSlice S128x128 ![o0, o1] v hs) (constant S128x128 .f32 0x00000000#32))
      (ix2 p c)
    = ∑ q : Fin 128, (if c.val < 64 then Wa (ix3 0 p q) else Wb (ix3 0 p q)) * v (ix2 ⟨o0 + q.val, by omega⟩ ⟨o1 + c.val, by omega⟩) := by
  have hm : ∀ (W : Vec Ideal S1x128x128 .bf16) (hw : S1x128x128.ShapeCasts S128x128),
      matmul dot_S128x128_S128x128_S128x128_1_0_0_1_n_n none (shapeCast S128x128 W hw : FVec Ideal S128x128 .bf16) (extractStridedSlice S128x128 ![o0, o1] v hs) (constant S128x128 .f32 0x00000000#32) (ix2 p c)
        = ∑ q : Fin 128, W (ix3 0 p q) * v (ix2 ⟨o0 + q.val, by omega⟩ ⟨o1 + c.val, by omega⟩) := fun W hw =>
    (mm (M := 128) (K := 128) (N := 128) _ _ p c).trans (Finset.sum_congr rfl fun q _ => by
      rw [shapeCast_1ab_ab_apply, extractStridedSlice_apply ![o0, o1] v hs (ix2 q c) (ix2 ⟨o0 + q.val, by omega⟩ ⟨o1 + c.val, by omega⟩) fun a => match a with
        | ⟨0, _⟩ => rfl
        | ⟨1, _⟩ => rfl])
  rw [select_apply, lane_at, hm, hm]
  by_cases h : c.val < 64
  · simp only [if_pos h, select_one]
  · simp only [if_neg h, select_zero]

/-- The spatial mix of one token and column within its chunk of 128 tokens, before the bias. -/
def mixAt (W : Fin 8 → Vec Ideal S1x128x128 .bf16) (v : FVec Ideal S512x512 .bf16) (i : ℕ) (hi : i < 4) (p : Fin 128) (k : Fin 512) : EReal :=
  ∑ q : Fin 128, W ⟨k.val / 64, by omega⟩ (ix3 0 p q) * v (ix2 ⟨128 * i + q.val, by omega⟩ k)

/-- A block of the chunk `i` and of the columns from `128 j` on holds the spatial mix. -/
theorem blk_mix (W : Fin 8 → Vec Ideal S1x128x128 .bf16) (v : FVec Ideal S512x512 .bf16) (i j : ℕ) (hi : i < 4) (hj : j < 4) (o0 o1 : ℕ) (e0 : o0 = 128 * i) (e1 : o1 = 128 * j)
    (hs : S512x512.Slices ![o0, o1] S128x128) (Wa Wb : Vec Ideal S1x128x128 .bf16) (wa : Wa = W ⟨2 * j, by omega⟩) (wb : Wb = W ⟨2 * j + 1, by omega⟩) (ha hb) (p c : Fin 128) :
    select k0_pay7
      (matmul dot_S128x128_S128x128_S128x128_1_0_0_1_n_n none (shapeCast S128x128 Wa ha : FVec Ideal S128x128 .bf16) (extractStridedSlice S128x128 ![o0, o1] v hs) (constant S128x128 .f32 0x00000000#32))
      (matmul dot_S128x128_S128x128_S128x128_1_0_0_1_n_n none (shapeCast S128x128 Wb hb : FVec Ideal S128x128 .bf16) (extractStridedSlice S128x128 ![o0, o1] v hs) (constant S128x128 .f32 0x00000000#32))
      (ix2 p c)
    = mixAt W v i hi p ⟨o1 + c.val, by omega⟩ := by
  subst e0 e1 wa wb
  rw [blk _ _ hs (by omega) (by omega)]
  refine Finset.sum_congr rfl fun q _ => ?_
  refine congrArg (· * _) ?_
  by_cases h : c.val < 64
  · rw [if_pos h]
    exact congrArg (fun n => W n (ix3 0 p q)) (Fin.ext (show 2 * j = (128 * j + c.val) / 64 by omega))
  · rw [if_neg h]
    exact congrArg (fun n => W n (ix3 0 p q)) (Fin.ext (show 2 * j + 1 = (128 * j + c.val) / 64 by omega))

variable (P5 P6 P7 P8 P9 P10 P11 P12 : Vec Ideal S1x128x128 .bf16) (b : Vec Ideal S128x512 .f32)

/-- The four blocks of the chunk `i`, side by side, with the bias added. -/
theorem chunk_mix (v : FVec Ideal S512x512 .bf16) (i : ℕ) (hi : i < 4) (o : ℕ) (eo : o = 128 * i) (hs0 : S512x512.Slices ![o, 0] S128x128) (hs1 : S512x512.Slices ![o, 128] S128x128)
    (hs2 : S512x512.Slices ![o, 256] S128x128) (hs3 : S512x512.Slices ![o, 384] S128x128) (h : Shape.Concatenates [S128x128, S128x128, S128x128, S128x128] S128x512 1) (hb) (h0 h1 h2 h3 h4 h5 h6 h7) (p : Fin 128) (k : Fin 512) :
    addf (φ := .f32) (concatenate S128x512 1 [
      ⟨S128x128, select k0_pay7
        (matmul dot_S128x128_S128x128_S128x128_1_0_0_1_n_n none (shapeCast S128x128 P5 h0 : FVec Ideal S128x128 .bf16) (extractStridedSlice S128x128 ![o, 0] v hs0) (constant S128x128 .f32 0x00000000#32))
        (matmul dot_S128x128_S128x128_S128x128_1_0_0_1_n_n none (shapeCast S128x128 P6 h1 : FVec Ideal S128x128 .bf16) (extractStridedSlice S128x128 ![o, 0] v hs0) (constant S128x128 .f32 0x00000000#32))⟩,
      ⟨S128x128, select k0_pay7
        (matmul dot_S128x128_S128x128_S128x128_1_0_0_1_n_n none (shapeCast S128x128 P7 h2 : FVec Ideal S128x128 .bf16) (extractStridedSlice S128x128 ![o, 128] v hs1) (constant S128x128 .f32 0x00000000#32))
        (matmul dot_S128x128_S128x128_S128x128_1_0_0_1_n_n none (shapeCast S128x128 P8 h3 : FVec Ideal S128x128 .bf16) (extractStridedSlice S128x128 ![o, 128] v hs1) (constant S128x128 .f32 0x00000000#32))⟩,
      ⟨S128x128, select k0_pay7
        (matmul dot_S128x128_S128x128_S128x128_1_0_0_1_n_n none (shapeCast S128x128 P9 h4 : FVec Ideal S128x128 .bf16) (extractStridedSlice S128x128 ![o, 256] v hs2) (constant S128x128 .f32 0x00000000#32))
        (matmul dot_S128x128_S128x128_S128x128_1_0_0_1_n_n none (shapeCast S128x128 P10 h5 : FVec Ideal S128x128 .bf16) (extractStridedSlice S128x128 ![o, 256] v hs2) (constant S128x128 .f32 0x00000000#32))⟩,
      ⟨S128x128, select k0_pay7
        (matmul dot_S128x128_S128x128_S128x128_1_0_0_1_n_n none (shapeCast S128x128 P11 h6 : FVec Ideal S128x128 .bf16) (extractStridedSlice S128x128 ![o, 384] v hs3) (constant S128x128 .f32 0x00000000#32))
        (matmul dot_S128x128_S128x128_S128x128_1_0_0_1_n_n none (shapeCast S128x128 P12 h7 : FVec Ideal S128x128 .bf16) (extractStridedSlice S128x128 ![o, 384] v hs3) (constant S128x128 .f32 0x00000000#32))⟩] h)
      (shapeCast S128x512 b hb) (ix2 p k)
    = mixAt ![P5, P6, P7, P8, P9, P10, P11, P12] v i hi p k + b (ix2 p k) := by
  rw [addf_apply, shapeCast_id]
  refine congrArg (· + b (ix2 p k)) (cat_cols _ _ _ _ (mixAt ![P5, P6, P7, P8, P9, P10, P11, P12] v i hi) ?_ ?_ ?_ ?_ h p k)
  · exact fun p c => blk_mix _ v i 0 hi (by omega) o 0 eo rfl hs0 P5 P6 rfl rfl _ _ p c
  · exact fun p c => blk_mix _ v i 1 hi (by omega) o 128 eo rfl hs1 P7 P8 rfl rfl _ _ p c
  · exact fun p c => blk_mix _ v i 2 hi (by omega) o 256 eo rfl hs2 P9 P10 rfl rfl _ _ p c
  · exact fun p c => blk_mix _ v i 3 hi (by omega) o 384 eo rfl hs3 P11 P12 rfl rfl _ _ p c

/-- The spatial mix of one token and column of a tile of four chunks. -/
def mix (W : Fin 8 → Vec Ideal S1x128x128 .bf16) (v : FVec Ideal S512x512 .bf16) (b : Vec Ideal S128x512 .f32) (r k : Fin 512) : EReal :=
  mixAt W v (r.val / 128) (by omega) ⟨r.val % 128, by omega⟩ k + b (ix2 ⟨r.val % 128, by omega⟩ k)

theorem mix_chunk (W : Fin 8 → Vec Ideal S1x128x128 .bf16) (v : FVec Ideal S512x512 .bf16) (i : ℕ) (hi : i < 4) (o : ℕ) (eo : o = 128 * i) (p : Fin 128) (k : Fin 512) :
    mixAt W v i hi p k + b (ix2 p k) = mix W v b ⟨o + p.val, by omega⟩ k := by
  have e1 : i = (o + p.val) / 128 := by omega
  have e2 : p = (⟨(o + p.val) % 128, by omega⟩ : Fin 128) := Fin.ext (show p.val = (o + p.val) % 128 by omega)
  have key : ∀ (j : ℕ) (hj : j < 4) (p' : Fin 128), i = j → p = p' → mixAt W v i hi p k + b (ix2 p k) = mixAt W v j hj p' k + b (ix2 p' k) := by
    intro j hj p' a c
    subst a c
    rfl
  exact key _ _ _ e1 e2

variable (P4 : Vec Ideal S1x512x512 .bf16)

theorem pay13_mix (p : Fin 128) (k : Fin 512) :
    k0_pay13 k0_pay7 (k0_pay8 P4) (k0_pay9 P4 P5 P6) (k0_pay10 P4 P7 P8) (k0_pay11 P4) (k0_pay12 P4 P9) P10 P11 P12 b (ix2 p k)
      = mix ![P5, P6, P7, P8, P9, P10, P11, P12] (k0_pay8 P4) b ⟨0 + p.val, by omega⟩ k :=
  (chunk_mix P5 P6 P7 P8 P9 P10 P11 P12 b (k0_pay8 P4) 0 (by omega) 0 rfl slices_S512x512_o0_0_S128x128 slices_S512x512_o0_128_S128x128 slices_S512x512_o0_256_S128x128 slices_S512x512_o0_384_S128x128 _ _ _ _ _ _ _ _ _ _ p k).trans (mix_chunk b _ _ 0 (by omega) 0 rfl p k)

theorem pay18_mix (p : Fin 128) (k : Fin 512) :
    k0_pay18 k0_pay7 (k0_pay8 P4) (k0_pay14 k0_pay7 (k0_pay8 P4) P5 P6) (k0_pay15 (k0_pay8 P4)) (k0_pay16 (k0_pay8 P4) P7) (k0_pay17 P8) (constant S128x128 .f32 0x00000000#32) P9 P10 P11 P12 b (ix2 p k)
      = mix ![P5, P6, P7, P8, P9, P10, P11, P12] (k0_pay8 P4) b ⟨128 + p.val, by omega⟩ k :=
  (chunk_mix P5 P6 P7 P8 P9 P10 P11 P12 b (k0_pay8 P4) 1 (by omega) 128 rfl slices_S512x512_o128_0_S128x128 slices_S512x512_o128_128_S128x128 slices_S512x512_o128_256_S128x128 slices_S512x512_o128_384_S128x128 _ _ _ _ _ _ _ _ _ _ p k).trans (mix_chunk b _ _ 1 (by omega) 128 rfl p k)

theorem pay21_mix (p : Fin 128) (k : Fin 512) :
    k0_pay21 k0_pay7 (k0_pay8 P4) (k0_pay19 k0_pay7 (k0_pay8 P4) P5 P6) (k0_pay20 (k0_pay8 P4)) P7 P8 P9 P10 P11 P12 b (ix2 p k)
      = mix ![P5, P6, P7, P8, P9, P10, P11, P12] (k0_pay8 P4) b ⟨256 + p.val, by omega⟩ k :=
  (chunk_mix P5 P6 P7 P8 P9 P10 P11 P12 b (k0_pay8 P4) 2 (by omega) 256 rfl slices_S512x512_o256_0_S128x128 slices_S512x512_o256_128_S128x128 slices_S512x512_o256_256_S128x128 slices_S512x512_o256_384_S128x128 _ _ _ _ _ _ _ _ _ _ p k).trans (mix_chunk b _ _ 2 (by omega) 256 rfl p k)

theorem pay24_mix (p : Fin 128) (k : Fin 512) :
    k0_pay24 k0_pay7 (k0_pay8 P4) (k0_pay22 (k0_pay8 P4)) (k0_pay23 (k0_pay8 P4) P5) P6 P7 P8 P9 P10 P11 P12 b (ix2 p k)
      = mix ![P5, P6, P7, P8, P9, P10, P11, P12] (k0_pay8 P4) b ⟨384 + p.val, by omega⟩ k :=
  (chunk_mix P5 P6 P7 P8 P9 P10 P11 P12 b (k0_pay8 P4) 3 (by omega) 384 rfl slices_S512x512_o384_0_S128x128 slices_S512x512_o384_128_S128x128 slices_S512x512_o384_256_S128x128 slices_S512x512_o384_384_S128x128 _ _ _ _ _ _ _ _ _ _ p k).trans (mix_chunk b _ _ 3 (by omega) 384 rfl p k)

/-- The rows one token's output is made of, from the values the body loads. -/
def rowOf (P0 : Vec Ideal S1x6x1024 .f32) (P1 : Vec Ideal S1x512x1024 .bf16) (P2 : Vec Ideal S1x512x512 .bf16) (P3 : Vec Ideal S512x1024 .bf16) (W : Fin 8 → Vec Ideal S1x128x128 .bf16)
    (P14 : Vec Ideal S1x512x512 .bf16) (P15 : Vec Ideal S1x512x1024 .bf16) (P16 : Vec Ideal S512x1024 .bf16)
    (P17 : Vec Ideal S1x512x1024 .f32) (P18 : Vec Ideal S1024x1024 .bf16) (P19 : Vec Ideal S1x1024 .f32) (P20 : Vec Ideal S1024x4096 .bf16) (P21 : Vec Ideal S4096x1024 .bf16) (r : Fin 512) : Row where
  x e := P17 (ix3 0 r e)
  g1 e := P0 (ix3 0 2 e)
  sh e := P0 (ix3 0 3 e)
  sc e := P0 (ix3 0 4 e)
  g2 e := P0 (ix3 0 5 e)
  att k := P2 (ix3 0 r k)
  u k := P14 (ix3 0 r k)
  sp k := mix W (k0_pay8 P4) b r k
  ga e := P1 (ix3 0 r e)
  gb e := P15 (ix3 0 r e)
  wa k e := P3 (ix2 k e)
  wg k e := P16 (ix2 k e)
  wo k e := P18 (ix2 k e)
  n2 e := P19 (ix2 0 e)
  w1 k f := P20 (ix2 k f)
  w2 f e := P21 (ix2 f e)

/-- One row of the six modulation rows. -/
theorem mod_row (P0 : Vec Ideal S1x6x1024 .f32) (n : Fin 6) (hs : S6x1024.Slices ![n.val, 0] S1x1024) (e : Fin 1024) :
    extractStridedSlice S1x1024 ![n.val, 0] (k0_pay2 P0) hs (ix2 0 e) = P0 (ix3 0 n e) := by
  rw [extractStridedSlice_apply ![n.val, 0] (k0_pay2 P0) hs (ix2 0 e) (ix2 n e) fun a => match a with
    | ⟨0, _⟩ => rfl
    | ⟨1, _⟩ => (Nat.zero_add _).symm]
  exact shapeCast_1ab_ab_apply _ _ _ _

/-- The stored tile at an entry is the output row of its token. -/
theorem tile_apply (P0 : Vec Ideal S1x6x1024 .f32) (P1 : Vec Ideal S1x512x1024 .bf16) (P2 : Vec Ideal S1x512x512 .bf16) (P3 : Vec Ideal S512x1024 .bf16)
    (P14 : Vec Ideal S1x512x512 .bf16) (P15 : Vec Ideal S1x512x1024 .bf16) (P16 : Vec Ideal S512x1024 .bf16)
    (P17 : Vec Ideal S1x512x1024 .f32) (P18 : Vec Ideal S1024x1024 .bf16) (P19 : Vec Ideal S1x1024 .f32) (P20 : Vec Ideal S1024x4096 .bf16) (P21 : Vec Ideal S4096x1024 .bf16) (r : Fin 512) (e : Fin 1024) :
    Value.E15 P0 P1 P2 P3 P4 P5 P6 P7 P8 P9 P10 P11 P12 b P14 P15 P16 P17 P18 P19 P20 P21 (ix3 0 r e)
      = (rowOf b P4 P0 P1 P2 P3 ![P5, P6, P7, P8, P9, P10, P11, P12] P14 P15 P16 P17 P18 P19 P20 P21 r).out e := by
  have s13 := pay13_mix P5 P6 P7 P8 P9 P10 P11 P12 b P4
  have s18 := pay18_mix P5 P6 P7 P8 P9 P10 P11 P12 b P4
  have s21 := pay21_mix P5 P6 P7 P8 P9 P10 P11 P12 b P4
  have s24 := pay24_mix P5 P6 P7 P8 P9 P10 P11 P12 b P4
  have g1 := fun e => mod_row P0 2 slices_S6x1024_o2_0_S1x1024 e
  have sh := fun e => mod_row P0 3 slices_S6x1024_o3_0_S1x1024 e
  have sc := fun e => mod_row P0 4 slices_S6x1024_o4_0_S1x1024 e
  have g2 := fun e => mod_row P0 5 slices_S6x1024_o5_0_S1x1024 e
  set R := rowOf b P4 P0 P1 P2 P3 ![P5, P6, P7, P8, P9, P10, P11, P12] P14 P15 P16 P17 P18 P19 P20 P21 r with hR
  have i0 : Value.ix15_0 (ix3 0 r e) = ix2 r e := by
    funext a
    match a with
    | ⟨0, _⟩ => rfl
    | ⟨1, _⟩ => rfl
  have i1 : Value.ix15_1 (ix3 0 r e) = ix3 0 5 e := by
    funext a
    match a with
    | ⟨0, _⟩ => rfl
    | ⟨1, _⟩ => rfl
    | ⟨2, _⟩ => rfl
  have i2 : Value.ix15_2 (ix3 0 r e) = ix2 r e := by
    funext a
    match a with
    | ⟨0, _⟩ => rfl
    | ⟨1, _⟩ => rfl
  unfold Value.E15
  rw [i0, i1, i2]
  have main : ∀ (x0 x1 x2 x3 : FVec Ideal S128x512 .f32),
      (∀ p k, x0 (ix2 p k) = mix ![P5, P6, P7, P8, P9, P10, P11, P12] (k0_pay8 P4) b ⟨0 + p.val, by omega⟩ k) →
      (∀ p k, x1 (ix2 p k) = mix ![P5, P6, P7, P8, P9, P10, P11, P12] (k0_pay8 P4) b ⟨128 + p.val, by omega⟩ k) →
      (∀ p k, x2 (ix2 p k) = mix ![P5, P6, P7, P8, P9, P10, P11, P12] (k0_pay8 P4) b ⟨256 + p.val, by omega⟩ k) →
      (∀ p k, x3 (ix2 p k) = mix ![P5, P6, P7, P8, P9, P10, P11, P12] (k0_pay8 P4) b ⟨384 + p.val, by omega⟩ k) →
      ∀ (m1 mh mc : FVec Ideal S1x1024 .f32), (∀ e, m1 (ix2 0 e) = P0 (ix3 0 2 e)) → (∀ e, mh (ix2 0 e) = P0 (ix3 0 3 e)) → (∀ e, mc (ix2 0 e) = P0 (ix3 0 4 e)) →
      k0_pay27 m1 (k0_pay25 P1 P2 P3) (k0_pay26 x0 x1 x2 x3 P14 P15 P16) P17 P18 (ix2 r e)
        + P0 (ix3 0 5 e) * k0_pay28 m1 mh mc (k0_pay25 P1 P2 P3) (k0_pay26 x0 x1 x2 x3 P14 P15 P16) P17 P18 P19 P20 P21 (ix2 r e) = R.out e := by
    intro x0 x1 x2 x3 h0 h1 h2 h3 m1 mh mc hm hh hc
    have hX : ∀ e, k0_pay27 m1 (k0_pay25 P1 P2 P3) (k0_pay26 x0 x1 x2 x3 P14 P15 P16) P17 P18 (ix2 r e) = R.x1 e := fun e => by
      rw [pay27_apply, hm]
      refine congrArg (P17 (ix3 0 r e) + P0 (ix3 0 2 e) * ·) (Finset.sum_congr rfl fun k _ => ?_)
      rw [pay25_apply, pay26_apply x0 x1 x2 x3 P14 P15 P16 (mix ![P5, P6, P7, P8, P9, P10, P11, P12] (k0_pay8 P4) b) h0 h1 h2 h3]
      rfl
    rw [hX, pay28_apply m1 mh mc _ _ P17 P18 P19 P20 P21 r e R.x1 hX R.h fun e => by rw [hc, hh]; rfl]
    rfl
  exact main _ _ _ _ s13 s18 s21 s24 _ _ _ g1 sh sc

end Cert.Proof.Post
end
-- ==== Proof.Post.Array.lean ====
module

public import proofs.«01_k».proof.Proof.Post.Body

@[expose] public section

set_option maxRecDepth 16384

noncomputable section

/-! The result array of the second half's kernel, as the output row of every token over the argument arrays. -/

namespace Cert.Proof.Post

open Cert.Kernel2Ideal Cert.Kernel2Ideal.Gen
open Idealize.ShloMosaic hiding ix1 ix2 ix3 ix4 ix5
open Idealize.ShloMosaic.ValueIdx Idealize.ShloMosaic.TcCoe

/-- The rows token `n` of sequence `b` is made of, from the argument arrays. -/
def argRow (X : S4x8192x1024.Idx → EReal) (M : S8x6x1024.Idx → EReal) (A U V : S4x8192x512.Idx → EReal) (GA GB : S4x8192x1024.Idx → EReal)
    (WS : S1x8x128x128.Idx → EReal) (BS : S1x8x128.Idx → EReal) (WA WG : S1x512x1024.Idx → EReal) (WO : S1x1024x1024.Idx → EReal) (N2 : S1x1024.Idx → EReal)
    (W1 : S1x1024x4096.Idx → EReal) (W2 : S1x4096x1024.Idx → EReal) (b : Fin 4) (n : Fin 8192) : Row where
  x e := X (ix3 b n e)
  g1 e := M (ix3 ⟨b.val, by omega⟩ 2 e)
  sh e := M (ix3 ⟨b.val, by omega⟩ 3 e)
  sc e := M (ix3 ⟨b.val, by omega⟩ 4 e)
  g2 e := M (ix3 ⟨b.val, by omega⟩ 5 e)
  att k := A (ix3 b n k)
  u k := U (ix3 b n k)
  sp k := (∑ q : Fin 128, WS (ix4 0 ⟨k.val / 64, by omega⟩ ⟨n.val % 128, by omega⟩ q) * V (ix3 b ⟨128 * (n.val / 128) + q.val, by omega⟩ k))
    + BS (ix3 0 ⟨k.val / 64, by omega⟩ ⟨n.val % 128, by omega⟩)
  ga e := GA (ix3 b n e)
  gb e := GB (ix3 b n e)
  wa k e := WA (ix3 0 k e)
  wg k e := WG (ix3 0 k e)
  wo k e := WO (ix3 0 k e)
  n2 e := N2 (ix2 0 e)
  w1 k f := W1 (ix3 0 k f)
  w2 f e := W2 (ix3 0 f e)

variable (m : (ℓ : Loc nD τ sig) → Buf (Elt Ideal) ℓ)

/-- The sequence and the first token of a grid point's tile. -/
abbrev bOf (t : Fin cfg0.N) : Fin 4 := ⟨t.val / 16, by have : t.val < 64 := t.isLt; omega⟩
abbrev nOf (t : Fin cfg0.N) (r : Fin 512) : Fin 8192 := ⟨512 * (t.val % 16) + r.val, by omega⟩

theorem hz3 : (![0, 0, 0] : Fin 3 → Nat) = fun _ => 0 := funext fun a => by fin_cases a <;> rfl
theorem hz2 : (![0, 0] : Fin 2 → Nat) = fun _ => 0 := funext fun a => by fin_cases a <;> rfl

theorem ib0 (c : Dev nD) (t : Fin cfg0.N) (r : Fin 512) (e : Fin 1024) :
    (iblk m c 0 t : Vec Ideal S1x512x1024 .f32) (ix3 0 r e) = m ((c : Thread nD τ).loc main_arg0) (ix3 (bOf t) (nOf t r) e) := by
  have hi := (by decide +kernel : ∀ t : Fin grid0.N, win0_0.index t 0 = t.val / 16 ∧ win0_0.index t 1 = t.val % 16 ∧ win0_0.index t 2 = 0) t
  unfold iblk
  rw [View.read_apply]
  refine Eq.trans ?_ (congrFun (V_main_arg0 m c) _)
  show V m c main_arg0 _ = V m c main_arg0 _
  congr 1
  funext a
  apply Fin.ext
  match a with
  | ⟨0, _⟩ => show win0_0.index t 0 * 1 + 1 * 0 = t.val / 16; rw [hi.1]; omega
  | ⟨1, _⟩ => show win0_0.index t 1 * 512 + 1 * r.val = 512 * (t.val % 16) + r.val; rw [hi.2.1]; omega
  | ⟨2, _⟩ => show win0_0.index t 2 * 1024 + 1 * e.val = e.val; rw [hi.2.2]; omega

theorem ib2 (c : Dev nD) (t : Fin cfg0.N) (r : Fin 512) (e : Fin 512) :
    (iblk m c 2 t : Vec Ideal S1x512x512 .bf16) (ix3 0 r e) = m ((c : Thread nD τ).loc main_arg2) (ix3 (bOf t) (nOf t r) e) := by
  have hi := (by decide +kernel : ∀ t : Fin grid0.N, win0_2.index t 0 = t.val / 16 ∧ win0_2.index t 1 = t.val % 16 ∧ win0_2.index t 2 = 0) t
  unfold iblk
  rw [View.read_apply]
  refine Eq.trans ?_ (congrFun (V_main_arg2 m c) _)
  show V m c main_arg2 _ = V m c main_arg2 _
  congr 1
  funext a
  apply Fin.ext
  match a with
  | ⟨0, _⟩ => show win0_2.index t 0 * 1 + 1 * 0 = t.val / 16; rw [hi.1]; omega
  | ⟨1, _⟩ => show win0_2.index t 1 * 512 + 1 * r.val = 512 * (t.val % 16) + r.val; rw [hi.2.1]; omega
  | ⟨2, _⟩ => show win0_2.index t 2 * 512 + 1 * e.val = e.val; rw [hi.2.2]; omega

theorem ib3 (c : Dev nD) (t : Fin cfg0.N) (r : Fin 512) (e : Fin 512) :
    (iblk m c 3 t : Vec Ideal S1x512x512 .bf16) (ix3 0 r e) = m ((c : Thread nD τ).loc main_arg3) (ix3 (bOf t) (nOf t r) e) := by
  have hi := (by decide +kernel : ∀ t : Fin grid0.N, win0_3.index t 0 = t.val / 16 ∧ win0_3.index t 1 = t.val % 16 ∧ win0_3.index t 2 = 0) t
  unfold iblk
  rw [View.read_apply]
  refine Eq.trans ?_ (congrFun (V_main_arg3 m c) _)
  show V m c main_arg3 _ = V m c main_arg3 _
  congr 1
  funext a
  apply Fin.ext
  match a with
  | ⟨0, _⟩ => show win0_3.index t 0 * 1 + 1 * 0 = t.val / 16; rw [hi.1]; omega
  | ⟨1, _⟩ => show win0_3.index t 1 * 512 + 1 * r.val = 512 * (t.val % 16) + r.val; rw [hi.2.1]; omega
  | ⟨2, _⟩ => show win0_3.index t 2 * 512 + 1 * e.val = e.val; rw [hi.2.2]; omega

theorem ib4 (c : Dev nD) (t : Fin cfg0.N) (r : Fin 512) (e : Fin 512) :
    (iblk m c 4 t : Vec Ideal S1x512x512 .bf16) (ix3 0 r e) = m ((c : Thread nD τ).loc main_arg4) (ix3 (bOf t) (nOf t r) e) := by
  have hi := (by decide +kernel : ∀ t : Fin grid0.N, win0_4.index t 0 = t.val / 16 ∧ win0_4.index t 1 = t.val % 16 ∧ win0_4.index t 2 = 0) t
  unfold iblk
  rw [View.read_apply]
  refine Eq.trans ?_ (congrFun (V_main_arg4 m c) _)
  show V m c main_arg4 _ = V m c main_arg4 _
  congr 1
  funext a
  apply Fin.ext
  match a with
  | ⟨0, _⟩ => show win0_4.index t 0 * 1 + 1 * 0 = t.val / 16; rw [hi.1]; omega
  | ⟨1, _⟩ => show win0_4.index t 1 * 512 + 1 * r.val = 512 * (t.val % 16) + r.val; rw [hi.2.1]; omega
  | ⟨2, _⟩ => show win0_4.index t 2 * 512 + 1 * e.val = e.val; rw [hi.2.2]; omega

theorem ib5 (c : Dev nD) (t : Fin cfg0.N) (r : Fin 512) (e : Fin 1024) :
    (iblk m c 5 t : Vec Ideal S1x512x1024 .bf16) (ix3 0 r e) = m ((c : Thread nD τ).loc main_arg5) (ix3 (bOf t) (nOf t r) e) := by
  have hi := (by decide +kernel : ∀ t : Fin grid0.N, win0_5.index t 0 = t.val / 16 ∧ win0_5.index t 1 = t.val % 16 ∧ win0_5.index t 2 = 0) t
  unfold iblk
  rw [View.read_apply]
  refine Eq.trans ?_ (congrFun (V_main_arg5 m c) _)
  show V m c main_arg5 _ = V m c main_arg5 _
  congr 1
  funext a
  apply Fin.ext
  match a with
  | ⟨0, _⟩ => show win0_5.index t 0 * 1 + 1 * 0 = t.val / 16; rw [hi.1]; omega
  | ⟨1, _⟩ => show win0_5.index t 1 * 512 + 1 * r.val = 512 * (t.val % 16) + r.val; rw [hi.2.1]; omega
  | ⟨2, _⟩ => show win0_5.index t 2 * 1024 + 1 * e.val = e.val; rw [hi.2.2]; omega

theorem ib6 (c : Dev nD) (t : Fin cfg0.N) (r : Fin 512) (e : Fin 1024) :
    (iblk m c 6 t : Vec Ideal S1x512x1024 .bf16) (ix3 0 r e) = m ((c : Thread nD τ).loc main_arg6) (ix3 (bOf t) (nOf t r) e) := by
  have hi := (by decide +kernel : ∀ t : Fin grid0.N, win0_6.index t 0 = t.val / 16 ∧ win0_6.index t 1 = t.val % 16 ∧ win0_6.index t 2 = 0) t
  unfold iblk
  rw [View.read_apply]
  refine Eq.trans ?_ (congrFun (V_main_arg6 m c) _)
  show V m c main_arg6 _ = V m c main_arg6 _
  congr 1
  funext a
  apply Fin.ext
  match a with
  | ⟨0, _⟩ => show win0_6.index t 0 * 1 + 1 * 0 = t.val / 16; rw [hi.1]; omega
  | ⟨1, _⟩ => show win0_6.index t 1 * 512 + 1 * r.val = 512 * (t.val % 16) + r.val; rw [hi.2.1]; omega
  | ⟨2, _⟩ => show win0_6.index t 2 * 1024 + 1 * e.val = e.val; rw [hi.2.2]; omega

theorem ib1 (c : Dev nD) (t : Fin cfg0.N) (j : Fin 6) (e : Fin 1024) :
    (iblk m c 1 t : Vec Ideal S1x6x1024 .f32) (ix3 0 j e) = m ((c : Thread nD τ).loc main_arg1) (ix3 ⟨(bOf t).val, by omega⟩ j e) := by
  have hi := (by decide +kernel : ∀ t : Fin grid0.N, win0_1.index t 0 = t.val / 16 ∧ win0_1.index t 1 = 0 ∧ win0_1.index t 2 = 0) t
  unfold iblk
  rw [View.read_apply]
  refine Eq.trans ?_ (congrFun (V_main_arg1 m c) _)
  show V m c main_arg1 _ = V m c main_arg1 _
  congr 1
  funext a
  apply Fin.ext
  match a with
  | ⟨0, _⟩ => show win0_1.index t 0 * 1 + 1 * 0 = t.val / 16; rw [hi.1]; omega
  | ⟨1, _⟩ => show win0_1.index t 1 * 6 + 1 * j.val = j.val; rw [hi.2.1]; omega
  | ⟨2, _⟩ => show win0_1.index t 2 * 1024 + 1 * e.val = e.val; rw [hi.2.2]; omega

theorem ib7 (c : Dev nD) (t : Fin cfg0.N) : (iblk m c 7 t : Vec Ideal S8x128x128 .bf16) = V m c main_v5 := by
  have hi := (by decide +kernel : ∀ t : Fin grid0.N, win0_7.index t 0 = 0 ∧ win0_7.index t 1 = 0 ∧ win0_7.index t 2 = 0) t
  funext j
  unfold iblk
  rw [View.read_apply]
  show V m c main_v5 _ = V m c main_v5 _
  congr 1
  funext a
  apply Fin.ext
  match a with
  | ⟨0, _⟩ => show win0_7.index t 0 * 8 + 1 * (j 0).val = (j 0).val; rw [hi.1]; omega
  | ⟨1, _⟩ => show win0_7.index t 1 * 128 + 1 * (j 1).val = (j 1).val; rw [hi.2.1]; omega
  | ⟨2, _⟩ => show win0_7.index t 2 * 128 + 1 * (j 2).val = (j 2).val; rw [hi.2.2]; omega

theorem ib8 (c : Dev nD) (t : Fin cfg0.N) : (iblk m c 8 t : Vec Ideal S128x512 .f32) = V m c main_v3 := by
  have hi := (by decide +kernel : ∀ t : Fin grid0.N, win0_8.index t 0 = 0 ∧ win0_8.index t 1 = 0) t
  funext j
  unfold iblk
  rw [View.read_apply]
  show V m c main_v3 _ = V m c main_v3 _
  congr 1
  funext a
  apply Fin.ext
  match a with
  | ⟨0, _⟩ => show win0_8.index t 0 * 128 + 1 * (j 0).val = (j 0).val; rw [hi.1]; omega
  | ⟨1, _⟩ => show win0_8.index t 1 * 512 + 1 * (j 1).val = (j 1).val; rw [hi.2]; omega

theorem ib9 (c : Dev nD) (t : Fin cfg0.N) : (iblk m c 9 t : Vec Ideal S512x1024 .bf16) = V m c main_v7 := by
  have hi := (by decide +kernel : ∀ t : Fin grid0.N, win0_9.index t 0 = 0 ∧ win0_9.index t 1 = 0) t
  funext j
  unfold iblk
  rw [View.read_apply]
  show V m c main_v7 _ = V m c main_v7 _
  congr 1
  funext a
  apply Fin.ext
  match a with
  | ⟨0, _⟩ => show win0_9.index t 0 * 512 + 1 * (j 0).val = (j 0).val; rw [hi.1]; omega
  | ⟨1, _⟩ => show win0_9.index t 1 * 1024 + 1 * (j 1).val = (j 1).val; rw [hi.2]; omega

theorem ib10 (c : Dev nD) (t : Fin cfg0.N) : (iblk m c 10 t : Vec Ideal S512x1024 .bf16) = V m c main_v9 := by
  have hi := (by decide +kernel : ∀ t : Fin grid0.N, win0_10.index t 0 = 0 ∧ win0_10.index t 1 = 0) t
  funext j
  unfold iblk
  rw [View.read_apply]
  show V m c main_v9 _ = V m c main_v9 _
  congr 1
  funext a
  apply Fin.ext
  match a with
  | ⟨0, _⟩ => show win0_10.index t 0 * 512 + 1 * (j 0).val = (j 0).val; rw [hi.1]; omega
  | ⟨1, _⟩ => show win0_10.index t 1 * 1024 + 1 * (j 1).val = (j 1).val; rw [hi.2]; omega

theorem ib11 (c : Dev nD) (t : Fin cfg0.N) : (iblk m c 11 t : Vec Ideal S1024x1024 .bf16) = V m c main_v11 := by
  have hi := (by decide +kernel : ∀ t : Fin grid0.N, win0_11.index t 0 = 0 ∧ win0_11.index t 1 = 0) t
  funext j
  unfold iblk
  rw [View.read_apply]
  show V m c main_v11 _ = V m c main_v11 _
  congr 1
  funext a
  apply Fin.ext
  match a with
  | ⟨0, _⟩ => show win0_11.index t 0 * 1024 + 1 * (j 0).val = (j 0).val; rw [hi.1]; omega
  | ⟨1, _⟩ => show win0_11.index t 1 * 1024 + 1 * (j 1).val = (j 1).val; rw [hi.2]; omega

theorem ib12 (c : Dev nD) (t : Fin cfg0.N) : (iblk m c 12 t : Vec Ideal S1x1024 .f32) = V m c main_arg12 := by
  have hi := (by decide +kernel : ∀ t : Fin grid0.N, win0_12.index t 0 = 0 ∧ win0_12.index t 1 = 0) t
  funext j
  unfold iblk
  rw [View.read_apply]
  show V m c main_arg12 _ = V m c main_arg12 _
  congr 1
  funext a
  apply Fin.ext
  match a with
  | ⟨0, _⟩ => show win0_12.index t 0 * 1 + 1 * (j 0).val = (j 0).val; rw [hi.1]; omega
  | ⟨1, _⟩ => show win0_12.index t 1 * 1024 + 1 * (j 1).val = (j 1).val; rw [hi.2]; omega

theorem ib13 (c : Dev nD) (t : Fin cfg0.N) : (iblk m c 13 t : Vec Ideal S1024x4096 .bf16) = V m c main_v13 := by
  have hi := (by decide +kernel : ∀ t : Fin grid0.N, win0_13.index t 0 = 0 ∧ win0_13.index t 1 = 0) t
  funext j
  unfold iblk
  rw [View.read_apply]
  show V m c main_v13 _ = V m c main_v13 _
  congr 1
  funext a
  apply Fin.ext
  match a with
  | ⟨0, _⟩ => show win0_13.index t 0 * 1024 + 1 * (j 0).val = (j 0).val; rw [hi.1]; omega
  | ⟨1, _⟩ => show win0_13.index t 1 * 4096 + 1 * (j 1).val = (j 1).val; rw [hi.2]; omega

theorem ib14 (c : Dev nD) (t : Fin cfg0.N) : (iblk m c 14 t : Vec Ideal S4096x1024 .bf16) = V m c main_v15 := by
  have hi := (by decide +kernel : ∀ t : Fin grid0.N, win0_14.index t 0 = 0 ∧ win0_14.index t 1 = 0) t
  funext j
  unfold iblk
  rw [View.read_apply]
  show V m c main_v15 _ = V m c main_v15 _
  congr 1
  funext a
  apply Fin.ext
  match a with
  | ⟨0, _⟩ => show win0_14.index t 0 * 4096 + 1 * (j 0).val = (j 0).val; rw [hi.1]; omega
  | ⟨1, _⟩ => show win0_14.index t 1 * 1024 + 1 * (j 1).val = (j 1).val; rw [hi.2]; omega

theorem vw9 (c : Dev nD) (k : Fin 512) (e : Fin 1024) : (V m c main_v7 : Vec Ideal S512x1024 .bf16) (ix2 k e) = m ((c : Thread nD τ).loc main_arg9) (ix3 0 k e) := by
  have h : (V m c main_v7 : Vec Ideal S512x1024 .bf16) = truncf .bf16 (shapeCast S512x1024 (m ((c : Thread nD τ).loc main_arg9) : Vec Ideal S1x512x1024 .f32) shapeCasts_S1x512x1024_S512x1024 : FVec Ideal S512x1024 .f32) bitsLt_bf16_f32 := by
    show StableHlo.after hostOps0 (fun b => m (c, b)) (main_v7 : DevRef τ sig) = _
    after_results
    rfl
  rw [h, truncf_apply]
  exact shapeCast_1ab_ab_apply _ _ _ _

theorem vw10 (c : Dev nD) (k : Fin 512) (e : Fin 1024) : (V m c main_v9 : Vec Ideal S512x1024 .bf16) (ix2 k e) = m ((c : Thread nD τ).loc main_arg10) (ix3 0 k e) := by
  have h : (V m c main_v9 : Vec Ideal S512x1024 .bf16) = truncf .bf16 (shapeCast S512x1024 (m ((c : Thread nD τ).loc main_arg10) : Vec Ideal S1x512x1024 .f32) shapeCasts_S1x512x1024_S512x1024 : FVec Ideal S512x1024 .f32) bitsLt_bf16_f32 := by
    show StableHlo.after hostOps0 (fun b => m (c, b)) (main_v9 : DevRef τ sig) = _
    after_results
    rfl
  rw [h, truncf_apply]
  exact shapeCast_1ab_ab_apply _ _ _ _

theorem vw11 (c : Dev nD) (k : Fin 1024) (e : Fin 1024) : (V m c main_v11 : Vec Ideal S1024x1024 .bf16) (ix2 k e) = m ((c : Thread nD τ).loc main_arg11) (ix3 0 k e) := by
  have h : (V m c main_v11 : Vec Ideal S1024x1024 .bf16) = truncf .bf16 (shapeCast S1024x1024 (m ((c : Thread nD τ).loc main_arg11) : Vec Ideal S1x1024x1024 .f32) shapeCasts_S1x1024x1024_S1024x1024 : FVec Ideal S1024x1024 .f32) bitsLt_bf16_f32 := by
    show StableHlo.after hostOps0 (fun b => m (c, b)) (main_v11 : DevRef τ sig) = _
    after_results
    rfl
  rw [h, truncf_apply]
  exact shapeCast_1ab_ab_apply _ _ _ _

theorem vw13 (c : Dev nD) (k : Fin 1024) (e : Fin 4096) : (V m c main_v13 : Vec Ideal S1024x4096 .bf16) (ix2 k e) = m ((c : Thread nD τ).loc main_arg13) (ix3 0 k e) := by
  have h : (V m c main_v13 : Vec Ideal S1024x4096 .bf16) = truncf .bf16 (shapeCast S1024x4096 (m ((c : Thread nD τ).loc main_arg13) : Vec Ideal S1x1024x4096 .f32) shapeCasts_S1x1024x4096_S1024x4096 : FVec Ideal S1024x4096 .f32) bitsLt_bf16_f32 := by
    show StableHlo.after hostOps0 (fun b => m (c, b)) (main_v13 : DevRef τ sig) = _
    after_results
    rfl
  rw [h, truncf_apply]
  exact shapeCast_1ab_ab_apply _ _ _ _

theorem vw14 (c : Dev nD) (k : Fin 4096) (e : Fin 1024) : (V m c main_v15 : Vec Ideal S4096x1024 .bf16) (ix2 k e) = m ((c : Thread nD τ).loc main_arg14) (ix3 0 k e) := by
  have h : (V m c main_v15 : Vec Ideal S4096x1024 .bf16) = truncf .bf16 (shapeCast S4096x1024 (m ((c : Thread nD τ).loc main_arg14) : Vec Ideal S1x4096x1024 .f32) shapeCasts_S1x4096x1024_S4096x1024 : FVec Ideal S4096x1024 .f32) bitsLt_bf16_f32 := by
    show StableHlo.after hostOps0 (fun b => m (c, b)) (main_v15 : DevRef τ sig) = _
    after_results
    rfl
  rw [h, truncf_apply]
  exact shapeCast_1ab_ab_apply _ _ _ _

theorem vw7 (c : Dev nD) (g : Fin 8) (p q : Fin 128) : (V m c main_v5 : Vec Ideal S8x128x128 .bf16) (ix3 g p q) = m ((c : Thread nD τ).loc main_arg7) (ix4 0 g p q) := by
  have h : (V m c main_v5 : Vec Ideal S8x128x128 .bf16) = truncf .bf16 (shapeCast S8x128x128 (m ((c : Thread nD τ).loc main_arg7) : Vec Ideal S1x8x128x128 .f32) shapeCasts_S1x8x128x128_S8x128x128 : FVec Ideal S8x128x128 .f32) bitsLt_bf16_f32 := by
    show StableHlo.after hostOps0 (fun b => m (c, b)) (main_v5 : DevRef τ sig) = _
    show StableHlo.after hostOps0 (fun b => m (c, b)) (main_v5 : DevRef τ sig) = _
    after_results
    rfl
  rw [h, truncf_apply]
  exact shapeCast_1abc_abc_apply _ _ _ _ _

theorem vw8 (c : Dev nD) (p : Fin 128) (k : Fin 512) : (V m c main_v3 : Vec Ideal S128x512 .f32) (ix2 p k) = m ((c : Thread nD τ).loc main_arg8) (ix3 0 ⟨k.val / 64, by omega⟩ p) := by
  have h : (V m c main_v3 : Vec Ideal S128x512 .f32) = shapeCast S128x512 (broadcastInDim S128x8x64 ![0, 1] bcast_S128x8_S128x8x64_0_1
      (transpose S128x8 [1, 0] (shapeCast S8x128 (m ((c : Thread nD τ).loc main_arg8) : Vec Ideal S1x8x128 .f32) shapeCasts_S1x8x128_S8x128) transposes_S8x128_S128x8_1_0)) shapeCasts_S128x8x64_S128x512 := by
    show StableHlo.after hostOps0 (fun b => m (c, b)) (main_v3 : DevRef τ sig) = _
    after_results
    rfl
  rw [h, shapeCast_apply _ _ (ix2 p k) (ix3 p ⟨k.val / 64, by omega⟩ ⟨k.val % 64, by omega⟩) (by
    rw [Shape.rowMajor_val_three, Shape.rowMajor_val_two]
    show (p.val * 8 + k.val / 64) * 64 + k.val % 64 = p.val * 512 + k.val
    omega)]
  rw [broadcastInDim_apply _ _ _ (ix3 p ⟨k.val / 64, by omega⟩ ⟨k.val % 64, by omega⟩) (ix2 p ⟨k.val / 64, by omega⟩) fun a => match a with
    | ⟨0, _⟩ => rfl
    | ⟨1, _⟩ => rfl]
  rw [transpose_apply _ _ _ (ix2 p ⟨k.val / 64, by omega⟩) (ix2 ⟨k.val / 64, by omega⟩ p) fun a => match a with
    | ⟨0, _⟩ => rfl
    | ⟨1, _⟩ => rfl]
  exact shapeCast_1ab_ab_apply _ _ _ _

/-- The mixing matrix of group `g`, as the body loads it. -/
theorem ld_g (x : Vec Ideal S8x128x128 .bf16) (g : Fin 8) (inb) (p q : Fin 128) :
    View.ld x (Rect.unit (s := S8x128x128) ![g.val, 0, 0] S1x128x128.size inb) (ix3 0 p q) = x (ix3 g p q) := by
  show x _ = x _
  congr 1
  funext a
  apply Fin.ext
  match a with
  | ⟨0, _⟩ => show g.val + 1 * 0 = g.val; omega
  | ⟨1, _⟩ => show 0 + 1 * p.val = p.val; omega
  | ⟨2, _⟩ => show 0 + 1 * q.val = q.val; omega

/-! Loads of whole blocks. -/

theorem ld0 (X : Vec Ideal S1x6x1024 .f32) : View.ld X r0_0 = X := View.ld_unit_zero hz3 _ X
theorem ld1 (X : Vec Ideal S1x512x512 .bf16) : View.ld X r0_1 = X := View.ld_unit_zero hz3 _ X
theorem ld10 (X : Vec Ideal S128x512 .f32) : View.ld X r0_10 = X := View.ld_unit_zero hz2 _ X
theorem ld11 {e : EltTy} (X : Vec Ideal S1x512x1024 e) : View.ld X r0_11 = X := View.ld_unit_zero hz3 _ X
theorem ld12 (X : Vec Ideal S512x1024 .bf16) : View.ld X r0_12 = X := View.ld_unit_zero hz2 _ X
theorem ld13 (X : Vec Ideal S1024x1024 .bf16) : View.ld X r0_13 = X := View.ld_unit_zero hz2 _ X
theorem ld14 (X : Vec Ideal S1x1024 .f32) : View.ld X r0_14 = X := View.ld_unit_zero hz2 _ X
theorem ld15 (X : Vec Ideal S1024x4096 .bf16) : View.ld X r0_15 = X := View.ld_unit_zero hz2 _ X
theorem ld16 (X : Vec Ideal S4096x1024 .bf16) : View.ld X r0_16 = X := View.ld_unit_zero hz2 _ X

variable (c : Dev nD)

/-- The output row of a token over the launch's arguments. -/
abbrev rowM (b : Fin 4) (n : Fin 8192) : Row :=
  argRow (m ((c : Thread nD τ).loc main_arg0)) (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6)) (m ((c : Thread nD τ).loc main_arg7))
    (m ((c : Thread nD τ).loc main_arg8)) (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) b n

theorem mix_arg (t : Fin cfg0.N) (r k : Fin 512) (W : Fin 8 → Vec Ideal S1x128x128 .bf16) (hW : ∀ g p q, W g (ix3 0 p q) = m ((c : Thread nD τ).loc main_arg7) (ix4 0 g p q))
    (P4 : Vec Ideal S1x512x512 .bf16) (h4 : ∀ r e, P4 (ix3 0 r e) = m ((c : Thread nD τ).loc main_arg4) (ix3 (bOf t) (nOf t r) e))
    (b : Vec Ideal S128x512 .f32) (hb : ∀ (p : Fin 128) (k : Fin 512), b (ix2 p k) = m ((c : Thread nD τ).loc main_arg8) (ix3 0 ⟨k.val / 64, by omega⟩ p)) :
    mix W (k0_pay8 P4) b r k = (rowM m c (bOf t) (nOf t r)).sp k := by
  have e1 : (⟨r.val % 128, by omega⟩ : Fin 128) = ⟨(nOf t r).val % 128, by omega⟩ := Fin.ext (show r.val % 128 = (512 * (t.val % 16) + r.val) % 128 by omega)
  unfold mix mixAt
  rw [hb, e1]
  refine congrArg (· + _) (Finset.sum_congr rfl fun q _ => ?_)
  rw [hW]
  refine congrArg (HMul.hMul (α := EReal) (β := EReal) _) ?_
  refine (shapeCast_1ab_ab_apply _ _ _ _).trans ((h4 _ _).trans ?_)
  refine congrArg (fun n => m ((c : Thread nD τ).loc main_arg4) (ix3 (bOf t) n k)) (Fin.ext ?_)
  show 512 * (t.val % 16) + (128 * (r.val / 128) + q.val) = 128 * ((512 * (t.val % 16) + r.val) / 128) + q.val
  omega

/-- The rows of a token of a tile, when each value loaded is its part of its argument. -/
theorem rowOf_arg (t : Fin cfg0.N) (r : Fin 512)
    (P0 : Vec Ideal S1x6x1024 .f32) (P1 : Vec Ideal S1x512x1024 .bf16) (P2 : Vec Ideal S1x512x512 .bf16) (P3 : Vec Ideal S512x1024 .bf16) (W : Fin 8 → Vec Ideal S1x128x128 .bf16)
    (P4 : Vec Ideal S1x512x512 .bf16) (b : Vec Ideal S128x512 .f32) (P14 : Vec Ideal S1x512x512 .bf16) (P15 : Vec Ideal S1x512x1024 .bf16) (P16 : Vec Ideal S512x1024 .bf16)
    (P17 : Vec Ideal S1x512x1024 .f32) (P18 : Vec Ideal S1024x1024 .bf16) (P19 : Vec Ideal S1x1024 .f32) (P20 : Vec Ideal S1024x4096 .bf16) (P21 : Vec Ideal S4096x1024 .bf16)
    (h0 : ∀ (j : Fin 6) e, P0 (ix3 0 j e) = m ((c : Thread nD τ).loc main_arg1) (ix3 ⟨(bOf t).val, by omega⟩ j e))
    (h1 : ∀ r e, P1 (ix3 0 r e) = m ((c : Thread nD τ).loc main_arg5) (ix3 (bOf t) (nOf t r) e))
    (h2 : ∀ r e, P2 (ix3 0 r e) = m ((c : Thread nD τ).loc main_arg2) (ix3 (bOf t) (nOf t r) e))
    (h3 : ∀ k e, P3 (ix2 k e) = m ((c : Thread nD τ).loc main_arg9) (ix3 0 k e))
    (hW : ∀ g p q, W g (ix3 0 p q) = m ((c : Thread nD τ).loc main_arg7) (ix4 0 g p q))
    (h4 : ∀ r e, P4 (ix3 0 r e) = m ((c : Thread nD τ).loc main_arg4) (ix3 (bOf t) (nOf t r) e))
    (hb : ∀ (p : Fin 128) (k : Fin 512), b (ix2 p k) = m ((c : Thread nD τ).loc main_arg8) (ix3 0 ⟨k.val / 64, by omega⟩ p))
    (h14 : ∀ r e, P14 (ix3 0 r e) = m ((c : Thread nD τ).loc main_arg3) (ix3 (bOf t) (nOf t r) e))
    (h15 : ∀ r e, P15 (ix3 0 r e) = m ((c : Thread nD τ).loc main_arg6) (ix3 (bOf t) (nOf t r) e))
    (h16 : ∀ k e, P16 (ix2 k e) = m ((c : Thread nD τ).loc main_arg10) (ix3 0 k e))
    (h17 : ∀ r e, P17 (ix3 0 r e) = m ((c : Thread nD τ).loc main_arg0) (ix3 (bOf t) (nOf t r) e))
    (h18 : ∀ k e, P18 (ix2 k e) = m ((c : Thread nD τ).loc main_arg11) (ix3 0 k e))
    (h19 : ∀ e, P19 (ix2 0 e) = m ((c : Thread nD τ).loc main_arg12) (ix2 0 e))
    (h20 : ∀ k e, P20 (ix2 k e) = m ((c : Thread nD τ).loc main_arg13) (ix3 0 k e))
    (h21 : ∀ k e, P21 (ix2 k e) = m ((c : Thread nD τ).loc main_arg14) (ix3 0 k e)) :
    rowOf b P4 P0 P1 P2 P3 W P14 P15 P16 P17 P18 P19 P20 P21 r = rowM m c (bOf t) (nOf t r) := by
  apply Row.ext
  · exact funext fun e => h17 r e
  · exact funext fun e => h0 2 e
  · exact funext fun e => h0 3 e
  · exact funext fun e => h0 4 e
  · exact funext fun e => h0 5 e
  · exact funext fun e => h2 r e
  · exact funext fun e => h14 r e
  · exact funext fun k => mix_arg m c t r k W hW P4 h4 b hb
  · exact funext fun e => h1 r e
  · exact funext fun e => h15 r e
  · exact funext fun k => funext fun e => h3 k e
  · exact funext fun k => funext fun e => h16 k e
  · exact funext fun k => funext fun e => h18 k e
  · exact funext fun e => h19 e
  · exact funext fun k => funext fun e => h20 k e
  · exact funext fun k => funext fun e => h21 k e

/-- The eight mixing matrices the body loads. -/
theorem ld_w (x : Vec Ideal S8x128x128 .bf16) (g : Fin 8) (p q : Fin 128) :
    (![View.ld x r0_2, View.ld x r0_3, View.ld x r0_4, View.ld x r0_5, View.ld x r0_6, View.ld x r0_7, View.ld x r0_8, View.ld x r0_9] : Fin 8 → Vec Ideal S1x128x128 .bf16) g (ix3 0 p q)
      = x (ix3 g p q) :=
  match g with
  | ⟨0, _⟩ => ld_g x 0 inb_S8x128x128_S1x128x128_0_0_0 p q
  | ⟨1, _⟩ => ld_g x 1 inb_S8x128x128_S1x128x128_1_0_0 p q
  | ⟨2, _⟩ => ld_g x 2 inb_S8x128x128_S1x128x128_2_0_0 p q
  | ⟨3, _⟩ => ld_g x 3 inb_S8x128x128_S1x128x128_3_0_0 p q
  | ⟨4, _⟩ => ld_g x 4 inb_S8x128x128_S1x128x128_4_0_0 p q
  | ⟨5, _⟩ => ld_g x 5 inb_S8x128x128_S1x128x128_5_0_0 p q
  | ⟨6, _⟩ => ld_g x 6 inb_S8x128x128_S1x128x128_6_0_0 p q
  | ⟨7, _⟩ => ld_g x 7 inb_S8x128x128_S1x128x128_7_0_0 p q

/-- What a grid point leaves in its tile. -/
theorem out_row (t : Fin cfg0.N) (r : Fin 512) (e : Fin 1024) :
    out0_15 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix3 0 r e)
      = (rowM m c (bOf t) (nOf t r)).out e := by
  unfold_out out0_15
  refine (Value.canon15_eq _ _ _ _ _ _ _ _ _ _ _ _ _ _ _ _ _ _ _ _ _ _ _).trans ?_
  refine (tile_apply _ _ _ _ _ _ _ _ _ _ _ _ _ _ _ _ _ _ _ _ _ _ r e).trans ?_
  refine congrArg (fun R : Row => R.out e) (rowOf_arg m c t r _ _ _ _ _ _ _ _ _ _ _ _ _ _ _ ?_ ?_ ?_ ?_ ?_ ?_ ?_ ?_ ?_ ?_ ?_ ?_ ?_ ?_ ?_)
  · exact fun j e => (congrFun (ld0 _) _).trans (ib1 m c t j e)
  · exact fun r e => (congrFun (ld11 _) _).trans (ib5 m c t r e)
  · exact fun r e => (congrFun (ld1 _) _).trans (ib2 m c t r e)
  · exact fun k e => (congrFun (ld12 _) _).trans ((congrFun (ib9 m c t) _).trans (vw9 m c k e))
  · exact fun g p q => (ld_w _ g p q).trans ((congrFun (ib7 m c t) _).trans (vw7 m c g p q))
  · exact fun r e => (congrFun (ld1 _) _).trans (ib4 m c t r e)
  · exact fun p k => (congrFun (ld10 _) _).trans ((congrFun (ib8 m c t) _).trans (vw8 m c p k))
  · exact fun r e => (congrFun (ld1 _) _).trans (ib3 m c t r e)
  · exact fun r e => (congrFun (ld11 _) _).trans (ib6 m c t r e)
  · exact fun k e => (congrFun (ld12 _) _).trans ((congrFun (ib10 m c t) _).trans (vw10 m c k e))
  · exact fun r e => (congrFun (ld11 _) _).trans (ib0 m c t r e)
  · exact fun k e => (congrFun (ld13 _) _).trans ((congrFun (ib11 m c t) _).trans (vw11 m c k e))
  · exact fun e => (congrFun (ld14 _) _).trans ((congrFun (ib12 m c t) _).trans (congrFun (V_main_arg12 m c) _))
  · exact fun k e => (congrFun (ld15 _) _).trans ((congrFun (ib13 m c t) _).trans (vw13 m c k e))
  · exact fun k e => (congrFun (ld16 _) _).trans ((congrFun (ib14 m c t) _).trans (vw14 m c k e))

/-- The result array: every token's output row. -/
def G : Buf (Elt Ideal) ((c : Thread nD τ).loc main_v16) := fun (i : S4x8192x1024.Idx) => (rowM m c (i 0) (i 1)).out (i 2)

theorem flushed_eq (t : Fin cfg0.N) : (dats m 0 c).flushed 15 t = ((cfg0.win 15).blk t).view.read (Elt Ideal) (G m c) := by
  have hi := (by decide +kernel : ∀ t : Fin grid0.N, win0_15.index t 0 = t.val / 16 ∧ win0_15.index t 1 = t.val % 16 ∧ win0_15.index t 2 = 0) t
  rw [Value.flushed15]
  funext (y : S1x512x1024.Idx)
  rw [View.read_apply]
  have ey : y = ix3 0 (y 1) (y 2) := by
    funext a
    match a with
    | ⟨0, _⟩ => exact Subsingleton.elim (α := Fin 1) _ _
    | ⟨1, _⟩ => rfl
    | ⟨2, _⟩ => rfl
  obtain ⟨r, k, hy⟩ : ∃ (r : Fin 512) (k : Fin 1024), y = ix3 0 r k := ⟨y 1, y 2, ey⟩
  clear ey
  subst hy
  have key : ∀ (i : S4x8192x1024.Idx), i 0 = bOf t → i 1 = nOf t r → i 2 = k → (rowM m c (bOf t) (nOf t r)).out k = G m c i := by
    intro i h0 h1 h2
    show _ = (rowM m c (i 0) (i 1)).out (i 2)
    rw [h0, h1, h2]
  have e := out_row m c t r k
  refine Eq.trans e (key _ ?_ ?_ ?_)
  · refine Fin.ext ?_
    show win0_15.index t 0 * 1 + 1 * 0 = t.val / 16
    rw [hi.1]
    omega
  · refine Fin.ext ?_
    show win0_15.index t 1 * 512 + 1 * r.val = 512 * (t.val % 16) + r.val
    rw [hi.2.1]
    omega
  · refine Fin.ext ?_
    show win0_15.index t 2 * 1024 + 1 * k.val = k.val
    rw [hi.2.2]
    omega

/-- Every index of the result array lies in some tile. -/
theorem cover (i : S4x8192x1024.Idx) : ∃ t : Fin cfg0.N, (cfg0.win 15).flush t = true ∧ i ∈ ((cfg0.win 15).blk t).view.set := by
  have h0 : (i 0).val < 4 := (i 0).isLt
  have h1 : (i 1).val < 8192 := (i 1).isLt
  have h2 : (i 2).val < 1024 := (i 2).isLt
  have ht : 16 * (i 0).val + (i 1).val / 512 < 64 := by omega
  refine ⟨⟨16 * (i 0).val + (i 1).val / 512, ht⟩, flush0_15 _, ?_⟩
  have hi := (by decide +kernel : ∀ t : Fin grid0.N, (win0_15.index t 0 = t.val / 16 ∧ win0_15.index t 1 = t.val % 16 ∧ win0_15.index t 2 = 0)
    ∧ ∀ a, win0_15.xsize (grid0.coords t) a = win0_15.size a) ⟨16 * (i 0).val + (i 1).val / 512, ht⟩
  show i ∈ ((View.whole main_v16).slice (win0_15.rect (⟨16 * (i 0).val + (i 1).val / 512, ht⟩ : Fin grid0.N))).set
  rw [View.set_slice_whole, Rect.mem_set_unit]
  intro a
  show win0_15.index _ a * win0_15.size a ≤ (i a : Nat) ∧ (i a : Nat) < win0_15.index _ a * win0_15.size a + win0_15.xsize (grid0.coords _) a
  rw [hi.2]
  match a with
  | ⟨0, _⟩ =>
    show win0_15.index _ 0 * 1 ≤ (i 0).val ∧ (i 0).val < win0_15.index _ 0 * 1 + 1
    rw [hi.1.1]
    show (16 * (i 0).val + (i 1).val / 512) / 16 * 1 ≤ (i 0).val ∧ (i 0).val < (16 * (i 0).val + (i 1).val / 512) / 16 * 1 + 1
    omega
  | ⟨1, _⟩ =>
    show win0_15.index _ 1 * 512 ≤ (i 1).val ∧ (i 1).val < win0_15.index _ 1 * 512 + 512
    rw [hi.1.2.1]
    show (16 * (i 0).val + (i 1).val / 512) % 16 * 512 ≤ (i 1).val ∧ (i 1).val < (16 * (i 0).val + (i 1).val / 512) % 16 * 512 + 512
    omega
  | ⟨2, _⟩ =>
    show win0_15.index _ 2 * 1024 ≤ (i 2).val ∧ (i 2).val < win0_15.index _ 2 * 1024 + 1024
    rw [hi.1.2.2]
    omega

theorem final : (dats m 0 c).arrAt 15 cfg0.N = G m c :=
  (dats m 0 c).arrAt_eq_of_cover 15 (G m c) (fun t _ => flushed_eq m c t) cover

end Cert.Proof.Post
end
-- ==== Proof.Post.Ref.lean ====
module

public import proofs.«01_k».proof.Proof.Post.Array
public import proofs.«01_k».proof.Proof.Gen.Reference2Ideal.Read

@[expose] public section

set_option maxRecDepth 16384

noncomputable section

/-! The reference's result, as the output row of every token over its arguments. -/

namespace Cert.Proof.Post

open Cert.Reference2Ideal Cert.Reference2Ideal.Read
open Idealize.ShloMosaic hiding ix1 ix2 ix3 ix4 ix5
open Idealize.ShloMosaic.ValueIdx Idealize.ShloMosaic.TcCoe

namespace Ref

variable (x0 : (⟨S4x8192x1024, .f32⟩ : BufTy).Contents (Elt Ideal)) (x1 : (⟨S8x6x1024, .f32⟩ : BufTy).Contents (Elt Ideal)) (x2 : (⟨S4x8192x512, .bf16⟩ : BufTy).Contents (Elt Ideal)) (x3 : (⟨S4x8192x512, .bf16⟩ : BufTy).Contents (Elt Ideal)) (x4 : (⟨S4x8192x512, .bf16⟩ : BufTy).Contents (Elt Ideal)) (x5 : (⟨S4x8192x1024, .bf16⟩ : BufTy).Contents (Elt Ideal)) (x6 : (⟨S4x8192x1024, .bf16⟩ : BufTy).Contents (Elt Ideal)) (x7 : (⟨S1x8x128x128, .f32⟩ : BufTy).Contents (Elt Ideal)) (x8 : (⟨S1x8x128, .f32⟩ : BufTy).Contents (Elt Ideal)) (x9 : (⟨S1x512x1024, .f32⟩ : BufTy).Contents (Elt Ideal)) (x10 : (⟨S1x512x1024, .f32⟩ : BufTy).Contents (Elt Ideal)) (x11 : (⟨S1x1024x1024, .f32⟩ : BufTy).Contents (Elt Ideal)) (x12 : (⟨S1x1024, .f32⟩ : BufTy).Contents (Elt Ideal)) (x13 : (⟨S1x1024x4096, .f32⟩ : BufTy).Contents (Elt Ideal)) (x14 : (⟨S1x4096x1024, .f32⟩ : BufTy).Contents (Elt Ideal))

/-! The weights without their unit axis. -/

theorem w26 (k : Fin 512) (e : Fin 1024) : val_main_v26 (F := Ideal) x9 (ix2 k e) = x9 (ix3 0 k e) := by
  rw [val_main_v26_apply, (show idx_main_v26 (ix2 k e) = ix3 0 k e from by
    funext a
    match a with
    | ⟨0, _⟩ => rfl
    | ⟨1, _⟩ => exact Fin.ext (by show (k.val * 1024 + e.val) / 1024 % 512 = k.val; omega)
    | ⟨2, _⟩ => exact Fin.ext (by show (k.val * 1024 + e.val) % 1024 = e.val; omega))]

theorem w36 (k : Fin 512) (e : Fin 1024) : val_main_v36 (F := Ideal) x10 (ix2 k e) = x10 (ix3 0 k e) := by
  rw [val_main_v36_apply, (show idx_main_v36 (ix2 k e) = ix3 0 k e from by
    funext a
    match a with
    | ⟨0, _⟩ => rfl
    | ⟨1, _⟩ => exact Fin.ext (by show (k.val * 1024 + e.val) / 1024 % 512 = k.val; omega)
    | ⟨2, _⟩ => exact Fin.ext (by show (k.val * 1024 + e.val) % 1024 = e.val; omega))]

theorem w40 (k : Fin 1024) (e : Fin 1024) : val_main_v40 (F := Ideal) x11 (ix2 k e) = x11 (ix3 0 k e) := by
  rw [val_main_v40_apply, (show idx_main_v40 (ix2 k e) = ix3 0 k e from by
    funext a
    match a with
    | ⟨0, _⟩ => rfl
    | ⟨1, _⟩ => exact Fin.ext (by show (k.val * 1024 + e.val) / 1024 % 1024 = k.val; omega)
    | ⟨2, _⟩ => exact Fin.ext (by show (k.val * 1024 + e.val) % 1024 = e.val; omega))]

theorem w65 (k : Fin 1024) (e : Fin 4096) : val_main_v65 (F := Ideal) x13 (ix2 k e) = x13 (ix3 0 k e) := by
  rw [val_main_v65_apply, (show idx_main_v65 (ix2 k e) = ix3 0 k e from by
    funext a
    match a with
    | ⟨0, _⟩ => rfl
    | ⟨1, _⟩ => exact Fin.ext (by show (k.val * 4096 + e.val) / 4096 % 1024 = k.val; omega)
    | ⟨2, _⟩ => exact Fin.ext (by show (k.val * 4096 + e.val) % 4096 = e.val; omega))]

theorem w69 (k : Fin 4096) (e : Fin 1024) : val_main_v69 (F := Ideal) x14 (ix2 k e) = x14 (ix3 0 k e) := by
  rw [val_main_v69_apply, (show idx_main_v69 (ix2 k e) = ix3 0 k e from by
    funext a
    match a with
    | ⟨0, _⟩ => rfl
    | ⟨1, _⟩ => exact Fin.ext (by show (k.val * 1024 + e.val) / 1024 % 4096 = k.val; omega)
    | ⟨2, _⟩ => exact Fin.ext (by show (k.val * 1024 + e.val) % 1024 = e.val; omega))]

/-! The modulation rows, for every token. -/

theorem m42 (b : Fin 4) (n : Fin 8192) (e : Fin 1024) : val_main_v42 (F := Ideal) x1 (ix3 b n e) = x1 (ix3 ⟨b.val, by omega⟩ 2 e) := by
  rw [val_main_v42_apply, val_main_v0_apply]
  congr 1
  funext a
  match a with
  | ⟨0, _⟩ => rfl
  | ⟨1, _⟩ => rfl
  | ⟨2, _⟩ => rfl

theorem m63 (b : Fin 4) (n : Fin 8192) (e : Fin 1024) : val_main_v63 (F := Ideal) x1 (ix3 b n e) = x1 (ix3 ⟨b.val, by omega⟩ 3 e) := by
  rw [val_main_v63_apply, val_main_v1_apply]
  congr 1
  funext a
  match a with
  | ⟨0, _⟩ => rfl
  | ⟨1, _⟩ => rfl
  | ⟨2, _⟩ => rfl

theorem m71 (b : Fin 4) (n : Fin 8192) (e : Fin 1024) : val_main_v71 (F := Ideal) x1 (ix3 b n e) = x1 (ix3 ⟨b.val, by omega⟩ 5 e) := by
  rw [val_main_v71_apply, val_main_v3_apply]
  congr 1
  funext a
  match a with
  | ⟨0, _⟩ => rfl
  | ⟨1, _⟩ => rfl
  | ⟨2, _⟩ => rfl

theorem m61 (b : Fin 4) (n : Fin 8192) (e : Fin 1024) : val_main_v61 (F := Ideal) x1 (ix3 b n e) = one + x1 (ix3 ⟨b.val, by omega⟩ 4 e) := by
  rw [val_main_v61_apply, val_main_v60_apply, val_main_v59_apply, val_main_v2_apply]
  refine congrArg (one + x1 ·) ?_
  funext a
  match a with
  | ⟨0, _⟩ => rfl
  | ⟨1, _⟩ => rfl
  | ⟨2, _⟩ => rfl

theorem n57 (b : Fin 4) (n : Fin 8192) (e : Fin 1024) : val_main_v57 (F := Ideal) x12 (ix3 b n e) = x12 (ix2 0 e) := by
  rw [val_main_v57_apply, val_main_v56_apply, val_main_v55_apply]
  congr 1
  funext a
  match a with
  | ⟨0, _⟩ => rfl
  | ⟨1, _⟩ => exact Fin.ext (Nat.mod_eq_of_lt e.isLt)

/-! The gates. -/

theorem g24 (i : S4x8192x1024.Idx) : val_main_v24 (F := Ideal) x5 i = sg (x5 i) := by
  rw [val_main_v24_apply, val_main_v23_apply, val_main_v22_apply, val_main_v21_apply, val_main_v20_apply, val_main_v19_apply, val_main_v18_apply]
  rfl

theorem g35 (i : S4x8192x1024.Idx) : val_main_v35 (F := Ideal) x6 i = sg (x6 i) := by
  rw [val_main_v35_apply, val_main_v34_apply, val_main_v33_apply, val_main_v32_apply, val_main_v31_apply, val_main_v30_apply, val_main_v29_apply]
  rfl

/-- The spatial mix. -/
theorem sp_eq (b : Fin 4) (n : Fin 8192) (k : Fin 512) : val_main_v16 (F := Ideal) x4 x7 x8 (ix3 b n k) = (argRow x0 x1 x2 x3 x4 x5 x6 x7 x8 x9 x10 x11 x12 x13 x14 b n).sp k := by
  rw [val_main_v16_apply, (show idx_main_v16 (ix3 b n k) = ix5 b ⟨n.val / 128, by omega⟩ ⟨n.val % 128, by omega⟩ ⟨k.val / 64, by omega⟩ ⟨k.val % 64, by omega⟩ from by
    funext a
    match a with
    | ⟨0, _⟩ => exact Fin.ext (by show ((b.val * 8192 + n.val) * 512 + k.val) / 4194304 = b.val; omega)
    | ⟨1, _⟩ => exact Fin.ext (by show ((b.val * 8192 + n.val) * 512 + k.val) / 65536 % 64 = n.val / 128; omega)
    | ⟨2, _⟩ => exact Fin.ext (by show ((b.val * 8192 + n.val) * 512 + k.val) / 512 % 128 = n.val % 128; omega)
    | ⟨3, _⟩ => exact Fin.ext (by show ((b.val * 8192 + n.val) * 512 + k.val) / 64 % 8 = k.val / 64; omega)
    | ⟨4, _⟩ => exact Fin.ext (by show ((b.val * 8192 + n.val) * 512 + k.val) % 64 = k.val % 64; omega)),
    val_main_v14_apply, val_main_v8_apply, (show idx_main_v8 (ix5 b (⟨n.val / 128, by omega⟩ : Fin 64) (⟨n.val % 128, by omega⟩ : Fin 128) (⟨k.val / 64, by omega⟩ : Fin 8) (⟨k.val % 64, by omega⟩ : Fin 64)) = ix5 ⟨k.val / 64, by omega⟩ b ⟨n.val / 128, by omega⟩ ⟨k.val % 64, by omega⟩ ⟨n.val % 128, by omega⟩ from by
    funext a
    match a with
    | ⟨0, _⟩ => rfl
    | ⟨1, _⟩ => rfl
    | ⟨2, _⟩ => rfl
    | ⟨3, _⟩ => rfl
    | ⟨4, _⟩ => rfl),
    val_main_v7_apply, val_main_v13_apply, val_main_v12_apply, val_main_v11_apply, val_main_v10_apply, val_main_v9_apply]
  refine congrArg₂ (· + ·) (Finset.sum_congr rfl fun q _ => ?_) ?_
  · rw [mul_comm, val_main_v5_apply, val_main_v6_apply, val_main_v4_apply]
    refine congrArg₂ (HMul.hMul (α := EReal) (β := EReal)) (congrArg x7 ?_) (congrArg x4 ?_)
    · funext a
      match a with
      | ⟨0, _⟩ => rfl
      | ⟨1, _⟩ => exact Fin.ext (by show ((k.val / 64 * 128 + n.val % 128) * 128 + q.val) / 16384 % 8 = k.val / 64; omega)
      | ⟨2, _⟩ => exact Fin.ext (by show ((k.val / 64 * 128 + n.val % 128) * 128 + q.val) / 128 % 128 = n.val % 128; omega)
      | ⟨3, _⟩ => exact Fin.ext (by show ((k.val / 64 * 128 + n.val % 128) * 128 + q.val) % 128 = q.val; omega)
    · funext a
      match a with
      | ⟨0, _⟩ => exact Fin.ext (by show ((((b.val * 64 + n.val / 128) * 128 + q.val) * 8 + k.val / 64) * 64 + k.val % 64) / 4194304 = b.val; omega)
      | ⟨1, _⟩ => exact Fin.ext (by show ((((b.val * 64 + n.val / 128) * 128 + q.val) * 8 + k.val / 64) * 64 + k.val % 64) / 512 % 8192 = 128 * (n.val / 128) + q.val; omega)
      | ⟨2, _⟩ => exact Fin.ext (by show ((((b.val * 64 + n.val / 128) * 128 + q.val) * 8 + k.val / 64) * 64 + k.val % 64) % 512 = k.val; omega)
  · refine congrArg x8 ?_
    funext a
    match a with
    | ⟨0, _⟩ => rfl
    | ⟨1, _⟩ => exact Fin.ext (by show (k.val / 64 * 128 + n.val % 128) / 128 % 8 = k.val / 64; omega)
    | ⟨2, _⟩ => exact Fin.ext (by show (k.val / 64 * 128 + n.val % 128) % 128 = n.val % 128; omega)

/-- The gated sum of the branches. -/
theorem y_eq (b : Fin 4) (n : Fin 8192) (e : Fin 1024) : val_main_v39 (F := Ideal) x2 x3 x4 x5 x6 x7 x8 x9 x10 (ix3 b n e) = (argRow x0 x1 x2 x3 x4 x5 x6 x7 x8 x9 x10 x11 x12 x13 x14 b n).y e := by
  rw [val_main_v39_apply, val_main_v28_apply, val_main_v38_apply, g24, g35, val_main_v27_apply, val_main_v37_apply]
  refine congrArg₂ (HAdd.hAdd (α := EReal) (β := EReal)) (congrArg (HMul.hMul (α := EReal) (β := EReal) _) (Finset.sum_congr rfl fun k _ => ?_)) (congrArg (HMul.hMul (α := EReal) (β := EReal) _) (Finset.sum_congr rfl fun k _ => ?_))
  · rw [(show lidx_main_v27 (ix3 b n e) k = ix3 b n k from by
    funext a
    match a with
    | ⟨0, _⟩ => rfl
    | ⟨1, _⟩ => rfl
    | ⟨2, _⟩ => rfl), (show ridx_main_v27 (ix3 b n e) k = ix2 k e from by
    funext a
    match a with
    | ⟨0, _⟩ => rfl
    | ⟨1, _⟩ => rfl), w26, val_main_v25_apply]
    rfl
  · rw [(show lidx_main_v37 (ix3 b n e) k = ix3 b n k from by
    funext a
    match a with
    | ⟨0, _⟩ => rfl
    | ⟨1, _⟩ => rfl
    | ⟨2, _⟩ => rfl), (show ridx_main_v37 (ix3 b n e) k = ix2 k e from by
    funext a
    match a with
    | ⟨0, _⟩ => rfl
    | ⟨1, _⟩ => rfl), w36, val_main_v17_apply, val_main_v15_apply, sp_eq x0 x1 x2 x3 x4 x5 x6 x7 x8 x9 x10 x11 x12 x13 x14]
    rfl

/-- The residual stream after the mixing sub-layer. -/
theorem x1_eq (b : Fin 4) (n : Fin 8192) (e : Fin 1024) : val_main_v44 (F := Ideal) x0 x1 x2 x3 x4 x5 x6 x7 x8 x9 x10 x11 (ix3 b n e) = (argRow x0 x1 x2 x3 x4 x5 x6 x7 x8 x9 x10 x11 x12 x13 x14 b n).x1 e := by
  rw [val_main_v44_apply, val_main_v43_apply, m42, val_main_v41_apply]
  refine congrArg (HAdd.hAdd (α := EReal) (β := EReal) _) (congrArg (HMul.hMul (α := EReal) (β := EReal) _) (Finset.sum_congr rfl fun k _ => ?_))
  rw [(show lidx_main_v41 (ix3 b n e) k = ix3 b n k from by
    funext a
    match a with
    | ⟨0, _⟩ => rfl
    | ⟨1, _⟩ => rfl
    | ⟨2, _⟩ => rfl), (show ridx_main_v41 (ix3 b n e) k = ix2 k e from by
    funext a
    match a with
    | ⟨0, _⟩ => rfl
    | ⟨1, _⟩ => rfl), w40, y_eq x0 x1 x2 x3 x4 x5 x6 x7 x8 x9 x10 x11 x12 x13 x14]
  rfl

/-- The mean square, and its reciprocal root. -/
theorem rs_eq (b : Fin 4) (n : Fin 8192) (e : Fin 1024) : val_main_v53 (F := Ideal) x0 x1 x2 x3 x4 x5 x6 x7 x8 x9 x10 x11 (ix3 b n e)
    = Ideal.rsqrt (Ideal.div (∑ k : Fin 1024, (argRow x0 x1 x2 x3 x4 x5 x6 x7 x8 x9 x10 x11 x12 x13 x14 b n).x1 k * (argRow x0 x1 x2 x3 x4 x5 x6 x7 x8 x9 x10 x11 x12 x13 x14 b n).x1 k) (Ideal.ofBits .f32 0x44800000#32) + Ideal.ofBits .f32 0x358637BD#32) := by
  rw [val_main_v53_apply, val_main_v52_apply, val_main_v51_apply, val_main_v49_apply, val_main_v50_apply, val_main_v48_apply, val_main_v47_apply, val_main_v46_apply]
  have z : ∀ i, (val_main_cst_3 (F := Ideal)) i = 0 := fun _ => Ideal.ofBits_zero_f32
  have s : ∑ k : Fin 1024, val_main_v45 (F := Ideal) x0 x1 x2 x3 x4 x5 x6 x7 x8 x9 x10 x11 (idx_main_v46 (idx_main_v47 (idx_main_v53 (ix3 b n e))) k)
      = ∑ k : Fin 1024, (argRow x0 x1 x2 x3 x4 x5 x6 x7 x8 x9 x10 x11 x12 x13 x14 b n).x1 k * (argRow x0 x1 x2 x3 x4 x5 x6 x7 x8 x9 x10 x11 x12 x13 x14 b n).x1 k := Finset.sum_congr rfl fun k _ => by
    rw [(show idx_main_v46 (idx_main_v47 (idx_main_v53 (ix3 b n e))) k = ix3 b n k from by
    funext a
    match a with
    | ⟨0, _⟩ => rfl
    | ⟨1, _⟩ => rfl
    | ⟨2, _⟩ => rfl), val_main_v45_apply, x1_eq x0 x1 x2 x3 x4 x5 x6 x7 x8 x9 x10 x11 x12 x13 x14]
    rfl
  rw [z, s, zero_add]
  rfl

/-- The modulated normalised stream. -/
theorem h_eq (b : Fin 4) (n : Fin 8192) (e : Fin 1024) : val_main_v64 (F := Ideal) x0 x1 x2 x3 x4 x5 x6 x7 x8 x9 x10 x11 x12 (ix3 b n e) = (argRow x0 x1 x2 x3 x4 x5 x6 x7 x8 x9 x10 x11 x12 x13 x14 b n).h e := by
  rw [val_main_v64_apply, val_main_v62_apply, val_main_v58_apply, val_main_v54_apply, x1_eq x0 x1 x2 x3 x4 x5 x6 x7 x8 x9 x10 x11 x12 x13 x14, rs_eq x0 x1 x2 x3 x4 x5 x6 x7 x8 x9 x10 x11 x12 x13 x14, n57, m61, m63]
  rfl

/-- The hidden layer. -/
theorem act_eq (b : Fin 4) (n : Fin 8192) (f : Fin 4096) : val_main_v67 (F := Ideal) x0 x1 x2 x3 x4 x5 x6 x7 x8 x9 x10 x11 x12 x13 (ix3 b n f) = (argRow x0 x1 x2 x3 x4 x5 x6 x7 x8 x9 x10 x11 x12 x13 x14 b n).act f := by
  rw [val_main_v67_apply, val_main_v66_apply]
  refine congrArg₂ (max : EReal → EReal → EReal) (Finset.sum_congr rfl fun k _ => ?_) Ideal.ofBits_zero_f32
  rw [(show lidx_main_v66 (ix3 b n f) k = ix3 b n k from by
    funext a
    match a with
    | ⟨0, _⟩ => rfl
    | ⟨1, _⟩ => rfl
    | ⟨2, _⟩ => rfl), (show ridx_main_v66 (ix3 b n f) k = ix2 k f from by
    funext a
    match a with
    | ⟨0, _⟩ => rfl
    | ⟨1, _⟩ => rfl), w65, h_eq x0 x1 x2 x3 x4 x5 x6 x7 x8 x9 x10 x11 x12 x13 x14]
  rfl

/-- The reference's result at a token and a column is the token's output row. -/
theorem out_eq (b : Fin 4) (n : Fin 8192) (e : Fin 1024) : val_main_v73 (F := Ideal) x0 x1 x2 x3 x4 x5 x6 x7 x8 x9 x10 x11 x12 x13 x14 (ix3 b n e) = (argRow x0 x1 x2 x3 x4 x5 x6 x7 x8 x9 x10 x11 x12 x13 x14 b n).out e := by
  rw [val_main_v73_apply, val_main_v72_apply, m71, val_main_v70_apply, x1_eq x0 x1 x2 x3 x4 x5 x6 x7 x8 x9 x10 x11 x12 x13 x14]
  refine congrArg (HAdd.hAdd (α := EReal) (β := EReal) _) (congrArg (HMul.hMul (α := EReal) (β := EReal) _) (Finset.sum_congr rfl fun k _ => ?_))
  rw [(show lidx_main_v70 (ix3 b n e) k = ix3 b n k from by
    funext a
    match a with
    | ⟨0, _⟩ => rfl
    | ⟨1, _⟩ => rfl
    | ⟨2, _⟩ => rfl), (show ridx_main_v70 (ix3 b n e) k = ix2 k e from by
    funext a
    match a with
    | ⟨0, _⟩ => rfl
    | ⟨1, _⟩ => rfl), w69, val_main_v68_apply, act_eq x0 x1 x2 x3 x4 x5 x6 x7 x8 x9 x10 x11 x12 x13 x14]
  rfl

end Ref

end Cert.Proof.Post
end
-- ==== Proof.Post.Claims.lean ====
module

public import proofs.«01_k».proof.Defs
public import proofs.«01_k».proof.Proof.Gen.Kernel2.Frame
public import proofs.«01_k».proof.Proof.Gen.Reference2Ideal.Run
public import proofs.«01_k».proof.Proof.Post.Ref
public import Idealize.ShloMosaic.Init

@[expose] public section

set_option maxRecDepth 16384

noncomputable section

/-! The claims about the call after the attention. -/

namespace Cert.Proof.Post

open Idealize.ShloMosaic hiding ix1 ix2 ix3 ix4 ix5
open Idealize.ShloMosaic.ValueIdx Idealize.ShloMosaic.TcCoe Idealize.SL.Sem

/-- The kernel runs, leaves its arguments and ends with every semaphore at zero. -/
theorem frame_p : Cert.quiescent_Kernel2 := fun m ρ _ => Cert.Kernel2.Gen.frame (F := Bits) m ρ

/-- The same of the kernel over the extended reals. -/
theorem frame_pi : Cert.quiescent_Kernel2Ideal := fun m ρ _ => Cert.Kernel2Ideal.Gen.frame (F := Ideal) m ρ

/-- The same of the reference over the extended reals. -/
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over the extended reals the kernel and the reference leave the same result: every entry is the output row of its token. -/
theorem algebraic : Cert.algebraic_Kernel2Ideal_Reference2Ideal := fun m ρ m' ρ' _ hin => by
  refine ⟨fun c => G m c, ?_, ?_⟩
  · exact (θ_run Cert.Kernel2Ideal.defs _ _).mono (fun r h c => ⟨(h c).1.trans (final m c), (h c).2⟩) (Cert.Kernel2Ideal.Value.run_blocks (F := Ideal) m ρ)
  · refine (θ_run Cert.Reference2Ideal.defs _ _).mono (fun r h c => ⟨(h c).1.trans ?_, (h c).2⟩) (Cert.Reference2Ideal.Value.run (F := Ideal) m' ρ')
    obtain ⟨h0, h1, h2, h3, h4, h5, h6, h7, h8, h9, h10, h11, h12, h13, h14⟩ := hin c
    rw [Cert.Reference2Ideal.Read.val_main_v73_eq, h0, h1, h2, h3, h4, h5, h6, h7, h8, h9, h10, h11, h12, h13, h14]
    funext i
    rw [show i = ix3 (i 0) (i 1) (i 2) from by
      funext a
      match a with
      | ⟨0, _⟩ => rfl
      | ⟨1, _⟩ => rfl
      | ⟨2, _⟩ => rfl]
    exact Ref.out_eq _ _ _ _ _ _ _ _ _ _ _ _ _ _ _ (i 0) (i 1) (i 2)

end Cert.Proof.Post
end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Pre_finite_qk
public import proofs.«01_k».proof.Proof.Att.Claims
public import proofs.«01_k».proof.Proof.Post.Claims

@[expose] public section

noncomputable section

namespace Cert.Proof

/-- Everything the certificate claims. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Pre_finite_qk.Gen.facts,
  Att.frame_p, Att.frame_pi, fun m ρ _ => Att.frame_pi m ρ trivial, Att.frame_ri, fun m ρ _ => Att.frame_ri m ρ trivial,
  Post.frame_p, Post.frame_pi, Post.frame_ri, trivial, Att.algebraic, trivial, Post.algebraic⟩

end Cert.Proof

end
